-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite21 [hPre_finite21 : Cert.Pre_finite21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite21 [hPre_finite21 : Cert.Pre_finite21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Kernel21Ideal_pre_finite21 [hKernel21Ideal : Cert.Kernel21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite21 m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Reference21Ideal_pre_finite21 [hReference21Ideal : Cert.Reference21Ideal.Facts] [hPre_finite21 : Cert.Pre_finite21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite21 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal_pre_finite21 [hKernel21Ideal : Cert.Kernel21Ideal.Facts] [hReference21Ideal : Cert.Reference21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite21 m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v10) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v31) = v0 c
          ∧ r.2.mem ((c.tc : Thread Cert.Reference22Ideal.nD Cert.Reference22Ideal.τ).loc Cert.Reference22Ideal.main_v32) = v1 c
          ∧ r.2.mem ((c.tc : Thread Cert.Reference22Ideal.nD Cert.Reference22Ideal.τ).loc Cert.Reference22Ideal.main_v34) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v17) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v12) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_v27) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v14) = v0 c
          ∧ r.2.mem ((c.tc : Thread Cert.Reference28Ideal.nD Cert.Reference28Ideal.τ).loc Cert.Reference28Ideal.main_v27) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_arg1) = v0 c
          ∧ r.2.mem ((c.tc : Thread Cert.Reference29Ideal.nD Cert.Reference29Ideal.τ).loc Cert.Reference29Ideal.main_v23) = v1 c
          ∧ r.2.mem ((c.tc : Thread Cert.Reference29Ideal.nD Cert.Reference29Ideal.τ).loc Cert.Reference29Ideal.main_v4) = v2 c
          ∧ r.2.mem ((c.tc : Thread Cert.Reference29Ideal.nD Cert.Reference29Ideal.τ).loc Cert.Reference29Ideal.main_v10) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_arg1) = v0 c
          ∧ r.2.mem ((c.tc : Thread Cert.Reference30Ideal.nD Cert.Reference30Ideal.τ).loc Cert.Reference30Ideal.main_v23) = v1 c
          ∧ r.2.mem ((c.tc : Thread Cert.Reference30Ideal.nD Cert.Reference30Ideal.τ).loc Cert.Reference30Ideal.main_v4) = v2 c
          ∧ r.2.mem ((c.tc : Thread Cert.Reference30Ideal.nD Cert.Reference30Ideal.τ).loc Cert.Reference30Ideal.main_v10) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_arg1) = v0 c
          ∧ r.2.mem ((c.tc : Thread Cert.Reference31Ideal.nD Cert.Reference31Ideal.τ).loc Cert.Reference31Ideal.main_v23) = v1 c
          ∧ r.2.mem ((c.tc : Thread Cert.Reference31Ideal.nD Cert.Reference31Ideal.τ).loc Cert.Reference31Ideal.main_v4) = v2 c
          ∧ r.2.mem ((c.tc : Thread Cert.Reference31Ideal.nD Cert.Reference31Ideal.τ).loc Cert.Reference31Ideal.main_v10) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_arg1) = v0 c
          ∧ r.2.mem ((c.tc : Thread Cert.Reference32Ideal.nD Cert.Reference32Ideal.τ).loc Cert.Reference32Ideal.main_v23) = v1 c
          ∧ r.2.mem ((c.tc : Thread Cert.Reference32Ideal.nD Cert.Reference32Ideal.τ).loc Cert.Reference32Ideal.main_v4) = v2 c
          ∧ r.2.mem ((c.tc : Thread Cert.Reference32Ideal.nD Cert.Reference32Ideal.τ).loc Cert.Reference32Ideal.main_v10) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_arg1) = v0 c
          ∧ r.2.mem ((c.tc : Thread Cert.Reference33Ideal.nD Cert.Reference33Ideal.τ).loc Cert.Reference33Ideal.main_v23) = v1 c
          ∧ r.2.mem ((c.tc : Thread Cert.Reference33Ideal.nD Cert.Reference33Ideal.τ).loc Cert.Reference33Ideal.main_v4) = v2 c
          ∧ r.2.mem ((c.tc : Thread Cert.Reference33Ideal.nD Cert.Reference33Ideal.τ).loc Cert.Reference33Ideal.main_v10) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_arg1) = v0 c
          ∧ r.2.mem ((c.tc : Thread Cert.Reference34Ideal.nD Cert.Reference34Ideal.τ).loc Cert.Reference34Ideal.main_v23) = v1 c
          ∧ r.2.mem ((c.tc : Thread Cert.Reference34Ideal.nD Cert.Reference34Ideal.τ).loc Cert.Reference34Ideal.main_v4) = v2 c
          ∧ r.2.mem ((c.tc : Thread Cert.Reference34Ideal.nD Cert.Reference34Ideal.τ).loc Cert.Reference34Ideal.main_v10) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_arg1) = v0 c
          ∧ r.2.mem ((c.tc : Thread Cert.Reference35Ideal.nD Cert.Reference35Ideal.τ).loc Cert.Reference35Ideal.main_v23) = v1 c
          ∧ r.2.mem ((c.tc : Thread Cert.Reference35Ideal.nD Cert.Reference35Ideal.τ).loc Cert.Reference35Ideal.main_v4) = v2 c
          ∧ r.2.mem ((c.tc : Thread Cert.Reference35Ideal.nD Cert.Reference35Ideal.τ).loc Cert.Reference35Ideal.main_v10) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_arg1) = v0 c
          ∧ r.2.mem ((c.tc : Thread Cert.Reference36Ideal.nD Cert.Reference36Ideal.τ).loc Cert.Reference36Ideal.main_v23) = v1 c
          ∧ r.2.mem ((c.tc : Thread Cert.Reference36Ideal.nD Cert.Reference36Ideal.τ).loc Cert.Reference36Ideal.main_v4) = v2 c
          ∧ r.2.mem ((c.tc : Thread Cert.Reference36Ideal.nD Cert.Reference36Ideal.τ).loc Cert.Reference36Ideal.main_v10) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_arg1) = v0 c
          ∧ r.2.mem ((c.tc : Thread Cert.Reference37Ideal.nD Cert.Reference37Ideal.τ).loc Cert.Reference37Ideal.main_v23) = v1 c
          ∧ r.2.mem ((c.tc : Thread Cert.Reference37Ideal.nD Cert.Reference37Ideal.τ).loc Cert.Reference37Ideal.main_v4) = v2 c
          ∧ r.2.mem ((c.tc : Thread Cert.Reference37Ideal.nD Cert.Reference37Ideal.τ).loc Cert.Reference37Ideal.main_v10) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_arg1) = v0 c
          ∧ r.2.mem ((c.tc : Thread Cert.Reference38Ideal.nD Cert.Reference38Ideal.τ).loc Cert.Reference38Ideal.main_v23) = v1 c
          ∧ r.2.mem ((c.tc : Thread Cert.Reference38Ideal.nD Cert.Reference38Ideal.τ).loc Cert.Reference38Ideal.main_v4) = v2 c
          ∧ r.2.mem ((c.tc : Thread Cert.Reference38Ideal.nD Cert.Reference38Ideal.τ).loc Cert.Reference38Ideal.main_v10) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite : Cert.Pre_finite.Facts) (hPre_finite21 : Cert.Pre_finite21.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite21 (hKernel21Ideal := hKernel21Ideal) (hPre_finite21 := hPre_finite21)
    ∧ quiescent_Reference21Ideal (hReference21Ideal := hReference21Ideal)
    ∧ quiescent_Reference21Ideal_pre_finite21 (hReference21Ideal := hReference21Ideal) (hPre_finite21 := hPre_finite21)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite21 (hKernel21Ideal := hKernel21Ideal) (hReference21Ideal := hReference21Ideal) (hPre_finite21 := hPre_finite21)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_finite.lean ====
abbrev S4352x4096 : Shape := ⟨2, ![4352, 4096]⟩
abbrev S4352x2048 : Shape := ⟨2, ![4352, 2048]⟩
abbrev S_ : Shape := ⟨0, ![]⟩

class Facts : Prop where
  bcast_S_S4352x4096 : S_.BroadcastsInDim S4352x4096 (![] : Fin 0 → Fin S4352x4096.rank)
  reducesTo_S4352x4096_S_d0_1 : S4352x4096.ReducesTo [0, 1] S_
  h_S_ : 0 < S_.numel
  bcast_S_S4352x2048 : S_.BroadcastsInDim S4352x2048 (![] : Fin 0 → Fin S4352x2048.rank)
  reducesTo_S4352x2048_S_d0_1 : S4352x2048.ReducesTo [0, 1] S_

variable [Facts]

def fn_part1 {F : FTy → Type} [FloatOps F] (main_v13 : IVec S_ 1) (main_v16 : IVec S4352x2048 1) : IVec S_ 1 :=
  let main_c_5 : IVec S_ 1 := constantI S_ 1 1#1
  let main_v17 : IVec S_ 1 := (fun x v => Host.reduce IntOp.andi x v reducesTo_S4352x2048_S_d0_1 h_S_) main_v16 main_c_5
  let main_v18 : IVec S_ 1 := andi main_v13 main_v17
  main_v18

def fn {F : FTy → Type} [FloatOps F] (main_arg0 : FVec F S4352x4096 .bf16) (main_arg1 : FVec F S4352x4096 .bf16) (main_arg2 : FVec F S4352x4096 .bf16) (main_arg3 : FVec F S4352x2048 .bf16) : IVec S_ 1 :=
  let main_v0 : FVec F S4352x4096 .bf16 := Host.absf main_arg0
  let main_cst : FVec F S_ .bf16 := constant S_ .bf16 0x7F80#16
  let main_v1 : FVec F S4352x4096 .bf16 := broadcastInDim S4352x4096 ![] bcast_S_S4352x4096 main_cst
  let main_v2 : IVec S4352x4096 1 := cmpf .olt main_v0 main_v1
  let main_c : IVec S_ 1 := constantI S_ 1 1#1
  let main_v3 : IVec S_ 1 := (fun x v => Host.reduce IntOp.andi x v reducesTo_S4352x4096_S_d0_1 h_S_) main_v2 main_c
  let main_v4 : FVec F S4352x4096 .bf16 := Host.absf main_arg1
  let main_cst_0 : FVec F S_ .bf16 := constant S_ .bf16 0x7F80#16
  let main_v5 : FVec F S4352x4096 .bf16 := broadcastInDim S4352x4096 ![] bcast_S_S4352x4096 main_cst_0
  let main_v6 : IVec S4352x4096 1 := cmpf .olt main_v4 main_v5
  let main_c_1 : IVec S_ 1 := constantI S_ 1 1#1
  let main_v7 : IVec S_ 1 := (fun x v => Host.reduce IntOp.andi x v reducesTo_S4352x4096_S_d0_1 h_S_) main_v6 main_c_1
  let main_v8 : IVec S_ 1 := andi main_v3 main_v7
  let main_v9 : FVec F S4352x4096 .bf16 := Host.absf main_arg2
  let main_cst_2 : FVec F S_ .bf16 := constant S_ .bf16 0x7F80#16
  let main_v10 : FVec F S4352x4096 .bf16 := broadcastInDim S4352x4096 ![] bcast_S_S4352x4096 main_cst_2
  let main_v11 : IVec S4352x4096 1 := cmpf .olt main_v9 main_v10
  let main_c_3 : IVec S_ 1 := constantI S_ 1 1#1
  let main_v12 : IVec S_ 1 := (fun x v => Host.reduce IntOp.andi x v reducesTo_S4352x4096_S_d0_1 h_S_) main_v11 main_c_3
  let main_v13 : IVec S_ 1 := andi main_v8 main_v12
  let main_v14 : FVec F S4352x2048 .bf16 := Host.absf main_arg3
  let main_cst_4 : FVec F S_ .bf16 := constant S_ .bf16 0x7F80#16
  let main_v15 : FVec F S4352x2048 .bf16 := broadcastInDim S4352x2048 ![] bcast_S_S4352x2048 main_cst_4
  let main_v16 : IVec S4352x2048 1 := cmpf .olt main_v14 main_v15
  fn_part1 (F := F) main_v13 main_v16
-- ==== Pre_finite21.lean ====
abbrev S4352x5632 : Shape := ⟨2, ![4352, 5632]⟩
abbrev S4352x11264 : Shape := ⟨2, ![4352, 11264]⟩
abbrev S_ : Shape := ⟨0, ![]⟩

class Facts : Prop where
  bcast_S_S4352x5632 : S_.BroadcastsInDim S4352x5632 (![] : Fin 0 → Fin S4352x5632.rank)
  reducesTo_S4352x5632_S_d0_1 : S4352x5632.ReducesTo [0, 1] S_
  h_S_ : 0 < S_.numel
  bcast_S_S4352x11264 : S_.BroadcastsInDim S4352x11264 (![] : Fin 0 → Fin S4352x11264.rank)
  reducesTo_S4352x11264_S_d0_1 : S4352x11264.ReducesTo [0, 1] S_

variable [Facts]

def fn {F : FTy → Type} [FloatOps F] (main_arg0 : FVec F S4352x5632 .bf16) (main_arg1 : FVec F S4352x11264 .bf16) : IVec S_ 1 :=
  let main_v0 : FVec F S4352x5632 .bf16 := Host.absf main_arg0
  let main_cst : FVec F S_ .bf16 := constant S_ .bf16 0x7F80#16
  let main_v1 : FVec F S4352x5632 .bf16 := broadcastInDim S4352x5632 ![] bcast_S_S4352x5632 main_cst
  let main_v2 : IVec S4352x5632 1 := cmpf .olt main_v0 main_v1
  let main_c : IVec S_ 1 := constantI S_ 1 1#1
  let main_v3 : IVec S_ 1 := (fun x v => Host.reduce IntOp.andi x v reducesTo_S4352x5632_S_d0_1 h_S_) main_v2 main_c
  let main_v4 : FVec F S4352x11264 .bf16 := Host.absf main_arg1
  let main_cst_0 : FVec F S_ .bf16 := constant S_ .bf16 0x7F80#16
  let main_v5 : FVec F S4352x11264 .bf16 := broadcastInDim S4352x11264 ![] bcast_S_S4352x11264 main_cst_0
  let main_v6 : IVec S4352x11264 1 := cmpf .olt main_v4 main_v5
  let main_c_1 : IVec S_ 1 := constantI S_ 1 1#1
  let main_v7 : IVec S_ 1 := (fun x v => Host.reduce IntOp.andi x v reducesTo_S4352x11264_S_d0_1 h_S_) main_v6 main_c_1
  let main_v8 : IVec S_ 1 := andi main_v3 main_v7
  main_v8
-- ==== Kernel.lean ====
abbrev S4352x4096 : Shape := ⟨2, ![4352, 4096]⟩
abbrev S4352x2048 : Shape := ⟨2, ![4352, 2048]⟩
abbrev S4352x16x256 : Shape := ⟨3, ![4352, 16, 256]⟩
abbrev S16x4352x4352 : Shape := ⟨3, ![16, 4352, 4352]⟩
abbrev S4352 : Shape := ⟨1, ![4352]⟩
abbrev S1x4352 : Shape := ⟨2, ![1, 4352]⟩
abbrev S4352x1 : Shape := ⟨2, ![4352, 1]⟩
abbrev S4352x4352 : Shape := ⟨2, ![4352, 4352]⟩
abbrev S1x4352x4352 : Shape := ⟨3, ![1, 4352, 4352]⟩
abbrev S_ : Shape := ⟨0, ![]⟩
abbrev S16x4352 : Shape := ⟨2, ![16, 4352]⟩
abbrev S16x4352x1 : Shape := ⟨3, ![16, 4352, 1]⟩
abbrev S4352x16x128 : Shape := ⟨3, ![4352, 16, 128]⟩
abbrev S16x128x4352 : Shape := ⟨3, ![16, 128, 4352]⟩
abbrev S16x4352x128 : Shape := ⟨3, ![16, 4352, 128]⟩
abbrev S4352x256 : Shape := ⟨2, ![4352, 256]⟩
abbrev S256x256 : Shape := ⟨2, ![256, 256]⟩
abbrev S256x128 : Shape := ⟨2, ![256, 128]⟩
abbrev S4352x128 : Shape := ⟨2, ![4352, 128]⟩
abbrev S1x4352x128 : Shape := ⟨3, ![1, 4352, 128]⟩
abbrev S256 : Shape := ⟨1, ![256]⟩
abbrev S256x1 : Shape := ⟨2, ![256, 1]⟩
abbrev S1x256x128 : Shape := ⟨3, ![1, 256, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S768x256 : Shape := ⟨2, ![768, 256]⟩
abbrev S768x128 : Shape := ⟨2, ![768, 128]⟩
abbrev S768 : Shape := ⟨1, ![768]⟩
abbrev S768x1 : Shape := ⟨2, ![768, 1]⟩
abbrev S1x768x128 : Shape := ⟨3, ![1, 768, 128]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩
abbrev S1280x256 : Shape := ⟨2, ![1280, 256]⟩
abbrev S1280x128 : Shape := ⟨2, ![1280, 128]⟩
abbrev S1280 : Shape := ⟨1, ![1280]⟩
abbrev S1280x1 : Shape := ⟨2, ![1280, 1]⟩
abbrev S1x1280x128 : Shape := ⟨3, ![1, 1280, 128]⟩
abbrev S1536x256 : Shape := ⟨2, ![1536, 256]⟩
abbrev S1536x128 : Shape := ⟨2, ![1536, 128]⟩
abbrev S1536 : Shape := ⟨1, ![1536]⟩
abbrev S1536x1 : Shape := ⟨2, ![1536, 1]⟩
abbrev S1x1536x128 : Shape := ⟨3, ![1, 1536, 128]⟩
abbrev S1792x256 : Shape := ⟨2, ![1792, 256]⟩
abbrev S1792x128 : Shape := ⟨2, ![1792, 128]⟩
abbrev S1792 : Shape := ⟨1, ![1792]⟩
abbrev S1792x1 : Shape := ⟨2, ![1792, 1]⟩
abbrev S1x1792x128 : Shape := ⟨3, ![1, 1792, 128]⟩
abbrev S2048x256 : Shape := ⟨2, ![2048, 256]⟩
abbrev S2048x128 : Shape := ⟨2, ![2048, 128]⟩
abbrev S2048 : Shape := ⟨1, ![2048]⟩
abbrev S2048x1 : Shape := ⟨2, ![2048, 1]⟩
abbrev S1x2048x128 : Shape := ⟨3, ![1, 2048, 128]⟩

abbrev nBuf : Space → Nat
  | .hbm => 42
  | .vmem => 20
  | .smem => 0
  | _ => 0

abbrev bufTy : (tb : Table) → Fin (tcTables nBuf tb) → BufTy
  | .hbm, ⟨0, _⟩ => ⟨S4352x4096, .bf16⟩
  | .hbm, ⟨1, _⟩ => ⟨S4352x4096, .bf16⟩
  | .hbm, ⟨2, _⟩ => ⟨S4352x4096, .bf16⟩
  | .hbm, ⟨3, _⟩ => ⟨S4352x2048, .bf16⟩
  | .hbm, ⟨4, _⟩ => ⟨S4352x16x256, .bf16⟩
  | .hbm, ⟨5, _⟩ => ⟨S4352x16x256, .bf16⟩
  | .hbm, ⟨6, _⟩ => ⟨S16x4352x4352, .f32⟩
  | .hbm, ⟨7, _⟩ => ⟨S4352, .i32⟩
  | .hbm, ⟨8, _⟩ => ⟨S1x4352, .i32⟩
  | .hbm, ⟨9, _⟩ => ⟨S4352x1, .i32⟩
  | .hbm, ⟨10, _⟩ => ⟨S4352x4352, .i32⟩
  | .hbm, ⟨11, _⟩ => ⟨S4352x4352, .i32⟩
  | .hbm, ⟨12, _⟩ => ⟨S4352x4352, .i1⟩
  | .hbm, ⟨13, _⟩ => ⟨S1x4352x4352, .i1⟩
  | .hbm, ⟨14, _⟩ => ⟨S_, .f32⟩
  | .hbm, ⟨15, _⟩ => ⟨S16x4352x4352, .i1⟩
  | .hbm, ⟨16, _⟩ => ⟨S16x4352x4352, .f32⟩
  | .hbm, ⟨17, _⟩ => ⟨S16x4352x4352, .f32⟩
  | .hbm, ⟨18, _⟩ => ⟨S_, .f32⟩
  | .hbm, ⟨19, _⟩ => ⟨S16x4352, .f32⟩
  | .hbm, ⟨20, _⟩ => ⟨S16x4352x1, .f32⟩
  | .hbm, ⟨21, _⟩ => ⟨S16x4352x4352, .f32⟩
  | .hbm, ⟨22, _⟩ => ⟨S16x4352x4352, .f32⟩
  | .hbm, ⟨23, _⟩ => ⟨S16x4352x4352, .f32⟩
  | .hbm, ⟨24, _⟩ => ⟨S_, .f32⟩
  | .hbm, ⟨25, _⟩ => ⟨S16x4352, .f32⟩
  | .hbm, ⟨26, _⟩ => ⟨S16x4352x1, .f32⟩
  | .hbm, ⟨27, _⟩ => ⟨S16x4352x4352, .f32⟩
  | .hbm, ⟨28, _⟩ => ⟨S16x4352x4352, .f32⟩
  | .hbm, ⟨29, _⟩ => ⟨S16x4352x4352, .bf16⟩
  | .hbm, ⟨30, _⟩ => ⟨S4352x16x256, .bf16⟩
  | .hbm, ⟨31, _⟩ => ⟨S4352x16x128, .bf16⟩
  | .hbm, ⟨32, _⟩ => ⟨S16x128x4352, .f32⟩
  | .hbm, ⟨33, _⟩ => ⟨S4352x16x128, .f32⟩
  | .hbm, ⟨34, _⟩ => ⟨S4352x16x128, .bf16⟩
  | .hbm, ⟨35, _⟩ => ⟨S4352x2048, .bf16⟩
  | .hbm, ⟨36, _⟩ => ⟨S16x4352x1, .f32⟩
  | .hbm, ⟨37, _⟩ => ⟨S16x4352x1, .f32⟩
  | .hbm, ⟨38, _⟩ => ⟨S16x4352x128, .f32⟩
  | .hbm, ⟨39, _⟩ => ⟨S4352x4096, .f32⟩
  | .hbm, ⟨40, _⟩ => ⟨S4352x4096, .f32⟩
  | .hbm, ⟨41, _⟩ => ⟨S4352x2048, .bf16⟩
  | .local _ .vmem, ⟨0, _⟩ => ⟨S4352x256, .bf16⟩
  | .local _ .vmem, ⟨1, _⟩ => ⟨S4352x256, .bf16⟩
  | .local _ .vmem, ⟨2, _⟩ => ⟨S256x256, .bf16⟩
  | .local _ .vmem, ⟨3, _⟩ => ⟨S256x256, .bf16⟩
  | .local _ .vmem, ⟨4, _⟩ => ⟨S256x128, .bf16⟩
  | .local _ .vmem, ⟨5, _⟩ => ⟨S256x128, .bf16⟩
  | .local _ .vmem, ⟨6, _⟩ => ⟨S4352x128, .bf16⟩
  | .local _ .vmem, ⟨7, _⟩ => ⟨S4352x128, .bf16⟩
  | .local _ .vmem, ⟨8, _⟩ => ⟨S4352x128, .bf16⟩
  | .local _ .vmem, ⟨9, _⟩ => ⟨S4352x128, .bf16⟩
  | .local _ .vmem, ⟨10, _⟩ => ⟨S1x4352x128, .f32⟩
  | .local _ .vmem, ⟨11, _⟩ => ⟨S1x4352x128, .f32⟩
  | .local _ .vmem, ⟨12, _⟩ => ⟨S4352x256, .f32⟩
  | .local _ .vmem, ⟨13, _⟩ => ⟨S4352x256, .f32⟩
  | .local _ .vmem, ⟨14, _⟩ => ⟨S256x256, .f32⟩
  | .local _ .vmem, ⟨15, _⟩ => ⟨S256x256, .f32⟩
  | .local _ .vmem, ⟨16, _⟩ => ⟨S256x128, .bf16⟩
  | .local _ .vmem, ⟨17, _⟩ => ⟨S256x128, .bf16⟩
  | .local _ .vmem, ⟨18, _⟩ => ⟨S256x256, .f32⟩
  | .local _ .vmem, ⟨19, _⟩ => ⟨S256x128, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 17], ![false, false]⟩

def k0_cond2 (i : grid0.Coords) : BitVec 1 :=
  let c16_i32 : BitVec 32 := 16#32
  let arg1 : BitVec 32 := BitVec.ofNat 32 (i 1).val
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let c1_i32_14 : BitVec 32 := 1#32
  let v25 : BitVec 1 := Scalar.cmpi .eq v24 c1_i32_14
  let v26 : BitVec 32 := Scalar.extui v25
  let c0_i32_15 : BitVec 32 := 0#32
  let v27 : BitVec 1 := Scalar.cmpi .ne v26 c0_i32_15
  v27

def k0_mult1 (i : grid0.Coords) : BitVec 32 :=
  let arg1 : BitVec 32 := BitVec.ofNat 32 (i 1).val
  let c256_i32 : BitVec 32 := 256#32
  let v78 : BitVec 32 := Scalar.muli arg1 c256_i32
  v78
def k0_off1 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v80 : Index := Scalar.indexCast v79
  let c0_44 : Index := 0#32
  ![v80.toNat, 0]
def k0_off2 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v82 : Index := Scalar.indexCast v79
  let c0_45 : Index := 0#32
  ![v82.toNat, 0]
def k0_off3 (i : grid0.Coords) : Fin 3 → Nat :=
  let c0_49 : Index := 0#32
  let arg1 : BitVec 32 := BitVec.ofNat 32 (i 1).val
  let c256_i32 : BitVec 32 := 256#32
  let v78 : BitVec 32 := Scalar.muli arg1 c256_i32
  let v79 : BitVec 32 := v78
  let v93 : Index := Scalar.indexCast v79
  let c0_50 : Index := 0#32
  ![0, v93.toNat, 0]
def k0_cond3 (i : grid0.Coords) : BitVec 1 :=
  let c16_i32 : BitVec 32 := 16#32
  let arg1 : BitVec 32 := BitVec.ofNat 32 (i 1).val
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let c2_i32 : BitVec 32 := 2#32
  let v28 : BitVec 1 := Scalar.cmpi .eq v24 c2_i32
  let v29 : BitVec 32 := Scalar.extui v28
  let c0_i32_16 : BitVec 32 := 0#32
  let v30 : BitVec 1 := Scalar.cmpi .ne v29 c0_i32_16
  v30

def k0_mult2 (i : grid0.Coords) : BitVec 32 :=
  let arg1 : BitVec 32 := BitVec.ofNat 32 (i 1).val
  let c256_i32 : BitVec 32 := 256#32
  let v78 : BitVec 32 := Scalar.muli arg1 c256_i32
  v78
def k0_off4 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v80 : Index := Scalar.indexCast v79
  let c0_44 : Index := 0#32
  ![v80.toNat, 0]
def k0_off5 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v82 : Index := Scalar.indexCast v79
  let c0_45 : Index := 0#32
  ![v82.toNat, 0]
def k0_off6 (i : grid0.Coords) : Fin 3 → Nat :=
  let c0_49 : Index := 0#32
  let arg1 : BitVec 32 := BitVec.ofNat 32 (i 1).val
  let c256_i32 : BitVec 32 := 256#32
  let v78 : BitVec 32 := Scalar.muli arg1 c256_i32
  let v79 : BitVec 32 := v78
  let v93 : Index := Scalar.indexCast v79
  let c0_50 : Index := 0#32
  ![0, v93.toNat, 0]
def k0_cond4 (i : grid0.Coords) : BitVec 1 :=
  let c16_i32 : BitVec 32 := 16#32
  let arg1 : BitVec 32 := BitVec.ofNat 32 (i 1).val
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let c3_i32 : BitVec 32 := 3#32
  let v31 : BitVec 1 := Scalar.cmpi .eq v24 c3_i32
  let v32 : BitVec 32 := Scalar.extui v31
  let c0_i32_17 : BitVec 32 := 0#32
  let v33 : BitVec 1 := Scalar.cmpi .ne v32 c0_i32_17
  v33

def k0_mult3 (i : grid0.Coords) : BitVec 32 :=
  let arg1 : BitVec 32 := BitVec.ofNat 32 (i 1).val
  let c256_i32 : BitVec 32 := 256#32
  let v78 : BitVec 32 := Scalar.muli arg1 c256_i32
  v78
def k0_off7 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v80 : Index := Scalar.indexCast v79
  let c0_44 : Index := 0#32
  ![v80.toNat, 0]
def k0_off8 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v82 : Index := Scalar.indexCast v79
  let c0_45 : Index := 0#32
  ![v82.toNat, 0]
def k0_off9 (i : grid0.Coords) : Fin 3 → Nat :=
  let c0_49 : Index := 0#32
  let arg1 : BitVec 32 := BitVec.ofNat 32 (i 1).val
  let c256_i32 : BitVec 32 := 256#32
  let v78 : BitVec 32 := Scalar.muli arg1 c256_i32
  let v79 : BitVec 32 := v78
  let v93 : Index := Scalar.indexCast v79
  let c0_50 : Index := 0#32
  ![0, v93.toNat, 0]
def k0_cond5 (i : grid0.Coords) : BitVec 1 :=
  let c16_i32 : BitVec 32 := 16#32
  let arg1 : BitVec 32 := BitVec.ofNat 32 (i 1).val
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let c4_i32 : BitVec 32 := 4#32
  let v34 : BitVec 1 := Scalar.cmpi .eq v24 c4_i32
  let v35 : BitVec 32 := Scalar.extui v34
  let c0_i32_18 : BitVec 32 := 0#32
  let v36 : BitVec 1 := Scalar.cmpi .ne v35 c0_i32_18
  v36

def k0_mult4 (i : grid0.Coords) : BitVec 32 :=
  let arg1 : BitVec 32 := BitVec.ofNat 32 (i 1).val
  let c256_i32 : BitVec 32 := 256#32
  let v78 : BitVec 32 := Scalar.muli arg1 c256_i32
  v78
def k0_off10 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v80 : Index := Scalar.indexCast v79
  let c0_44 : Index := 0#32
  ![v80.toNat, 0]
def k0_off11 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v82 : Index := Scalar.indexCast v79
  let c0_45 : Index := 0#32
  ![v82.toNat, 0]
def k0_off12 (i : grid0.Coords) : Fin 3 → Nat :=
  let c0_49 : Index := 0#32
  let arg1 : BitVec 32 := BitVec.ofNat 32 (i 1).val
  let c256_i32 : BitVec 32 := 256#32
  let v78 : BitVec 32 := Scalar.muli arg1 c256_i32
  let v79 : BitVec 32 := v78
  let v93 : Index := Scalar.indexCast v79
  let c0_50 : Index := 0#32
  ![0, v93.toNat, 0]
def k0_cond6 (i : grid0.Coords) : BitVec 1 :=
  let c16_i32 : BitVec 32 := 16#32
  let arg1 : BitVec 32 := BitVec.ofNat 32 (i 1).val
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let c5_i32 : BitVec 32 := 5#32
  let v37 : BitVec 1 := Scalar.cmpi .eq v24 c5_i32
  let v38 : BitVec 32 := Scalar.extui v37
  let c0_i32_19 : BitVec 32 := 0#32
  let v39 : BitVec 1 := Scalar.cmpi .ne v38 c0_i32_19
  v39

def k0_mult5 (i : grid0.Coords) : BitVec 32 :=
  let arg1 : BitVec 32 := BitVec.ofNat 32 (i 1).val
  let c256_i32 : BitVec 32 := 256#32
  let v78 : BitVec 32 := Scalar.muli arg1 c256_i32
  v78
def k0_off13 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v80 : Index := Scalar.indexCast v79
  let c0_44 : Index := 0#32
  ![v80.toNat, 0]
def k0_off14 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v82 : Index := Scalar.indexCast v79
  let c0_45 : Index := 0#32
  ![v82.toNat, 0]
def k0_off15 (i : grid0.Coords) : Fin 3 → Nat :=
  let c0_49 : Index := 0#32
  let arg1 : BitVec 32 := BitVec.ofNat 32 (i 1).val
  let c256_i32 : BitVec 32 := 256#32
  let v78 : BitVec 32 := Scalar.muli arg1 c256_i32
  let v79 : BitVec 32 := v78
  let v93 : Index := Scalar.indexCast v79
  let c0_50 : Index := 0#32
  ![0, v93.toNat, 0]
def k0_cond7 (i : grid0.Coords) : BitVec 1 :=
  let c16_i32 : BitVec 32 := 16#32
  let arg1 : BitVec 32 := BitVec.ofNat 32 (i 1).val
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let c6_i32 : BitVec 32 := 6#32
  let v40 : BitVec 1 := Scalar.cmpi .eq v24 c6_i32
  let v41 : BitVec 32 := Scalar.extui v40
  let c0_i32_20 : BitVec 32 := 0#32
  let v42 : BitVec 1 := Scalar.cmpi .ne v41 c0_i32_20
  v42

def k0_mult6 (i : grid0.Coords) : BitVec 32 :=
  let arg1 : BitVec 32 := BitVec.ofNat 32 (i 1).val
  let c256_i32 : BitVec 32 := 256#32
  let v78 : BitVec 32 := Scalar.muli arg1 c256_i32
  v78
def k0_off16 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v80 : Index := Scalar.indexCast v79
  let c0_44 : Index := 0#32
  ![v80.toNat, 0]
def k0_off17 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v82 : Index := Scalar.indexCast v79
  let c0_45 : Index := 0#32
  ![v82.toNat, 0]
def k0_off18 (i : grid0.Coords) : Fin 3 → Nat :=
  let c0_49 : Index := 0#32
  let arg1 : BitVec 32 := BitVec.ofNat 32 (i 1).val
  let c256_i32 : BitVec 32 := 256#32
  let v78 : BitVec 32 := Scalar.muli arg1 c256_i32
  let v79 : BitVec 32 := v78
  let v93 : Index := Scalar.indexCast v79
  let c0_50 : Index := 0#32
  ![0, v93.toNat, 0]
def k0_cond8 (i : grid0.Coords) : BitVec 1 :=
  let c16_i32 : BitVec 32 := 16#32
  let arg1 : BitVec 32 := BitVec.ofNat 32 (i 1).val
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let c7_i32 : BitVec 32 := 7#32
  let v43 : BitVec 1 := Scalar.cmpi .eq v24 c7_i32
  let v44 : BitVec 32 := Scalar.extui v43
  let c0_i32_21 : BitVec 32 := 0#32
  let v45 : BitVec 1 := Scalar.cmpi .ne v44 c0_i32_21
  v45

def k0_mult7 (i : grid0.Coords) : BitVec 32 :=
  let arg1 : BitVec 32 := BitVec.ofNat 32 (i 1).val
  let c256_i32 : BitVec 32 := 256#32
  let v78 : BitVec 32 := Scalar.muli arg1 c256_i32
  v78
def k0_off19 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v80 : Index := Scalar.indexCast v79
  let c0_44 : Index := 0#32
  ![v80.toNat, 0]
def k0_off20 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v82 : Index := Scalar.indexCast v79
  let c0_45 : Index := 0#32
  ![v82.toNat, 0]
def k0_off21 (i : grid0.Coords) : Fin 3 → Nat :=
  let c0_49 : Index := 0#32
  let arg1 : BitVec 32 := BitVec.ofNat 32 (i 1).val
  let c256_i32 : BitVec 32 := 256#32
  let v78 : BitVec 32 := Scalar.muli arg1 c256_i32
  let v79 : BitVec 32 := v78
  let v93 : Index := Scalar.indexCast v79
  let c0_50 : Index := 0#32
  ![0, v93.toNat, 0]
def k0_cond9 (i : grid0.Coords) : BitVec 1 :=
  let c16_i32 : BitVec 32 := 16#32
  let arg1 : BitVec 32 := BitVec.ofNat 32 (i 1).val
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let c8_i32_22 : BitVec 32 := 8#32
  let v46 : BitVec 1 := Scalar.cmpi .eq v24 c8_i32_22
  let v47 : BitVec 32 := Scalar.extui v46
  let c0_i32_23 : BitVec 32 := 0#32
  let v48 : BitVec 1 := Scalar.cmpi .ne v47 c0_i32_23
  v48

def k0_mult8 (i : grid0.Coords) : BitVec 32 :=
  let arg1 : BitVec 32 := BitVec.ofNat 32 (i 1).val
  let c256_i32 : BitVec 32 := 256#32
  let v78 : BitVec 32 := Scalar.muli arg1 c256_i32
  v78
def k0_off22 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v80 : Index := Scalar.indexCast v79
  let c0_44 : Index := 0#32
  ![v80.toNat, 0]
def k0_off23 (i : grid0.Coords) : Fin 2 → Nat :=
  let arg1 : BitVec 32 := BitVec.ofNat 32 (i 1).val
  let c256_i32 : BitVec 32 := 256#32
  let v78 : BitVec 32 := Scalar.muli arg1 c256_i32
  let v79 : BitVec 32 := v78
  let v82 : Index := Scalar.indexCast v79
  let c0_45 : Index := 0#32
  ![v82.toNat, 0]
def k0_off24 (i : grid0.Coords) : Fin 3 → Nat :=
  let c0_49 : Index := 0#32
  let arg1 : BitVec 32 := BitVec.ofNat 32 (i 1).val
  let c256_i32 : BitVec 32 := 256#32
  let v78 : BitVec 32 := Scalar.muli arg1 c256_i32
  let v79 : BitVec 32 := v78
  let v93 : Index := Scalar.indexCast v79
  let c0_50 : Index := 0#32
  ![0, v93.toNat, 0]
@[reducible] def k0_t1_loop (i : grid0.Coords) : Scf.Loop 32 :=
  let c0_i32_32 : BitVec 32 := 0#32
  let c17_i32 : BitVec 32 := 17#32
  let arg1 : BitVec 32 := BitVec.ofNat 32 (i 1).val
  let v49 : BitVec 32 := Scalar.subi c17_i32 arg1
  let c16_i32 : BitVec 32 := 16#32
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let v50 : BitVec 32 := Scalar.subi v49 v24
  let c0_i32_25 : BitVec 32 := 0#32
  let v52 : BitVec 1 := Scalar.cmpi .sgt v50 c0_i32_25
  let v53 : BitVec 32 := Scalar.extui v52
  let c0_i32_26 : BitVec 32 := 0#32
  let v54 : BitVec 1 := Scalar.cmpi .slt v50 c0_i32_26
  let v55 : BitVec 32 := Scalar.extui v54
  let v56 : BitVec 32 := Scalar.subi v53 v55
  let c8_i32_24 : BitVec 32 := 8#32
  let c0_i32_27 : BitVec 32 := 0#32
  let v57 : BitVec 1 := Scalar.cmpi .sgt c8_i32_24 c0_i32_27
  let v58 : BitVec 32 := Scalar.extui v57
  let c0_i32_28 : BitVec 32 := 0#32
  let v59 : BitVec 1 := Scalar.cmpi .slt c8_i32_24 c0_i32_28
  let v60 : BitVec 32 := Scalar.extui v59
  let v61 : BitVec 32 := Scalar.subi v58 v60
  let v62 : BitVec 1 := Scalar.cmpi .ne v56 v61
  let v63 : BitVec 32 := Scalar.remsi v50 c8_i32_24
  let c0_i32_29 : BitVec 32 := 0#32
  let v64 : BitVec 1 := Scalar.cmpi .ne v63 c0_i32_29
  let v65 : BitVec 1 := Scalar.andi v62 v64
  let v51 : BitVec 32 := Scalar.divsi v50 c8_i32_24
  let c1_i32_30 : BitVec 32 := 1#32
  let v66 : BitVec 32 := Scalar.subi v51 c1_i32_30
  let v67 : BitVec 32 := Scalar.select v65 v66 v51
  let v68 : BitVec 32 := Scalar.subi v67 c0_i32_32
  let c1_i32_33 : BitVec 32 := 1#32
  let v70 : BitVec 32 := Scalar.divsi v68 c1_i32_33
  let v71 : BitVec 32 := Scalar.muli v70 c1_i32_33
  let v72 : BitVec 32 := Scalar.addi c0_i32_32 v71
  let c1_i32_34 : BitVec 32 := 1#32
  ⟨c0_i32_32, v72, c1_i32_34⟩
def k0_mult9 (i : grid0.Coords) (k0_t1 : Fin (k0_t1_loop i).trips) : BitVec 32 :=
  let arg1 : BitVec 32 := BitVec.ofNat 32 (i 1).val
  let c16_i32 : BitVec 32 := 16#32
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let v78 : BitVec 32 := Scalar.addi arg1 v24
  let c0_i32_32 : BitVec 32 := 0#32
  let c1_i32_34 : BitVec 32 := 1#32
  let arg13 : BitVec 32 := Scf.iv c0_i32_32 c1_i32_34 k0_t1
  let c8_i32_44 : BitVec 32 := 8#32
  let v79 : BitVec 32 := Scalar.muli arg13 c8_i32_44
  let v80 : BitVec 32 := Scalar.addi v78 v79
  let c256_i32 : BitVec 32 := 256#32
  let v81 : BitVec 32 := Scalar.muli v80 c256_i32
  v81
def k0_off25 (i : grid0.Coords) (k0_t1 : Fin (k0_t1_loop i).trips) : Fin 2 → Nat :=
  let arg1 : BitVec 32 := BitVec.ofNat 32 (i 1).val
  let c16_i32 : BitVec 32 := 16#32
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let v78 : BitVec 32 := Scalar.addi arg1 v24
  let c0_i32_32 : BitVec 32 := 0#32
  let c1_i32_34 : BitVec 32 := 1#32
  let arg13 : BitVec 32 := Scf.iv c0_i32_32 c1_i32_34 k0_t1
  let c8_i32_44 : BitVec 32 := 8#32
  let v79 : BitVec 32 := Scalar.muli arg13 c8_i32_44
  let v80 : BitVec 32 := Scalar.addi v78 v79
  let c256_i32 : BitVec 32 := 256#32
  let v81 : BitVec 32 := Scalar.muli v80 c256_i32
  let v82 : BitVec 32 := v81
  let v83 : Index := Scalar.indexCast v82
  let c0_45 : Index := 0#32
  ![v83.toNat, 0]
def k0_off26 (i : grid0.Coords) (k0_t1 : Fin (k0_t1_loop i).trips) : Fin 2 → Nat :=
  let arg1 : BitVec 32 := BitVec.ofNat 32 (i 1).val
  let c16_i32 : BitVec 32 := 16#32
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let v78 : BitVec 32 := Scalar.addi arg1 v24
  let c0_i32_32 : BitVec 32 := 0#32
  let c1_i32_34 : BitVec 32 := 1#32
  let arg13 : BitVec 32 := Scf.iv c0_i32_32 c1_i32_34 k0_t1
  let c8_i32_44 : BitVec 32 := 8#32
  let v79 : BitVec 32 := Scalar.muli arg13 c8_i32_44
  let v80 : BitVec 32 := Scalar.addi v78 v79
  let c256_i32 : BitVec 32 := 256#32
  let v81 : BitVec 32 := Scalar.muli v80 c256_i32
  let v82 : BitVec 32 := v81
  let v85 : Index := Scalar.indexCast v82
  let c0_46 : Index := 0#32
  ![v85.toNat, 0]
def k0_off27 (i : grid0.Coords) (k0_t1 : Fin (k0_t1_loop i).trips) : Fin 3 → Nat :=
  let c0_50 : Index := 0#32
  let arg1 : BitVec 32 := BitVec.ofNat 32 (i 1).val
  let c16_i32 : BitVec 32 := 16#32
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let v78 : BitVec 32 := Scalar.addi arg1 v24
  let c0_i32_32 : BitVec 32 := 0#32
  let c1_i32_34 : BitVec 32 := 1#32
  let arg13 : BitVec 32 := Scf.iv c0_i32_32 c1_i32_34 k0_t1
  let c8_i32_44 : BitVec 32 := 8#32
  let v79 : BitVec 32 := Scalar.muli arg13 c8_i32_44
  let v80 : BitVec 32 := Scalar.addi v78 v79
  let c256_i32 : BitVec 32 := 256#32
  let v81 : BitVec 32 := Scalar.muli v80 c256_i32
  let v82 : BitVec 32 := v81
  let v96 : Index := Scalar.indexCast v82
  let c0_51 : Index := 0#32
  ![0, v96.toNat, 0]
@[reducible] def k0_t2_loop (i : grid0.Coords) : Scf.Loop 32 :=
  let c0_i32_32 : BitVec 32 := 0#32
  let c17_i32 : BitVec 32 := 17#32
  let arg1 : BitVec 32 := BitVec.ofNat 32 (i 1).val
  let v49 : BitVec 32 := Scalar.subi c17_i32 arg1
  let c16_i32 : BitVec 32 := 16#32
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let v50 : BitVec 32 := Scalar.subi v49 v24
  let c0_i32_25 : BitVec 32 := 0#32
  let v52 : BitVec 1 := Scalar.cmpi .sgt v50 c0_i32_25
  let v53 : BitVec 32 := Scalar.extui v52
  let c0_i32_26 : BitVec 32 := 0#32
  let v54 : BitVec 1 := Scalar.cmpi .slt v50 c0_i32_26
  let v55 : BitVec 32 := Scalar.extui v54
  let v56 : BitVec 32 := Scalar.subi v53 v55
  let c8_i32_24 : BitVec 32 := 8#32
  let c0_i32_27 : BitVec 32 := 0#32
  let v57 : BitVec 1 := Scalar.cmpi .sgt c8_i32_24 c0_i32_27
  let v58 : BitVec 32 := Scalar.extui v57
  let c0_i32_28 : BitVec 32 := 0#32
  let v59 : BitVec 1 := Scalar.cmpi .slt c8_i32_24 c0_i32_28
  let v60 : BitVec 32 := Scalar.extui v59
  let v61 : BitVec 32 := Scalar.subi v58 v60
  let v62 : BitVec 1 := Scalar.cmpi .ne v56 v61
  let v63 : BitVec 32 := Scalar.remsi v50 c8_i32_24
  let c0_i32_29 : BitVec 32 := 0#32
  let v64 : BitVec 1 := Scalar.cmpi .ne v63 c0_i32_29
  let v65 : BitVec 1 := Scalar.andi v62 v64
  let v51 : BitVec 32 := Scalar.divsi v50 c8_i32_24
  let c1_i32_30 : BitVec 32 := 1#32
  let v66 : BitVec 32 := Scalar.subi v51 c1_i32_30
  let v67 : BitVec 32 := Scalar.select v65 v66 v51
  let v68 : BitVec 32 := Scalar.subi v67 c0_i32_32
  let c1_i32_33 : BitVec 32 := 1#32
  let v70 : BitVec 32 := Scalar.divsi v68 c1_i32_33
  let v71 : BitVec 32 := Scalar.muli v70 c1_i32_33
  let v72 : BitVec 32 := Scalar.addi c0_i32_32 v71
  let v69 : BitVec 32 := Scalar.addi c0_i32_32 v68
  let c1_i32_35 : BitVec 32 := 1#32
  ⟨v72, v69, c1_i32_35⟩
def k0_mult10 (i : grid0.Coords) (k0_t2 : Fin (k0_t2_loop i).trips) : BitVec 32 :=
  let arg1 : BitVec 32 := BitVec.ofNat 32 (i 1).val
  let c16_i32 : BitVec 32 := 16#32
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let v78 : BitVec 32 := Scalar.addi arg1 v24
  let c0_i32_32 : BitVec 32 := 0#32
  let c17_i32 : BitVec 32 := 17#32
  let v49 : BitVec 32 := Scalar.subi c17_i32 arg1
  let v50 : BitVec 32 := Scalar.subi v49 v24
  let c0_i32_25 : BitVec 32 := 0#32
  let v52 : BitVec 1 := Scalar.cmpi .sgt v50 c0_i32_25
  let v53 : BitVec 32 := Scalar.extui v52
  let c0_i32_26 : BitVec 32 := 0#32
  let v54 : BitVec 1 := Scalar.cmpi .slt v50 c0_i32_26
  let v55 : BitVec 32 := Scalar.extui v54
  let v56 : BitVec 32 := Scalar.subi v53 v55
  let c8_i32_24 : BitVec 32 := 8#32
  let c0_i32_27 : BitVec 32 := 0#32
  let v57 : BitVec 1 := Scalar.cmpi .sgt c8_i32_24 c0_i32_27
  let v58 : BitVec 32 := Scalar.extui v57
  let c0_i32_28 : BitVec 32 := 0#32
  let v59 : BitVec 1 := Scalar.cmpi .slt c8_i32_24 c0_i32_28
  let v60 : BitVec 32 := Scalar.extui v59
  let v61 : BitVec 32 := Scalar.subi v58 v60
  let v62 : BitVec 1 := Scalar.cmpi .ne v56 v61
  let v63 : BitVec 32 := Scalar.remsi v50 c8_i32_24
  let c0_i32_29 : BitVec 32 := 0#32
  let v64 : BitVec 1 := Scalar.cmpi .ne v63 c0_i32_29
  let v65 : BitVec 1 := Scalar.andi v62 v64
  let v51 : BitVec 32 := Scalar.divsi v50 c8_i32_24
  let c1_i32_30 : BitVec 32 := 1#32
  let v66 : BitVec 32 := Scalar.subi v51 c1_i32_30
  let v67 : BitVec 32 := Scalar.select v65 v66 v51
  let v68 : BitVec 32 := Scalar.subi v67 c0_i32_32
  let c1_i32_33 : BitVec 32 := 1#32
  let v70 : BitVec 32 := Scalar.divsi v68 c1_i32_33
  let v71 : BitVec 32 := Scalar.muli v70 c1_i32_33
  let v72 : BitVec 32 := Scalar.addi c0_i32_32 v71
  let c1_i32_35 : BitVec 32 := 1#32
  let arg13 : BitVec 32 := Scf.iv v72 c1_i32_35 k0_t2
  let c8_i32_44 : BitVec 32 := 8#32
  let v79 : BitVec 32 := Scalar.muli arg13 c8_i32_44
  let v80 : BitVec 32 := Scalar.addi v78 v79
  let c256_i32 : BitVec 32 := 256#32
  let v81 : BitVec 32 := Scalar.muli v80 c256_i32
  v81
def k0_off28 (i : grid0.Coords) (k0_t2 : Fin (k0_t2_loop i).trips) : Fin 2 → Nat :=
  let arg1 : BitVec 32 := BitVec.ofNat 32 (i 1).val
  let c16_i32 : BitVec 32 := 16#32
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let v78 : BitVec 32 := Scalar.addi arg1 v24
  let c0_i32_32 : BitVec 32 := 0#32
  let c17_i32 : BitVec 32 := 17#32
  let v49 : BitVec 32 := Scalar.subi c17_i32 arg1
  let v50 : BitVec 32 := Scalar.subi v49 v24
  let c0_i32_25 : BitVec 32 := 0#32
  let v52 : BitVec 1 := Scalar.cmpi .sgt v50 c0_i32_25
  let v53 : BitVec 32 := Scalar.extui v52
  let c0_i32_26 : BitVec 32 := 0#32
  let v54 : BitVec 1 := Scalar.cmpi .slt v50 c0_i32_26
  let v55 : BitVec 32 := Scalar.extui v54
  let v56 : BitVec 32 := Scalar.subi v53 v55
  let c8_i32_24 : BitVec 32 := 8#32
  let c0_i32_27 : BitVec 32 := 0#32
  let v57 : BitVec 1 := Scalar.cmpi .sgt c8_i32_24 c0_i32_27
  let v58 : BitVec 32 := Scalar.extui v57
  let c0_i32_28 : BitVec 32 := 0#32
  let v59 : BitVec 1 := Scalar.cmpi .slt c8_i32_24 c0_i32_28
  let v60 : BitVec 32 := Scalar.extui v59
  let v61 : BitVec 32 := Scalar.subi v58 v60
  let v62 : BitVec 1 := Scalar.cmpi .ne v56 v61
  let v63 : BitVec 32 := Scalar.remsi v50 c8_i32_24
  let c0_i32_29 : BitVec 32 := 0#32
  let v64 : BitVec 1 := Scalar.cmpi .ne v63 c0_i32_29
  let v65 : BitVec 1 := Scalar.andi v62 v64
  let v51 : BitVec 32 := Scalar.divsi v50 c8_i32_24
  let c1_i32_30 : BitVec 32 := 1#32
  let v66 : BitVec 32 := Scalar.subi v51 c1_i32_30
  let v67 : BitVec 32 := Scalar.select v65 v66 v51
  let v68 : BitVec 32 := Scalar.subi v67 c0_i32_32
  let c1_i32_33 : BitVec 32 := 1#32
  let v70 : BitVec 32 := Scalar.divsi v68 c1_i32_33
  let v71 : BitVec 32 := Scalar.muli v70 c1_i32_33
  let v72 : BitVec 32 := Scalar.addi c0_i32_32 v71
  let c1_i32_35 : BitVec 32 := 1#32
  let arg13 : BitVec 32 := Scf.iv v72 c1_i32_35 k0_t2
  let c8_i32_44 : BitVec 32 := 8#32
  let v79 : BitVec 32 := Scalar.muli arg13 c8_i32_44
  let v80 : BitVec 32 := Scalar.addi v78 v79
  let c256_i32 : BitVec 32 := 256#32
  let v81 : BitVec 32 := Scalar.muli v80 c256_i32
  let v82 : BitVec 32 := v81
  let v83 : Index := Scalar.indexCast v82
  let c0_45 : Index := 0#32
  ![v83.toNat, 0]
def k0_off29 (i : grid0.Coords) (k0_t2 : Fin (k0_t2_loop i).trips) : Fin 2 → Nat :=
  let arg1 : BitVec 32 := BitVec.ofNat 32 (i 1).val
  let c16_i32 : BitVec 32 := 16#32
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let v78 : BitVec 32 := Scalar.addi arg1 v24
  let c0_i32_32 : BitVec 32 := 0#32
  let c17_i32 : BitVec 32 := 17#32
  let v49 : BitVec 32 := Scalar.subi c17_i32 arg1
  let v50 : BitVec 32 := Scalar.subi v49 v24
  let c0_i32_25 : BitVec 32 := 0#32
  let v52 : BitVec 1 := Scalar.cmpi .sgt v50 c0_i32_25
  let v53 : BitVec 32 := Scalar.extui v52
  let c0_i32_26 : BitVec 32 := 0#32
  let v54 : BitVec 1 := Scalar.cmpi .slt v50 c0_i32_26
  let v55 : BitVec 32 := Scalar.extui v54
  let v56 : BitVec 32 := Scalar.subi v53 v55
  let c8_i32_24 : BitVec 32 := 8#32
  let c0_i32_27 : BitVec 32 := 0#32
  let v57 : BitVec 1 := Scalar.cmpi .sgt c8_i32_24 c0_i32_27
  let v58 : BitVec 32 := Scalar.extui v57
  let c0_i32_28 : BitVec 32 := 0#32
  let v59 : BitVec 1 := Scalar.cmpi .slt c8_i32_24 c0_i32_28
  let v60 : BitVec 32 := Scalar.extui v59
  let v61 : BitVec 32 := Scalar.subi v58 v60
  let v62 : BitVec 1 := Scalar.cmpi .ne v56 v61
  let v63 : BitVec 32 := Scalar.remsi v50 c8_i32_24
  let c0_i32_29 : BitVec 32 := 0#32
  let v64 : BitVec 1 := Scalar.cmpi .ne v63 c0_i32_29
  let v65 : BitVec 1 := Scalar.andi v62 v64
  let v51 : BitVec 32 := Scalar.divsi v50 c8_i32_24
  let c1_i32_30 : BitVec 32 := 1#32
  let v66 : BitVec 32 := Scalar.subi v51 c1_i32_30
  let v67 : BitVec 32 := Scalar.select v65 v66 v51
  let v68 : BitVec 32 := Scalar.subi v67 c0_i32_32
  let c1_i32_33 : BitVec 32 := 1#32
  let v70 : BitVec 32 := Scalar.divsi v68 c1_i32_33
  let v71 : BitVec 32 := Scalar.muli v70 c1_i32_33
  let v72 : BitVec 32 := Scalar.addi c0_i32_32 v71
  let c1_i32_35 : BitVec 32 := 1#32
  let arg13 : BitVec 32 := Scf.iv v72 c1_i32_35 k0_t2
  let c8_i32_44 : BitVec 32 := 8#32
  let v79 : BitVec 32 := Scalar.muli arg13 c8_i32_44
  let v80 : BitVec 32 := Scalar.addi v78 v79
  let c256_i32 : BitVec 32 := 256#32
  let v81 : BitVec 32 := Scalar.muli v80 c256_i32
  let v82 : BitVec 32 := v81
  let v85 : Index := Scalar.indexCast v82
  let c0_46 : Index := 0#32
  ![v85.toNat, 0]
def k0_off30 (i : grid0.Coords) (k0_t2 : Fin (k0_t2_loop i).trips) : Fin 3 → Nat :=
  let c0_50 : Index := 0#32
  let arg1 : BitVec 32 := BitVec.ofNat 32 (i 1).val
  let c16_i32 : BitVec 32 := 16#32
  let v13 : BitVec 32 := Scalar.subi c16_i32 arg1
  let c8_i32 : BitVec 32 := 8#32
  let c0_i32_9 : BitVec 32 := 0#32
  let v14 : BitVec 1 := Scalar.cmpi .eq c8_i32 c0_i32_9
  let c1_i32 : BitVec 32 := 1#32
  let v15 : BitVec 32 := Scalar.select v14 c1_i32 c8_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1_i32_13 : BitVec 32 := 1#32
  let v24 : BitVec 32 := Scalar.addi v23 c1_i32_13
  let v78 : BitVec 32 := Scalar.addi arg1 v24
  let c0_i32_32 : BitVec 32 := 0#32
  let c17_i32 : BitVec 32 := 17#32
  let v49 : BitVec 32 := Scalar.subi c17_i32 arg1
  let v50 : BitVec 32 := Scalar.subi v49 v24
  let c0_i32_25 : BitVec 32 := 0#32
  let v52 : BitVec 1 := Scalar.cmpi .sgt v50 c0_i32_25
  let v53 : BitVec 32 := Scalar.extui v52
  let c0_i32_26 : BitVec 32 := 0#32
  let v54 : BitVec 1 := Scalar.cmpi .slt v50 c0_i32_26
  let v55 : BitVec 32 := Scalar.extui v54
  let v56 : BitVec 32 := Scalar.subi v53 v55
  let c8_i32_24 : BitVec 32 := 8#32
  let c0_i32_27 : BitVec 32 := 0#32
  let v57 : BitVec 1 := Scalar.cmpi .sgt c8_i32_24 c0_i32_27
  let v58 : BitVec 32 := Scalar.extui v57
  let c0_i32_28 : BitVec 32 := 0#32
  let v59 : BitVec 1 := Scalar.cmpi .slt c8_i32_24 c0_i32_28
  let v60 : BitVec 32 := Scalar.extui v59
  let v61 : BitVec 32 := Scalar.subi v58 v60
  let v62 : BitVec 1 := Scalar.cmpi .ne v56 v61
  let v63 : BitVec 32 := Scalar.remsi v50 c8_i32_24
  let c0_i32_29 : BitVec 32 := 0#32
  let v64 : BitVec 1 := Scalar.cmpi .ne v63 c0_i32_29
  let v65 : BitVec 1 := Scalar.andi v62 v64
  let v51 : BitVec 32 := Scalar.divsi v50 c8_i32_24
  let c1_i32_30 : BitVec 32 := 1#32
  let v66 : BitVec 32 := Scalar.subi v51 c1_i32_30
  let v67 : BitVec 32 := Scalar.select v65 v66 v51
  let v68 : BitVec 32 := Scalar.subi v67 c0_i32_32
  let c1_i32_33 : BitVec 32 := 1#32
  let v70 : BitVec 32 := Scalar.divsi v68 c1_i32_33
  let v71 : BitVec 32 := Scalar.muli v70 c1_i32_33
  let v72 : BitVec 32 := Scalar.addi c0_i32_32 v71
  let c1_i32_35 : BitVec 32 := 1#32
  let arg13 : BitVec 32 := Scf.iv v72 c1_i32_35 k0_t2
  let c8_i32_44 : BitVec 32 := 8#32
  let v79 : BitVec 32 := Scalar.muli arg13 c8_i32_44
  let v80 : BitVec 32 := Scalar.addi v78 v79
  let c256_i32 : BitVec 32 := 256#32
  let v81 : BitVec 32 := Scalar.muli v80 c256_i32
  let v82 : BitVec 32 := v81
  let v96 : Index := Scalar.indexCast v82
  let c0_51 : Index := 0#32
  ![0, v96.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4352x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4352x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4352x4096 : Shape := ⟨2, ![4352, 4096]⟩
abbrev S4352x2048 : Shape := ⟨2, ![4352, 2048]⟩
abbrev S4352x16x256 : Shape := ⟨3, ![4352, 16, 256]⟩
abbrev S4352x16x128 : Shape := ⟨3, ![4352, 16, 128]⟩
abbrev S16x4352x4352 : Shape := ⟨3, ![16, 4352, 4352]⟩
abbrev S4352 : Shape := ⟨1, ![4352]⟩
abbrev S1x4352 : Shape := ⟨2, ![1, 4352]⟩
abbrev S4352x1 : Shape := ⟨2, ![4352, 1]⟩
abbrev S4352x4352 : Shape := ⟨2, ![4352, 4352]⟩
abbrev S1x4352x4352 : Shape := ⟨3, ![1, 4352, 4352]⟩
abbrev S_ : Shape := ⟨0, ![]⟩
abbrev S16x4352 : Shape := ⟨2, ![16, 4352]⟩
abbrev S16x4352x1 : Shape := ⟨3, ![16, 4352, 1]⟩
abbrev S16x128x4352 : Shape := ⟨3, ![16, 128, 4352]⟩
abbrev S16x4352x256 : Shape := ⟨3, ![16, 4352, 256]⟩

abbrev nBuf : Space → Nat
  | .hbm => 101
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x4096, .bf16⟩
  | .hbm, ⟨2, _⟩ => ⟨S4352x4096, .bf16⟩
  | .hbm, ⟨3, _⟩ => ⟨S4352x2048, .bf16⟩
  | .hbm, ⟨4, _⟩ => ⟨S4352x16x256, .bf16⟩
  | .hbm, ⟨5, _⟩ => ⟨S4352x16x256, .bf16⟩
  | .hbm, ⟨6, _⟩ => ⟨S4352x16x256, .bf16⟩
  | .hbm, ⟨7, _⟩ => ⟨S4352x16x128, .bf16⟩
  | .hbm, ⟨8, _⟩ => ⟨S16x4352x4352, .f32⟩
  | .hbm, ⟨9, _⟩ => ⟨S4352, .i32⟩
  | .hbm, ⟨10, _⟩ => ⟨S1x4352, .i32⟩
  | .hbm, ⟨11, _⟩ => ⟨S4352x1, .i32⟩
  | .hbm, ⟨12, _⟩ => ⟨S4352x4352, .i32⟩
  | .hbm, ⟨13, _⟩ => ⟨S4352x4352, .i32⟩
  | .hbm, ⟨14, _⟩ => ⟨S4352x4352, .i1⟩
  | .hbm, ⟨15, _⟩ => ⟨S1x4352x4352, .i1⟩
  | .hbm, ⟨16, _⟩ => ⟨S_, .f32⟩
  | .hbm, ⟨17, _⟩ => ⟨S16x4352x4352, .i1⟩
  | .hbm, ⟨18, _⟩ => ⟨S16x4352x4352, .f32⟩
  | .hbm, ⟨19, _⟩ => ⟨S16x4352x4352, .f32⟩
  | .hbm, ⟨20, _⟩ => ⟨S_, .f32⟩
  | .hbm, ⟨21, _⟩ => ⟨S16x4352x4352, .f32⟩
  | .hbm, ⟨22, _⟩ => ⟨S_, .f32⟩
  | .hbm, ⟨23, _⟩ => ⟨S16x4352, .f32⟩
  | .hbm, ⟨24, _⟩ => ⟨S16x4352x1, .f32⟩
  | .hbm, ⟨25, _⟩ => ⟨S16x4352x4352, .f32⟩
  | .hbm, ⟨26, _⟩ => ⟨S16x4352x4352, .i1⟩
  | .hbm, ⟨27, _⟩ => ⟨S16x4352x4352, .f32⟩
  | .hbm, ⟨28, _⟩ => ⟨S_, .f32⟩
  | .hbm, ⟨29, _⟩ => ⟨S16x4352, .f32⟩
  | .hbm, ⟨30, _⟩ => ⟨S_, .f32⟩
  | .hbm, ⟨31, _⟩ => ⟨S16x4352, .f32⟩
  | .hbm, ⟨32, _⟩ => ⟨S16x4352, .f32⟩
  | .hbm, ⟨33, _⟩ => ⟨S_, .f32⟩
  | .hbm, ⟨34, _⟩ => ⟨S16x4352, .f32⟩
  | .hbm, ⟨35, _⟩ => ⟨S16x4352, .i1⟩
  | .hbm, ⟨36, _⟩ => ⟨S_, .f32⟩
  | .hbm, ⟨37, _⟩ => ⟨S16x4352, .f32⟩
  | .hbm, ⟨38, _⟩ => ⟨S16x4352, .i1⟩
  | .hbm, ⟨39, _⟩ => ⟨S_, .f32⟩
  | .hbm, ⟨40, _⟩ => ⟨S16x4352, .f32⟩
  | .hbm, ⟨41, _⟩ => ⟨S_, .f32⟩
  | .hbm, ⟨42, _⟩ => ⟨S16x4352, .f32⟩
  | .hbm, ⟨43, _⟩ => ⟨S_, .f32⟩
  | .hbm, ⟨44, _⟩ => ⟨S16x4352, .f32⟩
  | .hbm, ⟨45, _⟩ => ⟨S16x4352, .f32⟩
  | .hbm, ⟨46, _⟩ => ⟨S16x4352, .f32⟩
  | .hbm, ⟨47, _⟩ => ⟨S16x4352x1, .f32⟩
  | .hbm, ⟨48, _⟩ => ⟨S16x4352x4352, .f32⟩
  | .hbm, ⟨49, _⟩ => ⟨S16x4352x4352, .f32⟩
  | .hbm, ⟨50, _⟩ => ⟨S16x4352x4352, .f32⟩
  | .hbm, ⟨51, _⟩ => ⟨S_, .f32⟩
  | .hbm, ⟨52, _⟩ => ⟨S16x4352, .f32⟩
  | .hbm, ⟨53, _⟩ => ⟨S16x4352x1, .f32⟩
  | .hbm, ⟨54, _⟩ => ⟨S16x4352x4352, .f32⟩
  | .hbm, ⟨55, _⟩ => ⟨S16x4352x4352, .f32⟩
  | .hbm, ⟨56, _⟩ => ⟨S16x4352x1, .f32⟩
  | .hbm, ⟨57, _⟩ => ⟨S_, .f32⟩
  | .hbm, ⟨58, _⟩ => ⟨S16x4352x1, .f32⟩
  | .hbm, ⟨59, _⟩ => ⟨S16x4352x1, .f32⟩
  | .hbm, ⟨60, _⟩ => ⟨S16x4352x4352, .bf16⟩
  | .hbm, ⟨61, _⟩ => ⟨S16x128x4352, .f32⟩
  | .hbm, ⟨62, _⟩ => ⟨S4352x16x128, .f32⟩
  | .hbm, ⟨63, _⟩ => ⟨S4352x16x128, .bf16⟩
  | .hbm, ⟨64, _⟩ => ⟨S4352x16x128, .bf16⟩
  | .hbm, ⟨65, _⟩ => ⟨S4352x16x128, .f32⟩
  | .hbm, ⟨66, _⟩ => ⟨S16x128x4352, .f32⟩
  | .hbm, ⟨67, _⟩ => ⟨S16x4352x4352, .f32⟩
  | .hbm, ⟨68, _⟩ => ⟨S16x4352x4352, .bf16⟩
  | .hbm, ⟨69, _⟩ => ⟨S16x128x4352, .f32⟩
  | .hbm, ⟨70, _⟩ => ⟨S4352x16x128, .f32⟩
  | .hbm, ⟨71, _⟩ => ⟨S4352x16x128, .bf16⟩
  | .hbm, ⟨72, _⟩ => ⟨S16x4352x4352, .f32⟩
  | .hbm, ⟨73, _⟩ => ⟨S16x4352x4352, .f32⟩
  | .hbm, ⟨74, _⟩ => ⟨S16x4352x4352, .f32⟩
  | .hbm, ⟨75, _⟩ => ⟨S16x4352x4352, .f32⟩
  | .hbm, ⟨76, _⟩ => ⟨S_, .f32⟩
  | .hbm, ⟨77, _⟩ => ⟨S16x4352, .f32⟩
  | .hbm, ⟨78, _⟩ => ⟨S16x4352x1, .f32⟩
  | .hbm, ⟨79, _⟩ => ⟨S16x4352x1, .f32⟩
  | .hbm, ⟨80, _⟩ => ⟨S16x4352x4352, .f32⟩
  | .hbm, ⟨81, _⟩ => ⟨S16x4352x4352, .f32⟩
  | .hbm, ⟨82, _⟩ => ⟨S_, .f32⟩
  | .hbm, ⟨83, _⟩ => ⟨S16x4352, .f32⟩
  | .hbm, ⟨84, _⟩ => ⟨S16x4352x4352, .f32⟩
  | .hbm, ⟨85, _⟩ => ⟨S16x4352x4352, .f32⟩
  | .hbm, ⟨86, _⟩ => ⟨S16x4352x4352, .f32⟩
  | .hbm, ⟨87, _⟩ => ⟨S_, .f32⟩
  | .hbm, ⟨88, _⟩ => ⟨S16x4352x4352, .f32⟩
  | .hbm, ⟨89, _⟩ => ⟨S16x4352x4352, .f32⟩
  | .hbm, ⟨90, _⟩ => ⟨S16x4352x256, .f32⟩
  | .hbm, ⟨91, _⟩ => ⟨S4352x16x256, .f32⟩
  | .hbm, ⟨92, _⟩ => ⟨S4352x16x256, .bf16⟩
  | .hbm, ⟨93, _⟩ => ⟨S16x4352x256, .f32⟩
  | .hbm, ⟨94, _⟩ => ⟨S4352x16x256, .f32⟩
  | .hbm, ⟨95, _⟩ => ⟨S4352x16x256, .bf16⟩
  | .hbm, ⟨96, _⟩ => ⟨S4352x4096, .bf16⟩
  | .hbm, ⟨97, _⟩ => ⟨S4352x4096, .f32⟩
  | .hbm, ⟨98, _⟩ => ⟨S4352x4096, .bf16⟩
  | .hbm, ⟨99, _⟩ => ⟨S4352x4096, .f32⟩
  | .hbm, ⟨100, _⟩ => ⟨S4352x2048, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12_1 : Ref sig .tc := ⟨.hbm, 17, rfl⟩
abbrev main_call0_v1 : Ref sig .tc := ⟨.hbm, 18, rfl⟩
abbrev main_v12_0 : Ref sig .tc := ⟨.hbm, 19, rfl⟩
abbrev main_call0_cst : Ref sig .tc := ⟨.hbm, 20, rfl⟩
abbrev main_v12_2 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_call1_cst : Ref sig .tc := ⟨.hbm, 87, rfl⟩
abbrev main_call1_v0 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]
-- ==== Kernel2.lean ====
abbrev S4352x11264 : Shape := ⟨2, ![4352, 11264]⟩
abbrev S2048x11264 : Shape := ⟨2, ![2048, 11264]⟩
abbrev S4352x2048 : Shape := ⟨2, ![4352, 2048]⟩
abbrev S1088x5632 : Shape := ⟨2, ![1088, 5632]⟩
abbrev S512x5632 : Shape := ⟨2, ![512, 5632]⟩
abbrev S1088x512 : Shape := ⟨2, ![1088, 512]⟩

abbrev nBuf : Space → Nat
  | .hbm => 3
  | .vmem => 7
  | .smem => 0
  | _ => 0

abbrev bufTy : (tb : Table) → Fin (tcTables nBuf tb) → BufTy
  | .hbm, ⟨0, _⟩ => ⟨S4352x11264, .bf16⟩
  | .hbm, ⟨1, _⟩ => ⟨S2048x11264, .bf16⟩
  | .hbm, ⟨2, _⟩ => ⟨S4352x2048, .f32⟩
  | .local _ .vmem, ⟨0, _⟩ => ⟨S1088x5632, .bf16⟩
  | .local _ .vmem, ⟨1, _⟩ => ⟨S1088x5632, .bf16⟩
  | .local _ .vmem, ⟨2, _⟩ => ⟨S512x5632, .bf16⟩
  | .local _ .vmem, ⟨3, _⟩ => ⟨S512x5632, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4352x11264 : Shape := ⟨2, ![4352, 11264]⟩
abbrev S2048x11264 : Shape := ⟨2, ![2048, 11264]⟩
abbrev S_ : Shape := ⟨0, ![]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x11264, .bf16⟩
  | .hbm, ⟨1, _⟩ => ⟨S2048x11264, .bf16⟩
  | .hbm, ⟨2, _⟩ => ⟨S2048x11264, .f32⟩
  | .hbm, ⟨3, _⟩ => ⟨S_, .f32⟩
  | .hbm, ⟨4, _⟩ => ⟨S4352x2048, .f32⟩
  | .hbm, ⟨5, _⟩ => ⟨S4352x11264, .f32⟩
  | .hbm, ⟨6, _⟩ => ⟨S4352x11264, .f32⟩
  | .hbm, ⟨7, _⟩ => ⟨S4352x2048, .f32⟩
  | _, _ => ⟨S4352x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4352x2048 : Shape := ⟨2, ![4352, 2048]⟩
abbrev S4352x11264 : Shape := ⟨2, ![4352, 11264]⟩
abbrev S2048x11264 : Shape := ⟨2, ![2048, 11264]⟩
abbrev S4352x512 : Shape := ⟨2, ![4352, 512]⟩
abbrev S4352x1024 : Shape := ⟨2, ![4352, 1024]⟩
abbrev S512x1024 : Shape := ⟨2, ![512, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x11264, .bf16⟩
  | .hbm, ⟨2, _⟩ => ⟨S2048x11264, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4352x2048 : Shape := ⟨2, ![4352, 2048]⟩
abbrev S4352x11264 : Shape := ⟨2, ![4352, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x11264, .bf16⟩
  | .hbm, ⟨2, _⟩ => ⟨S4352x2048, .f32⟩
  | .hbm, ⟨3, _⟩ => ⟨S_, .f32⟩
  | .hbm, ⟨4, _⟩ => ⟨S2048x11264, .f32⟩
  | .hbm, ⟨5, _⟩ => ⟨S4352x11264, .f32⟩
  | .hbm, ⟨6, _⟩ => ⟨S4352x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4352x2048 : Shape := ⟨2, ![4352, 2048]⟩
abbrev S5632x2048 : Shape := ⟨2, ![5632, 2048]⟩
abbrev S4352x5632 : Shape := ⟨2, ![4352, 5632]⟩
abbrev S1088x2048 : Shape := ⟨2, ![1088, 2048]⟩
abbrev S512x2048 : Shape := ⟨2, ![512, 2048]⟩
abbrev S1088x512 : Shape := ⟨2, ![1088, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S4352x5632, .bf16⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S1088x512, .bf16⟩
  | .local _ .vmem, ⟨5, _⟩ => ⟨S1088x512, .bf16⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x2048 : Shape := ⟨2, ![4352, 2048]⟩
abbrev S5632x2048 : Shape := ⟨2, ![5632, 2048]⟩
abbrev S_ : Shape := ⟨0, ![]⟩
abbrev S4352x5632 : Shape := ⟨2, ![4352, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S5632x2048, .f32⟩
  | .hbm, ⟨3, _⟩ => ⟨S_, .f32⟩
  | .hbm, ⟨4, _⟩ => ⟨S4352x5632, .f32⟩
  | .hbm, ⟨5, _⟩ => ⟨S4352x2048, .f32⟩
  | .hbm, ⟨6, _⟩ => ⟨S4352x2048, .f32⟩
  | .hbm, ⟨7, _⟩ => ⟨S4352x5632, .f32⟩
  | .hbm, ⟨8, _⟩ => ⟨S4352x5632, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4352x5632 : Shape := ⟨2, ![4352, 5632]⟩
abbrev S4352x2048 : Shape := ⟨2, ![4352, 2048]⟩
abbrev S5632x2048 : Shape := ⟨2, ![5632, 2048]⟩
abbrev S4352x512 : Shape := ⟨2, ![4352, 512]⟩
abbrev S4352x1024 : Shape := ⟨2, ![4352, 1024]⟩
abbrev S512x1024 : Shape := ⟨2, ![512, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S5632x2048, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x5632 : Shape := ⟨2, ![4352, 5632]⟩
abbrev S4352x2048 : Shape := ⟨2, ![4352, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S4352x5632, .f32⟩
  | .hbm, ⟨3, _⟩ => ⟨S_, .f32⟩
  | .hbm, ⟨4, _⟩ => ⟨S5632x2048, .f32⟩
  | .hbm, ⟨5, _⟩ => ⟨S4352x2048, .f32⟩
  | .hbm, ⟨6, _⟩ => ⟨S4352x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4352x2048 : Shape := ⟨2, ![4352, 2048]⟩
abbrev S2048x11264 : Shape := ⟨2, ![2048, 11264]⟩
abbrev S4352x11264 : Shape := ⟨2, ![4352, 11264]⟩
abbrev S1088x2048 : Shape := ⟨2, ![1088, 2048]⟩
abbrev S2048x1024 : Shape := ⟨2, ![2048, 1024]⟩
abbrev S1088x1024 : Shape := ⟨2, ![1088, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x11264, .bf16⟩
  | .hbm, ⟨2, _⟩ => ⟨S4352x11264, .bf16⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .bf16⟩
  | .local _ .vmem, ⟨5, _⟩ => ⟨S1088x1024, .bf16⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x2048 : Shape := ⟨2, ![4352, 2048]⟩
abbrev S2048x11264 : Shape := ⟨2, ![2048, 11264]⟩
abbrev S4352x11264 : Shape := ⟨2, ![4352, 11264]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x11264, .bf16⟩
  | .hbm, ⟨2, _⟩ => ⟨S4352x2048, .f32⟩
  | .hbm, ⟨3, _⟩ => ⟨S2048x11264, .f32⟩
  | .hbm, ⟨4, _⟩ => ⟨S4352x11264, .f32⟩
  | .hbm, ⟨5, _⟩ => ⟨S4352x11264, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4352x5632 : Shape := ⟨2, ![4352, 5632]⟩
abbrev S5632x2048 : Shape := ⟨2, ![5632, 2048]⟩
abbrev S4352x2048 : Shape := ⟨2, ![4352, 2048]⟩
abbrev S1088x5632 : Shape := ⟨2, ![1088, 5632]⟩
abbrev S5632x512 : Shape := ⟨2, ![5632, 512]⟩
abbrev S1088x512 : Shape := ⟨2, ![1088, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x2048, .f32⟩
  | .local _ .vmem, ⟨0, _⟩ => ⟨S1088x5632, .bf16⟩
  | .local _ .vmem, ⟨1, _⟩ => ⟨S1088x5632, .bf16⟩
  | .local _ .vmem, ⟨2, _⟩ => ⟨S5632x512, .bf16⟩
  | .local _ .vmem, ⟨3, _⟩ => ⟨S5632x512, .bf16⟩
  | .local _ .vmem, ⟨4, _⟩ => ⟨S1088x512, .f32⟩
  | .local _ .vmem, ⟨5, _⟩ => ⟨S1088x512, .f32⟩
  | .local _ .vmem, ⟨6, _⟩ => ⟨S8x128, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x5632 : Shape := ⟨2, ![4352, 5632]⟩
abbrev S5632x2048 : Shape := ⟨2, ![5632, 2048]⟩
abbrev S4352x2048 : Shape := ⟨2, ![4352, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x5632, .f32⟩
  | .hbm, ⟨3, _⟩ => ⟨S5632x2048, .f32⟩
  | .hbm, ⟨4, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4352x2048 : Shape := ⟨2, ![4352, 2048]⟩
abbrev S2048x2048 : Shape := ⟨2, ![2048, 2048]⟩
abbrev S4352x512 : Shape := ⟨2, ![4352, 512]⟩
abbrev S4352x1024 : Shape := ⟨2, ![4352, 1024]⟩
abbrev S512x1024 : Shape := ⟨2, ![512, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S2048x2048, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x2048 : Shape := ⟨2, ![4352, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S4352x2048, .f32⟩
  | .hbm, ⟨3, _⟩ => ⟨S_, .f32⟩
  | .hbm, ⟨4, _⟩ => ⟨S2048x2048, .f32⟩
  | .hbm, ⟨5, _⟩ => ⟨S4352x2048, .f32⟩
  | .hbm, ⟨6, _⟩ => ⟨S4352x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4352x2048 : Shape := ⟨2, ![4352, 2048]⟩
abbrev S2048x2048 : Shape := ⟨2, ![2048, 2048]⟩
abbrev S1088x2048 : Shape := ⟨2, ![1088, 2048]⟩
abbrev S1024x2048 : Shape := ⟨2, ![1024, 2048]⟩
abbrev S1088x1024 : Shape := ⟨2, ![1088, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .f32⟩
  | .local _ .vmem, ⟨5, _⟩ => ⟨S1088x1024, .f32⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4352x2048 : Shape := ⟨2, ![4352, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4352x1024 : Shape := ⟨2, ![4352, 1024]⟩
abbrev S4352x2048 : Shape := ⟨2, ![4352, 2048]⟩
abbrev S1024x2048 : Shape := ⟨2, ![1024, 2048]⟩
abbrev S4352x512 : Shape := ⟨2, ![4352, 512]⟩
abbrev S512x1024 : Shape := ⟨2, ![512, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S1024x2048, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x1024 : Shape := ⟨2, ![4352, 1024]⟩
abbrev S4352x2048 : Shape := ⟨2, ![4352, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S4352x1024, .f32⟩
  | .hbm, ⟨3, _⟩ => ⟨S_, .f32⟩
  | .hbm, ⟨4, _⟩ => ⟨S1024x2048, .f32⟩
  | .hbm, ⟨5, _⟩ => ⟨S4352x2048, .f32⟩
  | .hbm, ⟨6, _⟩ => ⟨S4352x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4352x2048 : Shape := ⟨2, ![4352, 2048]⟩
abbrev S1024x2048 : Shape := ⟨2, ![1024, 2048]⟩
abbrev S4352x1024 : Shape := ⟨2, ![4352, 1024]⟩
abbrev S1088x2048 : Shape := ⟨2, ![1088, 2048]⟩
abbrev S1088x1024 : Shape := ⟨2, ![1088, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S4352x1024, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1088x1024, .f32⟩
  | .local _ .vmem, ⟨4, _⟩ => ⟨S1088x1024, .f32⟩
  | .local _ .vmem, ⟨5, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4352x2048 : Shape := ⟨2, ![4352, 2048]⟩
abbrev S1024x2048 : Shape := ⟨2, ![1024, 2048]⟩
abbrev S_ : Shape := ⟨0, ![]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S4352x1024, .f32⟩
  | .hbm, ⟨5, _⟩ => ⟨S4352x2048, .f32⟩
  | .hbm, ⟨6, _⟩ => ⟨S4352x2048, .f32⟩
  | .hbm, ⟨7, _⟩ => ⟨S4352x1024, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4352x2048 : Shape := ⟨2, ![4352, 2048]⟩
abbrev S2048x2048 : Shape := ⟨2, ![2048, 2048]⟩
abbrev S1088x2048 : Shape := ⟨2, ![1088, 2048]⟩
abbrev S1024x2048 : Shape := ⟨2, ![1024, 2048]⟩
abbrev S1088x1024 : Shape := ⟨2, ![1088, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .bf16⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .bf16⟩
  | .local _ .vmem, ⟨5, _⟩ => ⟨S1088x1024, .bf16⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4352x2048 : Shape := ⟨2, ![4352, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S4352x2048, .f32⟩
  | .hbm, ⟨8, _⟩ => ⟨S4352x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4352x512 : Shape := ⟨2, ![4352, 512]⟩
abbrev S4352x4096 : Shape := ⟨2, ![4352, 4096]⟩
abbrev S512x4096 : Shape := ⟨2, ![512, 4096]⟩
abbrev S4352x1024 : Shape := ⟨2, ![4352, 1024]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .bf16⟩
  | .hbm, ⟨1, _⟩ => ⟨S4352x4096, .bf16⟩
  | .hbm, ⟨2, _⟩ => ⟨S512x4096, .bf16⟩
  | .local _ .vmem, ⟨0, _⟩ => ⟨S4352x512, .bf16⟩
  | .local _ .vmem, ⟨1, _⟩ => ⟨S4352x1024, .bf16⟩
  | .local _ .vmem, ⟨2, _⟩ => ⟨S4352x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4352x512 : Shape := ⟨2, ![4352, 512]⟩
abbrev S4352x4096 : Shape := ⟨2, ![4352, 4096]⟩
abbrev S_ : Shape := ⟨0, ![]⟩
abbrev S512x4096 : Shape := ⟨2, ![512, 4096]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x4096, .bf16⟩
  | .hbm, ⟨2, _⟩ => ⟨S4352x512, .f32⟩
  | .hbm, ⟨3, _⟩ => ⟨S_, .f32⟩
  | .hbm, ⟨4, _⟩ => ⟨S512x4096, .f32⟩
  | .hbm, ⟨5, _⟩ => ⟨S4352x4096, .f32⟩
  | .hbm, ⟨6, _⟩ => ⟨S4352x4096, .f32⟩
  | .hbm, ⟨7, _⟩ => ⟨S4096x512, .f32⟩
  | .hbm, ⟨8, _⟩ => ⟨S512x4096, .f32⟩
  | .hbm, ⟨9, _⟩ => ⟨S512x4096, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4352x4096 : Shape := ⟨2, ![4352, 4096]⟩
abbrev S512x4096 : Shape := ⟨2, ![512, 4096]⟩
abbrev S4352x512 : Shape := ⟨2, ![4352, 512]⟩
abbrev S1088x4096 : Shape := ⟨2, ![1088, 4096]⟩
abbrev S1088x512 : Shape := ⟨2, ![1088, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S512x4096, .bf16⟩
  | .hbm, ⟨2, _⟩ => ⟨S4352x512, .f32⟩
  | .local _ .vmem, ⟨0, _⟩ => ⟨S1088x4096, .bf16⟩
  | .local _ .vmem, ⟨1, _⟩ => ⟨S1088x4096, .bf16⟩
  | .local _ .vmem, ⟨2, _⟩ => ⟨S512x4096, .bf16⟩
  | .local _ .vmem, ⟨3, _⟩ => ⟨S1088x512, .f32⟩
  | .local _ .vmem, ⟨4, _⟩ => ⟨S1088x512, .f32⟩
  | .local _ .vmem, ⟨5, _⟩ => ⟨S8x128, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4352x4096 : Shape := ⟨2, ![4352, 4096]⟩
abbrev S512x4096 : Shape := ⟨2, ![512, 4096]⟩
abbrev S_ : Shape := ⟨0, ![]⟩
abbrev S4352x512 : Shape := ⟨2, ![4352, 512]⟩

abbrev nBuf : Space → Nat
  | .hbm => 8
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S512x4096, .bf16⟩
  | .hbm, ⟨2, _⟩ => ⟨S512x4096, .f32⟩
  | .hbm, ⟨3, _⟩ => ⟨S_, .f32⟩
  | .hbm, ⟨4, _⟩ => ⟨S4352x512, .f32⟩
  | .hbm, ⟨5, _⟩ => ⟨S4352x4096, .f32⟩
  | .hbm, ⟨6, _⟩ => ⟨S4352x4096, .f32⟩
  | .hbm, ⟨7, _⟩ => ⟨S4352x512, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4352x6272 : Shape := ⟨2, ![4352, 6272]⟩
abbrev S4352x2048 : Shape := ⟨2, ![4352, 2048]⟩
abbrev S6272x2048 : Shape := ⟨2, ![6272, 2048]⟩
abbrev S4352x896 : Shape := ⟨2, ![4352, 896]⟩
abbrev S4352x1024 : Shape := ⟨2, ![4352, 1024]⟩
abbrev S896x1024 : Shape := ⟨2, ![896, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x6272, .bf16⟩
  | .hbm, ⟨1, _⟩ => ⟨S4352x2048, .bf16⟩
  | .hbm, ⟨2, _⟩ => ⟨S6272x2048, .bf16⟩
  | .local _ .vmem, ⟨0, _⟩ => ⟨S4352x896, .bf16⟩
  | .local _ .vmem, ⟨1, _⟩ => ⟨S4352x896, .bf16⟩
  | .local _ .vmem, ⟨2, _⟩ => ⟨S4352x1024, .bf16⟩
  | .local _ .vmem, ⟨3, _⟩ => ⟨S4352x1024, .bf16⟩
  | .local _ .vmem, ⟨4, _⟩ => ⟨S896x1024, .bf16⟩
  | .local _ .vmem, ⟨5, _⟩ => ⟨S896x1024, .bf16⟩
  | .local _ .vmem, ⟨6, _⟩ => ⟨S8x128, .f32⟩
  | _, _ => ⟨S4352x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4352x6272 : Shape := ⟨2, ![4352, 6272]⟩
abbrev S4352x2048 : Shape := ⟨2, ![4352, 2048]⟩
abbrev S_ : Shape := ⟨0, ![]⟩
abbrev S6272x2048 : Shape := ⟨2, ![6272, 2048]⟩
abbrev S2048x6272 : Shape := ⟨2, ![2048, 6272]⟩

abbrev nBuf : Space → Nat
  | .hbm => 12
  | .vmem => 0
  | .smem => 0
  | _ => 0

abbrev bufTy : (tb : Table) → Fin (tcTables nBuf tb) → BufTy
  | .hbm, ⟨0, _⟩ => ⟨S4352x6272, .bf16⟩
  | .hbm, ⟨1, _⟩ => ⟨S4352x2048, .bf16⟩
  | .hbm, ⟨2, _⟩ => ⟨S4352x2048, .f32⟩
  | .hbm, ⟨3, _⟩ => ⟨S_, .f32⟩
  | .hbm, ⟨4, _⟩ => ⟨S6272x2048, .f32⟩
  | .hbm, ⟨5, _⟩ => ⟨S2048x6272, .f32⟩
  | .hbm, ⟨6, _⟩ => ⟨S4352x6272, .f32⟩
  | .hbm, ⟨7, _⟩ => ⟨S4352x6272, .f32⟩
  | .hbm, ⟨8, _⟩ => ⟨S6272x2048, .f32⟩
  | .hbm, ⟨9, _⟩ => ⟨S2048x6272, .f32⟩
  | .hbm, ⟨10, _⟩ => ⟨S6272x2048, .f32⟩
  | .hbm, ⟨11, _⟩ => ⟨S6272x2048, .bf16⟩
  | _, _ => ⟨S4352x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel16.lean ====
abbrev S4352x6272 : Shape := ⟨2, ![4352, 6272]⟩
abbrev S6272x2048 : Shape := ⟨2, ![6272, 2048]⟩
abbrev S4352x2048 : Shape := ⟨2, ![4352, 2048]⟩
abbrev S1088x6272 : Shape := ⟨2, ![1088, 6272]⟩
abbrev S6272x512 : Shape := ⟨2, ![6272, 512]⟩
abbrev S1088x512 : Shape := ⟨2, ![1088, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x6272, .bf16⟩
  | .hbm, ⟨1, _⟩ => ⟨S6272x2048, .bf16⟩
  | .hbm, ⟨2, _⟩ => ⟨S4352x2048, .f32⟩
  | .local _ .vmem, ⟨0, _⟩ => ⟨S1088x6272, .bf16⟩
  | .local _ .vmem, ⟨1, _⟩ => ⟨S1088x6272, .bf16⟩
  | .local _ .vmem, ⟨2, _⟩ => ⟨S6272x512, .bf16⟩
  | .local _ .vmem, ⟨3, _⟩ => ⟨S6272x512, .bf16⟩
  | .local _ .vmem, ⟨4, _⟩ => ⟨S1088x512, .f32⟩
  | .local _ .vmem, ⟨5, _⟩ => ⟨S1088x512, .f32⟩
  | .local _ .vmem, ⟨6, _⟩ => ⟨S8x128, .f32⟩
  | _, _ => ⟨S4352x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S6272x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4352x6272 : Shape := ⟨2, ![4352, 6272]⟩
abbrev S6272x2048 : Shape := ⟨2, ![6272, 2048]⟩
abbrev S_ : Shape := ⟨0, ![]⟩
abbrev S4352x2048 : Shape := ⟨2, ![4352, 2048]⟩
abbrev S2048x6272 : Shape := ⟨2, ![2048, 6272]⟩

abbrev nBuf : Space → Nat
  | .hbm => 9
  | .vmem => 0
  | .smem => 0
  | _ => 0

abbrev bufTy : (tb : Table) → Fin (tcTables nBuf tb) → BufTy
  | .hbm, ⟨0, _⟩ => ⟨S4352x6272, .bf16⟩
  | .hbm, ⟨1, _⟩ => ⟨S6272x2048, .bf16⟩
  | .hbm, ⟨2, _⟩ => ⟨S6272x2048, .f32⟩
  | .hbm, ⟨3, _⟩ => ⟨S_, .f32⟩
  | .hbm, ⟨4, _⟩ => ⟨S4352x2048, .f32⟩
  | .hbm, ⟨5, _⟩ => ⟨S2048x6272, .f32⟩
  | .hbm, ⟨6, _⟩ => ⟨S4352x6272, .f32⟩
  | .hbm, ⟨7, _⟩ => ⟨S4352x6272, .f32⟩
  | .hbm, ⟨8, _⟩ => ⟨S4352x2048, .f32⟩
  | _, _ => ⟨S4352x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4352x2048 : Shape := ⟨2, ![4352, 2048]⟩
abbrev S6272x2048 : Shape := ⟨2, ![6272, 2048]⟩
abbrev S4352x6272 : Shape := ⟨2, ![4352, 6272]⟩
abbrev S1088x2048 : Shape := ⟨2, ![1088, 2048]⟩
abbrev S896x2048 : Shape := ⟨2, ![896, 2048]⟩
abbrev S1088x896 : Shape := ⟨2, ![1088, 896]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S6272x2048, .bf16⟩
  | .hbm, ⟨2, _⟩ => ⟨S4352x6272, .f32⟩
  | .local _ .vmem, ⟨0, _⟩ => ⟨S1088x2048, .bf16⟩
  | .local _ .vmem, ⟨1, _⟩ => ⟨S1088x2048, .bf16⟩
  | .local _ .vmem, ⟨2, _⟩ => ⟨S896x2048, .bf16⟩
  | .local _ .vmem, ⟨3, _⟩ => ⟨S896x2048, .bf16⟩
  | .local _ .vmem, ⟨4, _⟩ => ⟨S1088x896, .f32⟩
  | .local _ .vmem, ⟨5, _⟩ => ⟨S1088x896, .f32⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4352x2048 : Shape := ⟨2, ![4352, 2048]⟩
abbrev S6272x2048 : Shape := ⟨2, ![6272, 2048]⟩
abbrev S2048x6272 : Shape := ⟨2, ![2048, 6272]⟩
abbrev S4352x6272 : Shape := ⟨2, ![4352, 6272]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S6272x2048, .bf16⟩
  | .hbm, ⟨2, _⟩ => ⟨S4352x2048, .f32⟩
  | .hbm, ⟨3, _⟩ => ⟨S6272x2048, .f32⟩
  | .hbm, ⟨4, _⟩ => ⟨S2048x6272, .f32⟩
  | .hbm, ⟨5, _⟩ => ⟨S4352x6272, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4352x1024 : Shape := ⟨2, ![4352, 1024]⟩
abbrev S1024x2048 : Shape := ⟨2, ![1024, 2048]⟩
abbrev S4352x2048 : Shape := ⟨2, ![4352, 2048]⟩
abbrev S1088x1024 : Shape := ⟨2, ![1088, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x2048, .bf16⟩
  | .hbm, ⟨2, _⟩ => ⟨S4352x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S8x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4352x1024 : Shape := ⟨2, ![4352, 1024]⟩
abbrev S1024x2048 : Shape := ⟨2, ![1024, 2048]⟩
abbrev S4352x2048 : Shape := ⟨2, ![4352, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x2048, .bf16⟩
  | .hbm, ⟨2, _⟩ => ⟨S4352x1024, .f32⟩
  | .hbm, ⟨3, _⟩ => ⟨S1024x2048, .f32⟩
  | .hbm, ⟨4, _⟩ => ⟨S4352x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S4352x512 : Shape := ⟨2, ![4352, 512]⟩
abbrev S512x4096 : Shape := ⟨2, ![512, 4096]⟩
abbrev S4352x4096 : Shape := ⟨2, ![4352, 4096]⟩
abbrev S1088x512 : Shape := ⟨2, ![1088, 512]⟩
abbrev S512x1024 : Shape := ⟨2, ![512, 1024]⟩
abbrev S1088x1024 : Shape := ⟨2, ![1088, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x512, .bf16⟩
  | .hbm, ⟨1, _⟩ => ⟨S512x4096, .bf16⟩
  | .hbm, ⟨2, _⟩ => ⟨S4352x4096, .bf16⟩
  | .local _ .vmem, ⟨0, _⟩ => ⟨S1088x512, .bf16⟩
  | .local _ .vmem, ⟨1, _⟩ => ⟨S1088x512, .bf16⟩
  | .local _ .vmem, ⟨2, _⟩ => ⟨S512x1024, .bf16⟩
  | .local _ .vmem, ⟨3, _⟩ => ⟨S512x1024, .bf16⟩
  | .local _ .vmem, ⟨4, _⟩ => ⟨S1088x1024, .bf16⟩
  | .local _ .vmem, ⟨5, _⟩ => ⟨S1088x1024, .bf16⟩
  | .local _ .vmem, ⟨6, _⟩ => ⟨S8x128, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4352x512 : Shape := ⟨2, ![4352, 512]⟩
abbrev S512x4096 : Shape := ⟨2, ![512, 4096]⟩
abbrev S4352x4096 : Shape := ⟨2, ![4352, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S512x4096, .bf16⟩
  | .hbm, ⟨2, _⟩ => ⟨S4352x512, .f32⟩
  | .hbm, ⟨3, _⟩ => ⟨S512x4096, .f32⟩
  | .hbm, ⟨4, _⟩ => ⟨S4352x4096, .f32⟩
  | .hbm, ⟨5, _⟩ => ⟨S4352x4096, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S4352x2048 : Shape := ⟨2, ![4352, 2048]⟩
abbrev S2048x2048 : Shape := ⟨2, ![2048, 2048]⟩
abbrev S1088x2048 : Shape := ⟨2, ![1088, 2048]⟩
abbrev S2048x1024 : Shape := ⟨2, ![2048, 1024]⟩
abbrev S1088x1024 : Shape := ⟨2, ![1088, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4352x2048 : Shape := ⟨2, ![4352, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S2048x2048, .f32⟩
  | .hbm, ⟨4, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S4352x5632 : Shape := ⟨2, ![4352, 5632]⟩
abbrev S4352x11264 : Shape := ⟨2, ![4352, 11264]⟩
abbrev S256x5632 : Shape := ⟨2, ![256, 5632]⟩
abbrev S256x11264 : Shape := ⟨2, ![256, 11264]⟩

abbrev nBuf : Space → Nat
  | .hbm => 3
  | .vmem => 6
  | .smem => 0
  | _ => 0

abbrev bufTy : (tb : Table) → Fin (tcTables nBuf tb) → BufTy
  | .hbm, ⟨0, _⟩ => ⟨S4352x5632, .bf16⟩
  | .hbm, ⟨1, _⟩ => ⟨S4352x11264, .bf16⟩
  | .hbm, ⟨2, _⟩ => ⟨S4352x11264, .bf16⟩
  | .local _ .vmem, ⟨0, _⟩ => ⟨S256x5632, .bf16⟩
  | .local _ .vmem, ⟨1, _⟩ => ⟨S256x5632, .bf16⟩
  | .local _ .vmem, ⟨2, _⟩ => ⟨S256x11264, .bf16⟩
  | .local _ .vmem, ⟨3, _⟩ => ⟨S256x11264, .bf16⟩
  | .local _ .vmem, ⟨4, _⟩ => ⟨S256x11264, .bf16⟩
  | .local _ .vmem, ⟨5, _⟩ => ⟨S256x11264, .bf16⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S4352x5632 : Shape := ⟨2, ![4352, 5632]⟩
abbrev S4352x11264 : Shape := ⟨2, ![4352, 11264]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x11264, .bf16⟩
  | .hbm, ⟨2, _⟩ => ⟨S4352x11264, .f32⟩
  | .hbm, ⟨3, _⟩ => ⟨S4352x5632, .f32⟩
  | .hbm, ⟨4, _⟩ => ⟨S4352x5632, .f32⟩
  | .hbm, ⟨5, _⟩ => ⟨S4352x5632, .f32⟩
  | .hbm, ⟨6, _⟩ => ⟨S4352x5632, .f32⟩
  | .hbm, ⟨7, _⟩ => ⟨S_, .f32⟩
  | .hbm, ⟨8, _⟩ => ⟨S4352x5632, .f32⟩
  | .hbm, ⟨9, _⟩ => ⟨S4352x5632, .f32⟩
  | .hbm, ⟨10, _⟩ => ⟨S_, .f32⟩
  | .hbm, ⟨11, _⟩ => ⟨S4352x5632, .f32⟩
  | .hbm, ⟨12, _⟩ => ⟨S4352x5632, .f32⟩
  | .hbm, ⟨13, _⟩ => ⟨S_, .f32⟩
  | .hbm, ⟨14, _⟩ => ⟨S4352x5632, .f32⟩
  | .hbm, ⟨15, _⟩ => ⟨S4352x5632, .f32⟩
  | .hbm, ⟨16, _⟩ => ⟨S4352x5632, .f32⟩
  | .hbm, ⟨17, _⟩ => ⟨S4352x5632, .f32⟩
  | .hbm, ⟨18, _⟩ => ⟨S4352x5632, .f32⟩
  | .hbm, ⟨19, _⟩ => ⟨S4352x5632, .f32⟩
  | .hbm, ⟨20, _⟩ => ⟨S4352x5632, .f32⟩
  | .hbm, ⟨21, _⟩ => ⟨S4352x5632, .f32⟩
  | .hbm, ⟨22, _⟩ => ⟨S4352x5632, .f32⟩
  | .hbm, ⟨23, _⟩ => ⟨S4352x5632, .f32⟩
  | .hbm, ⟨24, _⟩ => ⟨S4352x5632, .f32⟩
  | .hbm, ⟨25, _⟩ => ⟨S4352x5632, .f32⟩
  | .hbm, ⟨26, _⟩ => ⟨S4352x11264, .f32⟩
  | .hbm, ⟨27, _⟩ => ⟨S4352x11264, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== Kernel22.lean ====
abbrev S4352x2048 : Shape := ⟨2, ![4352, 2048]⟩
abbrev S4352x6272 : Shape := ⟨2, ![4352, 6272]⟩
abbrev S4352x4096 : Shape := ⟨2, ![4352, 4096]⟩
abbrev S256x2048 : Shape := ⟨2, ![256, 2048]⟩
abbrev S256x4096 : Shape := ⟨2, ![256, 4096]⟩

abbrev nBuf : Space → Nat
  | .hbm => 7
  | .vmem => 16
  | .smem => 0
  | _ => 0

abbrev bufTy : (tb : Table) → Fin (tcTables nBuf tb) → BufTy
  | .hbm, ⟨0, _⟩ => ⟨S4352x2048, .f32⟩
  | .hbm, ⟨1, _⟩ => ⟨S4352x6272, .f32⟩
  | .hbm, ⟨2, _⟩ => ⟨S4352x2048, .f32⟩
  | .hbm, ⟨3, _⟩ => ⟨S4352x2048, .f32⟩
  | .hbm, ⟨4, _⟩ => ⟨S4352x2048, .bf16⟩
  | .hbm, ⟨5, _⟩ => ⟨S4352x2048, .bf16⟩
  | .hbm, ⟨6, _⟩ => ⟨S4352x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x4096, .bf16⟩
  | .local _ .vmem, ⟨15, _⟩ => ⟨S256x4096, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S4352x2048 : Shape := ⟨2, ![4352, 2048]⟩
abbrev S4352x6272 : Shape := ⟨2, ![4352, 6272]⟩
abbrev S_ : Shape := ⟨0, ![]⟩
abbrev S4352x4096 : Shape := ⟨2, ![4352, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x6272, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S4352x2048, .f32⟩
  | .hbm, ⟨8, _⟩ => ⟨S_, .f32⟩
  | .hbm, ⟨9, _⟩ => ⟨S4352x2048, .f32⟩
  | .hbm, ⟨10, _⟩ => ⟨S4352x2048, .f32⟩
  | .hbm, ⟨11, _⟩ => ⟨S_, .f32⟩
  | .hbm, ⟨12, _⟩ => ⟨S4352x2048, .f32⟩
  | .hbm, ⟨13, _⟩ => ⟨S4352x2048, .f32⟩
  | .hbm, ⟨14, _⟩ => ⟨S_, .f32⟩
  | .hbm, ⟨15, _⟩ => ⟨S4352x2048, .f32⟩
  | .hbm, ⟨16, _⟩ => ⟨S4352x2048, .f32⟩
  | .hbm, ⟨17, _⟩ => ⟨S4352x2048, .f32⟩
  | .hbm, ⟨18, _⟩ => ⟨S4352x2048, .f32⟩
  | .hbm, ⟨19, _⟩ => ⟨S4352x2048, .f32⟩
  | .hbm, ⟨20, _⟩ => ⟨S4352x2048, .f32⟩
  | .hbm, ⟨21, _⟩ => ⟨S_, .f32⟩
  | .hbm, ⟨22, _⟩ => ⟨S4352x2048, .f32⟩
  | .hbm, ⟨23, _⟩ => ⟨S4352x2048, .f32⟩
  | .hbm, ⟨24, _⟩ => ⟨S_, .f32⟩
  | .hbm, ⟨25, _⟩ => ⟨S4352x2048, .f32⟩
  | .hbm, ⟨26, _⟩ => ⟨S4352x2048, .f32⟩
  | .hbm, ⟨27, _⟩ => ⟨S_, .f32⟩
  | .hbm, ⟨28, _⟩ => ⟨S4352x2048, .f32⟩
  | .hbm, ⟨29, _⟩ => ⟨S4352x2048, .f32⟩
  | .hbm, ⟨30, _⟩ => ⟨S4352x2048, .f32⟩
  | .hbm, ⟨31, _⟩ => ⟨S4352x2048, .f32⟩
  | .hbm, ⟨32, _⟩ => ⟨S4352x2048, .f32⟩
  | .hbm, ⟨33, _⟩ => ⟨S4352x2048, .f32⟩
  | .hbm, ⟨34, _⟩ => ⟨S4352x2048, .f32⟩
  | .hbm, ⟨35, _⟩ => ⟨S4352x2048, .f32⟩
  | .hbm, ⟨36, _⟩ => ⟨S4352x2048, .f32⟩
  | .hbm, ⟨37, _⟩ => ⟨S4352x2048, .f32⟩
  | .hbm, ⟨38, _⟩ => ⟨S4352x2048, .f32⟩
  | .hbm, ⟨39, _⟩ => ⟨S4352x2048, .f32⟩
  | .hbm, ⟨40, _⟩ => ⟨S4352x2048, .f32⟩
  | .hbm, ⟨41, _⟩ => ⟨S4352x2048, .bf16⟩
  | .hbm, ⟨42, _⟩ => ⟨S4352x2048, .bf16⟩
  | .hbm, ⟨43, _⟩ => ⟨S4352x4096, .f32⟩
  | .hbm, ⟨44, _⟩ => ⟨S4352x4096, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel23.lean ====
abbrev S4352x11264 : Shape := ⟨2, ![4352, 11264]⟩
abbrev S4352x5632 : Shape := ⟨2, ![4352, 5632]⟩
abbrev S256x11264 : Shape := ⟨2, ![256, 11264]⟩
abbrev S256x5632 : Shape := ⟨2, ![256, 5632]⟩

abbrev nBuf : Space → Nat
  | .hbm => 2
  | .vmem => 4
  | .smem => 0
  | _ => 0

abbrev bufTy : (tb : Table) → Fin (tcTables nBuf tb) → BufTy
  | .hbm, ⟨0, _⟩ => ⟨S4352x11264, .bf16⟩
  | .hbm, ⟨1, _⟩ => ⟨S4352x5632, .bf16⟩
  | .local _ .vmem, ⟨0, _⟩ => ⟨S256x11264, .bf16⟩
  | .local _ .vmem, ⟨1, _⟩ => ⟨S256x11264, .bf16⟩
  | .local _ .vmem, ⟨2, _⟩ => ⟨S256x5632, .bf16⟩
  | .local _ .vmem, ⟨3, _⟩ => ⟨S256x5632, .bf16⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference23Ideal.lean ====
abbrev S4352x11264 : Shape := ⟨2, ![4352, 11264]⟩
abbrev S4352x5632 : Shape := ⟨2, ![4352, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4352x11264, .bf16⟩
  | .hbm, ⟨1, _⟩ => ⟨S4352x11264, .f32⟩
  | .hbm, ⟨2, _⟩ => ⟨S4352x5632, .f32⟩
  | .hbm, ⟨3, _⟩ => ⟨S4352x5632, .f32⟩
  | .hbm, ⟨4, _⟩ => ⟨S4352x5632, .f32⟩
  | .hbm, ⟨5, _⟩ => ⟨S4352x5632, .f32⟩
  | .hbm, ⟨6, _⟩ => ⟨S_, .f32⟩
  | .hbm, ⟨7, _⟩ => ⟨S4352x5632, .f32⟩
  | .hbm, ⟨8, _⟩ => ⟨S4352x5632, .f32⟩
  | .hbm, ⟨9, _⟩ => ⟨S_, .f32⟩
  | .hbm, ⟨10, _⟩ => ⟨S4352x5632, .f32⟩
  | .hbm, ⟨11, _⟩ => ⟨S4352x5632, .f32⟩
  | .hbm, ⟨12, _⟩ => ⟨S4352x5632, .f32⟩
  | .hbm, ⟨13, _⟩ => ⟨S4352x5632, .f32⟩
  | .hbm, ⟨14, _⟩ => ⟨S4352x5632, .bf16⟩
  | _, _ => ⟨S4352x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel24.lean ====
abbrev S4352x6272 : Shape := ⟨2, ![4352, 6272]⟩
abbrev S4352x2048 : Shape := ⟨2, ![4352, 2048]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4352x6272, .f32⟩
  | .hbm, ⟨1, _⟩ => ⟨S4352x2048, .f32⟩
  | .hbm, ⟨2, _⟩ => ⟨S4352x2048, .f32⟩
  | .hbm, ⟨3, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4352x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S4352x6272 : Shape := ⟨2, ![4352, 6272]⟩
abbrev S4352x2048 : Shape := ⟨2, ![4352, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4352x6272, .f32⟩
  | .hbm, ⟨1, _⟩ => ⟨S4352x2048, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S_, .f32⟩
  | .hbm, ⟨8, _⟩ => ⟨S4352x2048, .f32⟩
  | .hbm, ⟨9, _⟩ => ⟨S4352x2048, .f32⟩
  | .hbm, ⟨10, _⟩ => ⟨S_, .f32⟩
  | .hbm, ⟨11, _⟩ => ⟨S4352x2048, .f32⟩
  | .hbm, ⟨12, _⟩ => ⟨S4352x2048, .f32⟩
  | .hbm, ⟨13, _⟩ => ⟨S4352x2048, .f32⟩
  | .hbm, ⟨14, _⟩ => ⟨S4352x2048, .f32⟩
  | .hbm, ⟨15, _⟩ => ⟨S4352x2048, .f32⟩
  | .hbm, ⟨16, _⟩ => ⟨S_, .f32⟩
  | .hbm, ⟨17, _⟩ => ⟨S4352x2048, .f32⟩
  | .hbm, ⟨18, _⟩ => ⟨S4352x2048, .f32⟩
  | .hbm, ⟨19, _⟩ => ⟨S_, .f32⟩
  | .hbm, ⟨20, _⟩ => ⟨S4352x2048, .f32⟩
  | .hbm, ⟨21, _⟩ => ⟨S4352x2048, .f32⟩
  | .hbm, ⟨22, _⟩ => ⟨S4352x2048, .f32⟩
  | .hbm, ⟨23, _⟩ => ⟨S4352x2048, .f32⟩
  | .hbm, ⟨24, _⟩ => ⟨S4352x2048, .bf16⟩
  | _, _ => ⟨S4352x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel25.lean ====
abbrev S4352x2048 : Shape := ⟨2, ![4352, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S4352x2048 : Shape := ⟨2, ![4352, 2048]⟩
abbrev S1x2048 : Shape := ⟨2, ![1, 2048]⟩
abbrev S_ : Shape := ⟨0, ![]⟩
abbrev S4352 : Shape := ⟨1, ![4352]⟩
abbrev S4352x1 : Shape := ⟨2, ![4352, 1]⟩

abbrev nBuf : Space → Nat
  | .hbm => 18
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .hbm, ⟨3, _⟩ => ⟨S_, .f32⟩
  | .hbm, ⟨4, _⟩ => ⟨S4352, .f32⟩
  | .hbm, ⟨5, _⟩ => ⟨S4352x1, .f32⟩
  | .hbm, ⟨6, _⟩ => ⟨S_, .f32⟩
  | .hbm, ⟨7, _⟩ => ⟨S4352x1, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S4352x1, .f32⟩
  | .hbm, ⟨13, _⟩ => ⟨S4352x2048, .f32⟩
  | .hbm, ⟨14, _⟩ => ⟨S4352x2048, .f32⟩
  | .hbm, ⟨15, _⟩ => ⟨S4352x2048, .f32⟩
  | .hbm, ⟨16, _⟩ => ⟨S4352x2048, .f32⟩
  | .hbm, ⟨17, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel26.lean ====
abbrev S4352x2048 : Shape := ⟨2, ![4352, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S1x2048, .f32⟩
  | .hbm, ⟨3, _⟩ => ⟨S1x2048, .f32⟩
  | .hbm, ⟨4, _⟩ => ⟨S4352x2048, .f32⟩
  | .hbm, ⟨5, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference26Ideal.lean ====
abbrev S4352x2048 : Shape := ⟨2, ![4352, 2048]⟩
abbrev S1x2048 : Shape := ⟨2, ![1, 2048]⟩
abbrev S_ : Shape := ⟨0, ![]⟩
abbrev S4352 : Shape := ⟨1, ![4352]⟩
abbrev S4352x1 : Shape := ⟨2, ![4352, 1]⟩

abbrev nBuf : Space → Nat
  | .hbm => 36
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S1x2048, .f32⟩
  | .hbm, ⟨3, _⟩ => ⟨S1x2048, .f32⟩
  | .hbm, ⟨4, _⟩ => ⟨S4352x2048, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x2048, .f32⟩
  | .hbm, ⟨16, _⟩ => ⟨S4352x2048, .f32⟩
  | .hbm, ⟨17, _⟩ => ⟨S4352x2048, .f32⟩
  | .hbm, ⟨18, _⟩ => ⟨S4352x2048, .f32⟩
  | .hbm, ⟨19, _⟩ => ⟨S4352x2048, .f32⟩
  | .hbm, ⟨20, _⟩ => ⟨S4352x2048, .f32⟩
  | .hbm, ⟨21, _⟩ => ⟨S_, .f32⟩
  | .hbm, ⟨22, _⟩ => ⟨S4352, .f32⟩
  | .hbm, ⟨23, _⟩ => ⟨S4352x1, .f32⟩
  | .hbm, ⟨24, _⟩ => ⟨S_, .f32⟩
  | .hbm, ⟨25, _⟩ => ⟨S4352x1, .f32⟩
  | .hbm, ⟨26, _⟩ => ⟨S4352x1, .f32⟩
  | .hbm, ⟨27, _⟩ => ⟨S_, .f32⟩
  | .hbm, ⟨28, _⟩ => ⟨S4352x1, .f32⟩
  | .hbm, ⟨29, _⟩ => ⟨S4352x1, .f32⟩
  | .hbm, ⟨30, _⟩ => ⟨S4352x1, .f32⟩
  | .hbm, ⟨31, _⟩ => ⟨S4352x2048, .f32⟩
  | .hbm, ⟨32, _⟩ => ⟨S4352x2048, .f32⟩
  | .hbm, ⟨33, _⟩ => ⟨S4352x2048, .f32⟩
  | .hbm, ⟨34, _⟩ => ⟨S4352x2048, .f32⟩
  | .hbm, ⟨35, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel27.lean ====
abbrev S4352x2048 : Shape := ⟨2, ![4352, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S1x2048, .f32⟩
  | .hbm, ⟨3, _⟩ => ⟨S1x2048, .f32⟩
  | .hbm, ⟨4, _⟩ => ⟨S4352x2048, .f32⟩
  | .hbm, ⟨5, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference27Ideal.lean ====
abbrev S4352x2048 : Shape := ⟨2, ![4352, 2048]⟩
abbrev S1x2048 : Shape := ⟨2, ![1, 2048]⟩
abbrev S_ : Shape := ⟨0, ![]⟩
abbrev S4352 : Shape := ⟨1, ![4352]⟩
abbrev S4352x1 : Shape := ⟨2, ![4352, 1]⟩

abbrev nBuf : Space → Nat
  | .hbm => 39
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S1x2048, .f32⟩
  | .hbm, ⟨3, _⟩ => ⟨S1x2048, .f32⟩
  | .hbm, ⟨4, _⟩ => ⟨S4352x2048, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x2048, .f32⟩
  | .hbm, ⟨16, _⟩ => ⟨S4352x2048, .f32⟩
  | .hbm, ⟨17, _⟩ => ⟨S4352x2048, .f32⟩
  | .hbm, ⟨18, _⟩ => ⟨S4352x2048, .f32⟩
  | .hbm, ⟨19, _⟩ => ⟨S_, .f32⟩
  | .hbm, ⟨20, _⟩ => ⟨S4352x2048, .f32⟩
  | .hbm, ⟨21, _⟩ => ⟨S4352x2048, .f32⟩
  | .hbm, ⟨22, _⟩ => ⟨S4352x2048, .f32⟩
  | .hbm, ⟨23, _⟩ => ⟨S4352x2048, .f32⟩
  | .hbm, ⟨24, _⟩ => ⟨S_, .f32⟩
  | .hbm, ⟨25, _⟩ => ⟨S4352, .f32⟩
  | .hbm, ⟨26, _⟩ => ⟨S4352x1, .f32⟩
  | .hbm, ⟨27, _⟩ => ⟨S_, .f32⟩
  | .hbm, ⟨28, _⟩ => ⟨S4352x1, .f32⟩
  | .hbm, ⟨29, _⟩ => ⟨S4352x1, .f32⟩
  | .hbm, ⟨30, _⟩ => ⟨S_, .f32⟩
  | .hbm, ⟨31, _⟩ => ⟨S4352x1, .f32⟩
  | .hbm, ⟨32, _⟩ => ⟨S4352x1, .f32⟩
  | .hbm, ⟨33, _⟩ => ⟨S4352x1, .f32⟩
  | .hbm, ⟨34, _⟩ => ⟨S4352x2048, .f32⟩
  | .hbm, ⟨35, _⟩ => ⟨S4352x2048, .f32⟩
  | .hbm, ⟨36, _⟩ => ⟨S4352x2048, .f32⟩
  | .hbm, ⟨37, _⟩ => ⟨S4352x2048, .f32⟩
  | .hbm, ⟨38, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel28.lean ====
abbrev S4352x6272 : Shape := ⟨2, ![4352, 6272]⟩
abbrev S1x512 : Shape := ⟨2, ![1, 512]⟩
abbrev S4352x512 : Shape := ⟨2, ![4352, 512]⟩
abbrev S256x512 : Shape := ⟨2, ![256, 512]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S4352x6272, .f32⟩
  | .hbm, ⟨1, _⟩ => ⟨S1x512, .f32⟩
  | .hbm, ⟨2, _⟩ => ⟨S1x512, .f32⟩
  | .hbm, ⟨3, _⟩ => ⟨S4352x512, .bf16⟩
  | .hbm, ⟨4, _⟩ => ⟨S4352x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | _, _ => ⟨S4352x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference28Ideal.lean ====
abbrev S4352x6272 : Shape := ⟨2, ![4352, 6272]⟩
abbrev S1x512 : Shape := ⟨2, ![1, 512]⟩
abbrev S4352x512 : Shape := ⟨2, ![4352, 512]⟩
abbrev S_ : Shape := ⟨0, ![]⟩
abbrev S4352 : Shape := ⟨1, ![4352]⟩
abbrev S4352x1 : Shape := ⟨2, ![4352, 1]⟩

abbrev nBuf : Space → Nat
  | .hbm => 37
  | .vmem => 0
  | .smem => 0
  | _ => 0

abbrev bufTy : (tb : Table) → Fin (tcTables nBuf tb) → BufTy
  | .hbm, ⟨0, _⟩ => ⟨S4352x6272, .f32⟩
  | .hbm, ⟨1, _⟩ => ⟨S1x512, .f32⟩
  | .hbm, ⟨2, _⟩ => ⟨S1x512, .f32⟩
  | .hbm, ⟨3, _⟩ => ⟨S4352x512, .f32⟩
  | .hbm, ⟨4, _⟩ => ⟨S4352x512, .f32⟩
  | .hbm, ⟨5, _⟩ => ⟨S4352x512, .f32⟩
  | .hbm, ⟨6, _⟩ => ⟨S_, .f32⟩
  | .hbm, ⟨7, _⟩ => ⟨S4352, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S_, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S4352x512, .f32⟩
  | .hbm, ⟨17, _⟩ => ⟨S4352x512, .f32⟩
  | .hbm, ⟨18, _⟩ => ⟨S4352x512, .f32⟩
  | .hbm, ⟨19, _⟩ => ⟨S4352x512, .f32⟩
  | .hbm, ⟨20, _⟩ => ⟨S4352x512, .bf16⟩
  | .hbm, ⟨21, _⟩ => ⟨S4352x512, .f32⟩
  | .hbm, ⟨22, _⟩ => ⟨S_, .f32⟩
  | .hbm, ⟨23, _⟩ => ⟨S4352, .f32⟩
  | .hbm, ⟨24, _⟩ => ⟨S4352x1, .f32⟩
  | .hbm, ⟨25, _⟩ => ⟨S_, .f32⟩
  | .hbm, ⟨26, _⟩ => ⟨S4352x1, .f32⟩
  | .hbm, ⟨27, _⟩ => ⟨S4352x1, .f32⟩
  | .hbm, ⟨28, _⟩ => ⟨S_, .f32⟩
  | .hbm, ⟨29, _⟩ => ⟨S4352x1, .f32⟩
  | .hbm, ⟨30, _⟩ => ⟨S4352x1, .f32⟩
  | .hbm, ⟨31, _⟩ => ⟨S4352x1, .f32⟩
  | .hbm, ⟨32, _⟩ => ⟨S4352x512, .f32⟩
  | .hbm, ⟨33, _⟩ => ⟨S4352x512, .f32⟩
  | .hbm, ⟨34, _⟩ => ⟨S4352x512, .f32⟩
  | .hbm, ⟨35, _⟩ => ⟨S4352x512, .f32⟩
  | .hbm, ⟨36, _⟩ => ⟨S4352x512, .bf16⟩
  | _, _ => ⟨S4352x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel29.lean ====
abbrev S1x2048x2816 : Shape := ⟨3, ![1, 2048, 2816]⟩
abbrev S1x128x2816 : Shape := ⟨3, ![1, 128, 2816]⟩
abbrev S128x2816 : Shape := ⟨2, ![128, 2816]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x2816, .f32⟩
  | .hbm, ⟨1, _⟩ => ⟨S1x2048x2816, .f32⟩
  | .hbm, ⟨2, _⟩ => ⟨S1x2048x2816, .f32⟩
  | .hbm, ⟨3, _⟩ => ⟨S1x2048x2816, .f32⟩
  | .hbm, ⟨4, _⟩ => ⟨S1x2048x2816, .f32⟩
  | .hbm, ⟨5, _⟩ => ⟨S1x2048x2816, .f32⟩
  | .hbm, ⟨6, _⟩ => ⟨S1x2048x2816, .f32⟩
  | .hbm, ⟨7, _⟩ => ⟨S1x2048x2816, .f32⟩
  | .local _ .vmem, ⟨0, _⟩ => ⟨S1x128x2816, .f32⟩
  | .local _ .vmem, ⟨1, _⟩ => ⟨S1x128x2816, .f32⟩
  | .local _ .vmem, ⟨2, _⟩ => ⟨S1x128x2816, .f32⟩
  | .local _ .vmem, ⟨3, _⟩ => ⟨S1x128x2816, .f32⟩
  | .local _ .vmem, ⟨4, _⟩ => ⟨S1x128x2816, .f32⟩
  | .local _ .vmem, ⟨5, _⟩ => ⟨S1x128x2816, .f32⟩
  | .local _ .vmem, ⟨6, _⟩ => ⟨S1x128x2816, .f32⟩
  | .local _ .vmem, ⟨7, _⟩ => ⟨S1x128x2816, .f32⟩
  | .local _ .vmem, ⟨8, _⟩ => ⟨S1x128x2816, .f32⟩
  | .local _ .vmem, ⟨9, _⟩ => ⟨S1x128x2816, .f32⟩
  | .local _ .vmem, ⟨10, _⟩ => ⟨S1x128x2816, .f32⟩
  | .local _ .vmem, ⟨11, _⟩ => ⟨S1x128x2816, .f32⟩
  | .local _ .vmem, ⟨12, _⟩ => ⟨S1x128x2816, .f32⟩
  | .local _ .vmem, ⟨13, _⟩ => ⟨S1x128x2816, .f32⟩
  | .local _ .vmem, ⟨14, _⟩ => ⟨S1x128x2816, .f32⟩
  | .local _ .vmem, ⟨15, _⟩ => ⟨S1x128x2816, .f32⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference29Ideal.lean ====
abbrev S1x2048x2816 : Shape := ⟨3, ![1, 2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S1x2048x2816, .f32⟩
  | .hbm, ⟨2, _⟩ => ⟨S1x2048x2816, .f32⟩
  | .hbm, ⟨3, _⟩ => ⟨S1x2048x2816, .f32⟩
  | .hbm, ⟨4, _⟩ => ⟨S_, .f32⟩
  | .hbm, ⟨5, _⟩ => ⟨S1x2048x2816, .f32⟩
  | .hbm, ⟨6, _⟩ => ⟨S1x2048x2816, .f32⟩
  | .hbm, ⟨7, _⟩ => ⟨S_, .f32⟩
  | .hbm, ⟨8, _⟩ => ⟨S1x2048x2816, .f32⟩
  | .hbm, ⟨9, _⟩ => ⟨S1x2048x2816, .f32⟩
  | .hbm, ⟨10, _⟩ => ⟨S1x2048x2816, .f32⟩
  | .hbm, ⟨11, _⟩ => ⟨S_, .f32⟩
  | .hbm, ⟨12, _⟩ => ⟨S1x2048x2816, .f32⟩
  | .hbm, ⟨13, _⟩ => ⟨S1x2048x2816, .f32⟩
  | .hbm, ⟨14, _⟩ => ⟨S1x2048x2816, .f32⟩
  | .hbm, ⟨15, _⟩ => ⟨S_, .f32⟩
  | .hbm, ⟨16, _⟩ => ⟨S1x2048x2816, .f32⟩
  | .hbm, ⟨17, _⟩ => ⟨S1x2048x2816, .f32⟩
  | .hbm, ⟨18, _⟩ => ⟨S1x2048x2816, .f32⟩
  | .hbm, ⟨19, _⟩ => ⟨S_, .f32⟩
  | .hbm, ⟨20, _⟩ => ⟨S1x2048x2816, .f32⟩
  | .hbm, ⟨21, _⟩ => ⟨S1x2048x2816, .f32⟩
  | .hbm, ⟨22, _⟩ => ⟨S_, .f32⟩
  | .hbm, ⟨23, _⟩ => ⟨S1x2048x2816, .f32⟩
  | .hbm, ⟨24, _⟩ => ⟨S1x2048x2816, .f32⟩
  | .hbm, ⟨25, _⟩ => ⟨S1x2048x2816, .f32⟩
  | .hbm, ⟨26, _⟩ => ⟨S_, .f32⟩
  | .hbm, ⟨27, _⟩ => ⟨S1x2048x2816, .f32⟩
  | .hbm, ⟨28, _⟩ => ⟨S1x2048x2816, .f32⟩
  | .hbm, ⟨29, _⟩ => ⟨S1x2048x2816, .f32⟩
  | .hbm, ⟨30, _⟩ => ⟨S_, .f32⟩
  | .hbm, ⟨31, _⟩ => ⟨S1x2048x2816, .f32⟩
  | .hbm, ⟨32, _⟩ => ⟨S1x2048x2816, .f32⟩
  | .hbm, ⟨33, _⟩ => ⟨S1x2048x2816, .f32⟩
  | .hbm, ⟨34, _⟩ => ⟨S_, .f32⟩
  | .hbm, ⟨35, _⟩ => ⟨S1x2048x2816, .f32⟩
  | .hbm, ⟨36, _⟩ => ⟨S1x2048x2816, .f32⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S1x1408x2048 : Shape := ⟨3, ![1, 1408, 2048]⟩
abbrev S1x176x2048 : Shape := ⟨3, ![1, 176, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x1408x2048, .f32⟩
  | .hbm, ⟨1, _⟩ => ⟨S1x1408x2048, .f32⟩
  | .hbm, ⟨2, _⟩ => ⟨S1x1408x2048, .f32⟩
  | .hbm, ⟨3, _⟩ => ⟨S1x1408x2048, .f32⟩
  | .hbm, ⟨4, _⟩ => ⟨S1x1408x2048, .f32⟩
  | .hbm, ⟨5, _⟩ => ⟨S1x1408x2048, .f32⟩
  | .hbm, ⟨6, _⟩ => ⟨S1x1408x2048, .f32⟩
  | .hbm, ⟨7, _⟩ => ⟨S1x1408x2048, .f32⟩
  | .local _ .vmem, ⟨0, _⟩ => ⟨S1x176x2048, .f32⟩
  | .local _ .vmem, ⟨1, _⟩ => ⟨S1x176x2048, .f32⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | _, _ => ⟨S1x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference30Ideal.lean ====
abbrev S1x1408x2048 : Shape := ⟨3, ![1, 1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1408x2048, .f32⟩
  | .hbm, ⟨1, _⟩ => ⟨S1x1408x2048, .f32⟩
  | .hbm, ⟨2, _⟩ => ⟨S1x1408x2048, .f32⟩
  | .hbm, ⟨3, _⟩ => ⟨S1x1408x2048, .f32⟩
  | .hbm, ⟨4, _⟩ => ⟨S_, .f32⟩
  | .hbm, ⟨5, _⟩ => ⟨S1x1408x2048, .f32⟩
  | .hbm, ⟨6, _⟩ => ⟨S1x1408x2048, .f32⟩
  | .hbm, ⟨7, _⟩ => ⟨S_, .f32⟩
  | .hbm, ⟨8, _⟩ => ⟨S1x1408x2048, .f32⟩
  | .hbm, ⟨9, _⟩ => ⟨S1x1408x2048, .f32⟩
  | .hbm, ⟨10, _⟩ => ⟨S1x1408x2048, .f32⟩
  | .hbm, ⟨11, _⟩ => ⟨S_, .f32⟩
  | .hbm, ⟨12, _⟩ => ⟨S1x1408x2048, .f32⟩
  | .hbm, ⟨13, _⟩ => ⟨S1x1408x2048, .f32⟩
  | .hbm, ⟨14, _⟩ => ⟨S1x1408x2048, .f32⟩
  | .hbm, ⟨15, _⟩ => ⟨S_, .f32⟩
  | .hbm, ⟨16, _⟩ => ⟨S1x1408x2048, .f32⟩
  | .hbm, ⟨17, _⟩ => ⟨S1x1408x2048, .f32⟩
  | .hbm, ⟨18, _⟩ => ⟨S1x1408x2048, .f32⟩
  | .hbm, ⟨19, _⟩ => ⟨S_, .f32⟩
  | .hbm, ⟨20, _⟩ => ⟨S1x1408x2048, .f32⟩
  | .hbm, ⟨21, _⟩ => ⟨S1x1408x2048, .f32⟩
  | .hbm, ⟨22, _⟩ => ⟨S_, .f32⟩
  | .hbm, ⟨23, _⟩ => ⟨S1x1408x2048, .f32⟩
  | .hbm, ⟨24, _⟩ => ⟨S1x1408x2048, .f32⟩
  | .hbm, ⟨25, _⟩ => ⟨S1x1408x2048, .f32⟩
  | .hbm, ⟨26, _⟩ => ⟨S_, .f32⟩
  | .hbm, ⟨27, _⟩ => ⟨S1x1408x2048, .f32⟩
  | .hbm, ⟨28, _⟩ => ⟨S1x1408x2048, .f32⟩
  | .hbm, ⟨29, _⟩ => ⟨S1x1408x2048, .f32⟩
  | .hbm, ⟨30, _⟩ => ⟨S_, .f32⟩
  | .hbm, ⟨31, _⟩ => ⟨S1x1408x2048, .f32⟩
  | .hbm, ⟨32, _⟩ => ⟨S1x1408x2048, .f32⟩
  | .hbm, ⟨33, _⟩ => ⟨S1x1408x2048, .f32⟩
  | .hbm, ⟨34, _⟩ => ⟨S_, .f32⟩
  | .hbm, ⟨35, _⟩ => ⟨S1x1408x2048, .f32⟩
  | .hbm, ⟨36, _⟩ => ⟨S1x1408x2048, .f32⟩
  | _, _ => ⟨S1x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S1x1552x2048 : Shape := ⟨3, ![1, 1552, 2048]⟩
abbrev S1x1552x256 : Shape := ⟨3, ![1, 1552, 256]⟩
abbrev S1552x256 : Shape := ⟨2, ![1552, 256]⟩

abbrev nBuf : Space → Nat
  | .hbm => 8
  | .vmem => 16
  | .smem => 0
  | _ => 0

abbrev bufTy : (tb : Table) → Fin (tcTables nBuf tb) → BufTy
  | .hbm, ⟨0, _⟩ => ⟨S1x1552x2048, .f32⟩
  | .hbm, ⟨1, _⟩ => ⟨S1x1552x2048, .f32⟩
  | .hbm, ⟨2, _⟩ => ⟨S1x1552x2048, .f32⟩
  | .hbm, ⟨3, _⟩ => ⟨S1x1552x2048, .f32⟩
  | .hbm, ⟨4, _⟩ => ⟨S1x1552x2048, .f32⟩
  | .hbm, ⟨5, _⟩ => ⟨S1x1552x2048, .f32⟩
  | .hbm, ⟨6, _⟩ => ⟨S1x1552x2048, .f32⟩
  | .hbm, ⟨7, _⟩ => ⟨S1x1552x2048, .f32⟩
  | .local _ .vmem, ⟨0, _⟩ => ⟨S1x1552x256, .f32⟩
  | .local _ .vmem, ⟨1, _⟩ => ⟨S1x1552x256, .f32⟩
  | .local _ .vmem, ⟨2, _⟩ => ⟨S1x1552x256, .f32⟩
  | .local _ .vmem, ⟨3, _⟩ => ⟨S1x1552x256, .f32⟩
  | .local _ .vmem, ⟨4, _⟩ => ⟨S1x1552x256, .f32⟩
  | .local _ .vmem, ⟨5, _⟩ => ⟨S1x1552x256, .f32⟩
  | .local _ .vmem, ⟨6, _⟩ => ⟨S1x1552x256, .f32⟩
  | .local _ .vmem, ⟨7, _⟩ => ⟨S1x1552x256, .f32⟩
  | .local _ .vmem, ⟨8, _⟩ => ⟨S1x1552x256, .f32⟩
  | .local _ .vmem, ⟨9, _⟩ => ⟨S1x1552x256, .f32⟩
  | .local _ .vmem, ⟨10, _⟩ => ⟨S1x1552x256, .f32⟩
  | .local _ .vmem, ⟨11, _⟩ => ⟨S1x1552x256, .f32⟩
  | .local _ .vmem, ⟨12, _⟩ => ⟨S1x1552x256, .f32⟩
  | .local _ .vmem, ⟨13, _⟩ => ⟨S1x1552x256, .f32⟩
  | .local _ .vmem, ⟨14, _⟩ => ⟨S1x1552x256, .f32⟩
  | .local _ .vmem, ⟨15, _⟩ => ⟨S1x1552x256, .f32⟩
  | _, _ => ⟨S1x1552x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1552x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1552x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1552x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1552x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1552x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1552x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1552x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1552x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference31Ideal.lean ====
abbrev S1x1552x2048 : Shape := ⟨3, ![1, 1552, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1552x2048, .f32⟩
  | .hbm, ⟨1, _⟩ => ⟨S1x1552x2048, .f32⟩
  | .hbm, ⟨2, _⟩ => ⟨S1x1552x2048, .f32⟩
  | .hbm, ⟨3, _⟩ => ⟨S1x1552x2048, .f32⟩
  | .hbm, ⟨4, _⟩ => ⟨S_, .f32⟩
  | .hbm, ⟨5, _⟩ => ⟨S1x1552x2048, .f32⟩
  | .hbm, ⟨6, _⟩ => ⟨S1x1552x2048, .f32⟩
  | .hbm, ⟨7, _⟩ => ⟨S_, .f32⟩
  | .hbm, ⟨8, _⟩ => ⟨S1x1552x2048, .f32⟩
  | .hbm, ⟨9, _⟩ => ⟨S1x1552x2048, .f32⟩
  | .hbm, ⟨10, _⟩ => ⟨S1x1552x2048, .f32⟩
  | .hbm, ⟨11, _⟩ => ⟨S_, .f32⟩
  | .hbm, ⟨12, _⟩ => ⟨S1x1552x2048, .f32⟩
  | .hbm, ⟨13, _⟩ => ⟨S1x1552x2048, .f32⟩
  | .hbm, ⟨14, _⟩ => ⟨S1x1552x2048, .f32⟩
  | .hbm, ⟨15, _⟩ => ⟨S_, .f32⟩
  | .hbm, ⟨16, _⟩ => ⟨S1x1552x2048, .f32⟩
  | .hbm, ⟨17, _⟩ => ⟨S1x1552x2048, .f32⟩
  | .hbm, ⟨18, _⟩ => ⟨S1x1552x2048, .f32⟩
  | .hbm, ⟨19, _⟩ => ⟨S_, .f32⟩
  | .hbm, ⟨20, _⟩ => ⟨S1x1552x2048, .f32⟩
  | .hbm, ⟨21, _⟩ => ⟨S1x1552x2048, .f32⟩
  | .hbm, ⟨22, _⟩ => ⟨S_, .f32⟩
  | .hbm, ⟨23, _⟩ => ⟨S1x1552x2048, .f32⟩
  | .hbm, ⟨24, _⟩ => ⟨S1x1552x2048, .f32⟩
  | .hbm, ⟨25, _⟩ => ⟨S1x1552x2048, .f32⟩
  | .hbm, ⟨26, _⟩ => ⟨S_, .f32⟩
  | .hbm, ⟨27, _⟩ => ⟨S1x1552x2048, .f32⟩
  | .hbm, ⟨28, _⟩ => ⟨S1x1552x2048, .f32⟩
  | .hbm, ⟨29, _⟩ => ⟨S1x1552x2048, .f32⟩
  | .hbm, ⟨30, _⟩ => ⟨S_, .f32⟩
  | .hbm, ⟨31, _⟩ => ⟨S1x1552x2048, .f32⟩
  | .hbm, ⟨32, _⟩ => ⟨S1x1552x2048, .f32⟩
  | .hbm, ⟨33, _⟩ => ⟨S1x1552x2048, .f32⟩
  | .hbm, ⟨34, _⟩ => ⟨S_, .f32⟩
  | .hbm, ⟨35, _⟩ => ⟨S1x1552x2048, .f32⟩
  | .hbm, ⟨36, _⟩ => ⟨S1x1552x2048, .f32⟩
  | _, _ => ⟨S1x1552x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S1x4x64x256 : Shape := ⟨4, ![1, 4, 64, 256]⟩
abbrev S1x1x64x256 : Shape := ⟨4, ![1, 1, 64, 256]⟩
abbrev S64x256 : Shape := ⟨2, ![64, 256]⟩

abbrev nBuf : Space → Nat
  | .hbm => 8
  | .vmem => 16
  | .smem => 0
  | _ => 0

abbrev bufTy : (tb : Table) → Fin (tcTables nBuf tb) → BufTy
  | .hbm, ⟨0, _⟩ => ⟨S1x4x64x256, .f32⟩
  | .hbm, ⟨1, _⟩ => ⟨S1x4x64x256, .f32⟩
  | .hbm, ⟨2, _⟩ => ⟨S1x4x64x256, .f32⟩
  | .hbm, ⟨3, _⟩ => ⟨S1x4x64x256, .f32⟩
  | .hbm, ⟨4, _⟩ => ⟨S1x4x64x256, .f32⟩
  | .hbm, ⟨5, _⟩ => ⟨S1x4x64x256, .f32⟩
  | .hbm, ⟨6, _⟩ => ⟨S1x4x64x256, .f32⟩
  | .hbm, ⟨7, _⟩ => ⟨S1x4x64x256, .f32⟩
  | .local _ .vmem, ⟨0, _⟩ => ⟨S1x1x64x256, .f32⟩
  | .local _ .vmem, ⟨1, _⟩ => ⟨S1x1x64x256, .f32⟩
  | .local _ .vmem, ⟨2, _⟩ => ⟨S1x1x64x256, .f32⟩
  | .local _ .vmem, ⟨3, _⟩ => ⟨S1x1x64x256, .f32⟩
  | .local _ .vmem, ⟨4, _⟩ => ⟨S1x1x64x256, .f32⟩
  | .local _ .vmem, ⟨5, _⟩ => ⟨S1x1x64x256, .f32⟩
  | .local _ .vmem, ⟨6, _⟩ => ⟨S1x1x64x256, .f32⟩
  | .local _ .vmem, ⟨7, _⟩ => ⟨S1x1x64x256, .f32⟩
  | .local _ .vmem, ⟨8, _⟩ => ⟨S1x1x64x256, .f32⟩
  | .local _ .vmem, ⟨9, _⟩ => ⟨S1x1x64x256, .f32⟩
  | .local _ .vmem, ⟨10, _⟩ => ⟨S1x1x64x256, .f32⟩
  | .local _ .vmem, ⟨11, _⟩ => ⟨S1x1x64x256, .f32⟩
  | .local _ .vmem, ⟨12, _⟩ => ⟨S1x1x64x256, .f32⟩
  | .local _ .vmem, ⟨13, _⟩ => ⟨S1x1x64x256, .f32⟩
  | .local _ .vmem, ⟨14, _⟩ => ⟨S1x1x64x256, .f32⟩
  | .local _ .vmem, ⟨15, _⟩ => ⟨S1x1x64x256, .f32⟩
  | _, _ => ⟨S1x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

abbrev stage0_0 : Fin 2 → Memref sig .tc .vmem S1x1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1x1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 2 → Memref sig .tc .vmem S1x1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]
-- ==== Reference32Ideal.lean ====
abbrev S1x4x64x256 : Shape := ⟨4, ![1, 4, 64, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x64x256, .f32⟩
  | .hbm, ⟨1, _⟩ => ⟨S1x4x64x256, .f32⟩
  | .hbm, ⟨2, _⟩ => ⟨S1x4x64x256, .f32⟩
  | .hbm, ⟨3, _⟩ => ⟨S1x4x64x256, .f32⟩
  | .hbm, ⟨4, _⟩ => ⟨S_, .f32⟩
  | .hbm, ⟨5, _⟩ => ⟨S1x4x64x256, .f32⟩
  | .hbm, ⟨6, _⟩ => ⟨S1x4x64x256, .f32⟩
  | .hbm, ⟨7, _⟩ => ⟨S_, .f32⟩
  | .hbm, ⟨8, _⟩ => ⟨S1x4x64x256, .f32⟩
  | .hbm, ⟨9, _⟩ => ⟨S1x4x64x256, .f32⟩
  | .hbm, ⟨10, _⟩ => ⟨S1x4x64x256, .f32⟩
  | .hbm, ⟨11, _⟩ => ⟨S_, .f32⟩
  | .hbm, ⟨12, _⟩ => ⟨S1x4x64x256, .f32⟩
  | .hbm, ⟨13, _⟩ => ⟨S1x4x64x256, .f32⟩
  | .hbm, ⟨14, _⟩ => ⟨S1x4x64x256, .f32⟩
  | .hbm, ⟨15, _⟩ => ⟨S_, .f32⟩
  | .hbm, ⟨16, _⟩ => ⟨S1x4x64x256, .f32⟩
  | .hbm, ⟨17, _⟩ => ⟨S1x4x64x256, .f32⟩
  | .hbm, ⟨18, _⟩ => ⟨S1x4x64x256, .f32⟩
  | .hbm, ⟨19, _⟩ => ⟨S_, .f32⟩
  | .hbm, ⟨20, _⟩ => ⟨S1x4x64x256, .f32⟩
  | .hbm, ⟨21, _⟩ => ⟨S1x4x64x256, .f32⟩
  | .hbm, ⟨22, _⟩ => ⟨S_, .f32⟩
  | .hbm, ⟨23, _⟩ => ⟨S1x4x64x256, .f32⟩
  | .hbm, ⟨24, _⟩ => ⟨S1x4x64x256, .f32⟩
  | .hbm, ⟨25, _⟩ => ⟨S1x4x64x256, .f32⟩
  | .hbm, ⟨26, _⟩ => ⟨S_, .f32⟩
  | .hbm, ⟨27, _⟩ => ⟨S1x4x64x256, .f32⟩
  | .hbm, ⟨28, _⟩ => ⟨S1x4x64x256, .f32⟩
  | .hbm, ⟨29, _⟩ => ⟨S1x4x64x256, .f32⟩
  | .hbm, ⟨30, _⟩ => ⟨S_, .f32⟩
  | .hbm, ⟨31, _⟩ => ⟨S1x4x64x256, .f32⟩
  | .hbm, ⟨32, _⟩ => ⟨S1x4x64x256, .f32⟩
  | .hbm, ⟨33, _⟩ => ⟨S1x4x64x256, .f32⟩
  | .hbm, ⟨34, _⟩ => ⟨S_, .f32⟩
  | .hbm, ⟨35, _⟩ => ⟨S1x4x64x256, .f32⟩
  | .hbm, ⟨36, _⟩ => ⟨S1x4x64x256, .f32⟩
  | _, _ => ⟨S1x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S1x1024x512 : Shape := ⟨3, ![1, 1024, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]
-- ==== Reference33Ideal.lean ====
abbrev S1x1024x512 : Shape := ⟨3, ![1, 1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1x1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S1x512x768 : Shape := ⟨3, ![1, 512, 768]⟩
abbrev S512x768 : Shape := ⟨2, ![512, 768]⟩

abbrev nBuf : Space → Nat
  | .hbm => 8
  | .vmem => 8
  | .smem => 0
  | _ => 0

abbrev bufTy : (tb : Table) → Fin (tcTables nBuf tb) → BufTy
  | .hbm, ⟨0, _⟩ => ⟨S1x512x768, .f32⟩
  | .hbm, ⟨1, _⟩ => ⟨S1x512x768, .f32⟩
  | .hbm, ⟨2, _⟩ => ⟨S1x512x768, .f32⟩
  | .hbm, ⟨3, _⟩ => ⟨S1x512x768, .f32⟩
  | .hbm, ⟨4, _⟩ => ⟨S1x512x768, .f32⟩
  | .hbm, ⟨5, _⟩ => ⟨S1x512x768, .f32⟩
  | .hbm, ⟨6, _⟩ => ⟨S1x512x768, .f32⟩
  | .hbm, ⟨7, _⟩ => ⟨S1x512x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | _, _ => ⟨S1x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x512x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]
-- ==== Reference34Ideal.lean ====
abbrev S1x512x768 : Shape := ⟨3, ![1, 512, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x768, .f32⟩
  | .hbm, ⟨1, _⟩ => ⟨S1x512x768, .f32⟩
  | .hbm, ⟨2, _⟩ => ⟨S1x512x768, .f32⟩
  | .hbm, ⟨3, _⟩ => ⟨S1x512x768, .f32⟩
  | .hbm, ⟨4, _⟩ => ⟨S_, .f32⟩
  | .hbm, ⟨5, _⟩ => ⟨S1x512x768, .f32⟩
  | .hbm, ⟨6, _⟩ => ⟨S1x512x768, .f32⟩
  | .hbm, ⟨7, _⟩ => ⟨S_, .f32⟩
  | .hbm, ⟨8, _⟩ => ⟨S1x512x768, .f32⟩
  | .hbm, ⟨9, _⟩ => ⟨S1x512x768, .f32⟩
  | .hbm, ⟨10, _⟩ => ⟨S1x512x768, .f32⟩
  | .hbm, ⟨11, _⟩ => ⟨S_, .f32⟩
  | .hbm, ⟨12, _⟩ => ⟨S1x512x768, .f32⟩
  | .hbm, ⟨13, _⟩ => ⟨S1x512x768, .f32⟩
  | .hbm, ⟨14, _⟩ => ⟨S1x512x768, .f32⟩
  | .hbm, ⟨15, _⟩ => ⟨S_, .f32⟩
  | .hbm, ⟨16, _⟩ => ⟨S1x512x768, .f32⟩
  | .hbm, ⟨17, _⟩ => ⟨S1x512x768, .f32⟩
  | .hbm, ⟨18, _⟩ => ⟨S1x512x768, .f32⟩
  | .hbm, ⟨19, _⟩ => ⟨S_, .f32⟩
  | .hbm, ⟨20, _⟩ => ⟨S1x512x768, .f32⟩
  | .hbm, ⟨21, _⟩ => ⟨S1x512x768, .f32⟩
  | .hbm, ⟨22, _⟩ => ⟨S_, .f32⟩
  | .hbm, ⟨23, _⟩ => ⟨S1x512x768, .f32⟩
  | .hbm, ⟨24, _⟩ => ⟨S1x512x768, .f32⟩
  | .hbm, ⟨25, _⟩ => ⟨S1x512x768, .f32⟩
  | .hbm, ⟨26, _⟩ => ⟨S_, .f32⟩
  | .hbm, ⟨27, _⟩ => ⟨S1x512x768, .f32⟩
  | .hbm, ⟨28, _⟩ => ⟨S1x512x768, .f32⟩
  | .hbm, ⟨29, _⟩ => ⟨S1x512x768, .f32⟩
  | .hbm, ⟨30, _⟩ => ⟨S_, .f32⟩
  | .hbm, ⟨31, _⟩ => ⟨S1x512x768, .f32⟩
  | .hbm, ⟨32, _⟩ => ⟨S1x512x768, .f32⟩
  | .hbm, ⟨33, _⟩ => ⟨S1x512x768, .f32⟩
  | .hbm, ⟨34, _⟩ => ⟨S_, .f32⟩
  | .hbm, ⟨35, _⟩ => ⟨S1x512x768, .f32⟩
  | .hbm, ⟨36, _⟩ => ⟨S1x512x768, .f32⟩
  | _, _ => ⟨S1x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S1x512x1024 : Shape := ⟨3, ![1, 512, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev stage0_7 : Fin 1 → Memref sig .tc .vmem S1x512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, true]
-- ==== Reference35Ideal.lean ====
abbrev S1x512x1024 : Shape := ⟨3, ![1, 512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S_, .f32⟩
  | .hbm, ⟨5, _⟩ => ⟨S1x512x1024, .f32⟩
  | .hbm, ⟨6, _⟩ => ⟨S1x512x1024, .f32⟩
  | .hbm, ⟨7, _⟩ => ⟨S_, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S_, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S1x512x2048 : Shape := ⟨3, ![1, 512, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference36Ideal.lean ====
abbrev S1x512x2048 : Shape := ⟨3, ![1, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S16x2048 : Shape := ⟨2, ![16, 2048]⟩

abbrev nBuf : Space → Nat
  | .hbm => 8
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S16x2048, .f32⟩
  | .hbm, ⟨4, _⟩ => ⟨S16x2048, .f32⟩
  | .hbm, ⟨5, _⟩ => ⟨S16x2048, .f32⟩
  | .hbm, ⟨6, _⟩ => ⟨S16x2048, .f32⟩
  | .hbm, ⟨7, _⟩ => ⟨S16x2048, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference37Ideal.lean ====
abbrev S16x2048 : Shape := ⟨2, ![16, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x2048, .f32⟩
  | .hbm, ⟨3, _⟩ => ⟨S16x2048, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048, .f32⟩
  | .hbm, ⟨26, _⟩ => ⟨S_, .f32⟩
  | .hbm, ⟨27, _⟩ => ⟨S16x2048, .f32⟩
  | .hbm, ⟨28, _⟩ => ⟨S16x2048, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .f32⟩
  | .hbm, ⟨33, _⟩ => ⟨S16x2048, .f32⟩
  | .hbm, ⟨34, _⟩ => ⟨S_, .f32⟩
  | .hbm, ⟨35, _⟩ => ⟨S16x2048, .f32⟩
  | .hbm, ⟨36, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S16x512 : Shape := ⟨2, ![16, 512]⟩

abbrev nBuf : Space → Nat
  | .hbm => 8
  | .vmem => 8
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference38Ideal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Finite.lean ====
module

public import proofs.«01_k».proof.Pre_finite
public import Idealize.ShloMosaic.PureOps.Ideal
public import Idealize.ShloMosaic.Lib.ReduceAll

@[expose] public section

set_option maxRecDepth 16384

noncomputable section

namespace Cert.Pre_finite

open Idealize.ShloMosaic

/-! # What the precondition says: every argument is an array of reals -/

instance facts : Facts where
  bcast_S_S4352x4096 := by decide
  reducesTo_S4352x4096_S_d0_1 := by decide
  h_S_ := by decide
  bcast_S_S4352x2048 := by decide
  reducesTo_S4352x2048_S_d0_1 := by decide

instance : Subsingleton S_.Idx := ⟨fun _ _ => funext fun d => d.elim0⟩

theorem top_f : Ideal.ofBits .bf16 0x7F80#16 = ⊤ := by simp [Ideal.ofBits, Ideal.ieee]

theorem real_of_bit (x : EReal) (h : Ideal.cmp .olt (max x (-x)) ⊤ = 1#1) : x = ((x.toReal : ℝ) : EReal) := by
  have hx : max x (-x) < ⊤ := by
    by_contra hc
    simp [Ideal.cmp, hc] at h
  refine (EReal.coe_toReal ?_ ?_).symm
  · rintro rfl
    simp at hx
  · rintro rfl
    simp at hx

theorem and_one {a b : BitVec 1} (h : a &&& b = 1#1) : a = 1#1 ∧ b = 1#1 := by
  revert a b
  decide

theorem real_of_all {s : Shape} {axes : List (Fin s.rank)} (x y : FVec Ideal s .bf16) (v : IVec S_ 1) (h : s.ReducesTo axes S_) (hu : 0 < S_.numel) (j : S_.Idx)
    (hy : ∀ i, y i = (⊤ : EReal)) (e : Host.reduce IntOp.andi (cmpf .olt (Host.absf x) y) v h hu j = 1#1) :
    x = fun i => (((x i).toReal : ℝ) : EReal) := by
  funext i
  have := Host.reduce_andi_all _ _ _ _ j e i
  refine real_of_bit _ ?_
  rw [← hy i]
  exact this

theorem reals (x0 x1 x2 : Vec Ideal S4352x4096 .bf16) (x3 : Vec Ideal S4352x2048 .bf16) (h : fn (F := Ideal) x0 x1 x2 x3 = fun _ => 1#1) :
    (x0 = fun i => (((x0 i).toReal : ℝ) : EReal)) ∧ (x1 = fun i => (((x1 i).toReal : ℝ) : EReal))
      ∧ (x2 = fun i => (((x2 i).toReal : ℝ) : EReal)) ∧ (x3 = fun i => (((x3 i).toReal : ℝ) : EReal)) := by
  have e := congrFun h (fun d => d.elim0)
  unfold fn fn_part1 at e
  obtain ⟨e, e3⟩ := and_one e
  obtain ⟨e, e2⟩ := and_one e
  obtain ⟨e0, e1⟩ := and_one e
  exact ⟨real_of_all x0 _ _ _ _ _ (fun _ => top_f) e0, real_of_all x1 _ _ _ _ _ (fun _ => top_f) e1,
    real_of_all x2 _ _ _ _ _ (fun _ => top_f) e2, real_of_all x3 _ _ _ _ _ (fun _ => top_f) e3⟩

end Cert.Pre_finite

end
-- ==== Proof.State.lean ====
module

public import proofs.«01_k».proof.Proof.Gen.KernelIdeal.Frame
public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The body's step as a function of what the buffers hold

One grid point of the kernel reads a head's queries, outputs, output gradients and log-sums and one tile of keys and values,
and adds that tile's part to three accumulators. `In` is what it reads, `St` what it accumulates. -/

/-- What one grid point reads: the queries, the tile of keys and of values, the outputs, their gradients, the log-sums. -/
structure In (F : FTy → Type) where
  q : Vec F S4352x256 .bf16
  k : Vec F S256x256 .bf16
  v : Vec F S256x128 .bf16
  o : Vec F S4352x128 .bf16
  g : Vec F S4352x128 .bf16
  l : Vec F S1x4352x128 .f32

/-- What one grid point accumulates: the gradient of all queries, of the tile's keys and of the tile's values. -/
structure St (F : FTy → Type) where
  dq : Vec F S4352x256 .f32
  dk : Vec F S256x256 .f32
  dv : Vec F S256x128 .f32

/-- The grid point's key tile, as the body computes with it. -/
abbrev tileW (i : grid0.Coords) : BitVec 32 := BitVec.ofNat 32 (i 1).val

/-- The point at which the queries' gradient starts from zero: the first key tile. -/
abbrev cond0 (i : grid0.Coords) : Prop :=
  (Scalar.cmpi .ne (Scalar.extui (Scalar.cmpi .eq (BitVec.ofNat 32 (i 1).val) 0#32)) 0#32) = 1#1

/-- The masked rows' step of width 256: the rows from the diagonal tile on. -/
def head1 (i : grid0.Coords) (h : k0_cond2 i = 1#1) (X : In F) (s : St F) : St F :=
  let q := View.ld X.q (Rect.unit (s := S4352x256) (k0_off1 i) S256x256.size (k0_off1_inb i h))
  let g := View.ld X.g (Rect.unit (s := S4352x128) (k0_off2 i) S256x128.size (k0_off2_inb i h))
  let u := View.ld X.o (Rect.unit (s := S4352x128) (k0_off2 i) S256x128.size (k0_off2_inb i h))
  let l := View.ld X.l (Rect.unit (s := S1x4352x128) (k0_off3 i) S1x256x128.size (k0_off3_inb i h))
  let ds := k0_pay7 (tileW i) X.k X.v q g u l
  { dq := VecWindow.put s.dq (k0_off1 i) S256x256.size
      (k0_pay42 X.k ds (View.ld s.dq (Rect.unit (s := S4352x256) (k0_off1 i) S256x256.size (k0_off1_inb i h))))
    dk := k0_pay41 q ds s.dk
    dv := k0_pay8 (tileW i) X.k q g l s.dv }

/-- The masked rows' step of width 512: the rows from the diagonal tile on. -/
def head2 (i : grid0.Coords) (h : k0_cond3 i = 1#1) (X : In F) (s : St F) : St F :=
  let q := View.ld X.q (Rect.unit (s := S4352x256) (k0_off4 i) S512x256.size (k0_off4_inb i h))
  let g := View.ld X.g (Rect.unit (s := S4352x128) (k0_off5 i) S512x128.size (k0_off5_inb i h))
  let u := View.ld X.o (Rect.unit (s := S4352x128) (k0_off5 i) S512x128.size (k0_off5_inb i h))
  let l := View.ld X.l (Rect.unit (s := S1x4352x128) (k0_off6 i) S1x512x128.size (k0_off6_inb i h))
  let ds := k0_pay10 (tileW i) X.k X.v q g u l
  { dq := VecWindow.put s.dq (k0_off4 i) S512x256.size
      (k0_pay44 X.k ds (View.ld s.dq (Rect.unit (s := S4352x256) (k0_off4 i) S512x256.size (k0_off4_inb i h))))
    dk := k0_pay43 q ds s.dk
    dv := k0_pay11 (tileW i) X.k q g l s.dv }

/-- The masked rows' step of width 768: the rows from the diagonal tile on. -/
def head3 (i : grid0.Coords) (h : k0_cond4 i = 1#1) (X : In F) (s : St F) : St F :=
  let q := View.ld X.q (Rect.unit (s := S4352x256) (k0_off7 i) S768x256.size (k0_off7_inb i h))
  let g := View.ld X.g (Rect.unit (s := S4352x128) (k0_off8 i) S768x128.size (k0_off8_inb i h))
  let u := View.ld X.o (Rect.unit (s := S4352x128) (k0_off8 i) S768x128.size (k0_off8_inb i h))
  let l := View.ld X.l (Rect.unit (s := S1x4352x128) (k0_off9 i) S1x768x128.size (k0_off9_inb i h))
  let ds := k0_pay13 (tileW i) X.k X.v q g u l
  { dq := VecWindow.put s.dq (k0_off7 i) S768x256.size
      (k0_pay46 X.k ds (View.ld s.dq (Rect.unit (s := S4352x256) (k0_off7 i) S768x256.size (k0_off7_inb i h))))
    dk := k0_pay45 q ds s.dk
    dv := k0_pay14 (tileW i) X.k q g l s.dv }

/-- The masked rows' step of width 1024: the rows from the diagonal tile on. -/
def head4 (i : grid0.Coords) (h : k0_cond5 i = 1#1) (X : In F) (s : St F) : St F :=
  let q := View.ld X.q (Rect.unit (s := S4352x256) (k0_off10 i) S1024x256.size (k0_off10_inb i h))
  let g := View.ld X.g (Rect.unit (s := S4352x128) (k0_off11 i) S1024x128.size (k0_off11_inb i h))
  let u := View.ld X.o (Rect.unit (s := S4352x128) (k0_off11 i) S1024x128.size (k0_off11_inb i h))
  let l := View.ld X.l (Rect.unit (s := S1x4352x128) (k0_off12 i) S1x1024x128.size (k0_off12_inb i h))
  let ds := k0_pay16 (tileW i) X.k X.v q g u l
  { dq := VecWindow.put s.dq (k0_off10 i) S1024x256.size
      (k0_pay48 X.k ds (View.ld s.dq (Rect.unit (s := S4352x256) (k0_off10 i) S1024x256.size (k0_off10_inb i h))))
    dk := k0_pay47 q ds s.dk
    dv := k0_pay17 (tileW i) X.k q g l s.dv }

/-- The masked rows' step of width 1280: the rows from the diagonal tile on. -/
def head5 (i : grid0.Coords) (h : k0_cond6 i = 1#1) (X : In F) (s : St F) : St F :=
  let q := View.ld X.q (Rect.unit (s := S4352x256) (k0_off13 i) S1280x256.size (k0_off13_inb i h))
  let g := View.ld X.g (Rect.unit (s := S4352x128) (k0_off14 i) S1280x128.size (k0_off14_inb i h))
  let u := View.ld X.o (Rect.unit (s := S4352x128) (k0_off14 i) S1280x128.size (k0_off14_inb i h))
  let l := View.ld X.l (Rect.unit (s := S1x4352x128) (k0_off15 i) S1x1280x128.size (k0_off15_inb i h))
  let ds := k0_pay19 (tileW i) X.k X.v q g u l
  { dq := VecWindow.put s.dq (k0_off13 i) S1280x256.size
      (k0_pay50 X.k ds (View.ld s.dq (Rect.unit (s := S4352x256) (k0_off13 i) S1280x256.size (k0_off13_inb i h))))
    dk := k0_pay49 q ds s.dk
    dv := k0_pay20 (tileW i) X.k q g l s.dv }

/-- The masked rows' step of width 1536: the rows from the diagonal tile on. -/
def head6 (i : grid0.Coords) (h : k0_cond7 i = 1#1) (X : In F) (s : St F) : St F :=
  let q := View.ld X.q (Rect.unit (s := S4352x256) (k0_off16 i) S1536x256.size (k0_off16_inb i h))
  let g := View.ld X.g (Rect.unit (s := S4352x128) (k0_off17 i) S1536x128.size (k0_off17_inb i h))
  let u := View.ld X.o (Rect.unit (s := S4352x128) (k0_off17 i) S1536x128.size (k0_off17_inb i h))
  let l := View.ld X.l (Rect.unit (s := S1x4352x128) (k0_off18 i) S1x1536x128.size (k0_off18_inb i h))
  let ds := k0_pay22 (tileW i) X.k X.v q g u l
  { dq := VecWindow.put s.dq (k0_off16 i) S1536x256.size
      (k0_pay52 X.k ds (View.ld s.dq (Rect.unit (s := S4352x256) (k0_off16 i) S1536x256.size (k0_off16_inb i h))))
    dk := k0_pay51 q ds s.dk
    dv := k0_pay23 (tileW i) X.k q g l s.dv }

/-- The masked rows' step of width 1792: the rows from the diagonal tile on. -/
def head7 (i : grid0.Coords) (h : k0_cond8 i = 1#1) (X : In F) (s : St F) : St F :=
  let q := View.ld X.q (Rect.unit (s := S4352x256) (k0_off19 i) S1792x256.size (k0_off19_inb i h))
  let g := View.ld X.g (Rect.unit (s := S4352x128) (k0_off20 i) S1792x128.size (k0_off20_inb i h))
  let u := View.ld X.o (Rect.unit (s := S4352x128) (k0_off20 i) S1792x128.size (k0_off20_inb i h))
  let l := View.ld X.l (Rect.unit (s := S1x4352x128) (k0_off21 i) S1x1792x128.size (k0_off21_inb i h))
  let ds := k0_pay25 (tileW i) X.k X.v q g u l
  { dq := VecWindow.put s.dq (k0_off19 i) S1792x256.size
      (k0_pay54 X.k ds (View.ld s.dq (Rect.unit (s := S4352x256) (k0_off19 i) S1792x256.size (k0_off19_inb i h))))
    dk := k0_pay53 q ds s.dk
    dv := k0_pay26 (tileW i) X.k q g l s.dv }

/-- The masked rows' step of width 2048: the rows from the diagonal tile on. -/
def head8 (i : grid0.Coords) (h : k0_cond9 i = 1#1) (X : In F) (s : St F) : St F :=
  let q := View.ld X.q (Rect.unit (s := S4352x256) (k0_off22 i) S2048x256.size (k0_off22_inb i h))
  let g := View.ld X.g (Rect.unit (s := S4352x128) (k0_off23 i) S2048x128.size (k0_off23_inb i h))
  let u := View.ld X.o (Rect.unit (s := S4352x128) (k0_off23 i) S2048x128.size (k0_off23_inb i h))
  let l := View.ld X.l (Rect.unit (s := S1x4352x128) (k0_off24 i) S1x2048x128.size (k0_off24_inb i h))
  let ds := k0_pay28 (tileW i) X.k X.v q g u l
  { dq := VecWindow.put s.dq (k0_off22 i) S2048x256.size
      (k0_pay56 X.k ds (View.ld s.dq (Rect.unit (s := S4352x256) (k0_off22 i) S2048x256.size (k0_off22_inb i h))))
    dk := k0_pay55 q ds s.dk
    dv := k0_pay29 (tileW i) X.k q g l s.dv }

theorem off00 : (![0, 0] : Fin 2 → ℕ) = fun _ => 0 := by decide

/-- One trip of the loop over the unmasked rows. -/
def trip (i : grid0.Coords) (X : In F) (k : Fin (k0_t1_loop i).trips) (s : St F) : St F :=
  let q := View.ld X.q (Rect.unit (s := S4352x256) (k0_off25 i k) S2048x256.size (k0_off25_inb i k))
  let g := View.ld X.g (Rect.unit (s := S4352x128) (k0_off26 i k) S2048x128.size (k0_off26_inb i k))
  let u := View.ld X.o (Rect.unit (s := S4352x128) (k0_off26 i k) S2048x128.size (k0_off26_inb i k))
  let l := View.ld X.l (Rect.unit (s := S1x4352x128) (k0_off27 i k) S1x2048x128.size (k0_off27_inb i k))
  { dq := VecWindow.put s.dq (k0_off25 i k) S2048x256.size
      (k0_pay2 X.k (k0_pay31 X.k X.v q g u l) (View.ld s.dq (Rect.unit (s := S4352x256) (k0_off25 i k) S2048x256.size (k0_off25_inb i k))))
    dk := k0_pay33 X.k X.v q g u l s.dk
    dv := k0_pay32 X.k q g l s.dv }

/-- The loop's first `n` trips. -/
def trips (i : grid0.Coords) (X : In F) (s : St F) : ℕ → St F
  | 0 => s
  | n + 1 => if h : n < (k0_t1_loop i).trips then trip i X ⟨n, h⟩ (trips i X s n) else trips i X s n

theorem trips_succ (i : grid0.Coords) (X : In F) (s : St F) (k : Fin (k0_t1_loop i).trips) :
    trips i X s (k.val + 1) = trip i X k (trips i X s k.val) := by
  rw [trips]; exact dif_pos k.isLt

/-- A buffer overwritten by `x` once a trip was made, and untouched before. -/
def over {S : Shape} {e : EltTy} (x : Vec F S e) : ℕ → List (View.Piece (Elt F) S e)
  | 0 => []
  | _ + 1 => [⟨Rect.unit (fun _ => 0) S.size (fun _ => (Nat.zero_add _).le), x⟩]

theorem read_over {κ : Kind} {sp : Space} {S : Shape} {e : EltTy} (w : View sig κ sp S e) {f g : w.ty.Contents (Elt F)} {x : Vec F S e} {n : ℕ}
    (h : f = w.writes (Elt F) g (over x n)) (h0 : n = 0 → w.read (Elt F) g = x) : w.read (Elt F) f = x := by
  subst h
  cases n with
  | zero => rw [over, View.writes_nil]; exact h0 rfl
  | succ n => rw [over, View.read_writes_full]

theorem eq_over {κ : Kind} {sp : Space} {S : Shape} {e : EltTy} {a : Memref sig κ sp S e} (ha : a.IsWhole) {f g : a.view.ty.Contents (Elt F)}
    {x : Vec F S e} {n : ℕ} (h : a.view.read (Elt F) f = x) : f = a.view.writes (Elt F) g (over x (n + 1)) :=
  (ha.eq_unread h).trans (ha.eq_unread (by rw [over, View.read_writes_full])).symm

/-- What the loop finds in the buffers it only reads. -/
abbrev inOf (arg2 : Memref sig .tc .vmem S4352x256 .bf16) (arg5 arg6 : Memref sig .tc .vmem S4352x128 .bf16) (arg7 : Memref sig .tc .vmem S1x4352x128 .f32)
    (v3 : Vec F S256x256 .bf16) (v4 : Vec F S256x128 .bf16)
    (X2 : BufTy.Contents (Elt F) arg2.view.ty) (X5 : BufTy.Contents (Elt F) arg5.view.ty) (X6 : BufTy.Contents (Elt F) arg6.view.ty) (X7 : BufTy.Contents (Elt F) arg7.view.ty) : In F :=
  ⟨arg2.view.read (Elt F) X2, v3, v4, arg5.view.read (Elt F) X5, arg6.view.read (Elt F) X6, arg7.view.read (Elt F) X7⟩

/-- What the loop finds in the buffers it accumulates in. -/
abbrev stOf (arg8 : Memref sig .tc .vmem S4352x256 .f32) (arg11 : Memref sig .tc .vmem S256x256 .f32) (arg12 : Memref sig .tc .vmem S256x128 .f32)
    (G8 : BufTy.Contents (Elt F) arg8.view.ty) (G11 : BufTy.Contents (Elt F) arg11.view.ty) (G12 : BufTy.Contents (Elt F) arg12.view.ty) : St F :=
  ⟨arg8.view.read (Elt F) G8, arg11.view.read (Elt F) G11, arg12.view.read (Elt F) G12⟩

set_option warn.classDefReducibility false in
/-- The loop by what its buffers read as: after `k` trips the accumulators are `trips … k`. -/
@[sl_loop] def loopFull (𝒱 : Variants) (c : Dev nD) (bd : Option 𝒱.V) (E : Set ℕ) (i : grid0.Coords) (arg2 : Memref sig .tc .vmem S4352x256 .bf16) (harg2 : arg2.IsWhole) (arg3 : Memref sig .tc .vmem S256x256 .bf16) (harg3 : arg3.IsWhole) (arg4 : Memref sig .tc .vmem S256x128 .bf16) (harg4 : arg4.IsWhole) (arg5 : Memref sig .tc .vmem S4352x128 .bf16) (harg5 : arg5.IsWhole) (arg6 : Memref sig .tc .vmem S4352x128 .bf16) (harg6 : arg6.IsWhole) (arg7 : Memref sig .tc .vmem S1x4352x128 .f32) (harg7 : arg7.IsWhole) (arg8 : Memref sig .tc .vmem S4352x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S256x128 .f32) (harg12 : arg12.IsWhole)
    (arg1 : BitVec 32) (v3 : Vec F S256x256 .bf16) (v4 : Vec F S256x128 .bf16) (v24 : BitVec 32)
    (X2 : BufTy.Contents (Elt F) arg2.view.ty) (X5 : BufTy.Contents (Elt F) arg5.view.ty) (X6 : BufTy.Contents (Elt F) arg6.view.ty) (X7 : BufTy.Contents (Elt F) arg7.view.ty)
    (G8 : BufTy.Contents (Elt F) arg8.view.ty) (G11 : BufTy.Contents (Elt F) arg11.view.ty) (G12 : BufTy.Contents (Elt F) arg12.view.ty) :
    Idealize.ShloMosaic.LoopInv (M := 𝕄) Idealize.ShloMosaic.frame (wpE defs₀ 𝒱 (c : Thread nD τ) bd) E
      (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 arg11 harg11 arg12 harg12 arg1 v3 v4 v24) where
  inv := fun k _ => iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (∃ f, (arg8.view.loc (c : Thread nD τ) ↦[arg8.view.set]{fullShare} f) ∗ ⌜f = arg8.view.writes (Elt F) G8 (over (trips i (inOf arg2 arg5 arg6 arg7 v3 v4 X2 X5 X6 X7) (stOf arg8 arg11 arg12 G8 G11 G12) k).dq k)⌝)
    ∗ (∃ f, (arg11.view.loc (c : Thread nD τ) ↦[arg11.view.set]{fullShare} f) ∗ ⌜f = arg11.view.writes (Elt F) G11 (over (trips i (inOf arg2 arg5 arg6 arg7 v3 v4 X2 X5 X6 X7) (stOf arg8 arg11 arg12 G8 G11 G12) k).dk k)⌝)
    ∗ (∃ f, (arg12.view.loc (c : Thread nD τ) ↦[arg12.view.set]{fullShare} f) ∗ ⌜f = arg12.view.writes (Elt F) G12 (over (trips i (inOf arg2 arg5 arg6 arg7 v3 v4 X2 X5 X6 X7) (stOf arg8 arg11 arg12 G8 G11 G12) k).dv k)⌝))
  step k acc := by
    iintro ⟨H2, H5, H6, H7, ⟨%f8, H8, %e8⟩, ⟨%f11, H11, %e11⟩, ⟨%f12, H12, %e12⟩⟩
    have h8 := read_over arg8.view e8 (fun h => by rw [h]; rfl)
    have h11 := read_over arg11.view e11 (fun h => by rw [h]; rfl)
    have h12 := read_over arg12.view e12 (fun h => by rw [h]; rfl)
    clear e8 e11 e12
    unfold k0_t1_body
    sl_exec
    sl_step
    isplitl [H2]; · iexact H2
    isplitl [H5]; · iexact H5
    isplitl [H6]; · iexact H6
    isplitl [H7]; · iexact H7
    isplitl [H8]
    · iexists _; isplitl; · iexact H8
      ipureintro
      refine eq_over harg8 ?_
      rw [trips_succ, View.read_writes_cons_put _ _ _ _ _ rfl, View.writes_nil]
      sl_unfold_words
      simp only [View.readAt_eq_ld, h8, trip]
      rfl
    isplitl [H11]
    · iexists _; isplitl; · iexact H11
      ipureintro
      refine eq_over harg11 ?_
      rw [trips_succ, View.read_writes_full]
      sl_unfold_words
      unfold k0_pay1
      simp only [View.readAt_eq_ld, shapeCast_self, h11, trip, View.ld_unit_zero (S := S256x256) off00]
      rfl
    iexists _; isplitl; · iexact H12
    ipureintro
    refine eq_over harg12 ?_
    rw [trips_succ, View.read_writes_full]
    simp only [View.readAt_eq_ld, h12, trip, View.ld_unit_zero (S := S256x128) off00]

/-- The grid point with key tile `n`. -/
def pointOf (n : Fin 17) : grid0.Coords := fun a => match a with
  | ⟨0, _⟩ => (0 : Fin 16)
  | ⟨1, _⟩ => n

/-- The remainder's loop makes no trip. -/
theorem rest_trips (i : grid0.Coords) : (k0_t2_loop i).trips = 0 :=
  (by decide +kernel : ∀ n : Fin 17, (k0_t2_loop (pointOf n)).trips = 0) (i 1)

set_option warn.classDefReducibility false in
/-- The remainder's loop, which makes no trip. -/
@[sl_loop] def loopRest (𝒱 : Variants) (c : Dev nD) (bd : Option 𝒱.V) (E : Set ℕ) (i : grid0.Coords) (arg2 : Memref sig .tc .vmem S4352x256 .bf16) (harg2 : arg2.IsWhole) (arg3 : Memref sig .tc .vmem S256x256 .bf16) (harg3 : arg3.IsWhole) (arg4 : Memref sig .tc .vmem S256x128 .bf16) (harg4 : arg4.IsWhole) (arg5 : Memref sig .tc .vmem S4352x128 .bf16) (harg5 : arg5.IsWhole) (arg6 : Memref sig .tc .vmem S4352x128 .bf16) (harg6 : arg6.IsWhole) (arg7 : Memref sig .tc .vmem S1x4352x128 .f32) (harg7 : arg7.IsWhole) (arg8 : Memref sig .tc .vmem S4352x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S256x128 .f32) (harg12 : arg12.IsWhole)
    (arg1 : BitVec 32) (v3 : Vec F S256x256 .bf16) (v4 : Vec F S256x128 .bf16) (v24 v72 : BitVec 32) :
    Idealize.ShloMosaic.LoopInv (M := 𝕄) Idealize.ShloMosaic.frame (wpE defs₀ 𝒱 (c : Thread nD τ) bd) E
      (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 arg10 harg10 arg11 harg11 arg12 harg12 arg1 v3 v4 v24 v72) where
  inv := fun _ _ => iprop(emp)
  step k acc := absurd (lt_of_lt_of_eq k.isLt (rest_trips i)) (Nat.not_lt_zero _)

/-- A buffer that a loop left: what it accumulated, whatever was written before it. -/
theorem read_over_append {κ : Kind} {sp : Space} {S : Shape} {e : EltTy} (w : View sig κ sp S e) (f : w.ty.Contents (Elt F)) {x : Vec F S e} {n : ℕ}
    {L : List (View.Piece (Elt F) S e)} (h0 : n = 0 → w.read (Elt F) (w.writes (Elt F) f L) = x) :
    w.read (Elt F) (w.writes (Elt F) f (over x n ++ L)) = x := by
  cases n with
  | zero => exact h0 rfl
  | succ n => rw [over, List.cons_append, View.read_writes_full]

/-- The accumulators after all the loop's trips. -/
def fin (i : grid0.Coords) (X : In F) (s : St F) : St F := trips i X s (k0_t1_loop i).trips

/-- The accumulators a point starts from: the queries' gradient as the earlier points left it, the others zero. -/
def startSt (d : Vec F S4352x256 .f32) : St F := ⟨d, k0_pay39, k0_pay40⟩

theorem St.eq_of {s t : St F} (h1 : s.dq = t.dq) (h2 : s.dk = t.dk) (h3 : s.dv = t.dv) : s = t := by
  cases s; cases t; simp only at h1 h2 h3; subst h1 h2 h3; rfl

end Cert.KernelIdeal.Bwd

end
-- ==== Proof.RunFirst.lean ====
module

public import proofs.«01_k».proof.Proof.State

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a head's first key tile, where the queries' gradient starts from zero. -/
theorem runFirst (c : Dev nD) (i : grid0.Coords) (arg2 : Memref sig .tc .vmem S4352x256 .bf16) (harg2 : arg2.IsWhole) (arg3 : Memref sig .tc .vmem S256x256 .bf16) (harg3 : arg3.IsWhole) (arg4 : Memref sig .tc .vmem S256x128 .bf16) (harg4 : arg4.IsWhole) (arg5 : Memref sig .tc .vmem S4352x128 .bf16) (harg5 : arg5.IsWhole) (arg6 : Memref sig .tc .vmem S4352x128 .bf16) (harg6 : arg6.IsWhole) (arg7 : Memref sig .tc .vmem S1x4352x128 .f32) (harg7 : arg7.IsWhole) (arg8 : Memref sig .tc .vmem S4352x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S256x128 .f32) (harg12 : arg12.IsWhole)
    (hz : cond0 i) (hc1 : k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1) (hc7 : ¬k0_cond8 i = 1#1) (hc8 : ¬k0_cond9 i = 1#1)
    (x0 : Vec F S4352x256 .bf16) (x1 : Vec F S256x256 .bf16) (x2 : Vec F S256x128 .bf16) (x3 : Vec F S4352x128 .bf16) (x4 : Vec F S4352x128 .bf16) (x5 : Vec F S1x4352x128 .f32) (x6 : Vec F S4352x256 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin i ⟨x0, x1, x2, x3, x4, x5⟩ (head1 i hc1 ⟨x0, x1, x2, x3, x4, x5⟩ (startSt k0_pay38))).dq ∗ owns (c : Thread nD τ) arg9 fullShare (fin i ⟨x0, x1, x2, x3, x4, x5⟩ (head1 i hc1 ⟨x0, x1, x2, x3, x4, x5⟩ (startSt k0_pay38))).dk ∗ owns (c : Thread nD τ) arg10 fullShare (k0_pay5 (fin i ⟨x0, x1, x2, x3, x4, x5⟩ (head1 i hc1 ⟨x0, x1, x2, x3, x4, x5⟩ (startSt k0_pay38))).dv) ∗ (∃ d, owns (c : Thread nD τ) arg11 fullShare d) ∗ (∃ d, owns (c : Thread nD τ) arg12 fullShare d)) -∗ K ⟨⟩))
        ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12) K := by
  intro E K
  simp only [cc0_flash_bwd_eq_skeleton]; unfold cc0_flash_bwd_skel
  simp only [k0_part11_eq_skeleton, k0_part12_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hz | sl_exact hc1 | sl_exact hc2 | sl_exact hc3 | sl_exact hc4 | sl_exact hc5 | sl_exact hc6 | sl_exact hc7 | sl_exact hc8)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro
    refine (read_over_append arg8.view _ (fun h => by rw [h]; rfl)).trans (congrArg₂ (fun X s => (fin i X s).dq) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl]
        sl_unfold_words
        simp only [View.readAt_eq_ld, View.read_writes_full arg8.view, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H7]
  · iexists _; isplitr
    swap; · iexact H7
    ipureintro
    rw [View.read_writes_full]
    refine (View.readAt_full arg11.view _ _).trans ?_
    refine (read_over_append arg11.view _ (fun h => by rw [h]; rfl)).trans (congrArg₂ (fun X s => (fin i X s).dk) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl]
        sl_unfold_words
        simp only [View.readAt_eq_ld, View.read_writes_full arg8.view, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H8]
  · iexists _; isplitr
    swap; · iexact H8
    ipureintro
    rw [View.read_writes_full]
    refine congrArg k0_pay5 ?_
    refine (View.readAt_full arg12.view _ _).trans ?_
    refine (read_over_append arg12.view _ (fun h => by rw [h]; rfl)).trans (congrArg₂ (fun X s => (fin i X s).dv) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl]
        sl_unfold_words
        simp only [View.readAt_eq_ld, View.read_writes_full arg8.view, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [HS0]
  · iexists _; iexists _; isplitr
    swap; · iexact HS0
    ipureintro; rfl
  iexists _; iexists _; isplitr
  swap; · iexact HS1
  ipureintro; rfl

end Cert.KernelIdeal.Bwd

end
-- ==== Proof.Run1.lean ====
module

public import proofs.«01_k».proof.Proof.State

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a later key tile whose masked rows are 256. -/
theorem run1 (c : Dev nD) (i : grid0.Coords) (arg2 : Memref sig .tc .vmem S4352x256 .bf16) (harg2 : arg2.IsWhole) (arg3 : Memref sig .tc .vmem S256x256 .bf16) (harg3 : arg3.IsWhole) (arg4 : Memref sig .tc .vmem S256x128 .bf16) (harg4 : arg4.IsWhole) (arg5 : Memref sig .tc .vmem S4352x128 .bf16) (harg5 : arg5.IsWhole) (arg6 : Memref sig .tc .vmem S4352x128 .bf16) (harg6 : arg6.IsWhole) (arg7 : Memref sig .tc .vmem S1x4352x128 .f32) (harg7 : arg7.IsWhole) (arg8 : Memref sig .tc .vmem S4352x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S256x128 .f32) (harg12 : arg12.IsWhole)
    (hz : ¬cond0 i) (hc1 : k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1) (hc7 : ¬k0_cond8 i = 1#1) (hc8 : ¬k0_cond9 i = 1#1)
    (x0 : Vec F S4352x256 .bf16) (x1 : Vec F S256x256 .bf16) (x2 : Vec F S256x128 .bf16) (x3 : Vec F S4352x128 .bf16) (x4 : Vec F S4352x128 .bf16) (x5 : Vec F S1x4352x128 .f32) (x6 : Vec F S4352x256 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin i ⟨x0, x1, x2, x3, x4, x5⟩ (head1 i hc1 ⟨x0, x1, x2, x3, x4, x5⟩ (startSt x6))).dq ∗ owns (c : Thread nD τ) arg9 fullShare (fin i ⟨x0, x1, x2, x3, x4, x5⟩ (head1 i hc1 ⟨x0, x1, x2, x3, x4, x5⟩ (startSt x6))).dk ∗ owns (c : Thread nD τ) arg10 fullShare (k0_pay5 (fin i ⟨x0, x1, x2, x3, x4, x5⟩ (head1 i hc1 ⟨x0, x1, x2, x3, x4, x5⟩ (startSt x6))).dv) ∗ (∃ d, owns (c : Thread nD τ) arg11 fullShare d) ∗ (∃ d, owns (c : Thread nD τ) arg12 fullShare d)) -∗ K ⟨⟩))
        ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12) K := by
  intro E K
  simp only [cc0_flash_bwd_eq_skeleton]; unfold cc0_flash_bwd_skel
  simp only [k0_part11_eq_skeleton, k0_part12_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hz | sl_exact hc1 | sl_exact hc2 | sl_exact hc3 | sl_exact hc4 | sl_exact hc5 | sl_exact hc6 | sl_exact hc7 | sl_exact hc8)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro
    refine (read_over_append arg8.view _ (fun h => by rw [h]; rfl)).trans (congrArg₂ (fun X s => (fin i X s).dq) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H7]
  · iexists _; isplitr
    swap; · iexact H7
    ipureintro
    rw [View.read_writes_full]
    refine (View.readAt_full arg11.view _ _).trans ?_
    refine (read_over_append arg11.view _ (fun h => by rw [h]; rfl)).trans (congrArg₂ (fun X s => (fin i X s).dk) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H8]
  · iexists _; isplitr
    swap; · iexact H8
    ipureintro
    rw [View.read_writes_full]
    refine congrArg k0_pay5 ?_
    refine (View.readAt_full arg12.view _ _).trans ?_
    refine (read_over_append arg12.view _ (fun h => by rw [h]; rfl)).trans (congrArg₂ (fun X s => (fin i X s).dv) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [HS0]
  · iexists _; iexists _; isplitr
    swap; · iexact HS0
    ipureintro; rfl
  iexists _; iexists _; isplitr
  swap; · iexact HS1
  ipureintro; rfl

end Cert.KernelIdeal.Bwd

end
-- ==== Proof.Run2.lean ====
module

public import proofs.«01_k».proof.Proof.State

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a later key tile whose masked rows are 512. -/
theorem run2 (c : Dev nD) (i : grid0.Coords) (arg2 : Memref sig .tc .vmem S4352x256 .bf16) (harg2 : arg2.IsWhole) (arg3 : Memref sig .tc .vmem S256x256 .bf16) (harg3 : arg3.IsWhole) (arg4 : Memref sig .tc .vmem S256x128 .bf16) (harg4 : arg4.IsWhole) (arg5 : Memref sig .tc .vmem S4352x128 .bf16) (harg5 : arg5.IsWhole) (arg6 : Memref sig .tc .vmem S4352x128 .bf16) (harg6 : arg6.IsWhole) (arg7 : Memref sig .tc .vmem S1x4352x128 .f32) (harg7 : arg7.IsWhole) (arg8 : Memref sig .tc .vmem S4352x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S256x128 .f32) (harg12 : arg12.IsWhole)
    (hz : ¬cond0 i) (hc1 : ¬k0_cond2 i = 1#1) (hc2 : k0_cond3 i = 1#1) (hc3 : ¬k0_cond4 i = 1#1) (hc4 : ¬k0_cond5 i = 1#1) (hc5 : ¬k0_cond6 i = 1#1) (hc6 : ¬k0_cond7 i = 1#1) (hc7 : ¬k0_cond8 i = 1#1) (hc8 : ¬k0_cond9 i = 1#1)
    (x0 : Vec F S4352x256 .bf16) (x1 : Vec F S256x256 .bf16) (x2 : Vec F S256x128 .bf16) (x3 : Vec F S4352x128 .bf16) (x4 : Vec F S4352x128 .bf16) (x5 : Vec F S1x4352x128 .f32) (x6 : Vec F S4352x256 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin i ⟨x0, x1, x2, x3, x4, x5⟩ (head2 i hc2 ⟨x0, x1, x2, x3, x4, x5⟩ (startSt x6))).dq ∗ owns (c : Thread nD τ) arg9 fullShare (fin i ⟨x0, x1, x2, x3, x4, x5⟩ (head2 i hc2 ⟨x0, x1, x2, x3, x4, x5⟩ (startSt x6))).dk ∗ owns (c : Thread nD τ) arg10 fullShare (k0_pay5 (fin i ⟨x0, x1, x2, x3, x4, x5⟩ (head2 i hc2 ⟨x0, x1, x2, x3, x4, x5⟩ (startSt x6))).dv) ∗ (∃ d, owns (c : Thread nD τ) arg11 fullShare d) ∗ (∃ d, owns (c : Thread nD τ) arg12 fullShare d)) -∗ K ⟨⟩))
        ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12) K := by
  intro E K
  simp only [cc0_flash_bwd_eq_skeleton]; unfold cc0_flash_bwd_skel
  simp only [k0_part11_eq_skeleton, k0_part12_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hz | sl_exact hc1 | sl_exact hc2 | sl_exact hc3 | sl_exact hc4 | sl_exact hc5 | sl_exact hc6 | sl_exact hc7 | sl_exact hc8)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro
    refine (read_over_append arg8.view _ (fun h => by rw [h]; rfl)).trans (congrArg₂ (fun X s => (fin i X s).dq) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H7]
  · iexists _; isplitr
    swap; · iexact H7
    ipureintro
    rw [View.read_writes_full]
    refine (View.readAt_full arg11.view _ _).trans ?_
    refine (read_over_append arg11.view _ (fun h => by rw [h]; rfl)).trans (congrArg₂ (fun X s => (fin i X s).dk) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H8]
  · iexists _; isplitr
    swap; · iexact H8
    ipureintro
    rw [View.read_writes_full]
    refine congrArg k0_pay5 ?_
    refine (View.readAt_full arg12.view _ _).trans ?_
    refine (read_over_append arg12.view _ (fun h => by rw [h]; rfl)).trans (congrArg₂ (fun X s => (fin i X s).dv) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [HS0]
  · iexists _; iexists _; isplitr
    swap; · iexact HS0
    ipureintro; rfl
  iexists _; iexists _; isplitr
  swap; · iexact HS1
  ipureintro; rfl

end Cert.KernelIdeal.Bwd

end
-- ==== Proof.Run3.lean ====
module

public import proofs.«01_k».proof.Proof.State

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a later key tile whose masked rows are 768. -/
theorem run3 (c : Dev nD) (i : grid0.Coords) (arg2 : Memref sig .tc .vmem S4352x256 .bf16) (harg2 : arg2.IsWhole) (arg3 : Memref sig .tc .vmem S256x256 .bf16) (harg3 : arg3.IsWhole) (arg4 : Memref sig .tc .vmem S256x128 .bf16) (harg4 : arg4.IsWhole) (arg5 : Memref sig .tc .vmem S4352x128 .bf16) (harg5 : arg5.IsWhole) (arg6 : Memref sig .tc .vmem S4352x128 .bf16) (harg6 : arg6.IsWhole) (arg7 : Memref sig .tc .vmem S1x4352x128 .f32) (harg7 : arg7.IsWhole) (arg8 : Memref sig .tc .vmem S4352x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S256x128 .f32) (harg12 : arg12.IsWhole)
    (hz : ¬cond0 i) (hc1 : ¬k0_cond2 i = 1#1) (hc2 : ¬k0_cond3 i = 1#1) (hc3 : k0_cond4 i = 1#1) (hc4 : ¬k0_cond5 i = 1#1) (hc5 : ¬k0_cond6 i = 1#1) (hc6 : ¬k0_cond7 i = 1#1) (hc7 : ¬k0_cond8 i = 1#1) (hc8 : ¬k0_cond9 i = 1#1)
    (x0 : Vec F S4352x256 .bf16) (x1 : Vec F S256x256 .bf16) (x2 : Vec F S256x128 .bf16) (x3 : Vec F S4352x128 .bf16) (x4 : Vec F S4352x128 .bf16) (x5 : Vec F S1x4352x128 .f32) (x6 : Vec F S4352x256 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin i ⟨x0, x1, x2, x3, x4, x5⟩ (head3 i hc3 ⟨x0, x1, x2, x3, x4, x5⟩ (startSt x6))).dq ∗ owns (c : Thread nD τ) arg9 fullShare (fin i ⟨x0, x1, x2, x3, x4, x5⟩ (head3 i hc3 ⟨x0, x1, x2, x3, x4, x5⟩ (startSt x6))).dk ∗ owns (c : Thread nD τ) arg10 fullShare (k0_pay5 (fin i ⟨x0, x1, x2, x3, x4, x5⟩ (head3 i hc3 ⟨x0, x1, x2, x3, x4, x5⟩ (startSt x6))).dv) ∗ (∃ d, owns (c : Thread nD τ) arg11 fullShare d) ∗ (∃ d, owns (c : Thread nD τ) arg12 fullShare d)) -∗ K ⟨⟩))
        ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12) K := by
  intro E K
  simp only [cc0_flash_bwd_eq_skeleton]; unfold cc0_flash_bwd_skel
  simp only [k0_part11_eq_skeleton, k0_part12_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hz | sl_exact hc1 | sl_exact hc2 | sl_exact hc3 | sl_exact hc4 | sl_exact hc5 | sl_exact hc6 | sl_exact hc7 | sl_exact hc8)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro
    refine (read_over_append arg8.view _ (fun h => by rw [h]; rfl)).trans (congrArg₂ (fun X s => (fin i X s).dq) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H7]
  · iexists _; isplitr
    swap; · iexact H7
    ipureintro
    rw [View.read_writes_full]
    refine (View.readAt_full arg11.view _ _).trans ?_
    refine (read_over_append arg11.view _ (fun h => by rw [h]; rfl)).trans (congrArg₂ (fun X s => (fin i X s).dk) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H8]
  · iexists _; isplitr
    swap; · iexact H8
    ipureintro
    rw [View.read_writes_full]
    refine congrArg k0_pay5 ?_
    refine (View.readAt_full arg12.view _ _).trans ?_
    refine (read_over_append arg12.view _ (fun h => by rw [h]; rfl)).trans (congrArg₂ (fun X s => (fin i X s).dv) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [HS0]
  · iexists _; iexists _; isplitr
    swap; · iexact HS0
    ipureintro; rfl
  iexists _; iexists _; isplitr
  swap; · iexact HS1
  ipureintro; rfl

end Cert.KernelIdeal.Bwd

end
-- ==== Proof.Run4.lean ====
module

public import proofs.«01_k».proof.Proof.State

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a later key tile whose masked rows are 1024. -/
theorem run4 (c : Dev nD) (i : grid0.Coords) (arg2 : Memref sig .tc .vmem S4352x256 .bf16) (harg2 : arg2.IsWhole) (arg3 : Memref sig .tc .vmem S256x256 .bf16) (harg3 : arg3.IsWhole) (arg4 : Memref sig .tc .vmem S256x128 .bf16) (harg4 : arg4.IsWhole) (arg5 : Memref sig .tc .vmem S4352x128 .bf16) (harg5 : arg5.IsWhole) (arg6 : Memref sig .tc .vmem S4352x128 .bf16) (harg6 : arg6.IsWhole) (arg7 : Memref sig .tc .vmem S1x4352x128 .f32) (harg7 : arg7.IsWhole) (arg8 : Memref sig .tc .vmem S4352x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S256x128 .f32) (harg12 : arg12.IsWhole)
    (hz : ¬cond0 i) (hc1 : ¬k0_cond2 i = 1#1) (hc2 : ¬k0_cond3 i = 1#1) (hc3 : ¬k0_cond4 i = 1#1) (hc4 : k0_cond5 i = 1#1) (hc5 : ¬k0_cond6 i = 1#1) (hc6 : ¬k0_cond7 i = 1#1) (hc7 : ¬k0_cond8 i = 1#1) (hc8 : ¬k0_cond9 i = 1#1)
    (x0 : Vec F S4352x256 .bf16) (x1 : Vec F S256x256 .bf16) (x2 : Vec F S256x128 .bf16) (x3 : Vec F S4352x128 .bf16) (x4 : Vec F S4352x128 .bf16) (x5 : Vec F S1x4352x128 .f32) (x6 : Vec F S4352x256 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin i ⟨x0, x1, x2, x3, x4, x5⟩ (head4 i hc4 ⟨x0, x1, x2, x3, x4, x5⟩ (startSt x6))).dq ∗ owns (c : Thread nD τ) arg9 fullShare (fin i ⟨x0, x1, x2, x3, x4, x5⟩ (head4 i hc4 ⟨x0, x1, x2, x3, x4, x5⟩ (startSt x6))).dk ∗ owns (c : Thread nD τ) arg10 fullShare (k0_pay5 (fin i ⟨x0, x1, x2, x3, x4, x5⟩ (head4 i hc4 ⟨x0, x1, x2, x3, x4, x5⟩ (startSt x6))).dv) ∗ (∃ d, owns (c : Thread nD τ) arg11 fullShare d) ∗ (∃ d, owns (c : Thread nD τ) arg12 fullShare d)) -∗ K ⟨⟩))
        ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12) K := by
  intro E K
  simp only [cc0_flash_bwd_eq_skeleton]; unfold cc0_flash_bwd_skel
  simp only [k0_part11_eq_skeleton, k0_part12_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hz | sl_exact hc1 | sl_exact hc2 | sl_exact hc3 | sl_exact hc4 | sl_exact hc5 | sl_exact hc6 | sl_exact hc7 | sl_exact hc8)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro
    refine (read_over_append arg8.view _ (fun h => by rw [h]; rfl)).trans (congrArg₂ (fun X s => (fin i X s).dq) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H7]
  · iexists _; isplitr
    swap; · iexact H7
    ipureintro
    rw [View.read_writes_full]
    refine (View.readAt_full arg11.view _ _).trans ?_
    refine (read_over_append arg11.view _ (fun h => by rw [h]; rfl)).trans (congrArg₂ (fun X s => (fin i X s).dk) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H8]
  · iexists _; isplitr
    swap; · iexact H8
    ipureintro
    rw [View.read_writes_full]
    refine congrArg k0_pay5 ?_
    refine (View.readAt_full arg12.view _ _).trans ?_
    refine (read_over_append arg12.view _ (fun h => by rw [h]; rfl)).trans (congrArg₂ (fun X s => (fin i X s).dv) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [HS0]
  · iexists _; iexists _; isplitr
    swap; · iexact HS0
    ipureintro; rfl
  iexists _; iexists _; isplitr
  swap; · iexact HS1
  ipureintro; rfl

end Cert.KernelIdeal.Bwd

end
-- ==== Proof.Run5.lean ====
module

public import proofs.«01_k».proof.Proof.State

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a later key tile whose masked rows are 1280. -/
theorem run5 (c : Dev nD) (i : grid0.Coords) (arg2 : Memref sig .tc .vmem S4352x256 .bf16) (harg2 : arg2.IsWhole) (arg3 : Memref sig .tc .vmem S256x256 .bf16) (harg3 : arg3.IsWhole) (arg4 : Memref sig .tc .vmem S256x128 .bf16) (harg4 : arg4.IsWhole) (arg5 : Memref sig .tc .vmem S4352x128 .bf16) (harg5 : arg5.IsWhole) (arg6 : Memref sig .tc .vmem S4352x128 .bf16) (harg6 : arg6.IsWhole) (arg7 : Memref sig .tc .vmem S1x4352x128 .f32) (harg7 : arg7.IsWhole) (arg8 : Memref sig .tc .vmem S4352x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S256x128 .f32) (harg12 : arg12.IsWhole)
    (hz : ¬cond0 i) (hc1 : ¬k0_cond2 i = 1#1) (hc2 : ¬k0_cond3 i = 1#1) (hc3 : ¬k0_cond4 i = 1#1) (hc4 : ¬k0_cond5 i = 1#1) (hc5 : k0_cond6 i = 1#1) (hc6 : ¬k0_cond7 i = 1#1) (hc7 : ¬k0_cond8 i = 1#1) (hc8 : ¬k0_cond9 i = 1#1)
    (x0 : Vec F S4352x256 .bf16) (x1 : Vec F S256x256 .bf16) (x2 : Vec F S256x128 .bf16) (x3 : Vec F S4352x128 .bf16) (x4 : Vec F S4352x128 .bf16) (x5 : Vec F S1x4352x128 .f32) (x6 : Vec F S4352x256 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin i ⟨x0, x1, x2, x3, x4, x5⟩ (head5 i hc5 ⟨x0, x1, x2, x3, x4, x5⟩ (startSt x6))).dq ∗ owns (c : Thread nD τ) arg9 fullShare (fin i ⟨x0, x1, x2, x3, x4, x5⟩ (head5 i hc5 ⟨x0, x1, x2, x3, x4, x5⟩ (startSt x6))).dk ∗ owns (c : Thread nD τ) arg10 fullShare (k0_pay5 (fin i ⟨x0, x1, x2, x3, x4, x5⟩ (head5 i hc5 ⟨x0, x1, x2, x3, x4, x5⟩ (startSt x6))).dv) ∗ (∃ d, owns (c : Thread nD τ) arg11 fullShare d) ∗ (∃ d, owns (c : Thread nD τ) arg12 fullShare d)) -∗ K ⟨⟩))
        ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12) K := by
  intro E K
  simp only [cc0_flash_bwd_eq_skeleton]; unfold cc0_flash_bwd_skel
  simp only [k0_part11_eq_skeleton, k0_part12_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hz | sl_exact hc1 | sl_exact hc2 | sl_exact hc3 | sl_exact hc4 | sl_exact hc5 | sl_exact hc6 | sl_exact hc7 | sl_exact hc8)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro
    refine (read_over_append arg8.view _ (fun h => by rw [h]; rfl)).trans (congrArg₂ (fun X s => (fin i X s).dq) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H7]
  · iexists _; isplitr
    swap; · iexact H7
    ipureintro
    rw [View.read_writes_full]
    refine (View.readAt_full arg11.view _ _).trans ?_
    refine (read_over_append arg11.view _ (fun h => by rw [h]; rfl)).trans (congrArg₂ (fun X s => (fin i X s).dk) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H8]
  · iexists _; isplitr
    swap; · iexact H8
    ipureintro
    rw [View.read_writes_full]
    refine congrArg k0_pay5 ?_
    refine (View.readAt_full arg12.view _ _).trans ?_
    refine (read_over_append arg12.view _ (fun h => by rw [h]; rfl)).trans (congrArg₂ (fun X s => (fin i X s).dv) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [HS0]
  · iexists _; iexists _; isplitr
    swap; · iexact HS0
    ipureintro; rfl
  iexists _; iexists _; isplitr
  swap; · iexact HS1
  ipureintro; rfl

end Cert.KernelIdeal.Bwd

end
-- ==== Proof.Run6.lean ====
module

public import proofs.«01_k».proof.Proof.State

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a later key tile whose masked rows are 1536. -/
theorem run6 (c : Dev nD) (i : grid0.Coords) (arg2 : Memref sig .tc .vmem S4352x256 .bf16) (harg2 : arg2.IsWhole) (arg3 : Memref sig .tc .vmem S256x256 .bf16) (harg3 : arg3.IsWhole) (arg4 : Memref sig .tc .vmem S256x128 .bf16) (harg4 : arg4.IsWhole) (arg5 : Memref sig .tc .vmem S4352x128 .bf16) (harg5 : arg5.IsWhole) (arg6 : Memref sig .tc .vmem S4352x128 .bf16) (harg6 : arg6.IsWhole) (arg7 : Memref sig .tc .vmem S1x4352x128 .f32) (harg7 : arg7.IsWhole) (arg8 : Memref sig .tc .vmem S4352x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S256x128 .f32) (harg12 : arg12.IsWhole)
    (hz : ¬cond0 i) (hc1 : ¬k0_cond2 i = 1#1) (hc2 : ¬k0_cond3 i = 1#1) (hc3 : ¬k0_cond4 i = 1#1) (hc4 : ¬k0_cond5 i = 1#1) (hc5 : ¬k0_cond6 i = 1#1) (hc6 : k0_cond7 i = 1#1) (hc7 : ¬k0_cond8 i = 1#1) (hc8 : ¬k0_cond9 i = 1#1)
    (x0 : Vec F S4352x256 .bf16) (x1 : Vec F S256x256 .bf16) (x2 : Vec F S256x128 .bf16) (x3 : Vec F S4352x128 .bf16) (x4 : Vec F S4352x128 .bf16) (x5 : Vec F S1x4352x128 .f32) (x6 : Vec F S4352x256 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin i ⟨x0, x1, x2, x3, x4, x5⟩ (head6 i hc6 ⟨x0, x1, x2, x3, x4, x5⟩ (startSt x6))).dq ∗ owns (c : Thread nD τ) arg9 fullShare (fin i ⟨x0, x1, x2, x3, x4, x5⟩ (head6 i hc6 ⟨x0, x1, x2, x3, x4, x5⟩ (startSt x6))).dk ∗ owns (c : Thread nD τ) arg10 fullShare (k0_pay5 (fin i ⟨x0, x1, x2, x3, x4, x5⟩ (head6 i hc6 ⟨x0, x1, x2, x3, x4, x5⟩ (startSt x6))).dv) ∗ (∃ d, owns (c : Thread nD τ) arg11 fullShare d) ∗ (∃ d, owns (c : Thread nD τ) arg12 fullShare d)) -∗ K ⟨⟩))
        ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12) K := by
  intro E K
  simp only [cc0_flash_bwd_eq_skeleton]; unfold cc0_flash_bwd_skel
  simp only [k0_part11_eq_skeleton, k0_part12_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hz | sl_exact hc1 | sl_exact hc2 | sl_exact hc3 | sl_exact hc4 | sl_exact hc5 | sl_exact hc6 | sl_exact hc7 | sl_exact hc8)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro
    refine (read_over_append arg8.view _ (fun h => by rw [h]; rfl)).trans (congrArg₂ (fun X s => (fin i X s).dq) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H7]
  · iexists _; isplitr
    swap; · iexact H7
    ipureintro
    rw [View.read_writes_full]
    refine (View.readAt_full arg11.view _ _).trans ?_
    refine (read_over_append arg11.view _ (fun h => by rw [h]; rfl)).trans (congrArg₂ (fun X s => (fin i X s).dk) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H8]
  · iexists _; isplitr
    swap; · iexact H8
    ipureintro
    rw [View.read_writes_full]
    refine congrArg k0_pay5 ?_
    refine (View.readAt_full arg12.view _ _).trans ?_
    refine (read_over_append arg12.view _ (fun h => by rw [h]; rfl)).trans (congrArg₂ (fun X s => (fin i X s).dv) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [HS0]
  · iexists _; iexists _; isplitr
    swap; · iexact HS0
    ipureintro; rfl
  iexists _; iexists _; isplitr
  swap; · iexact HS1
  ipureintro; rfl

end Cert.KernelIdeal.Bwd

end
-- ==== Proof.Run7.lean ====
module

public import proofs.«01_k».proof.Proof.State

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a later key tile whose masked rows are 1792. -/
theorem run7 (c : Dev nD) (i : grid0.Coords) (arg2 : Memref sig .tc .vmem S4352x256 .bf16) (harg2 : arg2.IsWhole) (arg3 : Memref sig .tc .vmem S256x256 .bf16) (harg3 : arg3.IsWhole) (arg4 : Memref sig .tc .vmem S256x128 .bf16) (harg4 : arg4.IsWhole) (arg5 : Memref sig .tc .vmem S4352x128 .bf16) (harg5 : arg5.IsWhole) (arg6 : Memref sig .tc .vmem S4352x128 .bf16) (harg6 : arg6.IsWhole) (arg7 : Memref sig .tc .vmem S1x4352x128 .f32) (harg7 : arg7.IsWhole) (arg8 : Memref sig .tc .vmem S4352x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S256x128 .f32) (harg12 : arg12.IsWhole)
    (hz : ¬cond0 i) (hc1 : ¬k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1) (hc7 : k0_cond8 i = 1#1) (hc8 : ¬k0_cond9 i = 1#1)
    (x0 : Vec F S4352x256 .bf16) (x1 : Vec F S256x256 .bf16) (x2 : Vec F S256x128 .bf16) (x3 : Vec F S4352x128 .bf16) (x4 : Vec F S4352x128 .bf16) (x5 : Vec F S1x4352x128 .f32) (x6 : Vec F S4352x256 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin i ⟨x0, x1, x2, x3, x4, x5⟩ (head7 i hc7 ⟨x0, x1, x2, x3, x4, x5⟩ (startSt x6))).dq ∗ owns (c : Thread nD τ) arg9 fullShare (fin i ⟨x0, x1, x2, x3, x4, x5⟩ (head7 i hc7 ⟨x0, x1, x2, x3, x4, x5⟩ (startSt x6))).dk ∗ owns (c : Thread nD τ) arg10 fullShare (k0_pay5 (fin i ⟨x0, x1, x2, x3, x4, x5⟩ (head7 i hc7 ⟨x0, x1, x2, x3, x4, x5⟩ (startSt x6))).dv) ∗ (∃ d, owns (c : Thread nD τ) arg11 fullShare d) ∗ (∃ d, owns (c : Thread nD τ) arg12 fullShare d)) -∗ K ⟨⟩))
        ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12) K := by
  intro E K
  simp only [cc0_flash_bwd_eq_skeleton]; unfold cc0_flash_bwd_skel
  simp only [k0_part11_eq_skeleton, k0_part12_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hz | sl_exact hc1 | sl_exact hc2 | sl_exact hc3 | sl_exact hc4 | sl_exact hc5 | sl_exact hc6 | sl_exact hc7 | sl_exact hc8)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro
    refine (read_over_append arg8.view _ (fun h => by rw [h]; rfl)).trans (congrArg₂ (fun X s => (fin i X s).dq) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H7]
  · iexists _; isplitr
    swap; · iexact H7
    ipureintro
    rw [View.read_writes_full]
    refine (View.readAt_full arg11.view _ _).trans ?_
    refine (read_over_append arg11.view _ (fun h => by rw [h]; rfl)).trans (congrArg₂ (fun X s => (fin i X s).dk) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H8]
  · iexists _; isplitr
    swap; · iexact H8
    ipureintro
    rw [View.read_writes_full]
    refine congrArg k0_pay5 ?_
    refine (View.readAt_full arg12.view _ _).trans ?_
    refine (read_over_append arg12.view _ (fun h => by rw [h]; rfl)).trans (congrArg₂ (fun X s => (fin i X s).dv) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [HS0]
  · iexists _; iexists _; isplitr
    swap; · iexact HS0
    ipureintro; rfl
  iexists _; iexists _; isplitr
  swap; · iexact HS1
  ipureintro; rfl

end Cert.KernelIdeal.Bwd

end
-- ==== Proof.Run8.lean ====
module

public import proofs.«01_k».proof.Proof.State

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The body at a later key tile whose masked rows are 2048. -/
theorem run8 (c : Dev nD) (i : grid0.Coords) (arg2 : Memref sig .tc .vmem S4352x256 .bf16) (harg2 : arg2.IsWhole) (arg3 : Memref sig .tc .vmem S256x256 .bf16) (harg3 : arg3.IsWhole) (arg4 : Memref sig .tc .vmem S256x128 .bf16) (harg4 : arg4.IsWhole) (arg5 : Memref sig .tc .vmem S4352x128 .bf16) (harg5 : arg5.IsWhole) (arg6 : Memref sig .tc .vmem S4352x128 .bf16) (harg6 : arg6.IsWhole) (arg7 : Memref sig .tc .vmem S1x4352x128 .f32) (harg7 : arg7.IsWhole) (arg8 : Memref sig .tc .vmem S4352x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S256x128 .f32) (harg12 : arg12.IsWhole)
    (hz : ¬cond0 i) (hc1 : ¬k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1) (hc7 : ¬k0_cond8 i = 1#1) (hc8 : k0_cond9 i = 1#1)
    (x0 : Vec F S4352x256 .bf16) (x1 : Vec F S256x256 .bf16) (x2 : Vec F S256x128 .bf16) (x3 : Vec F S4352x128 .bf16) (x4 : Vec F S4352x128 .bf16) (x5 : Vec F S1x4352x128 .f32) (x6 : Vec F S4352x256 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin i ⟨x0, x1, x2, x3, x4, x5⟩ (head8 i hc8 ⟨x0, x1, x2, x3, x4, x5⟩ (startSt x6))).dq ∗ owns (c : Thread nD τ) arg9 fullShare (fin i ⟨x0, x1, x2, x3, x4, x5⟩ (head8 i hc8 ⟨x0, x1, x2, x3, x4, x5⟩ (startSt x6))).dk ∗ owns (c : Thread nD τ) arg10 fullShare (k0_pay5 (fin i ⟨x0, x1, x2, x3, x4, x5⟩ (head8 i hc8 ⟨x0, x1, x2, x3, x4, x5⟩ (startSt x6))).dv) ∗ (∃ d, owns (c : Thread nD τ) arg11 fullShare d) ∗ (∃ d, owns (c : Thread nD τ) arg12 fullShare d)) -∗ K ⟨⟩))
        ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12) K := by
  intro E K
  simp only [cc0_flash_bwd_eq_skeleton]; unfold cc0_flash_bwd_skel
  simp only [k0_part11_eq_skeleton, k0_part12_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hz | sl_exact hc1 | sl_exact hc2 | sl_exact hc3 | sl_exact hc4 | sl_exact hc5 | sl_exact hc6 | sl_exact hc7 | sl_exact hc8)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro
    refine (read_over_append arg8.view _ (fun h => by rw [h]; rfl)).trans (congrArg₂ (fun X s => (fin i X s).dq) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H7]
  · iexists _; isplitr
    swap; · iexact H7
    ipureintro
    rw [View.read_writes_full]
    refine (View.readAt_full arg11.view _ _).trans ?_
    refine (read_over_append arg11.view _ (fun h => by rw [h]; rfl)).trans (congrArg₂ (fun X s => (fin i X s).dk) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [H8]
  · iexists _; isplitr
    swap; · iexact H8
    ipureintro
    rw [View.read_writes_full]
    refine congrArg k0_pay5 ?_
    refine (View.readAt_full arg12.view _ _).trans ?_
    refine (read_over_append arg12.view _ (fun h => by rw [h]; rfl)).trans (congrArg₂ (fun X s => (fin i X s).dv) ?_ ?_)
    · sl_unfold_words
      simp only [inOf, View.readAt_eq_ld, harg2.read_unread, harg3.read_unread, harg4.read_unread, harg5.read_unread, harg6.read_unread, harg7.read_unread, harg8.read_unread, View.ld_unit_zero (S := S256x256) off00, View.ld_unit_zero (S := S256x128) off00]
    · refine St.eq_of ?_ ?_ ?_
      · show arg8.view.read (Elt F) _ = _
        rw [View.read_writes_cons_put _ _ _ _ _ rfl, View.writes_nil]
        sl_unfold_words
        simp only [View.readAt_eq_ld, harg2.read_unread, harg3.read_unread, harg4.read_unread, harg5.read_unread, harg6.read_unread, harg7.read_unread, harg8.read_unread, View.ld_unit_zero (S := S256x256) off00, View.ld_unit_zero (S := S256x128) off00]
        rfl
      · show arg11.view.read (Elt F) _ = _
        refine (View.read_writes_full arg11.view _ _ _ _).trans ?_
        sl_unfold_words
        simp only [View.readAt_eq_ld, View.readCov_full arg11.view, harg2.read_unread, harg3.read_unread, harg4.read_unread, harg5.read_unread, harg6.read_unread, harg7.read_unread, harg8.read_unread, View.ld_unit_zero (S := S256x256) off00, View.ld_unit_zero (S := S256x128) off00]
        rfl
      · show arg12.view.read (Elt F) _ = _
        refine (View.read_writes_full arg12.view _ _ _ _).trans ?_
        sl_unfold_words
        simp only [View.readAt_eq_ld, View.readCov_full arg12.view, harg2.read_unread, harg3.read_unread, harg4.read_unread, harg5.read_unread, harg6.read_unread, harg7.read_unread, harg8.read_unread, View.ld_unit_zero (S := S256x256) off00, View.ld_unit_zero (S := S256x128) off00]
        rfl
  isplitl [HS0]
  · iexists _; iexists _; isplitr
    swap; · iexact HS0
    ipureintro; rfl
  iexists _; iexists _; isplitr
  swap; · iexact HS1
  ipureintro; rfl

end Cert.KernelIdeal.Bwd

end
-- ==== Proof.Point.lean ====
module

public import proofs.«01_k».proof.Proof.RunFirst
public import proofs.«01_k».proof.Proof.Run1
public import proofs.«01_k».proof.Proof.Run2
public import proofs.«01_k».proof.Proof.Run3
public import proofs.«01_k».proof.Proof.Run4
public import proofs.«01_k».proof.Proof.Run5
public import proofs.«01_k».proof.Proof.Run6
public import proofs.«01_k».proof.Proof.Run7
public import proofs.«01_k».proof.Proof.Run8
public import proofs.«01_k».proof.Proof.Gen.KernelIdeal.Points

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block of rows on the diagonal: its width is what makes the rows left over a multiple of 2048. -/
def diag (i : grid0.Coords) (X : In F) (s : St F) : St F :=
  if h : k0_cond2 i = 1#1 then head1 i h X s
  else if h : k0_cond3 i = 1#1 then head2 i h X s
  else if h : k0_cond4 i = 1#1 then head3 i h X s
  else if h : k0_cond5 i = 1#1 then head4 i h X s
  else if h : k0_cond6 i = 1#1 then head5 i h X s
  else if h : k0_cond7 i = 1#1 then head6 i h X s
  else if h : k0_cond8 i = 1#1 then head7 i h X s
  else if h : k0_cond9 i = 1#1 then head8 i h X s
  else s

/-- What a grid point leaves, from what it found in the queries' gradient. -/
def stepSt (i : grid0.Coords) (X : In F) (d : Vec F S4352x256 .f32) : St F := fin i X (diag i X (startSt d))

theorem coord1 (t : Fin cfg0.N) : (grid0.coords t 1).val = t.val % 17 := by
  have e1 : (grid0.coords t 1).val = t.val / 1 % 17 := Pipeline.Grid.coords_val t 1 (by decide) rfl
  rw [e1, Nat.div_one]

theorem coord0 (t : Fin cfg0.N) : (grid0.coords t 0).val = t.val / 17 % 16 :=
  Pipeline.Grid.coords_val t 0 (by decide) rfl

theorem at_first : ∀ n : Fin 17, cond0 (pointOf n) ↔ n.val = 0 := by decide +kernel

theorem at_head1 : ∀ n : Fin 17, k0_cond2 (pointOf n) = 1#1 ↔ n.val = 0 ∨ n.val = 8 ∨ n.val = 16 := by decide +kernel

theorem at_head2 : ∀ n : Fin 17, k0_cond3 (pointOf n) = 1#1 ↔ n.val = 7 ∨ n.val = 15 := by decide +kernel

theorem at_head3 : ∀ n : Fin 17, k0_cond4 (pointOf n) = 1#1 ↔ n.val = 6 ∨ n.val = 14 := by decide +kernel

theorem at_head4 : ∀ n : Fin 17, k0_cond5 (pointOf n) = 1#1 ↔ n.val = 5 ∨ n.val = 13 := by decide +kernel

theorem at_head5 : ∀ n : Fin 17, k0_cond6 (pointOf n) = 1#1 ↔ n.val = 4 ∨ n.val = 12 := by decide +kernel

theorem at_head6 : ∀ n : Fin 17, k0_cond7 (pointOf n) = 1#1 ↔ n.val = 3 ∨ n.val = 11 := by decide +kernel

theorem at_head7 : ∀ n : Fin 17, k0_cond8 (pointOf n) = 1#1 ↔ n.val = 2 ∨ n.val = 10 := by decide +kernel

theorem at_head8 : ∀ n : Fin 17, k0_cond9 (pointOf n) = 1#1 ↔ n.val = 1 ∨ n.val = 9 := by decide +kernel

/-- The body at any grid point. -/
theorem runAt (c : Dev nD) (i : grid0.Coords) (arg2 : Memref sig .tc .vmem S4352x256 .bf16) (harg2 : arg2.IsWhole) (arg3 : Memref sig .tc .vmem S256x256 .bf16) (harg3 : arg3.IsWhole) (arg4 : Memref sig .tc .vmem S256x128 .bf16) (harg4 : arg4.IsWhole) (arg5 : Memref sig .tc .vmem S4352x128 .bf16) (harg5 : arg5.IsWhole) (arg6 : Memref sig .tc .vmem S4352x128 .bf16) (harg6 : arg6.IsWhole) (arg7 : Memref sig .tc .vmem S1x4352x128 .f32) (harg7 : arg7.IsWhole) (arg8 : Memref sig .tc .vmem S4352x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S256x128 .f32) (harg12 : arg12.IsWhole)
    (x0 : Vec F S4352x256 .bf16) (x1 : Vec F S256x256 .bf16) (x2 : Vec F S256x128 .bf16) (x3 : Vec F S4352x128 .bf16) (x4 : Vec F S4352x128 .bf16) (x5 : Vec F S1x4352x128 .f32) (x6 : Vec F S4352x256 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (stepSt i ⟨x0, x1, x2, x3, x4, x5⟩ (if (i 1).val = 0 then k0_pay38 else x6)).dq ∗ owns (c : Thread nD τ) arg9 fullShare (stepSt i ⟨x0, x1, x2, x3, x4, x5⟩ (if (i 1).val = 0 then k0_pay38 else x6)).dk ∗ owns (c : Thread nD τ) arg10 fullShare (k0_pay5 (stepSt i ⟨x0, x1, x2, x3, x4, x5⟩ (if (i 1).val = 0 then k0_pay38 else x6)).dv) ∗ (∃ d, owns (c : Thread nD τ) arg11 fullShare d) ∗ (∃ d, owns (c : Thread nD τ) arg12 fullShare d)) -∗ K ⟨⟩))
        ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12) K := by
  have hj : (i 1).val < 17 := (i 1).isLt
  have f0 : cond0 i ↔ (i 1).val = 0 := at_first (i 1)
  have f1 : k0_cond2 i = 1#1 ↔ _ := at_head1 (i 1)
  have f2 : k0_cond3 i = 1#1 ↔ _ := at_head2 (i 1)
  have f3 : k0_cond4 i = 1#1 ↔ _ := at_head3 (i 1)
  have f4 : k0_cond5 i = 1#1 ↔ _ := at_head4 (i 1)
  have f5 : k0_cond6 i = 1#1 ↔ _ := at_head5 (i 1)
  have f6 : k0_cond7 i = 1#1 ↔ _ := at_head6 (i 1)
  have f7 : k0_cond8 i = 1#1 ↔ _ := at_head7 (i 1)
  have f8 : k0_cond9 i = 1#1 ↔ _ := at_head8 (i 1)
  have hall : ((i 1).val = 0) ∨ ((i 1).val = 8 ∨ (i 1).val = 16) ∨ ((i 1).val = 7 ∨ (i 1).val = 15) ∨ ((i 1).val = 6 ∨ (i 1).val = 14) ∨ ((i 1).val = 5 ∨ (i 1).val = 13) ∨ ((i 1).val = 4 ∨ (i 1).val = 12) ∨ ((i 1).val = 3 ∨ (i 1).val = 11) ∨ ((i 1).val = 2 ∨ (i 1).val = 10) ∨ ((i 1).val = 1 ∨ (i 1).val = 9) := by omega
  rcases hall with h | h | h | h | h | h | h | h | h
  · have hz : cond0 i := by rw [f0]; omega
    have hc1 : k0_cond2 i = 1#1 := by rw [f1]; omega
    have hc2 : ¬k0_cond3 i = 1#1 := by rw [f2]; omega
    have hc3 : ¬k0_cond4 i = 1#1 := by rw [f3]; omega
    have hc4 : ¬k0_cond5 i = 1#1 := by rw [f4]; omega
    have hc5 : ¬k0_cond6 i = 1#1 := by rw [f5]; omega
    have hc6 : ¬k0_cond7 i = 1#1 := by rw [f6]; omega
    have hc7 : ¬k0_cond8 i = 1#1 := by rw [f7]; omega
    have hc8 : ¬k0_cond9 i = 1#1 := by rw [f8]; omega
    have e : stepSt i ⟨x0, x1, x2, x3, x4, x5⟩ (if (i 1).val = 0 then k0_pay38 else x6) = fin i ⟨x0, x1, x2, x3, x4, x5⟩ (head1 i hc1 ⟨x0, x1, x2, x3, x4, x5⟩ (startSt k0_pay38)) := by
      unfold stepSt diag
      rw [if_pos (by omega), dif_pos hc1]
    rw [e]
    exact runFirst c i arg2 harg2 arg3 harg3 arg4 harg4 arg5 harg5 arg6 harg6 arg7 harg7 arg8 harg8 arg9 harg9 arg10 harg10 arg11 harg11 arg12 harg12 hz hc1 hc2 hc3 hc4 hc5 hc6 hc7 hc8 x0 x1 x2 x3 x4 x5 x6
  · have hz : ¬cond0 i := by rw [f0]; omega
    have hc1 : k0_cond2 i = 1#1 := by rw [f1]; omega
    have hc2 : ¬k0_cond3 i = 1#1 := by rw [f2]; omega
    have hc3 : ¬k0_cond4 i = 1#1 := by rw [f3]; omega
    have hc4 : ¬k0_cond5 i = 1#1 := by rw [f4]; omega
    have hc5 : ¬k0_cond6 i = 1#1 := by rw [f5]; omega
    have hc6 : ¬k0_cond7 i = 1#1 := by rw [f6]; omega
    have hc7 : ¬k0_cond8 i = 1#1 := by rw [f7]; omega
    have hc8 : ¬k0_cond9 i = 1#1 := by rw [f8]; omega
    have e : stepSt i ⟨x0, x1, x2, x3, x4, x5⟩ (if (i 1).val = 0 then k0_pay38 else x6) = fin i ⟨x0, x1, x2, x3, x4, x5⟩ (head1 i hc1 ⟨x0, x1, x2, x3, x4, x5⟩ (startSt x6)) := by
      unfold stepSt diag
      rw [if_neg (by omega), dif_pos hc1]
    rw [e]
    exact run1 c i arg2 harg2 arg3 harg3 arg4 harg4 arg5 harg5 arg6 harg6 arg7 harg7 arg8 harg8 arg9 harg9 arg10 harg10 arg11 harg11 arg12 harg12 hz hc1 hc2 hc3 hc4 hc5 hc6 hc7 hc8 x0 x1 x2 x3 x4 x5 x6
  · have hz : ¬cond0 i := by rw [f0]; omega
    have hc1 : ¬k0_cond2 i = 1#1 := by rw [f1]; omega
    have hc2 : k0_cond3 i = 1#1 := by rw [f2]; omega
    have hc3 : ¬k0_cond4 i = 1#1 := by rw [f3]; omega
    have hc4 : ¬k0_cond5 i = 1#1 := by rw [f4]; omega
    have hc5 : ¬k0_cond6 i = 1#1 := by rw [f5]; omega
    have hc6 : ¬k0_cond7 i = 1#1 := by rw [f6]; omega
    have hc7 : ¬k0_cond8 i = 1#1 := by rw [f7]; omega
    have hc8 : ¬k0_cond9 i = 1#1 := by rw [f8]; omega
    have e : stepSt i ⟨x0, x1, x2, x3, x4, x5⟩ (if (i 1).val = 0 then k0_pay38 else x6) = fin i ⟨x0, x1, x2, x3, x4, x5⟩ (head2 i hc2 ⟨x0, x1, x2, x3, x4, x5⟩ (startSt x6)) := by
      unfold stepSt diag
      rw [if_neg (by omega), dif_neg hc1, dif_pos hc2]
    rw [e]
    exact run2 c i arg2 harg2 arg3 harg3 arg4 harg4 arg5 harg5 arg6 harg6 arg7 harg7 arg8 harg8 arg9 harg9 arg10 harg10 arg11 harg11 arg12 harg12 hz hc1 hc2 hc3 hc4 hc5 hc6 hc7 hc8 x0 x1 x2 x3 x4 x5 x6
  · have hz : ¬cond0 i := by rw [f0]; omega
    have hc1 : ¬k0_cond2 i = 1#1 := by rw [f1]; omega
    have hc2 : ¬k0_cond3 i = 1#1 := by rw [f2]; omega
    have hc3 : k0_cond4 i = 1#1 := by rw [f3]; omega
    have hc4 : ¬k0_cond5 i = 1#1 := by rw [f4]; omega
    have hc5 : ¬k0_cond6 i = 1#1 := by rw [f5]; omega
    have hc6 : ¬k0_cond7 i = 1#1 := by rw [f6]; omega
    have hc7 : ¬k0_cond8 i = 1#1 := by rw [f7]; omega
    have hc8 : ¬k0_cond9 i = 1#1 := by rw [f8]; omega
    have e : stepSt i ⟨x0, x1, x2, x3, x4, x5⟩ (if (i 1).val = 0 then k0_pay38 else x6) = fin i ⟨x0, x1, x2, x3, x4, x5⟩ (head3 i hc3 ⟨x0, x1, x2, x3, x4, x5⟩ (startSt x6)) := by
      unfold stepSt diag
      rw [if_neg (by omega), dif_neg hc1, dif_neg hc2, dif_pos hc3]
    rw [e]
    exact run3 c i arg2 harg2 arg3 harg3 arg4 harg4 arg5 harg5 arg6 harg6 arg7 harg7 arg8 harg8 arg9 harg9 arg10 harg10 arg11 harg11 arg12 harg12 hz hc1 hc2 hc3 hc4 hc5 hc6 hc7 hc8 x0 x1 x2 x3 x4 x5 x6
  · have hz : ¬cond0 i := by rw [f0]; omega
    have hc1 : ¬k0_cond2 i = 1#1 := by rw [f1]; omega
    have hc2 : ¬k0_cond3 i = 1#1 := by rw [f2]; omega
    have hc3 : ¬k0_cond4 i = 1#1 := by rw [f3]; omega
    have hc4 : k0_cond5 i = 1#1 := by rw [f4]; omega
    have hc5 : ¬k0_cond6 i = 1#1 := by rw [f5]; omega
    have hc6 : ¬k0_cond7 i = 1#1 := by rw [f6]; omega
    have hc7 : ¬k0_cond8 i = 1#1 := by rw [f7]; omega
    have hc8 : ¬k0_cond9 i = 1#1 := by rw [f8]; omega
    have e : stepSt i ⟨x0, x1, x2, x3, x4, x5⟩ (if (i 1).val = 0 then k0_pay38 else x6) = fin i ⟨x0, x1, x2, x3, x4, x5⟩ (head4 i hc4 ⟨x0, x1, x2, x3, x4, x5⟩ (startSt x6)) := by
      unfold stepSt diag
      rw [if_neg (by omega), dif_neg hc1, dif_neg hc2, dif_neg hc3, dif_pos hc4]
    rw [e]
    exact run4 c i arg2 harg2 arg3 harg3 arg4 harg4 arg5 harg5 arg6 harg6 arg7 harg7 arg8 harg8 arg9 harg9 arg10 harg10 arg11 harg11 arg12 harg12 hz hc1 hc2 hc3 hc4 hc5 hc6 hc7 hc8 x0 x1 x2 x3 x4 x5 x6
  · have hz : ¬cond0 i := by rw [f0]; omega
    have hc1 : ¬k0_cond2 i = 1#1 := by rw [f1]; omega
    have hc2 : ¬k0_cond3 i = 1#1 := by rw [f2]; omega
    have hc3 : ¬k0_cond4 i = 1#1 := by rw [f3]; omega
    have hc4 : ¬k0_cond5 i = 1#1 := by rw [f4]; omega
    have hc5 : k0_cond6 i = 1#1 := by rw [f5]; omega
    have hc6 : ¬k0_cond7 i = 1#1 := by rw [f6]; omega
    have hc7 : ¬k0_cond8 i = 1#1 := by rw [f7]; omega
    have hc8 : ¬k0_cond9 i = 1#1 := by rw [f8]; omega
    have e : stepSt i ⟨x0, x1, x2, x3, x4, x5⟩ (if (i 1).val = 0 then k0_pay38 else x6) = fin i ⟨x0, x1, x2, x3, x4, x5⟩ (head5 i hc5 ⟨x0, x1, x2, x3, x4, x5⟩ (startSt x6)) := by
      unfold stepSt diag
      rw [if_neg (by omega), dif_neg hc1, dif_neg hc2, dif_neg hc3, dif_neg hc4, dif_pos hc5]
    rw [e]
    exact run5 c i arg2 harg2 arg3 harg3 arg4 harg4 arg5 harg5 arg6 harg6 arg7 harg7 arg8 harg8 arg9 harg9 arg10 harg10 arg11 harg11 arg12 harg12 hz hc1 hc2 hc3 hc4 hc5 hc6 hc7 hc8 x0 x1 x2 x3 x4 x5 x6
  · have hz : ¬cond0 i := by rw [f0]; omega
    have hc1 : ¬k0_cond2 i = 1#1 := by rw [f1]; omega
    have hc2 : ¬k0_cond3 i = 1#1 := by rw [f2]; omega
    have hc3 : ¬k0_cond4 i = 1#1 := by rw [f3]; omega
    have hc4 : ¬k0_cond5 i = 1#1 := by rw [f4]; omega
    have hc5 : ¬k0_cond6 i = 1#1 := by rw [f5]; omega
    have hc6 : k0_cond7 i = 1#1 := by rw [f6]; omega
    have hc7 : ¬k0_cond8 i = 1#1 := by rw [f7]; omega
    have hc8 : ¬k0_cond9 i = 1#1 := by rw [f8]; omega
    have e : stepSt i ⟨x0, x1, x2, x3, x4, x5⟩ (if (i 1).val = 0 then k0_pay38 else x6) = fin i ⟨x0, x1, x2, x3, x4, x5⟩ (head6 i hc6 ⟨x0, x1, x2, x3, x4, x5⟩ (startSt x6)) := by
      unfold stepSt diag
      rw [if_neg (by omega), dif_neg hc1, dif_neg hc2, dif_neg hc3, dif_neg hc4, dif_neg hc5, dif_pos hc6]
    rw [e]
    exact run6 c i arg2 harg2 arg3 harg3 arg4 harg4 arg5 harg5 arg6 harg6 arg7 harg7 arg8 harg8 arg9 harg9 arg10 harg10 arg11 harg11 arg12 harg12 hz hc1 hc2 hc3 hc4 hc5 hc6 hc7 hc8 x0 x1 x2 x3 x4 x5 x6
  · have hz : ¬cond0 i := by rw [f0]; omega
    have hc1 : ¬k0_cond2 i = 1#1 := by rw [f1]; omega
    have hc2 : ¬k0_cond3 i = 1#1 := by rw [f2]; omega
    have hc3 : ¬k0_cond4 i = 1#1 := by rw [f3]; omega
    have hc4 : ¬k0_cond5 i = 1#1 := by rw [f4]; omega
    have hc5 : ¬k0_cond6 i = 1#1 := by rw [f5]; omega
    have hc6 : ¬k0_cond7 i = 1#1 := by rw [f6]; omega
    have hc7 : k0_cond8 i = 1#1 := by rw [f7]; omega
    have hc8 : ¬k0_cond9 i = 1#1 := by rw [f8]; omega
    have e : stepSt i ⟨x0, x1, x2, x3, x4, x5⟩ (if (i 1).val = 0 then k0_pay38 else x6) = fin i ⟨x0, x1, x2, x3, x4, x5⟩ (head7 i hc7 ⟨x0, x1, x2, x3, x4, x5⟩ (startSt x6)) := by
      unfold stepSt diag
      rw [if_neg (by omega), dif_neg hc1, dif_neg hc2, dif_neg hc3, dif_neg hc4, dif_neg hc5, dif_neg hc6, dif_pos hc7]
    rw [e]
    exact run7 c i arg2 harg2 arg3 harg3 arg4 harg4 arg5 harg5 arg6 harg6 arg7 harg7 arg8 harg8 arg9 harg9 arg10 harg10 arg11 harg11 arg12 harg12 hz hc1 hc2 hc3 hc4 hc5 hc6 hc7 hc8 x0 x1 x2 x3 x4 x5 x6
  · have hz : ¬cond0 i := by rw [f0]; omega
    have hc1 : ¬k0_cond2 i = 1#1 := by rw [f1]; omega
    have hc2 : ¬k0_cond3 i = 1#1 := by rw [f2]; omega
    have hc3 : ¬k0_cond4 i = 1#1 := by rw [f3]; omega
    have hc4 : ¬k0_cond5 i = 1#1 := by rw [f4]; omega
    have hc5 : ¬k0_cond6 i = 1#1 := by rw [f5]; omega
    have hc6 : ¬k0_cond7 i = 1#1 := by rw [f6]; omega
    have hc7 : ¬k0_cond8 i = 1#1 := by rw [f7]; omega
    have hc8 : k0_cond9 i = 1#1 := by rw [f8]; omega
    have e : stepSt i ⟨x0, x1, x2, x3, x4, x5⟩ (if (i 1).val = 0 then k0_pay38 else x6) = fin i ⟨x0, x1, x2, x3, x4, x5⟩ (head8 i hc8 ⟨x0, x1, x2, x3, x4, x5⟩ (startSt x6)) := by
      unfold stepSt diag
      rw [if_neg (by omega), dif_neg hc1, dif_neg hc2, dif_neg hc3, dif_neg hc4, dif_neg hc5, dif_neg hc6, dif_neg hc7, dif_pos hc8]
    rw [e]
    exact run8 c i arg2 harg2 arg3 harg3 arg4 harg4 arg5 harg5 arg6 harg6 arg7 harg7 arg8 harg8 arg9 harg9 arg10 harg10 arg11 harg11 arg12 harg12 hz hc1 hc2 hc3 hc4 hc5 hc6 hc7 hc8 x0 x1 x2 x3 x4 x5 x6

end Cert.KernelIdeal.Bwd

end
-- ==== Proof.FrameI.lean ====
module

public import proofs.«01_k».proof.Proof.Point
public import proofs.«01_k».proof.Proof.Gen.KernelIdeal.Frame
public import Idealize.ShloMosaic.Lib.Pipeline.FrameBody

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the grid leaves, point by point -/

/-- The six inputs' blocks at a point. -/
def ins (c : Dev nD) (t : Fin cfg0.N) : In F :=
  ⟨iblk m c 0 t, iblk m c 1 t, iblk m c 2 t, iblk m c 3 t, iblk m c 4 t, iblk m c 5 t⟩

/-- The queries' gradient after the points before `n`. -/
def accAt (c : Dev nD) : ℕ → Vec F S4352x256 .f32
  | 0 => k0_pay38
  | n + 1 => if h : n < cfg0.N then
      (stepSt (grid0.coords ⟨n, h⟩) (ins m c ⟨n, h⟩) (if (grid0.coords ⟨n, h⟩ 1).val = 0 then k0_pay38 else accAt c n)).dq
    else k0_pay38

/-- What point `t` leaves. -/
def leftAt (c : Dev nD) (t : Fin cfg0.N) : St F :=
  stepSt (grid0.coords t) (ins m c t) (if (grid0.coords t 1).val = 0 then k0_pay38 else accAt m c t.val)

theorem accAt_succ (c : Dev nD) (t : Fin cfg0.N) : accAt m c (t.val + 1) = (leftAt m c t).dq := by
  rw [accAt, dif_pos t.isLt]; rfl

/-- The proof data of the pipeline: each input's buffer left at its block, the three results at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (leftAt m c t).dq
    | ⟨7, _⟩ => (leftAt m c t).dk
    | ⟨8, _⟩ => k0_pay5 (leftAt m c t).dv
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (leftAt m c t).dq := by dsimp only [dats]
theorem after_7 (c : Dev nD) (t : Fin cfg0.N) : (dats m 0 c).after 7 t = (leftAt m c t).dk := by dsimp only [dats]
theorem after_8 (c : Dev nD) (t : Fin cfg0.N) : (dats m 0 c).after 8 t = k0_pay5 (leftAt m c t).dv := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Past a head's first tile the queries' gradient is what the tile before left. -/
theorem before_6 (c : Dev nD) (t : Fin cfg0.N) (ht : t.val % 17 ≠ 0) (d) : (dats m 0 c).before 6 t d = accAt m c t.val := by
  have h0 : t.val ≠ 0 := fun h => ht (by rw [h])
  have hN : t.val < 272 := lt_of_lt_of_eq t.isLt N_0
  have hf : (cfg0.win 6).flush ⟨t.val - 1, Nat.lt_of_le_of_lt (Nat.sub_le _ _) t.isLt⟩ = false := by
    rw [Bool.eq_false_iff]
    intro h
    have := (flush0_6 _).mp h
    simp only at this
    omega
  refine ((dats m 0 c).before_out_kept 6 rfl t h0 hf (fun _ => rfl) (fun _ _ => rfl) d).trans ?_
  refine (after_6 m c _).trans ?_
  refine (accAt_succ m c ⟨t.val - 1, _⟩).symm.trans ?_
  show accAt m c (t.val - 1 + 1) = _
  rw [show t.val - 1 + 1 = t.val by omega]

/-- The prior contents do not matter at a head's first tile. -/
theorem left_eq (c : Dev nD) (t : Fin cfg0.N) (d) :
    stepSt (grid0.coords t) ⟨iblk m c 0 t, iblk m c 1 t, iblk m c 2 t, iblk m c 3 t, iblk m c 4 t, iblk m c 5 t⟩
      (if (grid0.coords t 1).val = 0 then k0_pay38 else (dats m 0 c).before 6 t d) = leftAt m c t := by
  unfold leftAt ins
  by_cases h : (grid0.coords t 1).val = 0
  · rw [if_pos h, if_pos h]
  · rw [if_neg h, if_neg h, before_6 m c t (fun h' => h ((coord1 t).trans h'))]

/-! ## The body at a point -/

abbrev ms_0 (t : Fin cfg0.N) : Memref sig .tc .vmem S4352x256 .bf16 := win0_0.stage (cfg0.slots t 0)
abbrev ms_1 (t : Fin cfg0.N) : Memref sig .tc .vmem S256x256 .bf16 := win0_1.stage (cfg0.slots t 1)
abbrev ms_2 (t : Fin cfg0.N) : Memref sig .tc .vmem S256x128 .bf16 := win0_2.stage (cfg0.slots t 2)
abbrev ms_3 (t : Fin cfg0.N) : Memref sig .tc .vmem S4352x128 .bf16 := win0_3.stage (cfg0.slots t 3)
abbrev ms_4 (t : Fin cfg0.N) : Memref sig .tc .vmem S4352x128 .bf16 := win0_4.stage (cfg0.slots t 4)
abbrev ms_5 (t : Fin cfg0.N) : Memref sig .tc .vmem S1x4352x128 .f32 := win0_5.stage (cfg0.slots t 5)
abbrev ms_6 (t : Fin cfg0.N) : Memref sig .tc .vmem S4352x256 .f32 := win0_6.stage (cfg0.slots t 6)
abbrev ms_7 (t : Fin cfg0.N) : Memref sig .tc .vmem S256x256 .f32 := win0_7.stage (cfg0.slots t 7)
abbrev ms_8 (t : Fin cfg0.N) : Memref sig .tc .vmem S256x128 .bf16 := win0_8.stage (cfg0.slots t 8)
abbrev sc_0 : Memref sig .tc .vmem S256x256 .f32 := Memref.whole cc0_scratch0
abbrev sc_1 : Memref sig .tc .vmem S256x128 .f32 := Memref.whole cc0_scratch1

/-- The invariant between points: the two scratch buffers and the generator's register at anything. -/
theorem phi_eq (c : Dev nD) :
    (Pipeline.ΦA spec0 c : sProp 𝕄)
      = iprop(iprop((∃ d, owns (c : Thread nD τ) sc_0 fullShare d) ∗ (∃ d, owns (c : Thread nD τ) sc_1 fullShare d)) ∗ (∃ r, prngReg c r)) := by
  unfold Pipeline.ΦA; rw [scopedRest0_eq]; simp only [sc_0, sc_1, owns_whole]; try rfl

def pointPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d)))

def pointPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t))

set_option maxHeartbeats 1600000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, phi_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← left_eq m c t d6]
  iapply (runAt c (grid0.coords t) _ _ _ _ _ _ _ _ _ _ _ _ _ _ _ _ _ _ _ _ _ _ (iblk m c 0 t) (iblk m c 1 t) (iblk m c 2 t) (iblk m c 3 t) (iblk m c 4 t) (iblk m c 5 t) ((dats m 0 c).before 6 t d6) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
theorem obligation (c : Dev nD) : BodyObligation (dats m 0 c) (defs₀ (F := F)) Variants.none () Set.univ := by
  intro t
  rw [bigSep_W0, bigSep_W0]
  rw [show defs₀ (F := F) .tc cfg0.body (cfg0.bodyArgs t (cfg0.slots t)) = bodyAt0 t from by unfold defs₀; rw [Defs.onTc_tc]]
  exact triple_restated (point_sound m c t) rfl .rfl fun _ => .rfl

set_option backward.isDefEq.respectTransparency.types false in
/-- Every execution ends with the three results at what the points left, and every counter at zero. -/
theorem run_values : θ_run defs (onTc (τ := τ) (main (F := F))) (s₀ m ρ)
    (fun r => Pipeline.FramePost cfgs (dats m) 0 (V m) r ∧ r.2.sem = fun _ => 0) :=
  Pipeline.θ_run_frame (Q' := _) cfgs (dats m) 0 launch0 defs₀ Variants.none m ρ main (hbody := fun c => (obligation m c).loose)
    (hshare := fun c => (dats m 0 c).share_full fun _ => rfl) (howed := fun _ _ => rfl) (V := V m) (hmain := hmain m Variants.none)
    (hA := A_eq m) (hΦ := fun _ _ => rfl)

end Cert.KernelIdeal.Bwd

end
-- ==== Proof.Host.lean ====
module

public import proofs.«01_k».proof.Proof.Gen.KernelIdeal.Frame
public import Idealize.ShloMosaic.Lib.Pointwise

@[expose] public section

set_option maxRecDepth 16384

noncomputable section

namespace Cert.KernelIdeal.Bwd

open Cert.KernelIdeal Cert.KernelIdeal.Gen
open Idealize.ShloMosaic Idealize.ShloMosaic.Tactic

variable {F : FTy → Type} [FloatOps F]

/-! # The output and the log-sum-exp that the host hands the kernel, of the masked scores, their maxima and the values -/

/-- The weights before they are divided. -/
def hostE (s : Vec F S16x4352x4352 .f32) (mx : Vec F S16x4352 .f32) : Vec F S16x4352x4352 .f32 :=
  Host.exp (subf s (broadcastInDim S16x4352x4352 ![0, 1, 2] bcast_S16x4352x1_S16x4352x4352_0_1_2
    (broadcastInDim S16x4352x1 ![0, 1] bcast_S16x4352_S16x4352x1_0_1 mx)))

/-- Their sums. -/
def hostL (e : Vec F S16x4352x4352 .f32) : Vec F S16x4352x1 .f32 :=
  broadcastInDim S16x4352x1 ![0, 1] bcast_S16x4352_S16x4352x1_0_1
    (Host.reduceAdd e (constant S_ .f32 0x00000000#32) reducesTo_S16x4352x4352_S16x4352_d2 h_S_)

/-- The weights. -/
def hostP (e : Vec F S16x4352x4352 .f32) (l : Vec F S16x4352x1 .f32) : Vec F S16x4352x4352 .bf16 :=
  truncf .bf16 (Host.divf e (broadcastInDim S16x4352x4352 ![0, 1, 2] bcast_S16x4352x1_S16x4352x4352_0_1_2 l)) bitsLt_bf16_f32

/-- The attention's output. -/
def hostO (v : Vec F S4352x16x128 .bf16) (p : Vec F S16x4352x4352 .bf16) : Vec F S4352x2048 .bf16 :=
  shapeCast S4352x2048 (truncf .bf16 (transpose S4352x16x128 [2, 0, 1]
    (Host.dotGeneral dot_S4352x16x128_S16x4352x4352_S16x128x4352_0_2_2_1_1_0 none v p)
    transposes_S16x128x4352_S4352x16x128_2_0_1) bitsLt_bf16_f32) shapeCasts_S4352x16x128_S4352x2048

/-- The log-sum-exp, along 128 lanes. -/
def hostLse (mx : Vec F S16x4352 .f32) (l : Vec F S16x4352x1 .f32) : Vec F S16x4352x128 .f32 :=
  broadcastInDim S16x4352x128 ![0, 1, 2] bcast_S16x4352x1_S16x4352x128_0_1_2
    (addf (broadcastInDim S16x4352x1 ![0, 1] bcast_S16x4352_S16x4352x1_0_1 mx) (Host.log l))

/-! ## At an index, over the extended reals -/

theorem hostE_at (s : Vec Ideal S16x4352x4352 .f32) (mx : Vec Ideal S16x4352 .f32) (h : Fin 16) (r k : Fin 4352) :
    hostE s mx (ix3 h r k) = Ideal.exp (s (ix3 h r k) - mx (ix2 h r)) := by
  pointwise [hostE]

theorem hostL_at (e : Vec Ideal S16x4352x4352 .f32) (h : Fin 16) (r : Fin 4352) :
    hostL e (ix3 h r 0) = ∑ k : Fin 4352, e (ix3 h r k) := by
  pointwise [hostL]

theorem hostP_at (e : Vec Ideal S16x4352x4352 .f32) (l : Vec Ideal S16x4352x1 .f32) (h : Fin 16) (r k : Fin 4352) :
    hostP e l (ix3 h r k) = Ideal.div (e (ix3 h r k)) (l (ix3 h r 0)) := by
  pointwise [hostP]

theorem hostLse_at (mx : Vec Ideal S16x4352 .f32) (l : Vec Ideal S16x4352x1 .f32) (h : Fin 16) (r : Fin 4352) (i : Fin 128) :
    hostLse mx l (ix3 h r i) = mx (ix2 h r) + Ideal.log (l (ix3 h r 0)) := by
  pointwise [hostLse]

end Cert.KernelIdeal.Bwd

end
-- ==== Proof.HostO.lean ====
module

public import proofs.«01_k».proof.Proof.Host
public import Idealize.ShloMosaic.Lib.Pipeline.Value

@[expose] public section

set_option maxRecDepth 16384

noncomputable section

namespace Cert.KernelIdeal.Bwd

open Cert.KernelIdeal Cert.KernelIdeal.Gen
open Idealize.ShloMosaic Idealize.ShloMosaic.Tactic

/-- The output's column `128 h + c`. -/
def ocol (h : Fin 16) (c : Fin 128) : Fin 2048 := ⟨128 * h.val + c.val, by omega⟩

theorem hostO_dot (v : Vec Ideal S4352x16x128 .bf16) (p : Vec Ideal S16x4352x4352 .bf16) (h : Fin 16) (c : Fin 128) (r : Fin 4352) :
    (Host.dotGeneral (φ₁ := .bf16) (φ₂ := .bf16) dot_S4352x16x128_S16x4352x4352_S16x128x4352_0_2_2_1_1_0 none v p : FVec Ideal S16x128x4352 .f32) (ix3 h c r)
      = ∑ k : Fin 4352, v (ix3 k h c) * p (ix3 h r k) := by
  pointwise

theorem hostO_turn (y : Vec Ideal S16x128x4352 .f32) (h : Fin 16) (c : Fin 128) (r : Fin 4352) :
    (truncf (F := Ideal) .bf16 (transpose S4352x16x128 [2, 0, 1] y transposes_S16x128x4352_S4352x16x128_2_0_1) bitsLt_bf16_f32 : Vec Ideal S4352x16x128 .bf16) (ix3 r h c)
      = y (ix3 h c r) := by
  pointwise

theorem hostO_at (v : Vec Ideal S4352x16x128 .bf16) (p : Vec Ideal S16x4352x4352 .bf16) (r : Fin 4352) (h : Fin 16) (c : Fin 128) :
    hostO v p (ix2 r (ocol h c)) = ∑ k : Fin 4352, v (ix3 k h c) * p (ix3 h r k) := by
  unfold hostO
  refine (shapeCast_apply _ _ (ix2 r (ocol h c)) (ix3 r h c) ?_).trans ?_
  · rw [Shape.rowMajor_val_three, Shape.rowMajor_val_two]; simp [ix2, ix3, ocol]; omega
  · exact (hostO_turn _ h c r).trans (hostO_dot v p h c r)

end Cert.KernelIdeal.Bwd

end
-- ==== Proof.Blocks.lean ====
module

public import proofs.«01_k».proof.Proof.FrameI
public import proofs.«01_k».proof.Proof.HostO
public import Idealize.ShloMosaic.Lib.Pipeline.ValueKit

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

/-! # Where the windows' blocks lie -/

/-- The head of a point. -/
def hd (t : Fin cfg0.N) : Fin 16 := ⟨t.val / 17, by have := lt_of_lt_of_eq t.isLt N_0; omega⟩

/-- The key tile of a point. -/
def tl (t : Fin cfg0.N) : Fin 17 := ⟨t.val % 17, Nat.mod_lt _ (by norm_num)⟩

/-- The queries' and the keys' column `256 h + c`. -/
def qcol (h : Fin 16) (c : Fin 256) : Fin 4096 := ⟨256 * h.val + c.val, by omega⟩

/-- The values' column `256 h + 128 + c`. -/
def vcol (h : Fin 16) (c : Fin 128) : Fin 4096 := ⟨256 * h.val + 128 + c.val, by omega⟩

/-- The row `256 j + k`. -/
def krow (j : Fin 17) (k : Fin 256) : Fin 4352 := ⟨256 * j.val + k.val, by omega⟩

theorem index_0 : ∀ t : Fin cfg0.N, win0_0.index t = ![0, (hd t).val] := by decide +kernel
theorem index_1 : ∀ t : Fin cfg0.N, win0_1.index t = ![(tl t).val, (hd t).val] := by decide +kernel
theorem index_2 : ∀ t : Fin cfg0.N, win0_2.index t = ![(tl t).val, 2 * (hd t).val + 1] := by decide +kernel
theorem index_3 : ∀ t : Fin cfg0.N, win0_3.index t = ![0, (hd t).val] := by decide +kernel
theorem index_4 : ∀ t : Fin cfg0.N, win0_4.index t = ![0, (hd t).val] := by decide +kernel
theorem index_5 : ∀ t : Fin cfg0.N, win0_5.index t = ![(hd t).val, 0, 0] := by decide +kernel
theorem index_6 : ∀ t : Fin cfg0.N, win0_6.index t = ![0, (hd t).val] := by decide +kernel
theorem index_7 : ∀ t : Fin cfg0.N, win0_7.index t = ![(tl t).val, (hd t).val] := by decide +kernel
theorem index_8 : ∀ t : Fin cfg0.N, win0_8.index t = ![(tl t).val, (hd t).val] := by decide +kernel

variable (m : (ℓ : Loc nD τ sig) → Buf (Elt F) ℓ)

theorem in_q (c : Dev nD) (t : Fin cfg0.N) (r : Fin 4352) (d : Fin 256) :
    (ins m c t).q (ix2 r d) = V m c main_arg0 (ix2 r (qcol (hd t) d)) := by
  show iblk m c 0 t (ix2 r d) = _
  blk_simp [iblk]
  refine congrArg _ (funext fun a => Fin.ext ?_)
  match a with
  | ⟨0, _⟩ => blk_simp [index_0] <;> simp [ix2]
  | ⟨1, _⟩ => blk_simp [index_0]; simp [ix2, qcol]; omega

theorem in_k (c : Dev nD) (t : Fin cfg0.N) (k d : Fin 256) :
    (ins m c t).k (ix2 k d) = V m c main_arg1 (ix2 (krow (tl t) k) (qcol (hd t) d)) := by
  show iblk m c 1 t (ix2 k d) = _
  blk_simp [iblk]
  refine congrArg _ (funext fun a => Fin.ext ?_)
  match a with
  | ⟨0, _⟩ => blk_simp [index_1]; simp [ix2, krow]; omega
  | ⟨1, _⟩ => blk_simp [index_1]; simp [ix2, qcol]; omega

theorem in_v (c : Dev nD) (t : Fin cfg0.N) (k : Fin 256) (d : Fin 128) :
    (ins m c t).v (ix2 k d) = V m c main_arg2 (ix2 (krow (tl t) k) (vcol (hd t) d)) := by
  show iblk m c 2 t (ix2 k d) = _
  blk_simp [iblk]
  refine congrArg _ (funext fun a => Fin.ext ?_)
  match a with
  | ⟨0, _⟩ => blk_simp [index_2]; simp [ix2, krow]; omega
  | ⟨1, _⟩ => blk_simp [index_2]; simp [ix2, vcol]; omega

theorem in_o (c : Dev nD) (t : Fin cfg0.N) (r : Fin 4352) (d : Fin 128) :
    (ins m c t).o (ix2 r d) = V m c main_v26 (ix2 r (ocol (hd t) d)) := by
  show iblk m c 3 t (ix2 r d) = _
  blk_simp [iblk]
  refine congrArg _ (funext fun a => Fin.ext ?_)
  match a with
  | ⟨0, _⟩ => blk_simp [index_3] <;> simp [ix2]
  | ⟨1, _⟩ => blk_simp [index_3]; simp [ix2, ocol]; omega

theorem in_g (c : Dev nD) (t : Fin cfg0.N) (r : Fin 4352) (d : Fin 128) :
    (ins m c t).g (ix2 r d) = V m c main_arg3 (ix2 r (ocol (hd t) d)) := by
  show iblk m c 4 t (ix2 r d) = _
  blk_simp [iblk]
  refine congrArg _ (funext fun a => Fin.ext ?_)
  match a with
  | ⟨0, _⟩ => blk_simp [index_4] <;> simp [ix2]
  | ⟨1, _⟩ => blk_simp [index_4]; simp [ix2, ocol]; omega

theorem in_l (c : Dev nD) (t : Fin cfg0.N) (r : Fin 4352) (d : Fin 128) :
    (ins m c t).l (ix3 0 r d) = V m c main_v29 (ix3 (hd t) r d) := by
  show iblk m c 5 t (ix3 0 r d) = _
  blk_simp [iblk]
  refine congrArg _ (funext fun a => Fin.ext ?_)
  match a with
  | ⟨0, _⟩ => blk_simp [index_5] <;> simp [ix3]
  | ⟨1, _⟩ => blk_simp [index_5] <;> simp [ix3]
  | ⟨2, _⟩ => blk_simp [index_5] <;> simp [ix3]

end Cert.KernelIdeal.Bwd

end
-- ==== Proof.Sem.lean ====
module

public import proofs.«01_k».proof.Proof.State
public import Idealize.ShloMosaic.Lib.Pointwise
public import Mathlib.Algebra.BigOperators.Intervals
public import Mathlib.Algebra.BigOperators.Fin
public import Idealize.ShloMosaic.Lib.Pipeline.ValueKit.Tiles

@[expose] public section

set_option maxRecDepth 16384

noncomputable section

namespace Cert.KernelIdeal.Bwd

open Cert.KernelIdeal.Gen
open Idealize.ShloMosaic Idealize.ShloMosaic.Tactic

/-! # What a grid point accumulates, over the extended reals

`Inv X j d b s` says what the accumulators hold once the rows before `b` are done; one block of `w` rows takes it from `b`
to `b + w` (`Inv.step`), and a grid point is the diagonal block and then blocks of 2048 rows, up to the last row. -/

/-- The score of query row `r` and key `k` of the tile. -/
def scr (X : In Ideal) (r : Fin 4352) (k : Fin 256) : EReal := ∑ d : Fin 256, X.q (ix2 r d) * X.k (ix2 k d)

/-- The attention weight of row `r` and key `k` of tile `j`: zero above the diagonal. -/
def pr (X : In Ideal) (j : ℕ) (r : Fin 4352) (k : Fin 256) : EReal :=
  if 256 * j + k.val ≤ r.val then Ideal.exp (scr X r k - X.l (ix3 0 r 0)) else 0

/-- The gradient of the score. -/
def dsv (X : In Ideal) (j : ℕ) (r : Fin 4352) (k : Fin 256) : EReal :=
  pr X j r k * ((∑ c : Fin 128, X.g (ix2 r c) * X.v (ix2 k c)) - ∑ c : Fin 128, X.g (ix2 r c) * X.o (ix2 r c))

/-- What row `r` adds to the keys' gradient at `(k, c)`. -/
def dkT (X : In Ideal) (j : ℕ) (k : Fin 256) (c : Fin 256) (r : ℕ) : EReal :=
  if h : r < 4352 then dsv X j ⟨r, h⟩ k * X.q (ix2 ⟨r, h⟩ c) else 0

/-- What row `r` adds to the values' gradient at `(k, c)`. -/
def dvT (X : In Ideal) (j : ℕ) (k : Fin 256) (c : Fin 128) (r : ℕ) : EReal :=
  if h : r < 4352 then pr X j ⟨r, h⟩ k * X.g (ix2 ⟨r, h⟩ c) else 0

/-- The accumulators after the rows before `b`, the queries' gradient having started from `d`. -/
structure Inv (X : In Ideal) (j : ℕ) (d : Vec Ideal S4352x256 .f32) (b : ℕ) (s : St Ideal) : Prop where
  dq : ∀ (r : Fin 4352) (c : Fin 256), s.dq (ix2 r c) = if r.val < b then d (ix2 r c) + ∑ k : Fin 256, dsv X j r k * X.k (ix2 k c) else d (ix2 r c)
  dk : ∀ (k c : Fin 256), s.dk (ix2 k c) = ∑ r ∈ Finset.range b, dkT X j k c r
  dv : ∀ (k : Fin 256) (c : Fin 128), s.dv (ix2 k c) = ∑ r ∈ Finset.range b, dvT X j k c r

/-- A block of `w` rows from row `b` on. -/
structure IsStep (X : In Ideal) (j b w : ℕ) (s s' : St Ideal) : Prop where
  dq : ∀ (r : Fin 4352) (c : Fin 256), s'.dq (ix2 r c) = if b ≤ r.val ∧ r.val < b + w then s.dq (ix2 r c) + ∑ k : Fin 256, dsv X j r k * X.k (ix2 k c) else s.dq (ix2 r c)
  dk : ∀ (k c : Fin 256), s'.dk (ix2 k c) = s.dk (ix2 k c) + ∑ i ∈ Finset.range w, dkT X j k c (b + i)
  dv : ∀ (k : Fin 256) (c : Fin 128), s'.dv (ix2 k c) = s.dv (ix2 k c) + ∑ i ∈ Finset.range w, dvT X j k c (b + i)

theorem Inv.step {X : In Ideal} {j b w : ℕ} {d : Vec Ideal S4352x256 .f32} {s s' : St Ideal} (h : Inv X j d b s) (hs : IsStep X j b w s s') :
    Inv X j d (b + w) s' where
  dq r c := by
    rw [hs.dq, h.dq]
    by_cases h1 : r.val < b
    · rw [if_neg (by omega), if_pos h1, if_pos (by omega)]
    · by_cases h2 : r.val < b + w
      · rw [if_pos ⟨by omega, h2⟩, if_neg h1, if_pos h2]
      · rw [if_neg (by omega), if_neg h1, if_neg h2]
  dk k c := by rw [hs.dk, h.dk, Finset.sum_range_add]
  dv k c := by rw [hs.dv, h.dv, Finset.sum_range_add]

theorem pr_above {X : In Ideal} {j : ℕ} {r : Fin 4352} {k : Fin 256} (h : r.val < 256 * j) : pr X j r k = 0 := if_neg (by omega)

theorem dsv_above {X : In Ideal} {j : ℕ} {r : Fin 4352} {k : Fin 256} (h : r.val < 256 * j) : dsv X j r k = 0 := by
  rw [dsv, pr_above h, zero_mul]

theorem Inv.start (X : In Ideal) (j : ℕ) (d : Vec Ideal S4352x256 .f32) : Inv X j d (256 * j) (startSt d) where
  dq r c := by
    by_cases h : r.val < 256 * j
    · rw [if_pos h, Finset.sum_eq_zero (fun k _ => by rw [dsv_above h, zero_mul]), add_zero]; rfl
    · rw [if_neg h]; rfl
  dk k c := by
    rw [Finset.sum_eq_zero (fun r hr => by
      rw [dkT]; split
      · rw [dsv_above (Finset.mem_range.mp hr), zero_mul]
      · rfl)]
    show k0_pay39 (F := Ideal) (ix2 k c) = 0
    pointwise [k0_pay39]
  dv k c := by
    rw [Finset.sum_eq_zero (fun r hr => by
      rw [dvT]; split
      · rw [pr_above (Finset.mem_range.mp hr), zero_mul]
      · rfl)]
    show k0_pay40 (F := Ideal) (ix2 k c) = 0
    pointwise [k0_pay40]

/-- A block read by its weights `p`, its score gradients `ds` and its rows `q`, `g` is a step. -/
theorem isStep_of {X : In Ideal} {j b w : ℕ} {s s' : St Ideal} (hb : b + w ≤ 4352)
    (p ds q : (⟨2, ![w, 256]⟩ : Shape).Idx → EReal) (g : (⟨2, ![w, 128]⟩ : Shape).Idx → EReal)
    (hp : ∀ (i : Fin w) (k : Fin 256), p (ix2 i k) = pr X j ⟨b + i.val, by omega⟩ k)
    (hds : ∀ (i : Fin w) (k : Fin 256), ds (ix2 i k) = dsv X j ⟨b + i.val, by omega⟩ k)
    (hq : ∀ (i : Fin w) (c : Fin 256), q (ix2 i c) = X.q (ix2 ⟨b + i.val, by omega⟩ c))
    (hg : ∀ (i : Fin w) (c : Fin 128), g (ix2 i c) = X.g (ix2 ⟨b + i.val, by omega⟩ c))
    (off size : Fin 2 → ℕ) (hoff : off = ![b, 0]) (hsize : size = ![w, 256]) (W : ((a : Fin 2) → Fin (size a)) → EReal)
    (hW : ∀ (z : (a : Fin 2) → Fin (size a)) (i : Fin w) (c : Fin 256), i.val = (z 0).val → c.val = (z 1).val →
      W z = s.dq (ix2 ⟨b + i.val, by omega⟩ c) + ∑ k : Fin 256, ds (ix2 i k) * X.k (ix2 k c))
    (hdq : s'.dq = VecWindow.put (s := S4352x256) s.dq off size W)
    (hdk : ∀ (k c : Fin 256), s'.dk (ix2 k c) = s.dk (ix2 k c) + ∑ i : Fin w, ds (ix2 i k) * q (ix2 i c))
    (hdv : ∀ (k : Fin 256) (c : Fin 128), s'.dv (ix2 k c) = s.dv (ix2 k c) + ∑ i : Fin w, p (ix2 i k) * g (ix2 i c)) :
    IsStep X j b w s s' where
  dq r c := by
    subst hoff hsize
    rw [hdq, VecWindow.put]
    by_cases h : b ≤ r.val ∧ r.val < b + w
    · have hh : ∀ a : Fin 2, (![b, 0] : Fin 2 → ℕ) a ≤ ((ix2 r c : S4352x256.Idx) a).val ∧ ((ix2 r c : S4352x256.Idx) a).val < (![b, 0] : Fin 2 → ℕ) a + (![w, 256] : Fin 2 → ℕ) a := by
        intro a; fin_cases a
        · exact h
        · exact ⟨Nat.zero_le _, by simpa using c.isLt⟩
      rw [dif_pos hh, if_pos h, hW _ ⟨r.val - b, by omega⟩ c rfl (by simp [Rect.unitLocal_val])]
      have e : (⟨b + (r.val - b), by omega⟩ : Fin 4352) = r := Fin.ext (by simp only; omega)
      refine congrArg₂ (· + ·) (by rw [e]) (Finset.sum_congr rfl fun k _ => ?_)
      rw [hds]
      simp only [e]
    · rw [dif_neg (fun hh => h (hh 0)), if_neg h]
  dk k c := by
    rw [hdk, Finset.sum_range]
    refine congrArg _ (Finset.sum_congr rfl fun i _ => ?_)
    rw [dkT, dif_pos (by omega), hds, hq]
  dv k c := by
    rw [hdv, Finset.sum_range]
    refine congrArg _ (Finset.sum_congr rfl fun i _ => ?_)
    rw [dvT, dif_pos (by omega), hp, hg]

/-- The mask of the diagonal block, as a comparison of places. -/
theorem mask_eq (j a b : ℕ) (hj : j < 17) (ha : a < 4352) (hb : b < 256) (x : EReal) :
    Scalar.select (IntOp.cmpi .sle (IntOp.addi (BitVec.ofNat 32 b) (Scalar.muli (BitVec.ofNat 32 j) 256#32))
      (IntOp.addi (BitVec.ofNat 32 a) (Scalar.muli (BitVec.ofNat 32 j) 256#32))) x 0 = if b ≤ a then x else 0 := by
  have h1 (n : ℕ) (hn : n < 4352) : (BitVec.ofNat 32 n + BitVec.ofNat 32 j * 256#32).toInt = (n + j * 256 : ℕ) := by
    rw [BitVec.toInt_eq_toNat_of_lt]
    · simp only [BitVec.toNat_add, BitVec.toNat_mul, BitVec.toNat_ofNat]; omega
    · simp only [BitVec.toNat_add, BitVec.toNat_mul, BitVec.toNat_ofNat]; omega
  have h2 : IntOp.cmpi .sle (IntOp.addi (BitVec.ofNat 32 b) (Scalar.muli (BitVec.ofNat 32 j) 256#32))
      (IntOp.addi (BitVec.ofNat 32 a) (Scalar.muli (BitVec.ofNat 32 j) 256#32)) = BitVec.ofBool (decide (b ≤ a)) := by
    show BitVec.ofBool (BitVec.sle (BitVec.ofNat 32 b + BitVec.ofNat 32 j * 256#32) (BitVec.ofNat 32 a + BitVec.ofNat 32 j * 256#32)) = _
    rw [BitVec.sle_eq_decide, h1 b (by omega), h1 a ha]
    congr 2
    exact propext ⟨fun h => by omega, fun h => by omega⟩
  rw [h2, Scalar.select]
  by_cases h : b ≤ a <;> simp [h]

/-- A rectangle of whole rows, read at a place. -/
theorem ld_rows {n m w : ℕ} {e : EltTy} (x : Vec Ideal ⟨2, ![n, m]⟩ e) {b : ℕ} (off size : Fin 2 → ℕ)
    (inb : ∀ a, off a + size a ≤ (⟨2, ![n, m]⟩ : Shape).size a) (hoff : off = ![b, 0])
    (z : (a : Fin 2) → Fin (size a)) (i : Fin w) (c : Fin m) (hi : i.val = (z 0).val) (hc : c.val = (z 1).val) (h : b + i.val < n) :
    View.ld x (Rect.unit (s := ⟨2, ![n, m]⟩) off size inb) z = x (ix2 ⟨b + i.val, h⟩ c) :=
  View.ld_unit_apply_of x off size inb z _ fun a => by
    subst hoff
    fin_cases a
    · show b + i.val = b + _
      rw [hi]; rfl
    · show c.val = 0 + _
      rw [hc, Nat.zero_add]; rfl

/-- A rectangle of whole rows of a rank-three array of one plane, read at a place. -/
theorem ld_rows3 {n m w : ℕ} {e : EltTy} (x : Vec Ideal ⟨3, ![1, n, m]⟩ e) {b : ℕ} (off size : Fin 3 → ℕ)
    (inb : ∀ a, off a + size a ≤ (⟨3, ![1, n, m]⟩ : Shape).size a) (hoff : off = ![0, b, 0])
    (z : (a : Fin 3) → Fin (size a)) (i : Fin w) (c : Fin m) (h0 : (z 0).val = 0) (hi : i.val = (z 1).val) (hc : c.val = (z 2).val) (h : b + i.val < n) :
    View.ld x (Rect.unit (s := ⟨3, ![1, n, m]⟩) off size inb) z = x (ix3 0 ⟨b + i.val, h⟩ c) :=
  View.ld_unit_apply_of x off size inb z _ fun a => by
    subst hoff
    fin_cases a
    · show 0 = 0 + _
      rw [Nat.zero_add]; exact h0.symm
    · show b + i.val = b + _
      rw [hi]; rfl
    · show c.val = 0 + _
      rw [hc, Nat.zero_add]; rfl

end Cert.KernelIdeal.Bwd

end
-- ==== Proof.SemA.lean ====
module

public import proofs.«01_k».proof.Proof.Sem
public import Idealize.ShloMosaic.Lib.Pointwise

@[expose] public section

set_option maxRecDepth 16384

noncomputable section

namespace Cert.KernelIdeal.Bwd

open Cert.KernelIdeal.Gen
open Idealize.ShloMosaic Idealize.ShloMosaic.Tactic

/-! ## The diagonal block of width 256 -/

theorem pay6_at (j : ℕ) (hj : j < 17) (k : Vec Ideal S256x256 .bf16) (q : Vec Ideal S256x256 .bf16) (l : Vec Ideal S1x256x128 .f32) (a : Fin 256) (b : Fin 256) :
    k0_pay6 (F := Ideal) (BitVec.ofNat 32 j) k q l (ix2 a b) = if b.val ≤ a.val then Ideal.exp ((∑ d : Fin 256, q (ix2 a d) * k (ix2 b d)) - l (ix3 0 a 0)) else 0 := by
  pointwise [k0_pay6]
  exact mask_eq j a.val b.val hj (by omega) b.isLt _

theorem pay7_at (j : ℕ) (k : Vec Ideal S256x256 .bf16) (v : Vec Ideal S256x128 .bf16) (q : Vec Ideal S256x256 .bf16) (g : Vec Ideal S256x128 .bf16) (o : Vec Ideal S256x128 .bf16) (l : Vec Ideal S1x256x128 .f32) (a : Fin 256) (b : Fin 256) :
    k0_pay7 (F := Ideal) (BitVec.ofNat 32 j) k v q g o l (ix2 a b) = k0_pay6 (F := Ideal) (BitVec.ofNat 32 j) k q l (ix2 a b)
      * ((∑ c : Fin 128, g (ix2 a c) * v (ix2 b c)) - ∑ c : Fin 128, g (ix2 a c) * o (ix2 a c)) := by
  pointwise [k0_pay7]

theorem pay8_at (j : ℕ) (k : Vec Ideal S256x256 .bf16) (q : Vec Ideal S256x256 .bf16) (g : Vec Ideal S256x128 .bf16) (l : Vec Ideal S1x256x128 .f32) (x : Vec Ideal S256x128 .f32) (b : Fin 256) (c : Fin 128) :
    k0_pay8 (F := Ideal) (BitVec.ofNat 32 j) k q g l x (ix2 b c) = x (ix2 b c) + ∑ i : Fin 256, k0_pay6 (F := Ideal) (BitVec.ofNat 32 j) k q l (ix2 i b) * g (ix2 i c) := by
  pointwise [k0_pay8]

theorem pay41_at (q : Vec Ideal S256x256 .bf16) (ds : Vec Ideal S256x256 .bf16) (x : Vec Ideal S256x256 .f32) (b c : Fin 256) :
    k0_pay41 (F := Ideal) q ds x (ix2 b c) = x (ix2 b c) + ∑ i : Fin 256, ds (ix2 i b) * q (ix2 i c) := by
  pointwise [k0_pay41]

theorem pay42_at (k : Vec Ideal S256x256 .bf16) (ds : Vec Ideal S256x256 .bf16) (x : Vec Ideal S256x256 .f32) (a : Fin 256) (c : Fin 256) :
    k0_pay42 (F := Ideal) k ds x (ix2 a c) = x (ix2 a c) + ∑ b : Fin 256, ds (ix2 a b) * k (ix2 b c) := by
  pointwise [k0_pay42]

theorem head1_facts : ∀ n : Fin 17, k0_off1 (pointOf n) = ![256 * n.val, 0] ∧ k0_off2 (pointOf n) = ![256 * n.val, 0]
    ∧ k0_off3 (pointOf n) = ![0, 256 * n.val, 0] ∧ (k0_cond2 (pointOf n) = 1#1 → (16 - n.val) % 8 + 1 = 1) := by
  decide +kernel

/-- The diagonal block of width 256 is a step. -/
theorem head1_step (i : grid0.Coords) (h : k0_cond2 i = 1#1) (X : In Ideal) (s : St Ideal) :
    IsStep X (i 1).val (256 * (i 1).val) 256 s (head1 i h X s) := by
  have hj : (i 1).val < 17 := (i 1).isLt
  obtain ⟨h1, h2, h3, h4⟩ := head1_facts (i 1)
  replace h1 : k0_off1 i = _ := h1
  replace h2 : k0_off2 i = _ := h2
  replace h3 : k0_off3 i = _ := h3
  have hN := h4 h
  have hb : 256 * (i 1).val + 256 ≤ 4352 := by omega
  generalize hB : 256 * (i 1).val = b at h1 h2 h3 hb ⊢
  let q : Vec Ideal S256x256 .bf16 := View.ld X.q (Rect.unit (s := S4352x256) (k0_off1 i) S256x256.size (k0_off1_inb i h))
  let g : Vec Ideal S256x128 .bf16 := View.ld X.g (Rect.unit (s := S4352x128) (k0_off2 i) S256x128.size (k0_off2_inb i h))
  let u : Vec Ideal S256x128 .bf16 := View.ld X.o (Rect.unit (s := S4352x128) (k0_off2 i) S256x128.size (k0_off2_inb i h))
  let l : Vec Ideal S1x256x128 .f32 := View.ld X.l (Rect.unit (s := S1x4352x128) (k0_off3 i) S1x256x128.size (k0_off3_inb i h))
  have hq (a : Fin 256) (c : Fin 256) : q (ix2 a c) = X.q (ix2 ⟨b + a.val, by omega⟩ c) := ld_rows X.q _ _ _ h1 _ a c rfl rfl _
  have hg (a : Fin 256) (c : Fin 128) : g (ix2 a c) = X.g (ix2 ⟨b + a.val, by omega⟩ c) := ld_rows X.g _ _ _ h2 _ a c rfl rfl _
  have hu (a : Fin 256) (c : Fin 128) : u (ix2 a c) = X.o (ix2 ⟨b + a.val, by omega⟩ c) := ld_rows X.o _ _ _ h2 _ a c rfl rfl _
  have hl (a : Fin 256) (c : Fin 128) : l (ix3 0 a c) = X.l (ix3 0 ⟨b + a.val, by omega⟩ c) := ld_rows3 X.l _ _ _ h3 _ a c rfl rfl rfl _
  have hp (a : Fin 256) (b' : Fin 256) : k0_pay6 (F := Ideal) (tileW i) X.k q l (ix2 a b') = pr X (i 1).val ⟨b + a.val, by omega⟩ b' := by
    rw [pay6_at _ hj, pr, scr]
    simp only [hq, hl, hB, Nat.add_le_add_iff_left]
  have hd (a : Fin 256) (b' : Fin 256) : k0_pay7 (F := Ideal) (tileW i) X.k X.v q g u l (ix2 a b') = dsv X (i 1).val ⟨b + a.val, by omega⟩ b' := by
    refine (pay7_at (i 1).val X.k X.v q g u l a b').trans ?_
    rw [hp, dsv]
    simp only [hg, hu]
  refine isStep_of hb (k0_pay6 (F := Ideal) (tileW i) X.k q l) (k0_pay7 (F := Ideal) (tileW i) X.k X.v q g u l) q g hp hd hq hg _ _ h1 rfl _ (fun z a c ha hc => ?_) rfl
    (fun c d => pay41_at q _ s.dk c d) (fun c d => pay8_at (i 1).val X.k q g l s.dv c d)
  have hz : z = (ix2 a c : (⟨2, ![256, 256]⟩ : Shape).Idx) := by
    funext x
    fin_cases x
    · exact Fin.ext ha.symm
    · exact Fin.ext hc.symm
  subst hz
  refine (pay42_at X.k _ _ a c).trans ?_
  exact congrArg (· + _) (ld_rows s.dq _ _ _ h1 _ a c rfl rfl _)

/-! ## The diagonal block of width 512 -/

theorem pay9_at (j : ℕ) (hj : j < 17) (k : Vec Ideal S256x256 .bf16) (q : Vec Ideal S512x256 .bf16) (l : Vec Ideal S1x512x128 .f32) (a : Fin 512) (b : Fin 256) :
    k0_pay9 (F := Ideal) (BitVec.ofNat 32 j) k q l (ix2 a b) = if b.val ≤ a.val then Ideal.exp ((∑ d : Fin 256, q (ix2 a d) * k (ix2 b d)) - l (ix3 0 a 0)) else 0 := by
  pointwise [k0_pay9]
  exact mask_eq j a.val b.val hj (by omega) b.isLt _

theorem pay10_at (j : ℕ) (k : Vec Ideal S256x256 .bf16) (v : Vec Ideal S256x128 .bf16) (q : Vec Ideal S512x256 .bf16) (g : Vec Ideal S512x128 .bf16) (o : Vec Ideal S512x128 .bf16) (l : Vec Ideal S1x512x128 .f32) (a : Fin 512) (b : Fin 256) :
    k0_pay10 (F := Ideal) (BitVec.ofNat 32 j) k v q g o l (ix2 a b) = k0_pay9 (F := Ideal) (BitVec.ofNat 32 j) k q l (ix2 a b)
      * ((∑ c : Fin 128, g (ix2 a c) * v (ix2 b c)) - ∑ c : Fin 128, g (ix2 a c) * o (ix2 a c)) := by
  pointwise [k0_pay10]

theorem pay11_at (j : ℕ) (k : Vec Ideal S256x256 .bf16) (q : Vec Ideal S512x256 .bf16) (g : Vec Ideal S512x128 .bf16) (l : Vec Ideal S1x512x128 .f32) (x : Vec Ideal S256x128 .f32) (b : Fin 256) (c : Fin 128) :
    k0_pay11 (F := Ideal) (BitVec.ofNat 32 j) k q g l x (ix2 b c) = x (ix2 b c) + ∑ i : Fin 512, k0_pay9 (F := Ideal) (BitVec.ofNat 32 j) k q l (ix2 i b) * g (ix2 i c) := by
  pointwise [k0_pay11]

theorem pay43_at (q : Vec Ideal S512x256 .bf16) (ds : Vec Ideal S512x256 .bf16) (x : Vec Ideal S256x256 .f32) (b c : Fin 256) :
    k0_pay43 (F := Ideal) q ds x (ix2 b c) = x (ix2 b c) + ∑ i : Fin 512, ds (ix2 i b) * q (ix2 i c) := by
  pointwise [k0_pay43]

theorem pay44_at (k : Vec Ideal S256x256 .bf16) (ds : Vec Ideal S512x256 .bf16) (x : Vec Ideal S512x256 .f32) (a : Fin 512) (c : Fin 256) :
    k0_pay44 (F := Ideal) k ds x (ix2 a c) = x (ix2 a c) + ∑ b : Fin 256, ds (ix2 a b) * k (ix2 b c) := by
  pointwise [k0_pay44]

theorem head2_facts : ∀ n : Fin 17, k0_off4 (pointOf n) = ![256 * n.val, 0] ∧ k0_off5 (pointOf n) = ![256 * n.val, 0]
    ∧ k0_off6 (pointOf n) = ![0, 256 * n.val, 0] ∧ (k0_cond3 (pointOf n) = 1#1 → (16 - n.val) % 8 + 1 = 2) := by
  decide +kernel

/-- The diagonal block of width 512 is a step. -/
theorem head2_step (i : grid0.Coords) (h : k0_cond3 i = 1#1) (X : In Ideal) (s : St Ideal) :
    IsStep X (i 1).val (256 * (i 1).val) 512 s (head2 i h X s) := by
  have hj : (i 1).val < 17 := (i 1).isLt
  obtain ⟨h1, h2, h3, h4⟩ := head2_facts (i 1)
  replace h1 : k0_off4 i = _ := h1
  replace h2 : k0_off5 i = _ := h2
  replace h3 : k0_off6 i = _ := h3
  have hN := h4 h
  have hb : 256 * (i 1).val + 512 ≤ 4352 := by omega
  generalize hB : 256 * (i 1).val = b at h1 h2 h3 hb ⊢
  let q : Vec Ideal S512x256 .bf16 := View.ld X.q (Rect.unit (s := S4352x256) (k0_off4 i) S512x256.size (k0_off4_inb i h))
  let g : Vec Ideal S512x128 .bf16 := View.ld X.g (Rect.unit (s := S4352x128) (k0_off5 i) S512x128.size (k0_off5_inb i h))
  let u : Vec Ideal S512x128 .bf16 := View.ld X.o (Rect.unit (s := S4352x128) (k0_off5 i) S512x128.size (k0_off5_inb i h))
  let l : Vec Ideal S1x512x128 .f32 := View.ld X.l (Rect.unit (s := S1x4352x128) (k0_off6 i) S1x512x128.size (k0_off6_inb i h))
  have hq (a : Fin 512) (c : Fin 256) : q (ix2 a c) = X.q (ix2 ⟨b + a.val, by omega⟩ c) := ld_rows X.q _ _ _ h1 _ a c rfl rfl _
  have hg (a : Fin 512) (c : Fin 128) : g (ix2 a c) = X.g (ix2 ⟨b + a.val, by omega⟩ c) := ld_rows X.g _ _ _ h2 _ a c rfl rfl _
  have hu (a : Fin 512) (c : Fin 128) : u (ix2 a c) = X.o (ix2 ⟨b + a.val, by omega⟩ c) := ld_rows X.o _ _ _ h2 _ a c rfl rfl _
  have hl (a : Fin 512) (c : Fin 128) : l (ix3 0 a c) = X.l (ix3 0 ⟨b + a.val, by omega⟩ c) := ld_rows3 X.l _ _ _ h3 _ a c rfl rfl rfl _
  have hp (a : Fin 512) (b' : Fin 256) : k0_pay9 (F := Ideal) (tileW i) X.k q l (ix2 a b') = pr X (i 1).val ⟨b + a.val, by omega⟩ b' := by
    rw [pay9_at _ hj, pr, scr]
    simp only [hq, hl, hB, Nat.add_le_add_iff_left]
  have hd (a : Fin 512) (b' : Fin 256) : k0_pay10 (F := Ideal) (tileW i) X.k X.v q g u l (ix2 a b') = dsv X (i 1).val ⟨b + a.val, by omega⟩ b' := by
    refine (pay10_at (i 1).val X.k X.v q g u l a b').trans ?_
    rw [hp, dsv]
    simp only [hg, hu]
  refine isStep_of hb (k0_pay9 (F := Ideal) (tileW i) X.k q l) (k0_pay10 (F := Ideal) (tileW i) X.k X.v q g u l) q g hp hd hq hg _ _ h1 rfl _ (fun z a c ha hc => ?_) rfl
    (fun c d => pay43_at q _ s.dk c d) (fun c d => pay11_at (i 1).val X.k q g l s.dv c d)
  have hz : z = (ix2 a c : (⟨2, ![512, 256]⟩ : Shape).Idx) := by
    funext x
    fin_cases x
    · exact Fin.ext ha.symm
    · exact Fin.ext hc.symm
  subst hz
  refine (pay44_at X.k _ _ a c).trans ?_
  exact congrArg (· + _) (ld_rows s.dq _ _ _ h1 _ a c rfl rfl _)

end Cert.KernelIdeal.Bwd

end
-- ==== Proof.SemB.lean ====
module

public import proofs.«01_k».proof.Proof.Sem
public import Idealize.ShloMosaic.Lib.Pointwise

@[expose] public section

set_option maxRecDepth 16384

noncomputable section

namespace Cert.KernelIdeal.Bwd

open Cert.KernelIdeal.Gen
open Idealize.ShloMosaic Idealize.ShloMosaic.Tactic

/-! ## The diagonal block of width 768 -/

theorem pay12_at (j : ℕ) (hj : j < 17) (k : Vec Ideal S256x256 .bf16) (q : Vec Ideal S768x256 .bf16) (l : Vec Ideal S1x768x128 .f32) (a : Fin 768) (b : Fin 256) :
    k0_pay12 (F := Ideal) (BitVec.ofNat 32 j) k q l (ix2 a b) = if b.val ≤ a.val then Ideal.exp ((∑ d : Fin 256, q (ix2 a d) * k (ix2 b d)) - l (ix3 0 a 0)) else 0 := by
  pointwise [k0_pay12]
  exact mask_eq j a.val b.val hj (by omega) b.isLt _

theorem pay13_at (j : ℕ) (k : Vec Ideal S256x256 .bf16) (v : Vec Ideal S256x128 .bf16) (q : Vec Ideal S768x256 .bf16) (g : Vec Ideal S768x128 .bf16) (o : Vec Ideal S768x128 .bf16) (l : Vec Ideal S1x768x128 .f32) (a : Fin 768) (b : Fin 256) :
    k0_pay13 (F := Ideal) (BitVec.ofNat 32 j) k v q g o l (ix2 a b) = k0_pay12 (F := Ideal) (BitVec.ofNat 32 j) k q l (ix2 a b)
      * ((∑ c : Fin 128, g (ix2 a c) * v (ix2 b c)) - ∑ c : Fin 128, g (ix2 a c) * o (ix2 a c)) := by
  pointwise [k0_pay13]

theorem pay14_at (j : ℕ) (k : Vec Ideal S256x256 .bf16) (q : Vec Ideal S768x256 .bf16) (g : Vec Ideal S768x128 .bf16) (l : Vec Ideal S1x768x128 .f32) (x : Vec Ideal S256x128 .f32) (b : Fin 256) (c : Fin 128) :
    k0_pay14 (F := Ideal) (BitVec.ofNat 32 j) k q g l x (ix2 b c) = x (ix2 b c) + ∑ i : Fin 768, k0_pay12 (F := Ideal) (BitVec.ofNat 32 j) k q l (ix2 i b) * g (ix2 i c) := by
  pointwise [k0_pay14]

theorem pay45_at (q : Vec Ideal S768x256 .bf16) (ds : Vec Ideal S768x256 .bf16) (x : Vec Ideal S256x256 .f32) (b c : Fin 256) :
    k0_pay45 (F := Ideal) q ds x (ix2 b c) = x (ix2 b c) + ∑ i : Fin 768, ds (ix2 i b) * q (ix2 i c) := by
  pointwise [k0_pay45]

theorem pay46_at (k : Vec Ideal S256x256 .bf16) (ds : Vec Ideal S768x256 .bf16) (x : Vec Ideal S768x256 .f32) (a : Fin 768) (c : Fin 256) :
    k0_pay46 (F := Ideal) k ds x (ix2 a c) = x (ix2 a c) + ∑ b : Fin 256, ds (ix2 a b) * k (ix2 b c) := by
  pointwise [k0_pay46]

theorem head3_facts : ∀ n : Fin 17, k0_off7 (pointOf n) = ![256 * n.val, 0] ∧ k0_off8 (pointOf n) = ![256 * n.val, 0]
    ∧ k0_off9 (pointOf n) = ![0, 256 * n.val, 0] ∧ (k0_cond4 (pointOf n) = 1#1 → (16 - n.val) % 8 + 1 = 3) := by
  decide +kernel

/-- The diagonal block of width 768 is a step. -/
theorem head3_step (i : grid0.Coords) (h : k0_cond4 i = 1#1) (X : In Ideal) (s : St Ideal) :
    IsStep X (i 1).val (256 * (i 1).val) 768 s (head3 i h X s) := by
  have hj : (i 1).val < 17 := (i 1).isLt
  obtain ⟨h1, h2, h3, h4⟩ := head3_facts (i 1)
  replace h1 : k0_off7 i = _ := h1
  replace h2 : k0_off8 i = _ := h2
  replace h3 : k0_off9 i = _ := h3
  have hN := h4 h
  have hb : 256 * (i 1).val + 768 ≤ 4352 := by omega
  generalize hB : 256 * (i 1).val = b at h1 h2 h3 hb ⊢
  let q : Vec Ideal S768x256 .bf16 := View.ld X.q (Rect.unit (s := S4352x256) (k0_off7 i) S768x256.size (k0_off7_inb i h))
  let g : Vec Ideal S768x128 .bf16 := View.ld X.g (Rect.unit (s := S4352x128) (k0_off8 i) S768x128.size (k0_off8_inb i h))
  let u : Vec Ideal S768x128 .bf16 := View.ld X.o (Rect.unit (s := S4352x128) (k0_off8 i) S768x128.size (k0_off8_inb i h))
  let l : Vec Ideal S1x768x128 .f32 := View.ld X.l (Rect.unit (s := S1x4352x128) (k0_off9 i) S1x768x128.size (k0_off9_inb i h))
  have hq (a : Fin 768) (c : Fin 256) : q (ix2 a c) = X.q (ix2 ⟨b + a.val, by omega⟩ c) := ld_rows X.q _ _ _ h1 _ a c rfl rfl _
  have hg (a : Fin 768) (c : Fin 128) : g (ix2 a c) = X.g (ix2 ⟨b + a.val, by omega⟩ c) := ld_rows X.g _ _ _ h2 _ a c rfl rfl _
  have hu (a : Fin 768) (c : Fin 128) : u (ix2 a c) = X.o (ix2 ⟨b + a.val, by omega⟩ c) := ld_rows X.o _ _ _ h2 _ a c rfl rfl _
  have hl (a : Fin 768) (c : Fin 128) : l (ix3 0 a c) = X.l (ix3 0 ⟨b + a.val, by omega⟩ c) := ld_rows3 X.l _ _ _ h3 _ a c rfl rfl rfl _
  have hp (a : Fin 768) (b' : Fin 256) : k0_pay12 (F := Ideal) (tileW i) X.k q l (ix2 a b') = pr X (i 1).val ⟨b + a.val, by omega⟩ b' := by
    rw [pay12_at _ hj, pr, scr]
    simp only [hq, hl, hB, Nat.add_le_add_iff_left]
  have hd (a : Fin 768) (b' : Fin 256) : k0_pay13 (F := Ideal) (tileW i) X.k X.v q g u l (ix2 a b') = dsv X (i 1).val ⟨b + a.val, by omega⟩ b' := by
    refine (pay13_at (i 1).val X.k X.v q g u l a b').trans ?_
    rw [hp, dsv]
    simp only [hg, hu]
  refine isStep_of hb (k0_pay12 (F := Ideal) (tileW i) X.k q l) (k0_pay13 (F := Ideal) (tileW i) X.k X.v q g u l) q g hp hd hq hg _ _ h1 rfl _ (fun z a c ha hc => ?_) rfl
    (fun c d => pay45_at q _ s.dk c d) (fun c d => pay14_at (i 1).val X.k q g l s.dv c d)
  have hz : z = (ix2 a c : (⟨2, ![768, 256]⟩ : Shape).Idx) := by
    funext x
    fin_cases x
    · exact Fin.ext ha.symm
    · exact Fin.ext hc.symm
  subst hz
  refine (pay46_at X.k _ _ a c).trans ?_
  exact congrArg (· + _) (ld_rows s.dq _ _ _ h1 _ a c rfl rfl _)

/-! ## The diagonal block of width 1024 -/

theorem pay15_at (j : ℕ) (hj : j < 17) (k : Vec Ideal S256x256 .bf16) (q : Vec Ideal S1024x256 .bf16) (l : Vec Ideal S1x1024x128 .f32) (a : Fin 1024) (b : Fin 256) :
    k0_pay15 (F := Ideal) (BitVec.ofNat 32 j) k q l (ix2 a b) = if b.val ≤ a.val then Ideal.exp ((∑ d : Fin 256, q (ix2 a d) * k (ix2 b d)) - l (ix3 0 a 0)) else 0 := by
  pointwise [k0_pay15]
  exact mask_eq j a.val b.val hj (by omega) b.isLt _

theorem pay16_at (j : ℕ) (k : Vec Ideal S256x256 .bf16) (v : Vec Ideal S256x128 .bf16) (q : Vec Ideal S1024x256 .bf16) (g : Vec Ideal S1024x128 .bf16) (o : Vec Ideal S1024x128 .bf16) (l : Vec Ideal S1x1024x128 .f32) (a : Fin 1024) (b : Fin 256) :
    k0_pay16 (F := Ideal) (BitVec.ofNat 32 j) k v q g o l (ix2 a b) = k0_pay15 (F := Ideal) (BitVec.ofNat 32 j) k q l (ix2 a b)
      * ((∑ c : Fin 128, g (ix2 a c) * v (ix2 b c)) - ∑ c : Fin 128, g (ix2 a c) * o (ix2 a c)) := by
  pointwise [k0_pay16]

theorem pay17_at (j : ℕ) (k : Vec Ideal S256x256 .bf16) (q : Vec Ideal S1024x256 .bf16) (g : Vec Ideal S1024x128 .bf16) (l : Vec Ideal S1x1024x128 .f32) (x : Vec Ideal S256x128 .f32) (b : Fin 256) (c : Fin 128) :
    k0_pay17 (F := Ideal) (BitVec.ofNat 32 j) k q g l x (ix2 b c) = x (ix2 b c) + ∑ i : Fin 1024, k0_pay15 (F := Ideal) (BitVec.ofNat 32 j) k q l (ix2 i b) * g (ix2 i c) := by
  pointwise [k0_pay17]

theorem pay47_at (q : Vec Ideal S1024x256 .bf16) (ds : Vec Ideal S1024x256 .bf16) (x : Vec Ideal S256x256 .f32) (b c : Fin 256) :
    k0_pay47 (F := Ideal) q ds x (ix2 b c) = x (ix2 b c) + ∑ i : Fin 1024, ds (ix2 i b) * q (ix2 i c) := by
  pointwise [k0_pay47]

theorem pay48_at (k : Vec Ideal S256x256 .bf16) (ds : Vec Ideal S1024x256 .bf16) (x : Vec Ideal S1024x256 .f32) (a : Fin 1024) (c : Fin 256) :
    k0_pay48 (F := Ideal) k ds x (ix2 a c) = x (ix2 a c) + ∑ b : Fin 256, ds (ix2 a b) * k (ix2 b c) := by
  pointwise [k0_pay48]

theorem head4_facts : ∀ n : Fin 17, k0_off10 (pointOf n) = ![256 * n.val, 0] ∧ k0_off11 (pointOf n) = ![256 * n.val, 0]
    ∧ k0_off12 (pointOf n) = ![0, 256 * n.val, 0] ∧ (k0_cond5 (pointOf n) = 1#1 → (16 - n.val) % 8 + 1 = 4) := by
  decide +kernel

/-- The diagonal block of width 1024 is a step. -/
theorem head4_step (i : grid0.Coords) (h : k0_cond5 i = 1#1) (X : In Ideal) (s : St Ideal) :
    IsStep X (i 1).val (256 * (i 1).val) 1024 s (head4 i h X s) := by
  have hj : (i 1).val < 17 := (i 1).isLt
  obtain ⟨h1, h2, h3, h4⟩ := head4_facts (i 1)
  replace h1 : k0_off10 i = _ := h1
  replace h2 : k0_off11 i = _ := h2
  replace h3 : k0_off12 i = _ := h3
  have hN := h4 h
  have hb : 256 * (i 1).val + 1024 ≤ 4352 := by omega
  generalize hB : 256 * (i 1).val = b at h1 h2 h3 hb ⊢
  let q : Vec Ideal S1024x256 .bf16 := View.ld X.q (Rect.unit (s := S4352x256) (k0_off10 i) S1024x256.size (k0_off10_inb i h))
  let g : Vec Ideal S1024x128 .bf16 := View.ld X.g (Rect.unit (s := S4352x128) (k0_off11 i) S1024x128.size (k0_off11_inb i h))
  let u : Vec Ideal S1024x128 .bf16 := View.ld X.o (Rect.unit (s := S4352x128) (k0_off11 i) S1024x128.size (k0_off11_inb i h))
  let l : Vec Ideal S1x1024x128 .f32 := View.ld X.l (Rect.unit (s := S1x4352x128) (k0_off12 i) S1x1024x128.size (k0_off12_inb i h))
  have hq (a : Fin 1024) (c : Fin 256) : q (ix2 a c) = X.q (ix2 ⟨b + a.val, by omega⟩ c) := ld_rows X.q _ _ _ h1 _ a c rfl rfl _
  have hg (a : Fin 1024) (c : Fin 128) : g (ix2 a c) = X.g (ix2 ⟨b + a.val, by omega⟩ c) := ld_rows X.g _ _ _ h2 _ a c rfl rfl _
  have hu (a : Fin 1024) (c : Fin 128) : u (ix2 a c) = X.o (ix2 ⟨b + a.val, by omega⟩ c) := ld_rows X.o _ _ _ h2 _ a c rfl rfl _
  have hl (a : Fin 1024) (c : Fin 128) : l (ix3 0 a c) = X.l (ix3 0 ⟨b + a.val, by omega⟩ c) := ld_rows3 X.l _ _ _ h3 _ a c rfl rfl rfl _
  have hp (a : Fin 1024) (b' : Fin 256) : k0_pay15 (F := Ideal) (tileW i) X.k q l (ix2 a b') = pr X (i 1).val ⟨b + a.val, by omega⟩ b' := by
    rw [pay15_at _ hj, pr, scr]
    simp only [hq, hl, hB, Nat.add_le_add_iff_left]
  have hd (a : Fin 1024) (b' : Fin 256) : k0_pay16 (F := Ideal) (tileW i) X.k X.v q g u l (ix2 a b') = dsv X (i 1).val ⟨b + a.val, by omega⟩ b' := by
    refine (pay16_at (i 1).val X.k X.v q g u l a b').trans ?_
    rw [hp, dsv]
    simp only [hg, hu]
  refine isStep_of hb (k0_pay15 (F := Ideal) (tileW i) X.k q l) (k0_pay16 (F := Ideal) (tileW i) X.k X.v q g u l) q g hp hd hq hg _ _ h1 rfl _ (fun z a c ha hc => ?_) rfl
    (fun c d => pay47_at q _ s.dk c d) (fun c d => pay17_at (i 1).val X.k q g l s.dv c d)
  have hz : z = (ix2 a c : (⟨2, ![1024, 256]⟩ : Shape).Idx) := by
    funext x
    fin_cases x
    · exact Fin.ext ha.symm
    · exact Fin.ext hc.symm
  subst hz
  refine (pay48_at X.k _ _ a c).trans ?_
  exact congrArg (· + _) (ld_rows s.dq _ _ _ h1 _ a c rfl rfl _)

end Cert.KernelIdeal.Bwd

end
-- ==== Proof.SemC.lean ====
module

public import proofs.«01_k».proof.Proof.Sem
public import Idealize.ShloMosaic.Lib.Pointwise

@[expose] public section

set_option maxRecDepth 16384

noncomputable section

namespace Cert.KernelIdeal.Bwd

open Cert.KernelIdeal.Gen
open Idealize.ShloMosaic Idealize.ShloMosaic.Tactic

/-! ## The diagonal block of width 1280 -/

theorem pay18_at (j : ℕ) (hj : j < 17) (k : Vec Ideal S256x256 .bf16) (q : Vec Ideal S1280x256 .bf16) (l : Vec Ideal S1x1280x128 .f32) (a : Fin 1280) (b : Fin 256) :
    k0_pay18 (F := Ideal) (BitVec.ofNat 32 j) k q l (ix2 a b) = if b.val ≤ a.val then Ideal.exp ((∑ d : Fin 256, q (ix2 a d) * k (ix2 b d)) - l (ix3 0 a 0)) else 0 := by
  pointwise [k0_pay18]
  exact mask_eq j a.val b.val hj (by omega) b.isLt _

theorem pay19_at (j : ℕ) (k : Vec Ideal S256x256 .bf16) (v : Vec Ideal S256x128 .bf16) (q : Vec Ideal S1280x256 .bf16) (g : Vec Ideal S1280x128 .bf16) (o : Vec Ideal S1280x128 .bf16) (l : Vec Ideal S1x1280x128 .f32) (a : Fin 1280) (b : Fin 256) :
    k0_pay19 (F := Ideal) (BitVec.ofNat 32 j) k v q g o l (ix2 a b) = k0_pay18 (F := Ideal) (BitVec.ofNat 32 j) k q l (ix2 a b)
      * ((∑ c : Fin 128, g (ix2 a c) * v (ix2 b c)) - ∑ c : Fin 128, g (ix2 a c) * o (ix2 a c)) := by
  pointwise [k0_pay19]

theorem pay20_at (j : ℕ) (k : Vec Ideal S256x256 .bf16) (q : Vec Ideal S1280x256 .bf16) (g : Vec Ideal S1280x128 .bf16) (l : Vec Ideal S1x1280x128 .f32) (x : Vec Ideal S256x128 .f32) (b : Fin 256) (c : Fin 128) :
    k0_pay20 (F := Ideal) (BitVec.ofNat 32 j) k q g l x (ix2 b c) = x (ix2 b c) + ∑ i : Fin 1280, k0_pay18 (F := Ideal) (BitVec.ofNat 32 j) k q l (ix2 i b) * g (ix2 i c) := by
  pointwise [k0_pay20]

theorem pay49_at (q : Vec Ideal S1280x256 .bf16) (ds : Vec Ideal S1280x256 .bf16) (x : Vec Ideal S256x256 .f32) (b c : Fin 256) :
    k0_pay49 (F := Ideal) q ds x (ix2 b c) = x (ix2 b c) + ∑ i : Fin 1280, ds (ix2 i b) * q (ix2 i c) := by
  pointwise [k0_pay49]

theorem pay50_at (k : Vec Ideal S256x256 .bf16) (ds : Vec Ideal S1280x256 .bf16) (x : Vec Ideal S1280x256 .f32) (a : Fin 1280) (c : Fin 256) :
    k0_pay50 (F := Ideal) k ds x (ix2 a c) = x (ix2 a c) + ∑ b : Fin 256, ds (ix2 a b) * k (ix2 b c) := by
  pointwise [k0_pay50]

theorem head5_facts : ∀ n : Fin 17, k0_off13 (pointOf n) = ![256 * n.val, 0] ∧ k0_off14 (pointOf n) = ![256 * n.val, 0]
    ∧ k0_off15 (pointOf n) = ![0, 256 * n.val, 0] ∧ (k0_cond6 (pointOf n) = 1#1 → (16 - n.val) % 8 + 1 = 5) := by
  decide +kernel

/-- The diagonal block of width 1280 is a step. -/
theorem head5_step (i : grid0.Coords) (h : k0_cond6 i = 1#1) (X : In Ideal) (s : St Ideal) :
    IsStep X (i 1).val (256 * (i 1).val) 1280 s (head5 i h X s) := by
  have hj : (i 1).val < 17 := (i 1).isLt
  obtain ⟨h1, h2, h3, h4⟩ := head5_facts (i 1)
  replace h1 : k0_off13 i = _ := h1
  replace h2 : k0_off14 i = _ := h2
  replace h3 : k0_off15 i = _ := h3
  have hN := h4 h
  have hb : 256 * (i 1).val + 1280 ≤ 4352 := by omega
  generalize hB : 256 * (i 1).val = b at h1 h2 h3 hb ⊢
  let q : Vec Ideal S1280x256 .bf16 := View.ld X.q (Rect.unit (s := S4352x256) (k0_off13 i) S1280x256.size (k0_off13_inb i h))
  let g : Vec Ideal S1280x128 .bf16 := View.ld X.g (Rect.unit (s := S4352x128) (k0_off14 i) S1280x128.size (k0_off14_inb i h))
  let u : Vec Ideal S1280x128 .bf16 := View.ld X.o (Rect.unit (s := S4352x128) (k0_off14 i) S1280x128.size (k0_off14_inb i h))
  let l : Vec Ideal S1x1280x128 .f32 := View.ld X.l (Rect.unit (s := S1x4352x128) (k0_off15 i) S1x1280x128.size (k0_off15_inb i h))
  have hq (a : Fin 1280) (c : Fin 256) : q (ix2 a c) = X.q (ix2 ⟨b + a.val, by omega⟩ c) := ld_rows X.q _ _ _ h1 _ a c rfl rfl _
  have hg (a : Fin 1280) (c : Fin 128) : g (ix2 a c) = X.g (ix2 ⟨b + a.val, by omega⟩ c) := ld_rows X.g _ _ _ h2 _ a c rfl rfl _
  have hu (a : Fin 1280) (c : Fin 128) : u (ix2 a c) = X.o (ix2 ⟨b + a.val, by omega⟩ c) := ld_rows X.o _ _ _ h2 _ a c rfl rfl _
  have hl (a : Fin 1280) (c : Fin 128) : l (ix3 0 a c) = X.l (ix3 0 ⟨b + a.val, by omega⟩ c) := ld_rows3 X.l _ _ _ h3 _ a c rfl rfl rfl _
  have hp (a : Fin 1280) (b' : Fin 256) : k0_pay18 (F := Ideal) (tileW i) X.k q l (ix2 a b') = pr X (i 1).val ⟨b + a.val, by omega⟩ b' := by
    rw [pay18_at _ hj, pr, scr]
    simp only [hq, hl, hB, Nat.add_le_add_iff_left]
  have hd (a : Fin 1280) (b' : Fin 256) : k0_pay19 (F := Ideal) (tileW i) X.k X.v q g u l (ix2 a b') = dsv X (i 1).val ⟨b + a.val, by omega⟩ b' := by
    refine (pay19_at (i 1).val X.k X.v q g u l a b').trans ?_
    rw [hp, dsv]
    simp only [hg, hu]
  refine isStep_of hb (k0_pay18 (F := Ideal) (tileW i) X.k q l) (k0_pay19 (F := Ideal) (tileW i) X.k X.v q g u l) q g hp hd hq hg _ _ h1 rfl _ (fun z a c ha hc => ?_) rfl
    (fun c d => pay49_at q _ s.dk c d) (fun c d => pay20_at (i 1).val X.k q g l s.dv c d)
  have hz : z = (ix2 a c : (⟨2, ![1280, 256]⟩ : Shape).Idx) := by
    funext x
    fin_cases x
    · exact Fin.ext ha.symm
    · exact Fin.ext hc.symm
  subst hz
  refine (pay50_at X.k _ _ a c).trans ?_
  exact congrArg (· + _) (ld_rows s.dq _ _ _ h1 _ a c rfl rfl _)

/-! ## The diagonal block of width 1536 -/

theorem pay21_at (j : ℕ) (hj : j < 17) (k : Vec Ideal S256x256 .bf16) (q : Vec Ideal S1536x256 .bf16) (l : Vec Ideal S1x1536x128 .f32) (a : Fin 1536) (b : Fin 256) :
    k0_pay21 (F := Ideal) (BitVec.ofNat 32 j) k q l (ix2 a b) = if b.val ≤ a.val then Ideal.exp ((∑ d : Fin 256, q (ix2 a d) * k (ix2 b d)) - l (ix3 0 a 0)) else 0 := by
  pointwise [k0_pay21]
  exact mask_eq j a.val b.val hj (by omega) b.isLt _

theorem pay22_at (j : ℕ) (k : Vec Ideal S256x256 .bf16) (v : Vec Ideal S256x128 .bf16) (q : Vec Ideal S1536x256 .bf16) (g : Vec Ideal S1536x128 .bf16) (o : Vec Ideal S1536x128 .bf16) (l : Vec Ideal S1x1536x128 .f32) (a : Fin 1536) (b : Fin 256) :
    k0_pay22 (F := Ideal) (BitVec.ofNat 32 j) k v q g o l (ix2 a b) = k0_pay21 (F := Ideal) (BitVec.ofNat 32 j) k q l (ix2 a b)
      * ((∑ c : Fin 128, g (ix2 a c) * v (ix2 b c)) - ∑ c : Fin 128, g (ix2 a c) * o (ix2 a c)) := by
  pointwise [k0_pay22]

theorem pay23_at (j : ℕ) (k : Vec Ideal S256x256 .bf16) (q : Vec Ideal S1536x256 .bf16) (g : Vec Ideal S1536x128 .bf16) (l : Vec Ideal S1x1536x128 .f32) (x : Vec Ideal S256x128 .f32) (b : Fin 256) (c : Fin 128) :
    k0_pay23 (F := Ideal) (BitVec.ofNat 32 j) k q g l x (ix2 b c) = x (ix2 b c) + ∑ i : Fin 1536, k0_pay21 (F := Ideal) (BitVec.ofNat 32 j) k q l (ix2 i b) * g (ix2 i c) := by
  pointwise [k0_pay23]

theorem pay51_at (q : Vec Ideal S1536x256 .bf16) (ds : Vec Ideal S1536x256 .bf16) (x : Vec Ideal S256x256 .f32) (b c : Fin 256) :
    k0_pay51 (F := Ideal) q ds x (ix2 b c) = x (ix2 b c) + ∑ i : Fin 1536, ds (ix2 i b) * q (ix2 i c) := by
  pointwise [k0_pay51]

theorem pay52_at (k : Vec Ideal S256x256 .bf16) (ds : Vec Ideal S1536x256 .bf16) (x : Vec Ideal S1536x256 .f32) (a : Fin 1536) (c : Fin 256) :
    k0_pay52 (F := Ideal) k ds x (ix2 a c) = x (ix2 a c) + ∑ b : Fin 256, ds (ix2 a b) * k (ix2 b c) := by
  pointwise [k0_pay52]

theorem head6_facts : ∀ n : Fin 17, k0_off16 (pointOf n) = ![256 * n.val, 0] ∧ k0_off17 (pointOf n) = ![256 * n.val, 0]
    ∧ k0_off18 (pointOf n) = ![0, 256 * n.val, 0] ∧ (k0_cond7 (pointOf n) = 1#1 → (16 - n.val) % 8 + 1 = 6) := by
  decide +kernel

/-- The diagonal block of width 1536 is a step. -/
theorem head6_step (i : grid0.Coords) (h : k0_cond7 i = 1#1) (X : In Ideal) (s : St Ideal) :
    IsStep X (i 1).val (256 * (i 1).val) 1536 s (head6 i h X s) := by
  have hj : (i 1).val < 17 := (i 1).isLt
  obtain ⟨h1, h2, h3, h4⟩ := head6_facts (i 1)
  replace h1 : k0_off16 i = _ := h1
  replace h2 : k0_off17 i = _ := h2
  replace h3 : k0_off18 i = _ := h3
  have hN := h4 h
  have hb : 256 * (i 1).val + 1536 ≤ 4352 := by omega
  generalize hB : 256 * (i 1).val = b at h1 h2 h3 hb ⊢
  let q : Vec Ideal S1536x256 .bf16 := View.ld X.q (Rect.unit (s := S4352x256) (k0_off16 i) S1536x256.size (k0_off16_inb i h))
  let g : Vec Ideal S1536x128 .bf16 := View.ld X.g (Rect.unit (s := S4352x128) (k0_off17 i) S1536x128.size (k0_off17_inb i h))
  let u : Vec Ideal S1536x128 .bf16 := View.ld X.o (Rect.unit (s := S4352x128) (k0_off17 i) S1536x128.size (k0_off17_inb i h))
  let l : Vec Ideal S1x1536x128 .f32 := View.ld X.l (Rect.unit (s := S1x4352x128) (k0_off18 i) S1x1536x128.size (k0_off18_inb i h))
  have hq (a : Fin 1536) (c : Fin 256) : q (ix2 a c) = X.q (ix2 ⟨b + a.val, by omega⟩ c) := ld_rows X.q _ _ _ h1 _ a c rfl rfl _
  have hg (a : Fin 1536) (c : Fin 128) : g (ix2 a c) = X.g (ix2 ⟨b + a.val, by omega⟩ c) := ld_rows X.g _ _ _ h2 _ a c rfl rfl _
  have hu (a : Fin 1536) (c : Fin 128) : u (ix2 a c) = X.o (ix2 ⟨b + a.val, by omega⟩ c) := ld_rows X.o _ _ _ h2 _ a c rfl rfl _
  have hl (a : Fin 1536) (c : Fin 128) : l (ix3 0 a c) = X.l (ix3 0 ⟨b + a.val, by omega⟩ c) := ld_rows3 X.l _ _ _ h3 _ a c rfl rfl rfl _
  have hp (a : Fin 1536) (b' : Fin 256) : k0_pay21 (F := Ideal) (tileW i) X.k q l (ix2 a b') = pr X (i 1).val ⟨b + a.val, by omega⟩ b' := by
    rw [pay21_at _ hj, pr, scr]
    simp only [hq, hl, hB, Nat.add_le_add_iff_left]
  have hd (a : Fin 1536) (b' : Fin 256) : k0_pay22 (F := Ideal) (tileW i) X.k X.v q g u l (ix2 a b') = dsv X (i 1).val ⟨b + a.val, by omega⟩ b' := by
    refine (pay22_at (i 1).val X.k X.v q g u l a b').trans ?_
    rw [hp, dsv]
    simp only [hg, hu]
  refine isStep_of hb (k0_pay21 (F := Ideal) (tileW i) X.k q l) (k0_pay22 (F := Ideal) (tileW i) X.k X.v q g u l) q g hp hd hq hg _ _ h1 rfl _ (fun z a c ha hc => ?_) rfl
    (fun c d => pay51_at q _ s.dk c d) (fun c d => pay23_at (i 1).val X.k q g l s.dv c d)
  have hz : z = (ix2 a c : (⟨2, ![1536, 256]⟩ : Shape).Idx) := by
    funext x
    fin_cases x
    · exact Fin.ext ha.symm
    · exact Fin.ext hc.symm
  subst hz
  refine (pay52_at X.k _ _ a c).trans ?_
  exact congrArg (· + _) (ld_rows s.dq _ _ _ h1 _ a c rfl rfl _)

end Cert.KernelIdeal.Bwd

end
-- ==== Proof.SemD.lean ====
module

public import proofs.«01_k».proof.Proof.Sem
public import Idealize.ShloMosaic.Lib.Pointwise

@[expose] public section

set_option maxRecDepth 16384

noncomputable section

namespace Cert.KernelIdeal.Bwd

open Cert.KernelIdeal.Gen
open Idealize.ShloMosaic Idealize.ShloMosaic.Tactic

/-! ## The diagonal block of width 1792 -/

theorem pay24_at (j : ℕ) (hj : j < 17) (k : Vec Ideal S256x256 .bf16) (q : Vec Ideal S1792x256 .bf16) (l : Vec Ideal S1x1792x128 .f32) (a : Fin 1792) (b : Fin 256) :
    k0_pay24 (F := Ideal) (BitVec.ofNat 32 j) k q l (ix2 a b) = if b.val ≤ a.val then Ideal.exp ((∑ d : Fin 256, q (ix2 a d) * k (ix2 b d)) - l (ix3 0 a 0)) else 0 := by
  pointwise [k0_pay24]
  exact mask_eq j a.val b.val hj (by omega) b.isLt _

theorem pay25_at (j : ℕ) (k : Vec Ideal S256x256 .bf16) (v : Vec Ideal S256x128 .bf16) (q : Vec Ideal S1792x256 .bf16) (g : Vec Ideal S1792x128 .bf16) (o : Vec Ideal S1792x128 .bf16) (l : Vec Ideal S1x1792x128 .f32) (a : Fin 1792) (b : Fin 256) :
    k0_pay25 (F := Ideal) (BitVec.ofNat 32 j) k v q g o l (ix2 a b) = k0_pay24 (F := Ideal) (BitVec.ofNat 32 j) k q l (ix2 a b)
      * ((∑ c : Fin 128, g (ix2 a c) * v (ix2 b c)) - ∑ c : Fin 128, g (ix2 a c) * o (ix2 a c)) := by
  pointwise [k0_pay25]

theorem pay26_at (j : ℕ) (k : Vec Ideal S256x256 .bf16) (q : Vec Ideal S1792x256 .bf16) (g : Vec Ideal S1792x128 .bf16) (l : Vec Ideal S1x1792x128 .f32) (x : Vec Ideal S256x128 .f32) (b : Fin 256) (c : Fin 128) :
    k0_pay26 (F := Ideal) (BitVec.ofNat 32 j) k q g l x (ix2 b c) = x (ix2 b c) + ∑ i : Fin 1792, k0_pay24 (F := Ideal) (BitVec.ofNat 32 j) k q l (ix2 i b) * g (ix2 i c) := by
  pointwise [k0_pay26]

theorem pay53_at (q : Vec Ideal S1792x256 .bf16) (ds : Vec Ideal S1792x256 .bf16) (x : Vec Ideal S256x256 .f32) (b c : Fin 256) :
    k0_pay53 (F := Ideal) q ds x (ix2 b c) = x (ix2 b c) + ∑ i : Fin 1792, ds (ix2 i b) * q (ix2 i c) := by
  pointwise [k0_pay53]

theorem pay54_at (k : Vec Ideal S256x256 .bf16) (ds : Vec Ideal S1792x256 .bf16) (x : Vec Ideal S1792x256 .f32) (a : Fin 1792) (c : Fin 256) :
    k0_pay54 (F := Ideal) k ds x (ix2 a c) = x (ix2 a c) + ∑ b : Fin 256, ds (ix2 a b) * k (ix2 b c) := by
  pointwise [k0_pay54]

theorem head7_facts : ∀ n : Fin 17, k0_off19 (pointOf n) = ![256 * n.val, 0] ∧ k0_off20 (pointOf n) = ![256 * n.val, 0]
    ∧ k0_off21 (pointOf n) = ![0, 256 * n.val, 0] ∧ (k0_cond8 (pointOf n) = 1#1 → (16 - n.val) % 8 + 1 = 7) := by
  decide +kernel

/-- The diagonal block of width 1792 is a step. -/
theorem head7_step (i : grid0.Coords) (h : k0_cond8 i = 1#1) (X : In Ideal) (s : St Ideal) :
    IsStep X (i 1).val (256 * (i 1).val) 1792 s (head7 i h X s) := by
  have hj : (i 1).val < 17 := (i 1).isLt
  obtain ⟨h1, h2, h3, h4⟩ := head7_facts (i 1)
  replace h1 : k0_off19 i = _ := h1
  replace h2 : k0_off20 i = _ := h2
  replace h3 : k0_off21 i = _ := h3
  have hN := h4 h
  have hb : 256 * (i 1).val + 1792 ≤ 4352 := by omega
  generalize hB : 256 * (i 1).val = b at h1 h2 h3 hb ⊢
  let q : Vec Ideal S1792x256 .bf16 := View.ld X.q (Rect.unit (s := S4352x256) (k0_off19 i) S1792x256.size (k0_off19_inb i h))
  let g : Vec Ideal S1792x128 .bf16 := View.ld X.g (Rect.unit (s := S4352x128) (k0_off20 i) S1792x128.size (k0_off20_inb i h))
  let u : Vec Ideal S1792x128 .bf16 := View.ld X.o (Rect.unit (s := S4352x128) (k0_off20 i) S1792x128.size (k0_off20_inb i h))
  let l : Vec Ideal S1x1792x128 .f32 := View.ld X.l (Rect.unit (s := S1x4352x128) (k0_off21 i) S1x1792x128.size (k0_off21_inb i h))
  have hq (a : Fin 1792) (c : Fin 256) : q (ix2 a c) = X.q (ix2 ⟨b + a.val, by omega⟩ c) := ld_rows X.q _ _ _ h1 _ a c rfl rfl _
  have hg (a : Fin 1792) (c : Fin 128) : g (ix2 a c) = X.g (ix2 ⟨b + a.val, by omega⟩ c) := ld_rows X.g _ _ _ h2 _ a c rfl rfl _
  have hu (a : Fin 1792) (c : Fin 128) : u (ix2 a c) = X.o (ix2 ⟨b + a.val, by omega⟩ c) := ld_rows X.o _ _ _ h2 _ a c rfl rfl _
  have hl (a : Fin 1792) (c : Fin 128) : l (ix3 0 a c) = X.l (ix3 0 ⟨b + a.val, by omega⟩ c) := ld_rows3 X.l _ _ _ h3 _ a c rfl rfl rfl _
  have hp (a : Fin 1792) (b' : Fin 256) : k0_pay24 (F := Ideal) (tileW i) X.k q l (ix2 a b') = pr X (i 1).val ⟨b + a.val, by omega⟩ b' := by
    rw [pay24_at _ hj, pr, scr]
    simp only [hq, hl, hB, Nat.add_le_add_iff_left]
  have hd (a : Fin 1792) (b' : Fin 256) : k0_pay25 (F := Ideal) (tileW i) X.k X.v q g u l (ix2 a b') = dsv X (i 1).val ⟨b + a.val, by omega⟩ b' := by
    refine (pay25_at (i 1).val X.k X.v q g u l a b').trans ?_
    rw [hp, dsv]
    simp only [hg, hu]
  refine isStep_of hb (k0_pay24 (F := Ideal) (tileW i) X.k q l) (k0_pay25 (F := Ideal) (tileW i) X.k X.v q g u l) q g hp hd hq hg _ _ h1 rfl _ (fun z a c ha hc => ?_) rfl
    (fun c d => pay53_at q _ s.dk c d) (fun c d => pay26_at (i 1).val X.k q g l s.dv c d)
  have hz : z = (ix2 a c : (⟨2, ![1792, 256]⟩ : Shape).Idx) := by
    funext x
    fin_cases x
    · exact Fin.ext ha.symm
    · exact Fin.ext hc.symm
  subst hz
  refine (pay54_at X.k _ _ a c).trans ?_
  exact congrArg (· + _) (ld_rows s.dq _ _ _ h1 _ a c rfl rfl _)

/-! ## The diagonal block of width 2048 -/

theorem pay27_at (j : ℕ) (hj : j < 17) (k : Vec Ideal S256x256 .bf16) (q : Vec Ideal S2048x256 .bf16) (l : Vec Ideal S1x2048x128 .f32) (a : Fin 2048) (b : Fin 256) :
    k0_pay27 (F := Ideal) (BitVec.ofNat 32 j) k q l (ix2 a b) = if b.val ≤ a.val then Ideal.exp ((∑ d : Fin 256, q (ix2 a d) * k (ix2 b d)) - l (ix3 0 a 0)) else 0 := by
  pointwise [k0_pay27]
  exact mask_eq j a.val b.val hj (by omega) b.isLt _

theorem pay28_at (j : ℕ) (k : Vec Ideal S256x256 .bf16) (v : Vec Ideal S256x128 .bf16) (q : Vec Ideal S2048x256 .bf16) (g : Vec Ideal S2048x128 .bf16) (o : Vec Ideal S2048x128 .bf16) (l : Vec Ideal S1x2048x128 .f32) (a : Fin 2048) (b : Fin 256) :
    k0_pay28 (F := Ideal) (BitVec.ofNat 32 j) k v q g o l (ix2 a b) = k0_pay27 (F := Ideal) (BitVec.ofNat 32 j) k q l (ix2 a b)
      * ((∑ c : Fin 128, g (ix2 a c) * v (ix2 b c)) - ∑ c : Fin 128, g (ix2 a c) * o (ix2 a c)) := by
  pointwise [k0_pay28]

theorem pay29_at (j : ℕ) (k : Vec Ideal S256x256 .bf16) (q : Vec Ideal S2048x256 .bf16) (g : Vec Ideal S2048x128 .bf16) (l : Vec Ideal S1x2048x128 .f32) (x : Vec Ideal S256x128 .f32) (b : Fin 256) (c : Fin 128) :
    k0_pay29 (F := Ideal) (BitVec.ofNat 32 j) k q g l x (ix2 b c) = x (ix2 b c) + ∑ i : Fin 2048, k0_pay27 (F := Ideal) (BitVec.ofNat 32 j) k q l (ix2 i b) * g (ix2 i c) := by
  pointwise [k0_pay29]

theorem pay55_at (q : Vec Ideal S2048x256 .bf16) (ds : Vec Ideal S2048x256 .bf16) (x : Vec Ideal S256x256 .f32) (b c : Fin 256) :
    k0_pay55 (F := Ideal) q ds x (ix2 b c) = x (ix2 b c) + ∑ i : Fin 2048, ds (ix2 i b) * q (ix2 i c) := by
  pointwise [k0_pay55]

theorem pay56_at (k : Vec Ideal S256x256 .bf16) (ds : Vec Ideal S2048x256 .bf16) (x : Vec Ideal S2048x256 .f32) (a : Fin 2048) (c : Fin 256) :
    k0_pay56 (F := Ideal) k ds x (ix2 a c) = x (ix2 a c) + ∑ b : Fin 256, ds (ix2 a b) * k (ix2 b c) := by
  pointwise [k0_pay56]

theorem head8_facts : ∀ n : Fin 17, k0_off22 (pointOf n) = ![256 * n.val, 0] ∧ k0_off23 (pointOf n) = ![256 * n.val, 0]
    ∧ k0_off24 (pointOf n) = ![0, 256 * n.val, 0] ∧ (k0_cond9 (pointOf n) = 1#1 → (16 - n.val) % 8 + 1 = 8) := by
  decide +kernel

/-- The diagonal block of width 2048 is a step. -/
theorem head8_step (i : grid0.Coords) (h : k0_cond9 i = 1#1) (X : In Ideal) (s : St Ideal) :
    IsStep X (i 1).val (256 * (i 1).val) 2048 s (head8 i h X s) := by
  have hj : (i 1).val < 17 := (i 1).isLt
  obtain ⟨h1, h2, h3, h4⟩ := head8_facts (i 1)
  replace h1 : k0_off22 i = _ := h1
  replace h2 : k0_off23 i = _ := h2
  replace h3 : k0_off24 i = _ := h3
  have hN := h4 h
  have hb : 256 * (i 1).val + 2048 ≤ 4352 := by omega
  generalize hB : 256 * (i 1).val = b at h1 h2 h3 hb ⊢
  let q : Vec Ideal S2048x256 .bf16 := View.ld X.q (Rect.unit (s := S4352x256) (k0_off22 i) S2048x256.size (k0_off22_inb i h))
  let g : Vec Ideal S2048x128 .bf16 := View.ld X.g (Rect.unit (s := S4352x128) (k0_off23 i) S2048x128.size (k0_off23_inb i h))
  let u : Vec Ideal S2048x128 .bf16 := View.ld X.o (Rect.unit (s := S4352x128) (k0_off23 i) S2048x128.size (k0_off23_inb i h))
  let l : Vec Ideal S1x2048x128 .f32 := View.ld X.l (Rect.unit (s := S1x4352x128) (k0_off24 i) S1x2048x128.size (k0_off24_inb i h))
  have hq (a : Fin 2048) (c : Fin 256) : q (ix2 a c) = X.q (ix2 ⟨b + a.val, by omega⟩ c) := ld_rows X.q _ _ _ h1 _ a c rfl rfl _
  have hg (a : Fin 2048) (c : Fin 128) : g (ix2 a c) = X.g (ix2 ⟨b + a.val, by omega⟩ c) := ld_rows X.g _ _ _ h2 _ a c rfl rfl _
  have hu (a : Fin 2048) (c : Fin 128) : u (ix2 a c) = X.o (ix2 ⟨b + a.val, by omega⟩ c) := ld_rows X.o _ _ _ h2 _ a c rfl rfl _
  have hl (a : Fin 2048) (c : Fin 128) : l (ix3 0 a c) = X.l (ix3 0 ⟨b + a.val, by omega⟩ c) := ld_rows3 X.l _ _ _ h3 _ a c rfl rfl rfl _
  have hp (a : Fin 2048) (b' : Fin 256) : k0_pay27 (F := Ideal) (tileW i) X.k q l (ix2 a b') = pr X (i 1).val ⟨b + a.val, by omega⟩ b' := by
    rw [pay27_at _ hj, pr, scr]
    simp only [hq, hl, hB, Nat.add_le_add_iff_left]
  have hd (a : Fin 2048) (b' : Fin 256) : k0_pay28 (F := Ideal) (tileW i) X.k X.v q g u l (ix2 a b') = dsv X (i 1).val ⟨b + a.val, by omega⟩ b' := by
    refine (pay28_at (i 1).val X.k X.v q g u l a b').trans ?_
    rw [hp, dsv]
    simp only [hg, hu]
  refine isStep_of hb (k0_pay27 (F := Ideal) (tileW i) X.k q l) (k0_pay28 (F := Ideal) (tileW i) X.k X.v q g u l) q g hp hd hq hg _ _ h1 rfl _ (fun z a c ha hc => ?_) rfl
    (fun c d => pay55_at q _ s.dk c d) (fun c d => pay29_at (i 1).val X.k q g l s.dv c d)
  have hz : z = (ix2 a c : (⟨2, ![2048, 256]⟩ : Shape).Idx) := by
    funext x
    fin_cases x
    · exact Fin.ext ha.symm
    · exact Fin.ext hc.symm
  subst hz
  refine (pay56_at X.k _ _ a c).trans ?_
  exact congrArg (· + _) (ld_rows s.dq _ _ _ h1 _ a c rfl rfl _)

end Cert.KernelIdeal.Bwd

end
-- ==== Proof.SemT.lean ====
module

public import proofs.«01_k».proof.Proof.Sem
public import Idealize.ShloMosaic.Lib.Pointwise

@[expose] public section

set_option maxRecDepth 16384

noncomputable section

namespace Cert.KernelIdeal.Bwd

open Cert.KernelIdeal.Gen
open Idealize.ShloMosaic Idealize.ShloMosaic.Tactic

/-! ## A trip of the loop -/

theorem pay30_at (k : Vec Ideal S256x256 .bf16) (q : Vec Ideal S2048x256 .bf16) (l : Vec Ideal S1x2048x128 .f32) (a : Fin 2048) (b : Fin 256) :
    k0_pay30 (F := Ideal) k q l (ix2 a b) = Ideal.exp ((∑ d : Fin 256, q (ix2 a d) * k (ix2 b d)) - l (ix3 0 a 0)) := by
  pointwise [k0_pay30]

theorem pay31_at (k : Vec Ideal S256x256 .bf16) (v : Vec Ideal S256x128 .bf16) (q : Vec Ideal S2048x256 .bf16) (g : Vec Ideal S2048x128 .bf16) (o : Vec Ideal S2048x128 .bf16) (l : Vec Ideal S1x2048x128 .f32) (a : Fin 2048) (b : Fin 256) :
    k0_pay31 (F := Ideal) k v q g o l (ix2 a b) = k0_pay30 (F := Ideal) k q l (ix2 a b)
      * ((∑ c : Fin 128, g (ix2 a c) * v (ix2 b c)) - ∑ c : Fin 128, g (ix2 a c) * o (ix2 a c)) := by
  pointwise [k0_pay31]

theorem pay32_at (k : Vec Ideal S256x256 .bf16) (q : Vec Ideal S2048x256 .bf16) (g : Vec Ideal S2048x128 .bf16) (l : Vec Ideal S1x2048x128 .f32) (x : Vec Ideal S256x128 .f32) (b : Fin 256) (c : Fin 128) :
    k0_pay32 (F := Ideal) k q g l x (ix2 b c) = x (ix2 b c) + ∑ i : Fin 2048, k0_pay30 (F := Ideal) k q l (ix2 i b) * g (ix2 i c) := by
  pointwise [k0_pay32]

theorem pay33_at (k : Vec Ideal S256x256 .bf16) (v : Vec Ideal S256x128 .bf16) (q : Vec Ideal S2048x256 .bf16) (g : Vec Ideal S2048x128 .bf16) (o : Vec Ideal S2048x128 .bf16) (l : Vec Ideal S1x2048x128 .f32) (x : Vec Ideal S256x256 .f32) (b c : Fin 256) :
    k0_pay33 (F := Ideal) k v q g o l x (ix2 b c) = x (ix2 b c) + ∑ i : Fin 2048, k0_pay31 (F := Ideal) k v q g o l (ix2 i b) * q (ix2 i c) := by
  pointwise [k0_pay33]

theorem pay2_at (k : Vec Ideal S256x256 .bf16) (ds : Vec Ideal S2048x256 .bf16) (x : Vec Ideal S2048x256 .f32) (a : Fin 2048) (c : Fin 256) :
    k0_pay2 (F := Ideal) k ds x (ix2 a c) = x (ix2 a c) + ∑ b : Fin 256, ds (ix2 a b) * k (ix2 b c) := by
  pointwise [k0_pay2]

theorem trip_facts : ∀ n : Fin 17, ∀ k : Fin (k0_t1_loop (pointOf n)).trips,
    k0_off25 (pointOf n) k = ![256 * (n.val + (16 - n.val) % 8 + 1) + 2048 * k.val, 0] ∧ k0_off26 (pointOf n) k = ![256 * (n.val + (16 - n.val) % 8 + 1) + 2048 * k.val, 0]
      ∧ k0_off27 (pointOf n) k = ![0, 256 * (n.val + (16 - n.val) % 8 + 1) + 2048 * k.val, 0] := by
  decide +kernel

theorem trip_count : ∀ n : Fin 17, (k0_t1_loop (pointOf n)).trips = (16 - n.val - (16 - n.val) % 8) / 8 := by
  decide +kernel

/-- A trip is a step. -/
theorem trip_step (i : grid0.Coords) (X : In Ideal) (k : Fin (k0_t1_loop i).trips) (s : St Ideal) :
    IsStep X (i 1).val (256 * ((i 1).val + (16 - (i 1).val) % 8 + 1) + 2048 * k.val) 2048 s (trip i X k s) := by
  have hj : (i 1).val < 17 := (i 1).isLt
  obtain ⟨h1, h2, h3⟩ := trip_facts (i 1) k
  replace h1 : k0_off25 i k = _ := h1
  replace h2 : k0_off26 i k = _ := h2
  replace h3 : k0_off27 i k = _ := h3
  have hN : k.val < (16 - (i 1).val - (16 - (i 1).val) % 8) / 8 := lt_of_lt_of_eq k.isLt (trip_count (i 1))
  have hb : 256 * ((i 1).val + (16 - (i 1).val) % 8 + 1) + 2048 * k.val + 2048 ≤ 4352 := by omega
  generalize hB : 256 * ((i 1).val + (16 - (i 1).val) % 8 + 1) + 2048 * k.val = b at h1 h2 h3 hb ⊢
  let q : Vec Ideal S2048x256 .bf16 := View.ld X.q (Rect.unit (s := S4352x256) (k0_off25 i k) S2048x256.size (k0_off25_inb i k))
  let g : Vec Ideal S2048x128 .bf16 := View.ld X.g (Rect.unit (s := S4352x128) (k0_off26 i k) S2048x128.size (k0_off26_inb i k))
  let u : Vec Ideal S2048x128 .bf16 := View.ld X.o (Rect.unit (s := S4352x128) (k0_off26 i k) S2048x128.size (k0_off26_inb i k))
  let l : Vec Ideal S1x2048x128 .f32 := View.ld X.l (Rect.unit (s := S1x4352x128) (k0_off27 i k) S1x2048x128.size (k0_off27_inb i k))
  have hq (a : Fin 2048) (c : Fin 256) : q (ix2 a c) = X.q (ix2 ⟨b + a.val, by omega⟩ c) := ld_rows X.q _ _ _ h1 _ a c rfl rfl _
  have hg (a : Fin 2048) (c : Fin 128) : g (ix2 a c) = X.g (ix2 ⟨b + a.val, by omega⟩ c) := ld_rows X.g _ _ _ h2 _ a c rfl rfl _
  have hu (a : Fin 2048) (c : Fin 128) : u (ix2 a c) = X.o (ix2 ⟨b + a.val, by omega⟩ c) := ld_rows X.o _ _ _ h2 _ a c rfl rfl _
  have hl (a : Fin 2048) (c : Fin 128) : l (ix3 0 a c) = X.l (ix3 0 ⟨b + a.val, by omega⟩ c) := ld_rows3 X.l _ _ _ h3 _ a c rfl rfl rfl _
  have hp (a : Fin 2048) (b' : Fin 256) : k0_pay30 (F := Ideal) X.k q l (ix2 a b') = pr X (i 1).val ⟨b + a.val, by omega⟩ b' := by
    rw [pay30_at, pr, if_pos (by show 256 * (i 1).val + b'.val ≤ b + a.val; omega), scr]
    simp only [hq, hl]
  have hd (a : Fin 2048) (b' : Fin 256) : k0_pay31 (F := Ideal) X.k X.v q g u l (ix2 a b') = dsv X (i 1).val ⟨b + a.val, by omega⟩ b' := by
    refine (pay31_at X.k X.v q g u l a b').trans ?_
    rw [hp, dsv]
    simp only [hg, hu]
  refine isStep_of hb (k0_pay30 (F := Ideal) X.k q l) (k0_pay31 (F := Ideal) X.k X.v q g u l) q g hp hd hq hg _ _ h1 rfl _ (fun z a c ha hc => ?_) rfl
    (fun c d => pay33_at X.k X.v q g u l s.dk c d) (fun c d => pay32_at X.k q g l s.dv c d)
  have hz : z = (ix2 a c : (⟨2, ![2048, 256]⟩ : Shape).Idx) := by
    funext x
    fin_cases x
    · exact Fin.ext ha.symm
    · exact Fin.ext hc.symm
  subst hz
  refine (pay2_at X.k _ _ a c).trans ?_
  exact congrArg (· + _) (ld_rows s.dq _ _ _ h1 _ a c rfl rfl _)

end Cert.KernelIdeal.Bwd

end
-- ==== Proof.Total.lean ====
module

public import proofs.«01_k».proof.Proof.Point
public import proofs.«01_k».proof.Proof.SemA
public import proofs.«01_k».proof.Proof.SemB
public import proofs.«01_k».proof.Proof.SemC
public import proofs.«01_k».proof.Proof.SemD
public import proofs.«01_k».proof.Proof.SemT
public import Idealize.ShloMosaic.Lib.Pointwise

@[expose] public section

set_option maxRecDepth 16384

noncomputable section

namespace Cert.KernelIdeal.Bwd

open Cert.KernelIdeal.Gen
open Idealize.ShloMosaic Idealize.ShloMosaic.Tactic

/-! ## What a grid point leaves, over the extended reals -/

theorem trips_inv (i : grid0.Coords) (X : In Ideal) (d : Vec Ideal S4352x256 .f32) (s : St Ideal)
    (h : Inv X (i 1).val d (256 * ((i 1).val + (16 - (i 1).val) % 8 + 1)) s) :
    ∀ n : ℕ, n ≤ (k0_t1_loop i).trips →
      Inv X (i 1).val d (256 * ((i 1).val + (16 - (i 1).val) % 8 + 1) + 2048 * n) (trips i X s n)
  | 0, _ => h
  | n + 1, hn => by
    have h1 := (trips_inv i X d s h n (by omega)).step (trip_step i X ⟨n, hn⟩ (trips i X s n))
    rw [show trips i X s (n + 1) = trip i X ⟨n, hn⟩ (trips i X s n) from trips_succ i X s ⟨n, hn⟩]
    rw [show 256 * ((i 1).val + (16 - (i 1).val) % 8 + 1) + 2048 * (n + 1)
      = 256 * ((i 1).val + (16 - (i 1).val) % 8 + 1) + 2048 * n + 2048 by omega]
    exact h1

theorem fin_inv (i : grid0.Coords) (X : In Ideal) (d : Vec Ideal S4352x256 .f32) (s : St Ideal)
    (h : Inv X (i 1).val d (256 * ((i 1).val + (16 - (i 1).val) % 8 + 1)) s) :
    Inv X (i 1).val d 4352 (fin i X s) := by
  have h1 := trips_inv i X d s h _ le_rfl
  have hj : (i 1).val < 17 := (i 1).isLt
  have hn : (k0_t1_loop i).trips = (16 - (i 1).val - (16 - (i 1).val) % 8) / 8 := trip_count (i 1)
  have e : 256 * ((i 1).val + (16 - (i 1).val) % 8 + 1) + 2048 * (k0_t1_loop i).trips = 4352 := by rw [hn]; omega
  rw [e] at h1
  exact h1

theorem diag_inv (i : grid0.Coords) (X : In Ideal) (d : Vec Ideal S4352x256 .f32) :
    Inv X (i 1).val d (256 * ((i 1).val + (16 - (i 1).val) % 8 + 1)) (diag i X (startSt d)) := by
  have hj : (i 1).val < 17 := (i 1).isLt
  have s0 := Inv.start X (i 1).val d
  unfold diag
  by_cases h1 : k0_cond2 i = 1#1
  · rw [dif_pos h1]
    have hN : (16 - (i 1).val) % 8 + 1 = 1 := (head1_facts (i 1)).2.2.2 h1
    have := s0.step (head1_step i h1 X (startSt d))
    rw [show 256 * (i 1).val + 256 = 256 * ((i 1).val + (16 - (i 1).val) % 8 + 1) by omega] at this
    exact this
  rw [dif_neg h1]
  by_cases h2 : k0_cond3 i = 1#1
  · rw [dif_pos h2]
    have hN : (16 - (i 1).val) % 8 + 1 = 2 := (head2_facts (i 1)).2.2.2 h2
    have := s0.step (head2_step i h2 X (startSt d))
    rw [show 256 * (i 1).val + 512 = 256 * ((i 1).val + (16 - (i 1).val) % 8 + 1) by omega] at this
    exact this
  rw [dif_neg h2]
  by_cases h3 : k0_cond4 i = 1#1
  · rw [dif_pos h3]
    have hN : (16 - (i 1).val) % 8 + 1 = 3 := (head3_facts (i 1)).2.2.2 h3
    have := s0.step (head3_step i h3 X (startSt d))
    rw [show 256 * (i 1).val + 768 = 256 * ((i 1).val + (16 - (i 1).val) % 8 + 1) by omega] at this
    exact this
  rw [dif_neg h3]
  by_cases h4 : k0_cond5 i = 1#1
  · rw [dif_pos h4]
    have hN : (16 - (i 1).val) % 8 + 1 = 4 := (head4_facts (i 1)).2.2.2 h4
    have := s0.step (head4_step i h4 X (startSt d))
    rw [show 256 * (i 1).val + 1024 = 256 * ((i 1).val + (16 - (i 1).val) % 8 + 1) by omega] at this
    exact this
  rw [dif_neg h4]
  by_cases h5 : k0_cond6 i = 1#1
  · rw [dif_pos h5]
    have hN : (16 - (i 1).val) % 8 + 1 = 5 := (head5_facts (i 1)).2.2.2 h5
    have := s0.step (head5_step i h5 X (startSt d))
    rw [show 256 * (i 1).val + 1280 = 256 * ((i 1).val + (16 - (i 1).val) % 8 + 1) by omega] at this
    exact this
  rw [dif_neg h5]
  by_cases h6 : k0_cond7 i = 1#1
  · rw [dif_pos h6]
    have hN : (16 - (i 1).val) % 8 + 1 = 6 := (head6_facts (i 1)).2.2.2 h6
    have := s0.step (head6_step i h6 X (startSt d))
    rw [show 256 * (i 1).val + 1536 = 256 * ((i 1).val + (16 - (i 1).val) % 8 + 1) by omega] at this
    exact this
  rw [dif_neg h6]
  by_cases h7 : k0_cond8 i = 1#1
  · rw [dif_pos h7]
    have hN : (16 - (i 1).val) % 8 + 1 = 7 := (head7_facts (i 1)).2.2.2 h7
    have := s0.step (head7_step i h7 X (startSt d))
    rw [show 256 * (i 1).val + 1792 = 256 * ((i 1).val + (16 - (i 1).val) % 8 + 1) by omega] at this
    exact this
  rw [dif_neg h7]
  by_cases h8 : k0_cond9 i = 1#1
  · rw [dif_pos h8]
    have hN : (16 - (i 1).val) % 8 + 1 = 8 := (head8_facts (i 1)).2.2.2 h8
    have := s0.step (head8_step i h8 X (startSt d))
    rw [show 256 * (i 1).val + 2048 = 256 * ((i 1).val + (16 - (i 1).val) % 8 + 1) by omega] at this
    exact this
  rw [dif_neg h8]
  exfalso
  have f1 : k0_cond2 i = 1#1 ↔ _ := at_head1 (i 1)
  have f2 : k0_cond3 i = 1#1 ↔ _ := at_head2 (i 1)
  have f3 : k0_cond4 i = 1#1 ↔ _ := at_head3 (i 1)
  have f4 : k0_cond5 i = 1#1 ↔ _ := at_head4 (i 1)
  have f5 : k0_cond6 i = 1#1 ↔ _ := at_head5 (i 1)
  have f6 : k0_cond7 i = 1#1 ↔ _ := at_head6 (i 1)
  have f7 : k0_cond8 i = 1#1 ↔ _ := at_head7 (i 1)
  have f8 : k0_cond9 i = 1#1 ↔ _ := at_head8 (i 1)
  rw [f1] at h1; rw [f2] at h2; rw [f3] at h3; rw [f4] at h4; rw [f5] at h5; rw [f6] at h6; rw [f7] at h7; rw [f8] at h8
  omega

/-- Every row done. -/
theorem stepSt_inv (i : grid0.Coords) (X : In Ideal) (d : Vec Ideal S4352x256 .f32) :
    Inv X (i 1).val d 4352 (stepSt i X d) := fin_inv i X d _ (diag_inv i X d)

theorem stepSt_dq (i : grid0.Coords) (X : In Ideal) (d : Vec Ideal S4352x256 .f32) (r : Fin 4352) (c : Fin 256) :
    (stepSt i X d).dq (ix2 r c) = d (ix2 r c) + ∑ k : Fin 256, dsv X (i 1).val r k * X.k (ix2 k c) :=
  ((stepSt_inv i X d).dq r c).trans (if_pos r.isLt)

theorem stepSt_dk (i : grid0.Coords) (X : In Ideal) (d : Vec Ideal S4352x256 .f32) (k c : Fin 256) :
    (stepSt i X d).dk (ix2 k c) = ∑ r : Fin 4352, dsv X (i 1).val r k * X.q (ix2 r c) :=
  ((stepSt_inv i X d).dk k c).trans <| by
    rw [Finset.sum_range]
    exact Finset.sum_congr rfl fun r _ => dif_pos r.isLt

theorem stepSt_dv (i : grid0.Coords) (X : In Ideal) (d : Vec Ideal S4352x256 .f32) (k : Fin 256) (c : Fin 128) :
    (stepSt i X d).dv (ix2 k c) = ∑ r : Fin 4352, pr X (i 1).val r k * X.g (ix2 r c) :=
  ((stepSt_inv i X d).dv k c).trans <| by
    rw [Finset.sum_range]
    exact Finset.sum_congr rfl fun r _ => dif_pos r.isLt

theorem pay5_eq (x : Vec Ideal S256x128 .f32) (k : Fin 256) (c : Fin 128) : k0_pay5 (F := Ideal) x (ix2 k c) = x (ix2 k c) := by
  pointwise [k0_pay5]

theorem pay38_at (r : Fin 4352) (c : Fin 256) : k0_pay38 (F := Ideal) (ix2 r c) = 0 := by
  pointwise [k0_pay38]

end Cert.KernelIdeal.Bwd

end
-- ==== Proof.Array.lean ====
module

public import proofs.«01_k».proof.Proof.Blocks
public import proofs.«01_k».proof.Proof.Total

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL.Sem
open Idealize.ShloMosaic.Pipeline (Dat Cfg Window)

/-! # The three results, at an index -/

/-- The six arrays the kernel reads. -/
structure Arrs where
  q : Vec Ideal S4352x4096 .bf16
  k : Vec Ideal S4352x4096 .bf16
  v : Vec Ideal S4352x4096 .bf16
  o : Vec Ideal S4352x2048 .bf16
  g : Vec Ideal S4352x2048 .bf16
  l : Vec Ideal S16x4352x128 .f32

/-- The score of query `r` and key `k` in head `h`. -/
def gS (A : Arrs) (h : Fin 16) (r k : Fin 4352) : EReal := ∑ d : Fin 256, A.q (ix2 r (qcol h d)) * A.k (ix2 k (qcol h d))

/-- The attention weight. -/
def gP (A : Arrs) (h : Fin 16) (r k : Fin 4352) : EReal :=
  if k.val ≤ r.val then Ideal.exp (gS A h r k - A.l (ix3 h r 0)) else 0

/-- The score's gradient. -/
def gD (A : Arrs) (h : Fin 16) (r k : Fin 4352) : EReal :=
  gP A h r k * ((∑ c : Fin 128, A.g (ix2 r (ocol h c)) * A.v (ix2 k (vcol h c))) - ∑ c : Fin 128, A.g (ix2 r (ocol h c)) * A.o (ix2 r (ocol h c)))

variable (m : (ℓ : Loc nD τ sig) → Buf (Elt Ideal) ℓ)

/-- The arrays at launch of the kernel. -/
def arrs (c : Dev nD) : Arrs :=
  ⟨V m c main_arg0, V m c main_arg1, V m c main_arg2, V m c main_v26, V m c main_arg3, V m c main_v29⟩

theorem tl_eq (t : Fin cfg0.N) : (grid0.coords t 1).val = (tl t).val := coord1 t

theorem pr_eq (c : Dev nD) (t : Fin cfg0.N) (r : Fin 4352) (k : Fin 256) :
    pr (ins m c t) (grid0.coords t 1).val r k = gP (arrs m c) (hd t) r (krow (tl t) k) := by
  unfold pr gP scr gS
  rw [tl_eq]
  simp only [in_q, in_k, in_l]
  rfl

theorem dsv_eq (c : Dev nD) (t : Fin cfg0.N) (r : Fin 4352) (k : Fin 256) :
    dsv (ins m c t) (grid0.coords t 1).val r k = gD (arrs m c) (hd t) r (krow (tl t) k) := by
  unfold dsv gD
  rw [pr_eq]
  simp only [in_g, in_v, in_o]
  rfl

/-! ## The keys' and the values' gradients: a block each point -/

theorem left_dk (c : Dev nD) (t : Fin cfg0.N) (k d : Fin 256) :
    (leftAt m c t).dk (ix2 k d) = ∑ r : Fin 4352, gD (arrs m c) (hd t) r (krow (tl t) k) * (arrs m c).q (ix2 r (qcol (hd t) d)) := by
  unfold leftAt
  rw [stepSt_dk]
  exact Finset.sum_congr rfl fun r _ => by rw [dsv_eq, in_q]; rfl

theorem left_dv (c : Dev nD) (t : Fin cfg0.N) (k : Fin 256) (d : Fin 128) :
    (leftAt m c t).dv (ix2 k d) = ∑ r : Fin 4352, gP (arrs m c) (hd t) r (krow (tl t) k) * (arrs m c).g (ix2 r (ocol (hd t) d)) := by
  unfold leftAt
  rw [stepSt_dv]
  exact Finset.sum_congr rfl fun r _ => by rw [pr_eq, in_g]; rfl

/-! ## The queries' gradient: a sum over a head's points -/

/-- What key `κ` adds to the queries' gradient. -/
def dqT (A : Arrs) (h : Fin 16) (r : Fin 4352) (d : Fin 256) (κ : ℕ) : EReal :=
  if hk : κ < 4352 then gD A h r ⟨κ, hk⟩ * A.k (ix2 ⟨κ, hk⟩ (qcol h d)) else 0

theorem acc_eq (c : Dev nD) (h : Fin 16) (r : Fin 4352) (d : Fin 256) : ∀ j : ℕ, (hj : j < 17) →
    accAt m c (17 * h.val + j + 1) (ix2 r d) = ∑ κ ∈ Finset.range (256 * (j + 1)), dqT (arrs m c) h r d κ := by
  have key : ∀ j : ℕ, (hj : j < 17) → ∀ s : EReal,
      ((if (grid0.coords ⟨17 * h.val + j, by rw [N_0]; omega⟩ 1).val = 0 then k0_pay38 else accAt m c (17 * h.val + j)) (ix2 r d) = s) →
      accAt m c (17 * h.val + j + 1) (ix2 r d) = s + ∑ κ ∈ Finset.range 256, dqT (arrs m c) h r d (256 * j + κ) := by
    intro j hj s hs
    have ht : 17 * h.val + j < cfg0.N := by rw [show cfg0.N = 272 from N_0]; omega
    have e := accAt_succ m c ⟨17 * h.val + j, ht⟩
    have e1 : hd ⟨17 * h.val + j, ht⟩ = h := Fin.ext (by simp only [hd]; omega)
    have e2 : tl ⟨17 * h.val + j, ht⟩ = ⟨j, hj⟩ := Fin.ext (by simp only [tl]; omega)
    rw [show accAt m c (17 * h.val + j + 1) = _ from e]
    unfold leftAt
    rw [stepSt_dq, Finset.sum_range]
    refine congrArg₂ (· + ·) hs (Finset.sum_congr rfl fun k _ => ?_)
    rw [dsv_eq, in_k, e1, e2]
    unfold dqT
    rw [dif_pos (show 256 * j + k.val < 4352 by omega)]
    rfl
  intro j
  induction j with
  | zero =>
    intro hj
    rw [key 0 hj 0, zero_add, Nat.zero_add, Nat.mul_one]
    · simp only [Nat.mul_zero, Nat.zero_add]
    · rw [if_pos (by rw [coord1]; simp)]
      exact pay38_at r d
  | succ j ih =>
    intro hj
    rw [key (j + 1) hj _ ((congrFun (if_neg (by rw [coord1]; simp only; omega)) _).trans (ih (by omega))),
      show 256 * (j + 1 + 1) = 256 * (j + 1) + 256 by ring, Finset.sum_range_add]

theorem left_dq (c : Dev nD) (t : Fin cfg0.N) (ht : t.val % 17 = 16) (r : Fin 4352) (d : Fin 256) :
    (leftAt m c t).dq (ix2 r d) = ∑ κ : Fin 4352, gD (arrs m c) (hd t) r κ * (arrs m c).k (ix2 κ (qcol (hd t) d)) := by
  rw [← accAt_succ]
  have := acc_eq m c (hd t) r d 16 (by norm_num)
  rw [show 17 * (hd t).val + 16 + 1 = t.val + 1 by simp only [hd]; omega] at this
  rw [this, Finset.sum_range]
  exact Finset.sum_congr rfl fun κ _ => dif_pos κ.isLt

/-! ## The whole arrays -/

theorem idx2_eq {a b : ℕ} (y : (⟨2, ![a, b]⟩ : Shape).Idx) : y = ix2 (y 0) (y 1) :=
  funext fun x => match x with
    | ⟨0, _⟩ => rfl
    | ⟨1, _⟩ => rfl

theorem arr_dq (c : Dev nD) (G : Vec Ideal S4352x4096 .f32)
    (hG : ∀ h r d, G (ix2 r (qcol h d)) = ∑ κ : Fin 4352, gD (arrs m c) h r κ * (arrs m c).k (ix2 κ (qcol h d))) :
    (dats m 0 c).arrAt 6 cfg0.N = G := by
  refine (dats m 0 c).arrAt_eq_of_covers 6 G (by decide +kernel) fun t hf y => ?_
  have ht : t.val % 17 = 16 := (flush0_6 t).mp hf
  blk_simp
  rw [after_6]
  have he : ((win0_6.blk t).view.emb y) = ix2 (y 0) (qcol (hd t) (y 1)) := funext fun a => Fin.ext (match a with
    | ⟨0, _⟩ => by blk_simp [index_6] <;> simp [ix2]
    | ⟨1, _⟩ => by blk_simp [index_6] <;> (simp [ix2, qcol]; omega))
  refine Eq.trans ?_ ((congrArg G he).trans (hG (hd t) (y 0) (y 1))).symm
  exact (congrArg (leftAt m c t |>.dq) (idx2_eq (a := 4352) (b := 256) y)).trans (left_dq m c t ht (y 0) (y 1))

theorem arr_dk (c : Dev nD) (G : Vec Ideal S4352x4096 .f32)
    (hG : ∀ h κ d, G (ix2 κ (qcol h d)) = ∑ r : Fin 4352, gD (arrs m c) h r κ * (arrs m c).q (ix2 r (qcol h d))) :
    (dats m 0 c).arrAt 7 cfg0.N = G := by
  refine (dats m 0 c).arrAt_eq_of_covers 7 G (by decide +kernel) fun t _ y => ?_
  blk_simp
  rw [after_7]
  have he : ((win0_7.blk t).view.emb y) = ix2 (krow (tl t) (y 0)) (qcol (hd t) (y 1)) := funext fun a => Fin.ext (match a with
    | ⟨0, _⟩ => by blk_simp [index_7] <;> (simp [ix2, krow]; omega)
    | ⟨1, _⟩ => by blk_simp [index_7] <;> (simp [ix2, qcol]; omega))
  refine Eq.trans ?_ ((congrArg G he).trans (hG (hd t) (krow (tl t) (y 0)) (y 1))).symm
  exact (congrArg (leftAt m c t |>.dk) (idx2_eq (a := 256) (b := 256) y)).trans (left_dk m c t (y 0) (y 1))

theorem arr_dv (c : Dev nD) (G : Vec Ideal S4352x2048 .bf16)
    (hG : ∀ h κ d, G (ix2 κ (ocol h d)) = ∑ r : Fin 4352, gP (arrs m c) h r κ * (arrs m c).g (ix2 r (ocol h d))) :
    (dats m 0 c).arrAt 8 cfg0.N = G := by
  refine (dats m 0 c).arrAt_eq_of_covers 8 G (by decide +kernel) fun t _ y => ?_
  blk_simp
  rw [after_8]
  have he : ((win0_8.blk t).view.emb y) = ix2 (krow (tl t) (y 0)) (ocol (hd t) (y 1)) := funext fun a => Fin.ext (match a with
    | ⟨0, _⟩ => by blk_simp [index_8] <;> (simp [ix2, krow]; omega)
    | ⟨1, _⟩ => by blk_simp [index_8] <;> (simp [ix2, ocol]; omega))
  refine Eq.trans ?_ ((congrArg G he).trans (hG (hd t) (krow (tl t) (y 0)) (y 1))).symm
  exact (congrArg (k0_pay5 (F := Ideal) (leftAt m c t).dv) (idx2_eq (a := 256) (b := 128) y)).trans ((pay5_eq _ _ _).trans (left_dv m c t (y 0) (y 1)))

end Cert.KernelIdeal.Bwd

end
-- ==== Proof.HostV.lean ====
module

public import proofs.«01_k».proof.Proof.Host
public import proofs.«01_k».proof.Proof.Gen.ReferenceIdeal.Read

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic Idealize.ShloMosaic.StableHlo
open Idealize.SL.Sem
open Cert.ReferenceIdeal.Read (val_main_v12_0 val_main_v13 val_main_v3)

variable {F : FTy → Type} [FloatOps F]

/-- The weights before they are divided, of the queries and the keys. -/
def argE (x0 x1 : Vec F S4352x4096 .bf16) : Vec F S16x4352x4352 .f32 := hostE (val_main_v12_0 x0 x1) (val_main_v13 x0 x1)

/-- Their sums. -/
def argL (x0 x1 : Vec F S4352x4096 .bf16) : Vec F S16x4352x1 .f32 := hostL (argE x0 x1)

variable (m : (ℓ : Loc nD τ sig) → Buf (Elt F) ℓ)

set_option maxHeartbeats 4000000 in
theorem V_out (c : Dev nD) : V m c main_v26
    = hostO (val_main_v3 (m ((c : Thread nD τ).loc main_arg2)))
        (hostP (argE (m ((c : Thread nD τ).loc main_arg0)) (m ((c : Thread nD τ).loc main_arg1)))
          (argL (m ((c : Thread nD τ).loc main_arg0)) (m ((c : Thread nD τ).loc main_arg1)))) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp
  rfl

set_option maxHeartbeats 4000000 in
theorem V_lse (c : Dev nD) : V m c main_v29
    = hostLse (val_main_v13 (m ((c : Thread nD τ).loc main_arg0)) (m ((c : Thread nD τ).loc main_arg1)))
        (argL (m ((c : Thread nD τ).loc main_arg0)) (m ((c : Thread nD τ).loc main_arg1))) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp
  rfl

end Cert.KernelIdeal.Bwd

end
-- ==== Proof.Row.lean ====
module

public import Idealize.ShloMosaic.PureOps.Ideal
public import Mathlib.Algebra.BigOperators.Field
public import Mathlib.Data.Finset.Fold
public import Mathlib.Tactic.FieldSimp
public import Mathlib.Tactic.Ring

@[expose] public section

noncomputable section

namespace Cert.Row

open Idealize.ShloMosaic

/-! # One row of causal attention over the extended reals

The scores `σ`, the values `v` and the output's gradient `g` are reals; the maximum `μ` is any real. The softmax that
divides by its sum, and the one that subtracts the logarithm of its sum, agree, and so do the two forms of the score's
gradient. -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

/-- The greatest of finitely many numbers that are reals or `⊥`, one of them a real, is a real. -/
theorem max_real {ι : Type} (s : Finset ι) (f : ι → EReal) (h1 : ∀ i ∈ s, f i < ⊤) (h2 : ∃ i ∈ s, ⊥ < f i) :
    ∃ μ : ℝ, s.fold max ⊥ f = (μ : EReal) := by
  have ht : s.fold max ⊥ f < ⊤ := (Finset.fold_max_lt _).mpr ⟨bot_lt_top, h1⟩
  have hb : ⊥ < s.fold max ⊥ f := (Finset.lt_fold_max _).mpr (Or.inr h2)
  exact ⟨(s.fold max ⊥ f).toReal, (EReal.coe_toReal ht.ne hb.ne').symm⟩

variable {N C : ℕ} (r : ℕ) (σ : Fin N → ℝ) (μ : ℝ) (v : Fin N → Fin C → ℝ) (g : Fin C → ℝ)

/-- The masked score. -/
def score (k : Fin N) : EReal := if k.val ≤ r then (σ k : EReal) else ⊥

/-- The weight before it is divided. -/
def ee (k : Fin N) : EReal := Ideal.exp (score r σ k - (μ : EReal))

/-- The weights' sum. -/
def ll : EReal := ∑ k : Fin N, ee r σ μ k

def ew (k : Fin N) : ℝ := if k.val ≤ r then Real.exp (σ k - μ) else 0

def lw : ℝ := ∑ k : Fin N, ew r σ μ k

theorem ee_eq (k : Fin N) : ee r σ μ k = (ew r σ μ k : EReal) := by
  unfold ee ew score
  split
  · rw [← EReal.coe_sub, Ideal.exp_coe]
  · rw [EReal.bot_sub, Ideal.exp_bot, EReal.coe_zero]

theorem ll_eq : ll r σ μ = (lw r σ μ : EReal) := by
  unfold ll lw
  rw [← coe_sum]
  exact Finset.sum_congr rfl fun k _ => ee_eq r σ μ k

theorem ew_nonneg (k : Fin N) : 0 ≤ ew r σ μ k := by
  unfold ew; split
  · exact (Real.exp_pos _).le
  · exact le_rfl

theorem lw_pos (h : 0 < N) : 0 < lw r σ μ :=
  Finset.sum_pos' (fun k _ => ew_nonneg r σ μ k) ⟨⟨0, h⟩, Finset.mem_univ _, by
    unfold ew; rw [if_pos (Nat.zero_le _)]; exact Real.exp_pos _⟩

/-- The weight, divided. -/
theorem weight_div (h : 0 < N) (k : Fin N) :
    Ideal.div (ee r σ μ k) (ll r σ μ) = ((ew r σ μ k / lw r σ μ : ℝ) : EReal) := by
  rw [ee_eq, ll_eq, div_real _ _ (lw_pos r σ μ h).ne']

/-- The weight, from the logarithm of the sum. -/
theorem weight_log (h : 0 < N) (k : Fin N) :
    (if k.val ≤ r then Ideal.exp ((σ k : EReal) - ((μ : EReal) + Ideal.log (ll r σ μ))) else 0)
      = ((ew r σ μ k / lw r σ μ : ℝ) : EReal) := by
  have hl := lw_pos r σ μ h
  rw [ll_eq, Ideal.log_coe, if_neg (not_le.mpr hl), ← EReal.coe_add, ← EReal.coe_sub, Ideal.exp_coe]
  unfold ew
  split
  · rw [← sub_sub, Real.exp_sub _ (Real.log _), Real.exp_log hl]
  · rw [zero_div, EReal.coe_zero]

/-- The gradient of the weight before the softmax's own. -/
def dp (k : Fin N) : EReal := ∑ c : Fin C, (g c : EReal) * (v k c : EReal)

def dw (k : Fin N) : ℝ := ∑ c : Fin C, g c * v k c

theorem dp_eq (k : Fin N) : dp v g k = (dw v g k : EReal) := by
  unfold dp dw
  rw [← coe_sum]
  exact Finset.sum_congr rfl fun c _ => (EReal.coe_mul _ _).symm

/-- The output. -/
def out (c : Fin C) : EReal := ∑ k : Fin N, (v k c : EReal) * Ideal.div (ee r σ μ k) (ll r σ μ)

theorem delta_eq (h : 0 < N) : (∑ c : Fin C, (g c : EReal) * out r σ μ v c)
    = ((∑ k : Fin N, ew r σ μ k / lw r σ μ * dw v g k : ℝ) : EReal) := by
  have h1 : ∀ c, out r σ μ v c = ((∑ k : Fin N, v k c * (ew r σ μ k / lw r σ μ) : ℝ) : EReal) := fun c => by
    unfold out
    rw [← coe_sum]
    exact Finset.sum_congr rfl fun k _ => by rw [weight_div r σ μ h, EReal.coe_mul]
  rw [Finset.sum_congr rfl fun c _ => by rw [h1 c, ← EReal.coe_mul], coe_sum]
  congr 1
  simp only [dw, Finset.mul_sum]
  rw [Finset.sum_comm]
  exact Finset.sum_congr rfl fun k _ => Finset.sum_congr rfl fun c _ => by ring

/-- The score's gradient from the output, the way a tiled backward pass has it, is the softmax's own. -/
theorem grad_eq (h : 0 < N) (k : Fin N) :
    (if k.val ≤ r then Ideal.exp ((σ k : EReal) - ((μ : EReal) + Ideal.log (ll r σ μ))) else 0)
        * (dp v g k - ∑ c : Fin C, (g c : EReal) * out r σ μ v c)
      = if k.val ≤ r then
          (Ideal.div (dp v g k) (ll r σ μ)
            + -(∑ k' : Fin N, dp v g k' * Ideal.div 1 (ll r σ μ * ll r σ μ) * ee r σ μ k')) * ee r σ μ k
        else 0 := by
  have hl := (lw_pos r σ μ h).ne'
  have hs : (∑ k' : Fin N, dp v g k' * Ideal.div 1 (ll r σ μ * ll r σ μ) * ee r σ μ k')
      = ((∑ k' : Fin N, dw v g k' * (1 / (lw r σ μ * lw r σ μ)) * ew r σ μ k' : ℝ) : EReal) := by
    rw [← coe_sum]
    refine Finset.sum_congr rfl fun k' _ => ?_
    rw [dp_eq, ll_eq, ee_eq, ← EReal.coe_mul, ← EReal.coe_one, div_real _ _ (mul_ne_zero hl hl), EReal.coe_mul, EReal.coe_mul]
  rw [weight_log r σ μ h, delta_eq r σ μ v g h, hs, dp_eq, ll_eq, ee_eq, div_real _ _ hl, ← EReal.coe_sub, ← EReal.coe_neg,
    ← EReal.coe_add, ← EReal.coe_mul, ← EReal.coe_mul]
  split
  · congr 1
    have e : (∑ k' : Fin N, dw v g k' * (1 / (lw r σ μ * lw r σ μ)) * ew r σ μ k')
        = (∑ k' : Fin N, ew r σ μ k' / lw r σ μ * dw v g k') / lw r σ μ := by
      rw [Finset.sum_div]
      exact Finset.sum_congr rfl fun k' _ => by field_simp
    rw [e]
    field_simp
    ring
  · rename_i hk
    unfold ew
    rw [if_neg hk, zero_div, zero_mul, EReal.coe_zero]

end Cert.Row

end
-- ==== Proof.Ref.lean ====
module

public import proofs.«01_k».proof.Proof.Blocks
public import proofs.«01_k».proof.Proof.Row
public import proofs.«01_k».proof.Proof.Gen.ReferenceIdeal.Read

@[expose] public section

set_option maxRecDepth 16384

noncomputable section

namespace Cert.ReferenceIdeal.At

open Cert.ReferenceIdeal Cert.ReferenceIdeal.Gen Cert.ReferenceIdeal.Read
open Idealize.ShloMosaic Idealize.ShloMosaic.Tactic
open Cert.KernelIdeal.Bwd (qcol ocol vcol)

/-! # The reference, at an index, of real arguments -/

theorem eq2 {a b : ℕ} (j : (⟨2, ![a, b]⟩ : Shape).Idx) (x : Fin a) (y : Fin b) (h0 : (j 0).val = x.val) (h1 : (j 1).val = y.val) :
    j = ix2 x y :=
  funext fun d => match d with
    | ⟨0, _⟩ => Fin.ext h0
    | ⟨1, _⟩ => Fin.ext h1

theorem eq3 {a b c : ℕ} (j : (⟨3, ![a, b, c]⟩ : Shape).Idx) (x : Fin a) (y : Fin b) (z : Fin c) (h0 : (j 0).val = x.val)
    (h1 : (j 1).val = y.val) (h2 : (j 2).val = z.val) : j = ix3 x y z :=
  funext fun d => match d with
    | ⟨0, _⟩ => Fin.ext h0
    | ⟨1, _⟩ => Fin.ext h1
    | ⟨2, _⟩ => Fin.ext h2

/-- Reals, as extended reals. -/
def up {s : Shape} (x : s.Idx → ℝ) : s.Idx → EReal := fun i => (x i : EReal)

variable (Q K W : S4352x4096.Idx → ℝ) (D : S4352x2048.Idx → ℝ)

/-- The score before the mask. -/
def sg (h : Fin 16) (r k : Fin 4352) : ℝ := ∑ d : Fin 256, Q (ix2 r (qcol h d)) * K (ix2 k (qcol h d))

/-- A head's values. -/
def vv (h : Fin 16) (k : Fin 4352) (c : Fin 128) : ℝ := W (ix2 k (vcol h c))

/-- A row's incoming gradient. -/
def gg (h : Fin 16) (r : Fin 4352) (c : Fin 128) : ℝ := D (ix2 r (ocol h c))

theorem v0_at (x0 : S4352x4096.Idx → EReal) (r : Fin 4352) (h : Fin 16) (d : Fin 256) :
    val_main_v0 (F := Ideal) x0 (ix3 r h d) = x0 (ix2 r (qcol h d)) := by
  rw [val_main_v0_apply]
  refine congrArg x0 (eq2 _ _ _ ?_ ?_)
  · show ((r.val * 16 + h.val) * 256 + d.val) / 4096 = r.val; omega
  · show ((r.val * 16 + h.val) * 256 + d.val) % 4096 = 256 * h.val + d.val; omega

theorem v1_at (x0 : S4352x4096.Idx → EReal) (r : Fin 4352) (h : Fin 16) (d : Fin 256) :
    val_main_v1 (F := Ideal) x0 (ix3 r h d) = x0 (ix2 r (qcol h d)) := by
  rw [val_main_v1_apply]
  refine congrArg x0 (eq2 _ _ _ ?_ ?_)
  · show ((r.val * 16 + h.val) * 256 + d.val) / 4096 = r.val; omega
  · show ((r.val * 16 + h.val) * 256 + d.val) % 4096 = 256 * h.val + d.val; omega

theorem v3_at (x2 : S4352x4096.Idx → EReal) (k : Fin 4352) (h : Fin 16) (c : Fin 128) :
    val_main_v3 (F := Ideal) x2 (ix3 k h c) = x2 (ix2 k (vcol h c)) := by
  rw [val_main_v3_apply, val_main_v2_apply]
  refine congrArg x2 (eq2 _ _ _ ?_ ?_)
  · show ((k.val * 16 + h.val) * 256 + (128 + c.val)) / 4096 = k.val; omega
  · show ((k.val * 16 + h.val) * 256 + (128 + c.val)) % 4096 = 256 * h.val + 128 + c.val; omega

theorem v4_at (h : Fin 16) (r k : Fin 4352) : val_main_v4 (F := Ideal) (up Q) (up K) (ix3 h r k) = (sg Q K h r k : EReal) := by
  rw [val_main_v4_apply, sg, ← Row.coe_sum]
  refine Finset.sum_congr rfl fun d _ => ?_
  rw [eq3 (lidx_main_v4 (ix3 h r k) d) r h d rfl rfl rfl, eq3 (ridx_main_v4 (ix3 h r k) d) k h d rfl rfl rfl, v0_at, v1_at]
  exact (EReal.coe_mul _ _).symm

theorem mask_at (h : Fin 16) (r k : Fin 4352) :
    val_main_v12_1 (F := Ideal) (ix3 h r k) = BitVec.ofBool (decide (k.val ≤ r.val)) := by
  rw [val_main_v12_1_apply, val_main_v11_apply, val_main_v10_apply, val_main_v8_apply, val_main_v9_apply, val_main_v6_apply,
    val_main_v7_apply, val_main_v5_apply, val_main_v5_apply]
  show BitVec.ofBool (BitVec.sle (BitVec.ofNat 32 k.val) (BitVec.ofNat 32 r.val)) = _
  have h1 (n : ℕ) (hn : n < 4352) : (BitVec.ofNat 32 n).toInt = (n : ℕ) := by
    rw [BitVec.toInt_eq_toNat_of_lt] <;> simp only [BitVec.toNat_ofNat] <;> omega
  rw [BitVec.sle_eq_decide, h1 _ k.isLt, h1 _ r.isLt]
  congr 2
  exact propext ⟨fun h => by omega, fun h => by omega⟩

theorem sel_le (p : Prop) [Decidable p] (x y : EReal) : Scalar.select (BitVec.ofBool (decide p)) x y = if p then x else y := by
  unfold Scalar.select
  by_cases h : p <;> simp [h]

theorem ninf : Ideal.ofBits .f32 0xFF800000#32 = ⊥ := by simp [Ideal.ofBits, Ideal.ieee]

theorem one_f : Ideal.ofBits .f32 0x3F800000#32 = 1 := by simp [Ideal.ofBits, Ideal.ieee, -EReal.coe_mul]; norm_num

theorem zero_f : Ideal.ofBits .f32 0x00000000#32 = 0 := by simp [Ideal.ofBits, Ideal.ieee]

theorem s_at (h : Fin 16) (r k : Fin 4352) :
    val_main_v12_0 (F := Ideal) (up Q) (up K) (ix3 h r k) = Row.score r.val (sg Q K h r) k := by
  rw [val_main_v12_0_apply, mask_at, v4_at, val_main_call0_v1_apply, val_main_cst_apply, sel_le]
  exact if_congr Iff.rfl rfl ninf

theorem mu_ex (h : Fin 16) (r : Fin 4352) : ∃ μ : ℝ, val_main_v13 (F := Ideal) (up Q) (up K) (ix2 h r) = (μ : EReal) := by
  have hr : S16x4352x4352.Reduces [2] S16x4352 := by decide
  have hi (i : S16x4352x4352.Idx) : val_main_v12_0 (F := Ideal) (up Q) (up K) i = Row.score (i 1).val (sg Q K (i 0) (i 1)) (i 2) := by
    exact (congrArg _ (eq3 i (i 0) (i 1) (i 2) rfl rfl rfl)).trans (s_at Q K (i 0) (i 1) (i 2))
  unfold val_main_v13
  rw [Host.reduce_eq_fold_single (a := 2) _ _ _ _ hr]
  obtain ⟨μ, hμ⟩ := Row.max_real Finset.univ (val_main_v12_0 (F := Ideal) (up Q) (up K) ∘ hr.lift (ix2 h r))
    (fun i _ => by
      rw [Function.comp_apply, hi]; unfold Row.score; split
      · exact EReal.coe_lt_top _
      · exact bot_lt_top)
    ⟨⟨0, by decide⟩, Finset.mem_univ _, by
      rw [Function.comp_apply, hi]; unfold Row.score
      rw [if_pos (le_of_eq_of_le (by rw [hr.lift_val]; simp [Shape.Reduces.liftVal]) (Nat.zero_le _))]
      exact EReal.bot_lt_coe _⟩
  refine ⟨μ, Eq.trans ?_ hμ⟩
  rw [val_main_cst_0_apply]
  show Finset.fold max (Ideal.ofBits .f32 0xFF800000#32) _ _ = _
  rw [ninf]

/-- A row's greatest score. -/
def mu (h : Fin 16) (r : Fin 4352) : ℝ := (mu_ex Q K h r).choose

theorem mu_at (h : Fin 16) (r : Fin 4352) : val_main_v13 (F := Ideal) (up Q) (up K) (ix2 h r) = (mu Q K h r : EReal) :=
  (mu_ex Q K h r).choose_spec

theorem v20_at (h : Fin 16) (r : Fin 4352) : val_main_v20 (F := Ideal) (up Q) (up K) (ix2 h r) = (mu Q K h r : EReal) := by
  rw [val_main_v20_apply, mu_at, val_main_v19_apply, val_main_cst_2_apply]
  show max (Ideal.ofBits .f32 0xFF800000#32) _ = _
  rw [ninf]
  exact max_eq_right bot_le

/-- The weights before they are divided. -/
theorem e_at (h : Fin 16) (r k : Fin 4352) :
    val_main_v33 (F := Ideal) (up Q) (up K) (ix3 h r k) = Row.ee r.val (sg Q K h r) (mu Q K h r) k := by
  rw [val_main_v33_apply, val_main_v32_apply, val_main_v31_apply, val_main_v30_apply,
    eq2 (idx_main_v30 (idx_main_v31 (ix3 h r k))) h r rfl rfl, v20_at, s_at]
  rfl

theorem l_at (h : Fin 16) (r : Fin 4352) :
    val_main_v34 (F := Ideal) (up Q) (up K) (ix2 h r) = Row.ll r.val (sg Q K h r) (mu Q K h r) := by
  rw [val_main_v34_apply, val_main_cst_8_apply]
  show Ideal.ofBits .f32 0x00000000#32 + _ = _
  rw [zero_f, zero_add]
  exact Finset.sum_congr rfl fun k _ => by rw [eq3 (idx_main_v34 (ix2 h r) k) h r k rfl rfl rfl, e_at]

theorem l3_at (h : Fin 16) (r : Fin 4352) :
    val_main_v35 (F := Ideal) (up Q) (up K) (ix3 h r 0) = Row.ll r.val (sg Q K h r) (mu Q K h r) := by
  rw [val_main_v35_apply, eq2 (idx_main_v35 (ix3 h r 0)) h r rfl rfl, l_at]

theorem p_at (h : Fin 16) (r k : Fin 4352) :
    val_main_v41 (F := Ideal) (up Q) (up K) (ix3 h r k)
      = Ideal.div (Row.ee r.val (sg Q K h r) (mu Q K h r) k) (Row.ll r.val (sg Q K h r) (mu Q K h r)) := by
  rw [val_main_v41_apply, val_main_v37_apply, e_at, val_main_v36_apply, eq3 (idx_main_v36 (ix3 h r k)) h r 0 rfl rfl rfl, l3_at]
  rfl

theorem g_at (x3 : S4352x2048.Idx → EReal) (h : Fin 16) (c : Fin 128) (r : Fin 4352) :
    val_main_v47 (F := Ideal) x3 (ix3 h c r) = x3 (ix2 r (ocol h c)) := by
  rw [val_main_v47_apply, val_main_v46_apply, eq3 (idx_main_v47 (ix3 h c r)) r h c rfl rfl rfl, val_main_v45_apply]
  refine congrArg x3 (eq2 _ _ _ ?_ ?_)
  · show ((r.val * 16 + h.val) * 128 + c.val) / 2048 = r.val; omega
  · show ((r.val * 16 + h.val) * 128 + c.val) % 2048 = 128 * h.val + c.val; omega

theorem dp_at (h : Fin 16) (r k : Fin 4352) :
    val_main_v53 (F := Ideal) (up W) (up D) (ix3 h r k) = Row.dp (vv W h) (gg D h r) k := by
  rw [val_main_v53_apply, val_main_v49_apply]
  show val_main_v48 (F := Ideal) (up W) (up D) (ix3 h r k) = _
  rw [val_main_v48_apply]
  refine Finset.sum_congr rfl fun c _ => ?_
  rw [eq3 (lidx_main_v48 (ix3 h r k) c) h c r rfl rfl rfl, eq3 (ridx_main_v48 (ix3 h r k) c) k h c rfl rfl rfl, g_at, v3_at]
  rfl

theorem row_at (h : Fin 16) (r : Fin 4352) :
    val_main_v57 (F := Ideal) (up Q) (up K) (up W) (up D) (ix2 h r)
      = ∑ k : Fin 4352, Row.dp (vv W h) (gg D h r) k
          * Ideal.div 1 (Row.ll r.val (sg Q K h r) (mu Q K h r) * Row.ll r.val (sg Q K h r) (mu Q K h r))
          * Row.ee r.val (sg Q K h r) (mu Q K h r) k := by
  rw [val_main_v57_apply, val_main_cst_10_apply]
  show Ideal.ofBits .f32 0x00000000#32 + _ = _
  rw [zero_f, zero_add]
  refine Finset.sum_congr rfl fun k _ => ?_
  rw [eq3 (idx_main_v57 (ix2 h r) k) h r k rfl rfl rfl, val_main_v56_apply, val_main_v55_apply, dp_at, e_at, val_main_v54_apply,
    eq3 (idx_main_v54 (ix3 h r k)) h r 0 rfl rfl rfl, val_main_v40_apply, val_main_v38_apply, l3_at, val_main_v39_apply,
    val_main_cst_9_apply]
  show _ * Ideal.div (Ideal.ofBits .f32 0x3F800000#32) _ * _ = _
  rw [one_f]
  rfl

/-- The gradient of the scores. -/
theorem ds_at (h : Fin 16) (r k : Fin 4352) :
    val_main_v66 (F := Ideal) (up Q) (up K) (up W) (up D) (ix3 h r k)
      = if k.val ≤ r.val then
          (Ideal.div (Row.dp (vv W h) (gg D h r) k) (Row.ll r.val (sg Q K h r) (mu Q K h r))
            + -(∑ k' : Fin 4352, Row.dp (vv W h) (gg D h r) k'
                * Ideal.div 1 (Row.ll r.val (sg Q K h r) (mu Q K h r) * Row.ll r.val (sg Q K h r) (mu Q K h r))
                * Row.ee r.val (sg Q K h r) (mu Q K h r) k')) * Row.ee r.val (sg Q K h r) (mu Q K h r) k
        else 0 := by
  have h62 : val_main_v62 (F := Ideal) (up Q) (up K) (up W) (up D) (ix2 h r)
      = -(val_main_v57 (F := Ideal) (up Q) (up K) (up W) (up D) (ix2 h r)) := by
    rw [val_main_v62_apply, val_main_cst_11_apply]
    show Ideal.ofBits .f32 0x00000000#32 + _ = _
    rw [zero_f, zero_add, Fin.sum_univ_one, val_main_v59_apply, val_main_v58_apply,
      eq2 (idx_main_v58 (idx_main_v62 (ix2 h r) 0)) h r (by show ((h.val * 4352 + r.val) * 1 + 0) / 4352 = h.val; omega)
        (by show ((h.val * 4352 + r.val) * 1 + 0) % 4352 = r.val; omega)]
    rfl
  rw [val_main_v66_apply, mask_at, sel_le, val_main_v65_apply, val_main_v64_apply, val_main_v61_apply, dp_at, e_at,
    val_main_v60_apply, eq3 (idx_main_v60 (ix3 h r k)) h r 0 rfl rfl rfl, l3_at, val_main_v63_apply,
    eq2 (idx_main_v63 (ix3 h r k)) h r rfl rfl, h62, row_at, val_main_call1_v0_apply, val_main_call1_cst_apply]
  exact if_congr Iff.rfl rfl zero_f

/-- The queries' gradient. -/
theorem dq_at (h : Fin 16) (r : Fin 4352) (d : Fin 256) :
    val_main_v74 (F := Ideal) (up Q) (up K) (up W) (up D) (ix2 r (qcol h d))
      = ∑ k : Fin 4352, val_main_v66 (F := Ideal) (up Q) (up K) (up W) (up D) (ix3 h r k) * up K (ix2 k (qcol h d)) := by
  rw [val_main_v74_apply, val_main_v73_apply]
  show val_main_v72 (F := Ideal) (up Q) (up K) (up W) (up D) _ = _
  rw [eq3 (idx_main_v73 (ix2 r (qcol h d))) r h d (by show (r.val * 4096 + (256 * h.val + d.val)) / 4096 = r.val; omega)
    (by show (r.val * 4096 + (256 * h.val + d.val)) / 256 % 16 = h.val; omega)
    (by show (r.val * 4096 + (256 * h.val + d.val)) % 256 = d.val; omega), val_main_v72_apply]
  show val_main_v71 (F := Ideal) (up Q) (up K) (up W) (up D) _ = _
  rw [val_main_v71_apply, eq3 (idx_main_v71 (ix3 r h d)) h r d rfl rfl rfl, val_main_v70_apply]
  refine Finset.sum_congr rfl fun k _ => ?_
  rw [eq3 (lidx_main_v70 (ix3 h r d) k) h r k rfl rfl rfl, eq3 (ridx_main_v70 (ix3 h r d) k) k h d rfl rfl rfl, v1_at]

/-- The keys' gradient. -/
theorem dk_at (h : Fin 16) (k : Fin 4352) (d : Fin 256) :
    val_main_v76 (F := Ideal) (up Q) (up K) (up W) (up D) (ix2 k (qcol h d))
      = ∑ r : Fin 4352, val_main_v66 (F := Ideal) (up Q) (up K) (up W) (up D) (ix3 h r k) * up Q (ix2 r (qcol h d)) := by
  rw [val_main_v76_apply, val_main_v75_apply]
  show val_main_v69 (F := Ideal) (up Q) (up K) (up W) (up D) _ = _
  rw [eq3 (idx_main_v75 (ix2 k (qcol h d))) k h d (by show (k.val * 4096 + (256 * h.val + d.val)) / 4096 = k.val; omega)
    (by show (k.val * 4096 + (256 * h.val + d.val)) / 256 % 16 = h.val; omega)
    (by show (k.val * 4096 + (256 * h.val + d.val)) % 256 = d.val; omega), val_main_v69_apply]
  show val_main_v68 (F := Ideal) (up Q) (up K) (up W) (up D) _ = _
  rw [val_main_v68_apply, eq3 (idx_main_v68 (ix3 k h d)) h k d rfl rfl rfl, val_main_v67_apply]
  refine Finset.sum_congr rfl fun r _ => ?_
  rw [eq3 (lidx_main_v67 (ix3 h k d) r) h r k rfl rfl rfl, eq3 (ridx_main_v67 (ix3 h k d) r) r h d rfl rfl rfl, v0_at]

/-- The values' gradient. -/
theorem dv_at (h : Fin 16) (k : Fin 4352) (c : Fin 128) :
    val_main_v77 (F := Ideal) (up Q) (up K) (up D) (ix2 k (ocol h c))
      = ∑ r : Fin 4352, up D (ix2 r (ocol h c)) * val_main_v41 (F := Ideal) (up Q) (up K) (ix3 h r k) := by
  rw [val_main_v77_apply, eq3 (idx_main_v77 (ix2 k (ocol h c))) k h c (by show (k.val * 2048 + (128 * h.val + c.val)) / 2048 = k.val; omega)
    (by show (k.val * 2048 + (128 * h.val + c.val)) / 128 % 16 = h.val; omega)
    (by show (k.val * 2048 + (128 * h.val + c.val)) % 128 = c.val; omega), val_main_v52_apply]
  show val_main_v51 (F := Ideal) (up Q) (up K) (up D) _ = _
  rw [val_main_v51_apply, eq3 (idx_main_v51 (ix3 k h c)) h c k rfl rfl rfl, val_main_v50_apply]
  refine Finset.sum_congr rfl fun r _ => ?_
  rw [eq3 (lidx_main_v50 (ix3 h c k) r) h c r rfl rfl rfl, eq3 (ridx_main_v50 (ix3 h c k) r) h r k rfl rfl rfl, g_at]

end Cert.ReferenceIdeal.At

end
-- ==== Proof.Equal.lean ====
module

public import proofs.«01_k».proof.Proof.Array
public import proofs.«01_k».proof.Proof.HostV
public import proofs.«01_k».proof.Proof.HostO
public import proofs.«01_k».proof.Proof.Ref

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL.Sem
open Cert.ReferenceIdeal.At
open Cert.ReferenceIdeal.Read (val_main_v3 val_main_v12_0 val_main_v13 val_main_v41 val_main_v66 val_main_v74 val_main_v76 val_main_v77)

/-! # The kernel's three results are the reference's, of real arguments -/

variable (Q K W : S4352x4096.Idx → ℝ) (D : S4352x2048.Idx → ℝ)

theorem argE_at (h : Fin 16) (r k : Fin 4352) :
    argE (F := Ideal) (up Q) (up K) (ix3 h r k) = Row.ee r.val (sg Q K h r) (mu Q K h r) k := by
  unfold argE
  refine (hostE_at _ _ h r k).trans ?_
  rw [s_at, mu_at]
  rfl

theorem argL_at (h : Fin 16) (r : Fin 4352) :
    argL (F := Ideal) (up Q) (up K) (ix3 h r 0) = Row.ll r.val (sg Q K h r) (mu Q K h r) := by
  unfold argL
  refine (hostL_at _ h r).trans ?_
  exact Finset.sum_congr rfl fun k _ => argE_at Q K h r k

theorem out_at (r : Fin 4352) (h : Fin 16) (c : Fin 128) :
    hostO (F := Ideal) (val_main_v3 (F := Ideal) (up W)) (hostP (argE (F := Ideal) (up Q) (up K)) (argL (F := Ideal) (up Q) (up K))) (ix2 r (ocol h c))
      = Row.out r.val (sg Q K h r) (mu Q K h r) (vv W h) c := by
  refine (hostO_at _ _ r h c).trans ?_
  refine Finset.sum_congr rfl fun k _ => ?_
  rw [v3_at, hostP_at, argE_at, argL_at]
  rfl

theorem lse_at (h : Fin 16) (r : Fin 4352) :
    hostLse (F := Ideal) (val_main_v13 (F := Ideal) (up Q) (up K)) (argL (F := Ideal) (up Q) (up K)) (ix3 h r 0)
      = (mu Q K h r : EReal) + Ideal.log (Row.ll r.val (sg Q K h r) (mu Q K h r)) := by
  refine (hostLse_at _ _ h r 0).trans ?_
  rw [mu_at, argL_at]

/-- The six arrays the kernel reads, of real arguments. -/
def real : Arrs :=
  ⟨up Q, up K, up W, hostO (F := Ideal) (val_main_v3 (F := Ideal) (up W)) (hostP (argE (F := Ideal) (up Q) (up K)) (argL (F := Ideal) (up Q) (up K))), up D,
    hostLse (F := Ideal) (val_main_v13 (F := Ideal) (up Q) (up K)) (argL (F := Ideal) (up Q) (up K))⟩

theorem gS_real (h : Fin 16) (r k : Fin 4352) : gS (real Q K W D) h r k = (sg Q K h r k : EReal) := by
  unfold gS sg
  rw [← Row.coe_sum]
  exact Finset.sum_congr rfl fun d _ => (EReal.coe_mul _ _).symm

theorem gP_log (h : Fin 16) (r k : Fin 4352) : gP (real Q K W D) h r k
    = if k.val ≤ r.val then Ideal.exp ((sg Q K h r k : EReal) - ((mu Q K h r : EReal) + Ideal.log (Row.ll r.val (sg Q K h r) (mu Q K h r)))) else 0 := by
  unfold gP
  rw [gS_real]
  exact if_congr Iff.rfl (congrArg (fun z : EReal => Ideal.exp ((sg Q K h r k : EReal) - z)) (lse_at Q K h r)) rfl

theorem gP_real (h : Fin 16) (r k : Fin 4352) : gP (real Q K W D) h r k = val_main_v41 (F := Ideal) (up Q) (up K) (ix3 h r k) := by
  rw [gP_log, Row.weight_log _ _ _ (by decide), p_at, Row.weight_div _ _ _ (by decide)]

theorem gD_real (h : Fin 16) (r k : Fin 4352) :
    gD (real Q K W D) h r k = val_main_v66 (F := Ideal) (up Q) (up K) (up W) (up D) (ix3 h r k) := by
  rw [ds_at, ← Row.grad_eq _ _ _ _ _ (by decide)]
  unfold gD
  rw [gP_log]
  have e : (∑ c : Fin 128, (real Q K W D).g (ix2 r (ocol h c)) * (real Q K W D).o (ix2 r (ocol h c)) : EReal)
      = ∑ c : Fin 128, (gg D h r c : EReal) * Row.out r.val (sg Q K h r) (mu Q K h r) (vv W h) c :=
    Finset.sum_congr rfl fun c _ => congrArg (fun z : EReal => (D (ix2 r (ocol h c)) : EReal) * z) (out_at Q K W r h c)
  rw [e]
  rfl

variable (m : (ℓ : Loc nD τ sig) → Buf (Elt Ideal) ℓ) (c : Dev nD)
  (h0 : m ((c : Thread nD τ).loc main_arg0) = up Q) (h1 : m ((c : Thread nD τ).loc main_arg1) = up K)
  (h2 : m ((c : Thread nD τ).loc main_arg2) = up W) (h3 : m ((c : Thread nD τ).loc main_arg3) = up D)

include h0 h1 h2 h3

theorem arrs_real : arrs m c = real Q K W D := by
  unfold arrs real
  rw [V_main_arg0, V_main_arg1, V_main_arg2, V_main_arg3, V_out, V_lse, h0, h1, h2, h3]

theorem dq_real : (dats m 0 c).arrAt 6 cfg0.N = val_main_v74 (F := Ideal) (up Q) (up K) (up W) (up D) :=
  arr_dq m c _ fun h r d => by
    rw [arrs_real Q K W D m c h0 h1 h2 h3]
    refine (dq_at Q K W D h r d).trans ?_
    exact Finset.sum_congr rfl fun k _ => congrArg (fun z : EReal => z * (K (ix2 k (qcol h d)) : EReal)) (gD_real Q K W D h r k).symm

theorem dk_real : (dats m 0 c).arrAt 7 cfg0.N = val_main_v76 (F := Ideal) (up Q) (up K) (up W) (up D) :=
  arr_dk m c _ fun h k d => by
    rw [arrs_real Q K W D m c h0 h1 h2 h3]
    refine (dk_at Q K W D h k d).trans ?_
    exact Finset.sum_congr rfl fun r _ => congrArg (fun z : EReal => z * (Q (ix2 r (qcol h d)) : EReal)) (gD_real Q K W D h r k).symm

theorem dv_real : (dats m 0 c).arrAt 8 cfg0.N = val_main_v77 (F := Ideal) (up Q) (up K) (up D) :=
  arr_dv m c _ fun h k d => by
    rw [arrs_real Q K W D m c h0 h1 h2 h3]
    refine (dv_at Q K D h k d).trans ?_
    refine Finset.sum_congr rfl fun r _ => (mul_comm _ _).trans ?_
    exact congrArg (fun z : EReal => z * (D (ix2 r (ocol h d)) : EReal)) (gP_real Q K W D h r k).symm

end Cert.KernelIdeal.Bwd

end
-- ==== Proof.Same.lean ====
module

public import proofs.«01_k».proof.Proof.Gen.Kernel
public import proofs.«01_k».proof.Proof.Gen.KernelIdeal

@[expose] public section

set_option maxRecDepth 16384
set_option maxHeartbeats 4000000

namespace Cert.Same

open Idealize.ShloMosaic

/-! # The two printed programs have the same text -/

variable {F : FTy → Type} [FloatOps F]

theorem bodies : @Cert.Kernel.defs₀ F _ _ = @Cert.KernelIdeal.defs₀ F _ _ := by
  unfold Cert.Kernel.defs₀ Cert.KernelIdeal.defs₀
  refine congrArg (Defs.onTc (τ := Cert.KernelIdeal.τ)) ?_
  funext l x
  match l, x with
  | 0, (t, s) => rfl

set_option backward.isDefEq.respectTransparency false in
theorem defs : @Cert.Kernel.defs F _ _ = @Cert.KernelIdeal.defs F _ _ := by
  unfold Cert.Kernel.defs Cert.KernelIdeal.defs
  exact congrArg (Pipeline.defs (Cert.KernelIdeal.pcfgs (F := F))) bodies

set_option backward.isDefEq.respectTransparency false in
theorem main : @Cert.Kernel.main F _ _ = @Cert.KernelIdeal.main F _ _ := rfl

end Cert.Same
-- ==== Proof.Product.lean ====
module

public import Idealize.ShloMosaic.Lib.MatmulPlain
public import Idealize.ShloMosaic.Lib.ValueIdx
public import Idealize.ShloMosaic.PureOps

@[expose] public section

noncomputable section

namespace Cert.Prod

open Idealize.ShloMosaic Idealize.ShloMosaic.ValueIdx

/-! # Matrix products of extended reals, element by element -/

/-- The zero the kernels start their products from. -/
theorem zero : (FloatOps.ofBits (F := Ideal) .f32 0x00000000#32) = (0 : EReal) := by
  show Ideal.ofBits .f32 0x00000000#32 = 0
  simp [Ideal.ofBits, Ideal.ieee]

/-- The product of a matrix and another's transpose, whose sums run along both rows. -/
theorem nt {M K N : ℕ} {φ₁ φ₂ : FTy} (lhs : FVec Ideal ⟨2, ![M, K]⟩ φ₁) (rhs : FVec Ideal ⟨2, ![N, K]⟩ φ₂) (r : Fin M) (c : Fin N) :
    FloatOps.matmul (DotDims.transposedRhs M K N) none lhs rhs (constant (F := Ideal) ⟨2, ![M, N]⟩ .f32 0x00000000#32) (ix2 r c)
      = ∑ k : Fin K, lhs (ix2 r k) * rhs (ix2 c k) := by
  rw [Ideal.matmul_transposedRhs_apply]
  refine Eq.trans (congrArg (· + _) zero) (zero_add _)

/-- The product of two matrices. -/
theorem nn {M K N : ℕ} {φ₁ φ₂ : FTy} (lhs : FVec Ideal ⟨2, ![M, K]⟩ φ₁) (rhs : FVec Ideal ⟨2, ![K, N]⟩ φ₂) (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_plain_apply]
  refine Eq.trans (congrArg (· + _) zero) (zero_add _)

/-- The product of a matrix's transpose and another matrix, whose sums run along both columns. -/
theorem tn {M K N : ℕ} {φ₁ φ₂ : FTy} (d : DotDims ⟨2, ![K, M]⟩ ⟨2, ![K, N]⟩ ⟨2, ![M, N]⟩)
    (wf : DotDims.WF ⟨2, ![K, M]⟩ ⟨2, ![K, N]⟩ ⟨2, ![M, N]⟩ [0] [0] [1] [1] [] [])
    (hd : d = ⟨[0], [0], [1], [1], [], [], wf⟩)
    (lhs : FVec Ideal ⟨2, ![K, M]⟩ φ₁) (rhs : FVec Ideal ⟨2, ![K, N]⟩ φ₂) (r : Fin M) (c : Fin N) :
    FloatOps.matmul d none lhs rhs (constant (F := Ideal) ⟨2, ![M, N]⟩ .f32 0x00000000#32) (ix2 r c)
      = ∑ k : Fin K, lhs (ix2 k r) * rhs (ix2 k c) := by
  subst hd
  rw [Ideal.matmul_apply, ← Equiv.sum_comp (contrEquiv1 (⟨[0], [0], [1], [1], [], [], wf⟩ : DotDims ⟨2, ![K, M]⟩ ⟨2, ![K, N]⟩ ⟨2, ![M, N]⟩) K rfl rfl).symm]
  refine Eq.trans (congrArg (· + _) zero) ((zero_add _).trans (Finset.sum_congr rfl fun k _ => ?_))
  have hk := contrEquiv1_symm_val (⟨[0], [0], [1], [1], [], [], wf⟩ : DotDims ⟨2, ![K, M]⟩ ⟨2, ![K, N]⟩ ⟨2, ![M, N]⟩) K rfl rfl k
  refine congr (congrArg _ (congrArg lhs ?_)) (congrArg rhs ?_)
  · funext a; apply Fin.ext
    match a with
    | ⟨0, _⟩ => exact hk
    | ⟨1, _⟩ => rfl
  · funext a; apply Fin.ext
    match a with
    | ⟨0, _⟩ => exact hk
    | ⟨1, _⟩ => rfl

end Cert.Prod

end
-- ==== Proof.Product2.lean ====
module

public import proofs.«01_k».proof.Proof.Product
public import proofs.«01_k».proof.Proof.Gen.Kernel2Ideal.Value
public import proofs.«01_k».proof.Proof.Gen.Reference2Ideal.Read

@[expose] public section

set_option maxRecDepth 16384

noncomputable section

namespace Cert.Kernel2Ideal.Prod

open Cert.Kernel2Ideal Cert.Kernel2Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- The first of a block's two points leaves the product of its input blocks in the accumulator. -/
theorem first_eq {F : FTy → Type} [FloatOps F] (c : Dev nD) (i : grid0.Coords)
    (arg3 : Memref sig .tc .vmem S1088x5632 .bf16) (h3 : arg3.IsWhole) (arg4 : Memref sig .tc .vmem S512x5632 .bf16) (h4 : arg4.IsWhole)
    (arg5 : Memref sig .tc .vmem S1088x512 .f32) (h5 : arg5.IsWhole) (arg6 : Memref sig .tc .vmem S1088x512 .f32) (h6 : arg6.IsWhole)
    (hc0 : cond0_0 i) (hc1 : ¬cond0_1 i) (hc2 : ¬cond0_2 i)
    (x0 : Vec F S1088x5632 .bf16) (x1 : Vec F S512x5632 .bf16) :
    sout0_A_0 c i arg3 h3 arg4 h4 arg5 h5 arg6 h6 hc0 hc1 hc2 x0 x1 = k0_pay1 x0 x1 := by
  unfold sout0_A_0
  rw [View.read_writes_junk_eq_canon]
  unfold kernelRun0_A
  dsimp only
  rw [View.canon_unit_zero hz]
  unfold k0_pay2
  simp only [View.readAt_eq_ld, h3.read_unread, h4.read_unread, View.ld_unit_zero (S := S1088x5632) hz, View.ld_unit_zero (S := S512x5632) hz, shapeCast_self]

/-- The second adds the product of its own to what the first left, and that is the block's result. -/
theorem second_eq {F : FTy → Type} [FloatOps F] (c : Dev nD) (i : grid0.Coords)
    (arg3 : Memref sig .tc .vmem S1088x5632 .bf16) (h3 : arg3.IsWhole) (arg4 : Memref sig .tc .vmem S512x5632 .bf16) (h4 : arg4.IsWhole)
    (arg5 : Memref sig .tc .vmem S1088x512 .f32) (h5 : arg5.IsWhole) (arg6 : Memref sig .tc .vmem S1088x512 .f32) (h6 : arg6.IsWhole)
    (hc0 : ¬cond0_0 i) (hc1 : cond0_1 i) (hc2 : cond0_2 i)
    (x0 : Vec F S1088x5632 .bf16) (x1 : Vec F S512x5632 .bf16) (xs : Vec F S1088x512 .f32) :
    out0_B_2 c i arg3 h3 arg4 h4 arg5 h5 arg6 h6 hc0 hc1 hc2 x0 x1 xs = addf xs (k0_pay1 x0 x1) := by
  unfold out0_B_2
  rw [View.read_writes_junk_eq_canon]
  unfold kernelRun0_B
  dsimp only
  sl_unfold_words
  rw [View.canon_unit_zero hz, View.readCov_unit_zero (S := S1088x512) _ hz]
  unfold k0_pay3
  simp only [View.readAt_eq_ld, h3.read_unread, h4.read_unread, h6.read_unread, View.ld_unit_zero (S := S1088x5632) hz, View.ld_unit_zero (S := S512x5632) hz,
    View.ld_unit_zero (S := S1088x512) hz, shapeCast_self]

/-- A product of two blocks at an element. -/
theorem pay_at (x0 : Vec Ideal S1088x5632 .bf16) (x1 : Vec Ideal S512x5632 .bf16) (r : Fin 1088) (c : Fin 512) :
    k0_pay1 (F := Ideal) x0 x1 (ix2 r c) = ∑ k : Fin 5632, x0 (ix2 r k) * x1 (ix2 c k) :=
  Cert.Prod.nt (φ₁ := .bf16) (φ₂ := .bf16) x0 x1 r c

variable (m : (ℓ : Loc nD τ sig) → Buf (Elt Ideal) ℓ)

/-- The whole product. -/
def whole (x0 : S4352x11264.Idx → EReal) (x1 : S2048x11264.Idx → EReal) : S4352x2048.Idx → EReal :=
  fun i => ∑ k : Fin 11264, x0 (ix2 (i 0) k) * x1 (ix2 (i 1) k)

/-- Its sums in two halves. -/
theorem whole_halves (x0 : S4352x11264.Idx → EReal) (x1 : S2048x11264.Idx → EReal) (i : S4352x2048.Idx) :
    whole x0 x1 i = (∑ k : Fin 5632, x0 (ix2 (i 0) ⟨k.val, by omega⟩) * x1 (ix2 (i 1) ⟨k.val, by omega⟩))
      + ∑ k : Fin 5632, x0 (ix2 (i 0) ⟨5632 + k.val, by omega⟩) * x1 (ix2 (i 1) ⟨5632 + k.val, by omega⟩) :=
  Fin.sum_univ_add (a := 5632) (b := 5632) (fun k : Fin (5632 + 5632) => x0 (ix2 (i 0) k) * x1 (ix2 (i 1) k))

/-- Where each window's block stands at a grid point. -/
theorem places : ∀ t : Fin cfg0.N,
    (win0_0.index t (0 : Fin 2) = t.val / 8 ∧ win0_0.index t (1 : Fin 2) = t.val % 2)
      ∧ (win0_1.index t (0 : Fin 2) = t.val / 2 % 4 ∧ win0_1.index t (1 : Fin 2) = t.val % 2)
      ∧ (win0_2.index t (0 : Fin 2) = t.val / 8 ∧ win0_2.index t (1 : Fin 2) = t.val / 2 % 4) :=
  (by decide +kernel : ∀ t : Fin grid0.N,
    (win0_0.index t (0 : Fin 2) = t.val / 8 ∧ win0_0.index t (1 : Fin 2) = t.val % 2)
      ∧ (win0_1.index t (0 : Fin 2) = t.val / 2 % 4 ∧ win0_1.index t (1 : Fin 2) = t.val % 2)
      ∧ (win0_2.index t (0 : Fin 2) = t.val / 8 ∧ win0_2.index t (1 : Fin 2) = t.val / 2 % 4))

/-- A block of the first argument, element by element. -/
theorem at0 (c : Dev nD) (t : Fin cfg0.N) (a : Fin 1088) (b : Fin 5632) (a' : Fin 4352) (b' : Fin 11264)
    (ha : a'.val = win0_0.index t (0 : Fin 2) * 1088 + 1 * a.val) (hb : b'.val = win0_0.index t (1 : Fin 2) * 5632 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 512) (b : Fin 5632) (a' : Fin 2048) (b' : Fin 11264)
    (ha : a'.val = win0_1.index t (0 : Fin 2) * 512 + 1 * a.val) (hb : b'.val = win0_1.index t (1 : Fin 2) * 5632 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- What the accumulator holds after a block's first point. -/
theorem carried (c : Dev nD) (s : Fin cfg0.N) (hs : s.val % 2 = 0) :
    (outsAt0 m c s.val s.isLt).2 = k0_pay1 (F := Ideal) (iblk m c 0 s) (iblk m c 1 s) := by
  rw [outsAt0_A m c s hs (by omega) (by omega)]
  dsimp only
  rw [first_eq]

/-- What a block's second point writes back, of its own input blocks and the first point's. -/
theorem flushed_sum (c : Dev nD) (t s : Fin cfg0.N) (hs : s.val = t.val - 1) (ht : t.val % 2 = 1) :
    (dats m 0 c).flushed 2 t
      = (cfg0.win 2).cut (grid0.coords t) (addf (F := Ideal) (k0_pay1 (F := Ideal) (iblk m c 0 s) (iblk m c 1 s)) (k0_pay1 (F := Ideal) (iblk m c 0 t) (iblk m c 1 t))) := by
  have e : ∀ (n : ℕ) (hn : n < cfg0.N), n = s.val → (outsAt0 m c n hn).2 = k0_pay1 (F := Ideal) (iblk m c 0 s) (iblk m c 1 s) := by
    intro n hn h
    subst h
    exact carried m c s (by omega)
  rw [Cert.Kernel2Ideal.Value.flushed2_B m c t (by omega) ht ht, second_eq, e _ _ hs.symm]

/-- A block's second point writes its block of the whole product. -/
theorem flushed_eq (c : Dev nD) (t : Fin cfg0.N) (hf : (cfg0.win 2).flush t = true) :
    (dats m 0 c).flushed 2 t
      = ((cfg0.win 2).blk t).view.read (Elt Ideal) (whole (m ((c : Thread nD τ).loc main_arg0)) (m ((c : Thread nD τ).loc main_arg1))) := by
  have ht : t.val % 2 = 1 := (flush0_2 t).mp hf
  let s : Fin cfg0.N := ⟨t.val - 1, Nat.lt_of_le_of_lt (Nat.sub_le _ _) t.isLt⟩
  have hs : s.val = t.val - 1 := rfl
  rw [flushed_sum m c t s rfl ht]
  funext y
  show k0_pay1 (F := Ideal) (iblk m c 0 s) (iblk m c 1 s) y + k0_pay1 (F := Ideal) (iblk m c 0 t) (iblk m c 1 t) y = whole _ _ (((cfg0.win 2).blk t).view.emb y)
  obtain ⟨⟨p0, p1⟩, ⟨p2, p3⟩, ⟨p4, p5⟩⟩ := places t
  obtain ⟨⟨q0, q1⟩, ⟨q2, q3⟩, -⟩ := places s
  have e0 : ((((cfg0.win 2).blk t).view.emb y) (0 : Fin 2)).val = win0_2.index t (0 : Fin 2) * 1088 + 1 * (y (0 : Fin 2)).val := rfl
  have e1 : ((((cfg0.win 2).blk t).view.emb y) (1 : Fin 2)).val = win0_2.index t (1 : Fin 2) * 512 + 1 * (y (1 : Fin 2)).val := rfl
  rw [whole_halves]
  refine congr (congrArg _ ?_) ?_
  · refine (congrArg _ (eq_ix2 (n0 := 1088) (n1 := 512) y)).trans ((pay_at _ _ _ _).trans (Finset.sum_congr rfl fun k _ => ?_))
    exact congr (congrArg _ (at0 m c s _ k ((((cfg0.win 2).blk t).view.emb y) (0 : Fin 2)) _ (by rw [q0, e0, p4, hs]; omega) (by rw [q1, hs]; dsimp only; omega)))
      (at1 m c s _ k ((((cfg0.win 2).blk t).view.emb y) (1 : Fin 2)) _ (by rw [q2, e1, p5, hs]; omega) (by rw [q3, hs]; dsimp only; omega))
  · refine (congrArg _ (eq_ix2 (n0 := 1088) (n1 := 512) y)).trans ((pay_at _ _ _ _).trans (Finset.sum_congr rfl fun k _ => ?_))
    exact congr (congrArg _ (at0 m c t _ k ((((cfg0.win 2).blk t).view.emb y) (0 : Fin 2)) _ (by rw [p0, e0, p4]) (by rw [p1]; dsimp only; omega)))
      (at1 m c t _ k ((((cfg0.win 2).blk t).view.emb y) (1 : Fin 2)) _ (by rw [p2, e1, p5]) (by rw [p3]; dsimp only; omega))

/-- Every element of the result stands in some written block. -/
theorem covered (i : S4352x2048.Idx) :
    ∃ t : Fin cfg0.N, (cfg0.win 2).flush t = true ∧ i ∈ ((cfg0.win 2).blk t).view.set :=
  (Cert.Kernel2Ideal.Value.covered_iff2 i).2 (by
    have h0 : (i 0).val < 4352 := (i 0).isLt
    have h1 : (i 1).val < 2048 := (i 1).isLt
    omega)

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t hf => flushed_eq m c t hf) covered

open Cert.Reference2Ideal.Read in
/-- The reference's result is the whole product. -/
theorem reference (x0 : S4352x11264.Idx → EReal) (x1 : S2048x11264.Idx → EReal) :
    val_main_v4 (F := Ideal) x0 x1 = whole x0 x1 := by
  funext i
  refine (val_main_v4_apply x0 x1 i).trans (Finset.sum_congr rfl fun k _ => ?_)
  exact congr (congrArg _ (congrArg x0 (eq_ix2 _))) (congrArg x1 (eq_ix2 _))

end Cert.Kernel2Ideal.Prod

end
-- ==== Proof.Product3.lean ====
module

public import proofs.«01_k».proof.Proof.Product
public import proofs.«01_k».proof.Proof.Gen.Kernel3Ideal.Value
public import proofs.«01_k».proof.Proof.Gen.Reference3Ideal.Read

@[expose] public section

set_option maxRecDepth 16384

noncomputable section

namespace Cert.Kernel3Ideal.Prod

open Cert.Kernel3Ideal Cert.Kernel3Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S4352x512 .bf16) (h3 : arg3.IsWhole) (arg4 : Memref sig .tc .vmem S4352x1024 .bf16) (h4 : arg4.IsWhole)
    (arg5 : Memref sig .tc .vmem S512x1024 .bf16) (h5 : arg5.IsWhole) (arg6 : Memref sig .tc .vmem S8x128 .f32) (h6 : arg6.IsWhole)
    (x0 : Vec F S4352x512 .bf16) (x1 : Vec F S4352x1024 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S4352x512) hz, View.ld_unit_zero (S := S4352x1024) hz]

/-- That product at an element. -/
theorem pay_at (x0 : Vec Ideal S4352x512 .bf16) (x1 : Vec Ideal S4352x1024 .bf16) (r : Fin 512) (c : Fin 1024) :
    k0_pay1 (F := Ideal) x0 x1 (ix2 r c) = ∑ k : Fin 4352, x0 (ix2 k (r)) * x1 (ix2 k (c)) :=
  Cert.Prod.tn (φ₁ := .bf16) (φ₂ := .bf16) dot_S4352x512_S4352x1024_S512x1024_0_0_1_1_n_n _ rfl x0 x1 r c

variable (m : (ℓ : Loc nD τ sig) → Buf (Elt Ideal) ℓ)

/-- The whole product. -/
def whole (x0 : S4352x2048.Idx → EReal) (x1 : S4352x11264.Idx → EReal) : S2048x11264.Idx → EReal :=
  fun i => ∑ k : Fin 4352, x0 (ix2 k (i 0)) * x1 (ix2 k (i 1))

/-- Where each window's block stands at a grid point. -/
theorem places : ∀ t : Fin cfg0.N,
    (win0_0.index t (0 : Fin 2) = 0 ∧ win0_0.index t (1 : Fin 2) = t.val / 11)
      ∧ (win0_1.index t (0 : Fin 2) = 0 ∧ win0_1.index t (1 : Fin 2) = t.val % 11)
      ∧ (win0_2.index t (0 : Fin 2) = t.val / 11 ∧ win0_2.index t (1 : Fin 2) = t.val % 11) :=
  (by decide +kernel : ∀ t : Fin grid0.N,
    (win0_0.index t (0 : Fin 2) = 0 ∧ win0_0.index t (1 : Fin 2) = t.val / 11)
      ∧ (win0_1.index t (0 : Fin 2) = 0 ∧ win0_1.index t (1 : Fin 2) = t.val % 11)
      ∧ (win0_2.index t (0 : Fin 2) = t.val / 11 ∧ win0_2.index t (1 : Fin 2) = t.val % 11))

/-- A block of the first argument, element by element. -/
theorem at0 (c : Dev nD) (t : Fin cfg0.N) (a : Fin 4352) (b : Fin 512) (a' : Fin 4352) (b' : Fin 2048)
    (ha : a'.val = win0_0.index t (0 : Fin 2) * 4352 + 1 * a.val) (hb : b'.val = win0_0.index t (1 : Fin 2) * 512 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 4352) (b : Fin 1024) (a' : Fin 4352) (b' : Fin 11264)
    (ha : a'.val = win0_1.index t (0 : Fin 2) * 4352 + 1 * a.val) (hb : b'.val = win0_1.index t (1 : Fin 2) * 1024 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel3Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 512 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 512) (n1 := 1024) y)).trans ((pay_at _ _ _ _).trans (Finset.sum_congr rfl fun k _ => ?_))
  exact congr (congrArg _ (at0 m c t k _ k ((((cfg0.win 2).blk t).view.emb y) (0 : Fin 2)) (by rw [p0]; omega) (by rw [p1, e0, p4])))
    (at1 m c t k _ k ((((cfg0.win 2).blk t).view.emb y) (1 : Fin 2)) (by rw [p2]; omega) (by rw [p3, e1, p5]))

/-- Every element of the result stands in some grid point's block. -/
theorem covered (i : S2048x11264.Idx) :
    ∃ t : Fin cfg0.N, (cfg0.win 2).flush t = true ∧ i ∈ ((cfg0.win 2).blk t).view.set := by
  have h0 : (i 0).val < 2048 := (i 0).isLt
  have h1 : (i 1).val < 11264 := (i 1).isLt
  have hN : cfg0.N = 44 := N_0
  let t : Fin cfg0.N := ⟨(i 0).val / 512 * 11 + (i 1).val / 1024, by omega⟩
  have ht : t.val = (i 0).val / 512 * 11 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference3Ideal.Read in
/-- The reference's result is the whole product. -/
theorem reference (x0 : S4352x2048.Idx → EReal) (x1 : S4352x11264.Idx → EReal) :
    val_main_v6 (F := Ideal) x0 x1 = whole x0 x1 := by
  funext i
  rw [val_main_v6_apply]
  refine (val_main_v5_apply (F := Ideal) x0 x1 i).trans ((val_main_v4_apply x0 x1 _).trans (Finset.sum_congr rfl fun k _ => ?_))
  exact (mul_comm _ _).trans (congr (congrArg _ (congrArg x0 (eq_ix2 _))) (congrArg x1 (eq_ix2 _)))

end Cert.Kernel3Ideal.Prod

end
-- ==== Proof.Product4.lean ====
module

public import proofs.«01_k».proof.Proof.Product
public import proofs.«01_k».proof.Proof.Gen.Kernel4Ideal.Value
public import proofs.«01_k».proof.Proof.Gen.Reference4Ideal.Read

@[expose] public section

set_option maxRecDepth 16384

noncomputable section

namespace Cert.Kernel4Ideal.Prod

open Cert.Kernel4Ideal Cert.Kernel4Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S1088x2048 .bf16) (h3 : arg3.IsWhole) (arg4 : Memref sig .tc .vmem S512x2048 .bf16) (h4 : arg4.IsWhole)
    (arg5 : Memref sig .tc .vmem S1088x512 .bf16) (h5 : arg5.IsWhole) (arg6 : Memref sig .tc .vmem S8x128 .f32) (h6 : arg6.IsWhole)
    (x0 : Vec F S1088x2048 .bf16) (x1 : Vec F S512x2048 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S1088x2048) hz, View.ld_unit_zero (S := S512x2048) hz]

/-- That product at an element. -/
theorem pay_at (x0 : Vec Ideal S1088x2048 .bf16) (x1 : Vec Ideal S512x2048 .bf16) (r : Fin 1088) (c : Fin 512) :
    k0_pay1 (F := Ideal) x0 x1 (ix2 r c) = ∑ k : Fin 2048, x0 (ix2 (r) k) * x1 (ix2 (c) k) :=
  Cert.Prod.nt (φ₁ := .bf16) (φ₂ := .bf16) x0 x1 r c

variable (m : (ℓ : Loc nD τ sig) → Buf (Elt Ideal) ℓ)

/-- The whole product. -/
def whole (x0 : S4352x2048.Idx → EReal) (x1 : S5632x2048.Idx → EReal) : S4352x5632.Idx → EReal :=
  fun i => ∑ k : Fin 2048, x0 (ix2 (i 0) k) * x1 (ix2 (i 1) k)

/-- Where each window's block stands at a grid point. -/
theorem places : ∀ t : Fin cfg0.N,
    (win0_0.index t (0 : Fin 2) = t.val / 11 ∧ win0_0.index t (1 : Fin 2) = 0)
      ∧ (win0_1.index t (0 : Fin 2) = t.val % 11 ∧ win0_1.index t (1 : Fin 2) = 0)
      ∧ (win0_2.index t (0 : Fin 2) = t.val / 11 ∧ win0_2.index t (1 : Fin 2) = t.val % 11) :=
  (by decide +kernel : ∀ t : Fin grid0.N,
    (win0_0.index t (0 : Fin 2) = t.val / 11 ∧ win0_0.index t (1 : Fin 2) = 0)
      ∧ (win0_1.index t (0 : Fin 2) = t.val % 11 ∧ win0_1.index t (1 : Fin 2) = 0)
      ∧ (win0_2.index t (0 : Fin 2) = t.val / 11 ∧ win0_2.index t (1 : Fin 2) = t.val % 11))

/-- A block of the first argument, element by element. -/
theorem at0 (c : Dev nD) (t : Fin cfg0.N) (a : Fin 1088) (b : Fin 2048) (a' : Fin 4352) (b' : Fin 2048)
    (ha : a'.val = win0_0.index t (0 : Fin 2) * 1088 + 1 * a.val) (hb : b'.val = win0_0.index t (1 : Fin 2) * 2048 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 512) (b : Fin 2048) (a' : Fin 5632) (b' : Fin 2048)
    (ha : a'.val = win0_1.index t (0 : Fin 2) * 512 + 1 * a.val) (hb : b'.val = win0_1.index t (1 : Fin 2) * 2048 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel4Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 1088 + 1 * (y (0 : Fin 2)).val := rfl
  have e1 : (((((cfg0.win 2).blk t).view.emb y) (1 : Fin 2))).val = win0_2.index t (1 : Fin 2) * 512 + 1 * (y (1 : Fin 2)).val := rfl
  refine (congrArg _ (eq_ix2 (n0 := 1088) (n1 := 512) y)).trans ((pay_at _ _ _ _).trans (Finset.sum_congr rfl fun k _ => ?_))
  exact congr (congrArg _ (at0 m c t _ k ((((cfg0.win 2).blk t).view.emb y) (0 : Fin 2)) k (by rw [p0, e0, p4]) (by rw [p1]; omega)))
    (at1 m c t _ k ((((cfg0.win 2).blk t).view.emb y) (1 : Fin 2)) k (by rw [p2, e1, p5]) (by rw [p3]; omega))

/-- Every element of the result stands in some grid point's block. -/
theorem covered (i : S4352x5632.Idx) :
    ∃ t : Fin cfg0.N, (cfg0.win 2).flush t = true ∧ i ∈ ((cfg0.win 2).blk t).view.set := by
  have h0 : (i 0).val < 4352 := (i 0).isLt
  have h1 : (i 1).val < 5632 := (i 1).isLt
  have hN : cfg0.N = 44 := N_0
  let t : Fin cfg0.N := ⟨(i 0).val / 1088 * 11 + (i 1).val / 512, by omega⟩
  have ht : t.val = (i 0).val / 1088 * 11 + (i 1).val / 512 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1088 ≤ (i 0).val ∧ (i 0).val < win0_2.index t (0 : Fin 2) * 1088 + 1088
    omega
  | ⟨1, _⟩ =>
    show win0_2.index t (1 : Fin 2) * 512 ≤ (i 1).val ∧ (i 1).val < win0_2.index t (1 : Fin 2) * 512 + 512
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference4Ideal.Read in
/-- The reference's result is the whole product. -/
theorem reference (x0 : S4352x2048.Idx → EReal) (x1 : S5632x2048.Idx → EReal) :
    val_main_v5 (F := Ideal) x0 x1 = whole x0 x1 := by
  funext i
  rw [val_main_v5_apply]
  refine (val_main_v4_apply x0 x1 i).trans (Finset.sum_congr rfl fun k _ => ?_)
  exact congr (congrArg _ (congrArg x0 (eq_ix2 _))) (congrArg x1 (eq_ix2 _))

end Cert.Kernel4Ideal.Prod

end
-- ==== Proof.Product5.lean ====
module

public import proofs.«01_k».proof.Proof.Product
public import proofs.«01_k».proof.Proof.Gen.Kernel5Ideal.Value
public import proofs.«01_k».proof.Proof.Gen.Reference5Ideal.Read

@[expose] public section

set_option maxRecDepth 16384

noncomputable section

namespace Cert.Kernel5Ideal.Prod

open Cert.Kernel5Ideal Cert.Kernel5Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S4352x512 .bf16) (h3 : arg3.IsWhole) (arg4 : Memref sig .tc .vmem S4352x1024 .bf16) (h4 : arg4.IsWhole)
    (arg5 : Memref sig .tc .vmem S512x1024 .bf16) (h5 : arg5.IsWhole) (arg6 : Memref sig .tc .vmem S8x128 .f32) (h6 : arg6.IsWhole)
    (x0 : Vec F S4352x512 .bf16) (x1 : Vec F S4352x1024 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S4352x512) hz, View.ld_unit_zero (S := S4352x1024) hz]

/-- That product at an element. -/
theorem pay_at (x0 : Vec Ideal S4352x512 .bf16) (x1 : Vec Ideal S4352x1024 .bf16) (r : Fin 512) (c : Fin 1024) :
    k0_pay1 (F := Ideal) x0 x1 (ix2 r c) = ∑ k : Fin 4352, x0 (ix2 k (r)) * x1 (ix2 k (c)) :=
  Cert.Prod.tn (φ₁ := .bf16) (φ₂ := .bf16) dot_S4352x512_S4352x1024_S512x1024_0_0_1_1_n_n _ rfl x0 x1 r c

variable (m : (ℓ : Loc nD τ sig) → Buf (Elt Ideal) ℓ)

/-- The whole product. -/
def whole (x0 : S4352x5632.Idx → EReal) (x1 : S4352x2048.Idx → EReal) : S5632x2048.Idx → EReal :=
  fun i => ∑ k : Fin 4352, x0 (ix2 k (i 0)) * x1 (ix2 k (i 1))

/-- Where each window's block stands at a grid point. -/
theorem places : ∀ t : Fin cfg0.N,
    (win0_0.index t (0 : Fin 2) = 0 ∧ win0_0.index t (1 : Fin 2) = t.val / 2)
      ∧ (win0_1.index t (0 : Fin 2) = 0 ∧ win0_1.index t (1 : Fin 2) = t.val % 2)
      ∧ (win0_2.index t (0 : Fin 2) = t.val / 2 ∧ win0_2.index t (1 : Fin 2) = t.val % 2) :=
  (by decide +kernel : ∀ t : Fin grid0.N,
    (win0_0.index t (0 : Fin 2) = 0 ∧ win0_0.index t (1 : Fin 2) = t.val / 2)
      ∧ (win0_1.index t (0 : Fin 2) = 0 ∧ win0_1.index t (1 : Fin 2) = t.val % 2)
      ∧ (win0_2.index t (0 : Fin 2) = t.val / 2 ∧ win0_2.index t (1 : Fin 2) = t.val % 2))

/-- A block of the first argument, element by element. -/
theorem at0 (c : Dev nD) (t : Fin cfg0.N) (a : Fin 4352) (b : Fin 512) (a' : Fin 4352) (b' : Fin 5632)
    (ha : a'.val = win0_0.index t (0 : Fin 2) * 4352 + 1 * a.val) (hb : b'.val = win0_0.index t (1 : Fin 2) * 512 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 4352) (b : Fin 1024) (a' : Fin 4352) (b' : Fin 2048)
    (ha : a'.val = win0_1.index t (0 : Fin 2) * 4352 + 1 * a.val) (hb : b'.val = win0_1.index t (1 : Fin 2) * 1024 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel5Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 512 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 512) (n1 := 1024) y)).trans ((pay_at _ _ _ _).trans (Finset.sum_congr rfl fun k _ => ?_))
  exact congr (congrArg _ (at0 m c t k _ k ((((cfg0.win 2).blk t).view.emb y) (0 : Fin 2)) (by rw [p0]; omega) (by rw [p1, e0, p4])))
    (at1 m c t k _ k ((((cfg0.win 2).blk t).view.emb y) (1 : Fin 2)) (by rw [p2]; omega) (by rw [p3, e1, p5]))

/-- Every element of the result stands in some grid point's block. -/
theorem covered (i : S5632x2048.Idx) :
    ∃ t : Fin cfg0.N, (cfg0.win 2).flush t = true ∧ i ∈ ((cfg0.win 2).blk t).view.set := by
  have h0 : (i 0).val < 5632 := (i 0).isLt
  have h1 : (i 1).val < 2048 := (i 1).isLt
  have hN : cfg0.N = 22 := N_0
  let t : Fin cfg0.N := ⟨(i 0).val / 512 * 2 + (i 1).val / 1024, by omega⟩
  have ht : t.val = (i 0).val / 512 * 2 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference5Ideal.Read in
/-- The reference's result is the whole product. -/
theorem reference (x0 : S4352x5632.Idx → EReal) (x1 : S4352x2048.Idx → EReal) :
    val_main_v6 (F := Ideal) x0 x1 = whole x0 x1 := by
  funext i
  rw [val_main_v6_apply]
  refine (val_main_v5_apply (F := Ideal) x0 x1 i).trans ((val_main_v4_apply x0 x1 _).trans (Finset.sum_congr rfl fun k _ => ?_))
  exact (mul_comm _ _).trans (congr (congrArg _ (congrArg x0 (eq_ix2 _))) (congrArg x1 (eq_ix2 _)))

end Cert.Kernel5Ideal.Prod

end
-- ==== Proof.Product6.lean ====
module

public import proofs.«01_k».proof.Proof.Product
public import proofs.«01_k».proof.Proof.Gen.Kernel6Ideal.Value
public import proofs.«01_k».proof.Proof.Gen.Reference6Ideal.Read

@[expose] public section

set_option maxRecDepth 16384

noncomputable section

namespace Cert.Kernel6Ideal.Prod

open Cert.Kernel6Ideal Cert.Kernel6Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S1088x2048 .bf16) (h3 : arg3.IsWhole) (arg4 : Memref sig .tc .vmem S2048x1024 .bf16) (h4 : arg4.IsWhole)
    (arg5 : Memref sig .tc .vmem S1088x1024 .bf16) (h5 : arg5.IsWhole) (arg6 : Memref sig .tc .vmem S8x128 .f32) (h6 : arg6.IsWhole)
    (x0 : Vec F S1088x2048 .bf16) (x1 : Vec F S2048x1024 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S1088x2048) hz, View.ld_unit_zero (S := S2048x1024) hz]

/-- That product at an element. -/
theorem pay_at (x0 : Vec Ideal S1088x2048 .bf16) (x1 : Vec Ideal S2048x1024 .bf16) (r : Fin 1088) (c : Fin 1024) :
    k0_pay1 (F := Ideal) x0 x1 (ix2 r c) = ∑ k : Fin 2048, x0 (ix2 (r) k) * x1 (ix2 k (c)) :=
  Cert.Prod.nn (φ₁ := .bf16) (φ₂ := .bf16) x0 x1 r c

variable (m : (ℓ : Loc nD τ sig) → Buf (Elt Ideal) ℓ)

/-- The whole product. -/
def whole (x0 : S4352x2048.Idx → EReal) (x1 : S2048x11264.Idx → EReal) : S4352x11264.Idx → EReal :=
  fun i => ∑ k : Fin 2048, x0 (ix2 (i 0) k) * x1 (ix2 k (i 1))

/-- Where each window's block stands at a grid point. -/
theorem places : ∀ t : Fin cfg0.N,
    (win0_0.index t (0 : Fin 2) = t.val / 11 ∧ win0_0.index t (1 : Fin 2) = 0)
      ∧ (win0_1.index t (0 : Fin 2) = 0 ∧ win0_1.index t (1 : Fin 2) = t.val % 11)
      ∧ (win0_2.index t (0 : Fin 2) = t.val / 11 ∧ win0_2.index t (1 : Fin 2) = t.val % 11) :=
  (by decide +kernel : ∀ t : Fin grid0.N,
    (win0_0.index t (0 : Fin 2) = t.val / 11 ∧ win0_0.index t (1 : Fin 2) = 0)
      ∧ (win0_1.index t (0 : Fin 2) = 0 ∧ win0_1.index t (1 : Fin 2) = t.val % 11)
      ∧ (win0_2.index t (0 : Fin 2) = t.val / 11 ∧ win0_2.index t (1 : Fin 2) = t.val % 11))

/-- A block of the first argument, element by element. -/
theorem at0 (c : Dev nD) (t : Fin cfg0.N) (a : Fin 1088) (b : Fin 2048) (a' : Fin 4352) (b' : Fin 2048)
    (ha : a'.val = win0_0.index t (0 : Fin 2) * 1088 + 1 * a.val) (hb : b'.val = win0_0.index t (1 : Fin 2) * 2048 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 2048) (b : Fin 1024) (a' : Fin 2048) (b' : Fin 11264)
    (ha : a'.val = win0_1.index t (0 : Fin 2) * 2048 + 1 * a.val) (hb : b'.val = win0_1.index t (1 : Fin 2) * 1024 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel6Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 1088 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 1088) (n1 := 1024) y)).trans ((pay_at _ _ _ _).trans (Finset.sum_congr rfl fun k _ => ?_))
  exact congr (congrArg _ (at0 m c t _ k ((((cfg0.win 2).blk t).view.emb y) (0 : Fin 2)) k (by rw [p0, e0, p4]) (by rw [p1]; omega)))
    (at1 m c t k _ k ((((cfg0.win 2).blk t).view.emb y) (1 : Fin 2)) (by rw [p2]; omega) (by rw [p3, e1, p5]))

/-- Every element of the result stands in some grid point's block. -/
theorem covered (i : S4352x11264.Idx) :
    ∃ t : Fin cfg0.N, (cfg0.win 2).flush t = true ∧ i ∈ ((cfg0.win 2).blk t).view.set := by
  have h0 : (i 0).val < 4352 := (i 0).isLt
  have h1 : (i 1).val < 11264 := (i 1).isLt
  have hN : cfg0.N = 44 := N_0
  let t : Fin cfg0.N := ⟨(i 0).val / 1088 * 11 + (i 1).val / 1024, by omega⟩
  have ht : t.val = (i 0).val / 1088 * 11 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1088 ≤ (i 0).val ∧ (i 0).val < win0_2.index t (0 : Fin 2) * 1088 + 1088
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference6Ideal.Read in
/-- The reference's result is the whole product. -/
theorem reference (x0 : S4352x2048.Idx → EReal) (x1 : S2048x11264.Idx → EReal) :
    val_main_v3 (F := Ideal) x0 x1 = whole x0 x1 := by
  funext i
  rw [val_main_v3_apply]
  refine (val_main_v2_apply x0 x1 i).trans (Finset.sum_congr rfl fun k _ => ?_)
  exact congr (congrArg _ (congrArg x0 (eq_ix2 _))) (congrArg x1 (eq_ix2 _))

end Cert.Kernel6Ideal.Prod

end
-- ==== Proof.Product7.lean ====
module

public import proofs.«01_k».proof.Proof.Product
public import proofs.«01_k».proof.Proof.Gen.Kernel7Ideal.Value
public import proofs.«01_k».proof.Proof.Gen.Reference7Ideal.Read

@[expose] public section

set_option maxRecDepth 16384

noncomputable section

namespace Cert.Kernel7Ideal.Prod

open Cert.Kernel7Ideal Cert.Kernel7Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S1088x5632 .bf16) (h3 : arg3.IsWhole) (arg4 : Memref sig .tc .vmem S5632x512 .bf16) (h4 : arg4.IsWhole)
    (arg5 : Memref sig .tc .vmem S1088x512 .f32) (h5 : arg5.IsWhole) (arg6 : Memref sig .tc .vmem S8x128 .f32) (h6 : arg6.IsWhole)
    (x0 : Vec F S1088x5632 .bf16) (x1 : Vec F S5632x512 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S1088x5632) hz, View.ld_unit_zero (S := S5632x512) hz]

/-- That product at an element. -/
theorem pay_at (x0 : Vec Ideal S1088x5632 .bf16) (x1 : Vec Ideal S5632x512 .bf16) (r : Fin 1088) (c : Fin 512) :
    k0_pay1 (F := Ideal) x0 x1 (ix2 r c) = ∑ k : Fin 5632, x0 (ix2 (r) k) * x1 (ix2 k (c)) :=
  Cert.Prod.nn (φ₁ := .bf16) (φ₂ := .bf16) x0 x1 r c

variable (m : (ℓ : Loc nD τ sig) → Buf (Elt Ideal) ℓ)

/-- The whole product. -/
def whole (x0 : S4352x5632.Idx → EReal) (x1 : S5632x2048.Idx → EReal) : S4352x2048.Idx → EReal :=
  fun i => ∑ k : Fin 5632, x0 (ix2 (i 0) k) * x1 (ix2 k (i 1))

/-- Where each window's block stands at a grid point. -/
theorem places : ∀ t : Fin cfg0.N,
    (win0_0.index t (0 : Fin 2) = t.val / 4 ∧ win0_0.index t (1 : Fin 2) = 0)
      ∧ (win0_1.index t (0 : Fin 2) = 0 ∧ win0_1.index t (1 : Fin 2) = t.val % 4)
      ∧ (win0_2.index t (0 : Fin 2) = t.val / 4 ∧ win0_2.index t (1 : Fin 2) = t.val % 4) :=
  (by decide +kernel : ∀ t : Fin grid0.N,
    (win0_0.index t (0 : Fin 2) = t.val / 4 ∧ win0_0.index t (1 : Fin 2) = 0)
      ∧ (win0_1.index t (0 : Fin 2) = 0 ∧ win0_1.index t (1 : Fin 2) = t.val % 4)
      ∧ (win0_2.index t (0 : Fin 2) = t.val / 4 ∧ win0_2.index t (1 : Fin 2) = t.val % 4))

/-- A block of the first argument, element by element. -/
theorem at0 (c : Dev nD) (t : Fin cfg0.N) (a : Fin 1088) (b : Fin 5632) (a' : Fin 4352) (b' : Fin 5632)
    (ha : a'.val = win0_0.index t (0 : Fin 2) * 1088 + 1 * a.val) (hb : b'.val = win0_0.index t (1 : Fin 2) * 5632 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 5632) (b : Fin 512) (a' : Fin 5632) (b' : Fin 2048)
    (ha : a'.val = win0_1.index t (0 : Fin 2) * 5632 + 1 * a.val) (hb : b'.val = win0_1.index t (1 : Fin 2) * 512 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel7Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 1088 + 1 * (y (0 : Fin 2)).val := rfl
  have e1 : (((((cfg0.win 2).blk t).view.emb y) (1 : Fin 2))).val = win0_2.index t (1 : Fin 2) * 512 + 1 * (y (1 : Fin 2)).val := rfl
  refine (congrArg _ (eq_ix2 (n0 := 1088) (n1 := 512) y)).trans ((pay_at _ _ _ _).trans (Finset.sum_congr rfl fun k _ => ?_))
  exact congr (congrArg _ (at0 m c t _ k ((((cfg0.win 2).blk t).view.emb y) (0 : Fin 2)) k (by rw [p0, e0, p4]) (by rw [p1]; omega)))
    (at1 m c t k _ k ((((cfg0.win 2).blk t).view.emb y) (1 : Fin 2)) (by rw [p2]; omega) (by rw [p3, e1, p5]))

/-- Every element of the result stands in some grid point's block. -/
theorem covered (i : S4352x2048.Idx) :
    ∃ t : Fin cfg0.N, (cfg0.win 2).flush t = true ∧ i ∈ ((cfg0.win 2).blk t).view.set := by
  have h0 : (i 0).val < 4352 := (i 0).isLt
  have h1 : (i 1).val < 2048 := (i 1).isLt
  have hN : cfg0.N = 16 := N_0
  let t : Fin cfg0.N := ⟨(i 0).val / 1088 * 4 + (i 1).val / 512, by omega⟩
  have ht : t.val = (i 0).val / 1088 * 4 + (i 1).val / 512 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1088 ≤ (i 0).val ∧ (i 0).val < win0_2.index t (0 : Fin 2) * 1088 + 1088
    omega
  | ⟨1, _⟩ =>
    show win0_2.index t (1 : Fin 2) * 512 ≤ (i 1).val ∧ (i 1).val < win0_2.index t (1 : Fin 2) * 512 + 512
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference7Ideal.Read in
/-- The reference's result is the whole product. -/
theorem reference (x0 : S4352x5632.Idx → EReal) (x1 : S5632x2048.Idx → EReal) :
    val_main_v2 (F := Ideal) x0 x1 = whole x0 x1 := by
  funext i
  refine (val_main_v2_apply x0 x1 i).trans (Finset.sum_congr rfl fun k _ => ?_)
  exact congr (congrArg _ (congrArg x0 (eq_ix2 _))) (congrArg x1 (eq_ix2 _))

end Cert.Kernel7Ideal.Prod

end
-- ==== Proof.Product8.lean ====
module

public import proofs.«01_k».proof.Proof.Product
public import proofs.«01_k».proof.Proof.Gen.Kernel8Ideal.Value
public import proofs.«01_k».proof.Proof.Gen.Reference8Ideal.Read

@[expose] public section

set_option maxRecDepth 16384

noncomputable section

namespace Cert.Kernel8Ideal.Prod

open Cert.Kernel8Ideal Cert.Kernel8Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S4352x512 .bf16) (h3 : arg3.IsWhole) (arg4 : Memref sig .tc .vmem S4352x1024 .bf16) (h4 : arg4.IsWhole)
    (arg5 : Memref sig .tc .vmem S512x1024 .bf16) (h5 : arg5.IsWhole) (arg6 : Memref sig .tc .vmem S8x128 .f32) (h6 : arg6.IsWhole)
    (x0 : Vec F S4352x512 .bf16) (x1 : Vec F S4352x1024 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S4352x512) hz, View.ld_unit_zero (S := S4352x1024) hz]

/-- That product at an element. -/
theorem pay_at (x0 : Vec Ideal S4352x512 .bf16) (x1 : Vec Ideal S4352x1024 .bf16) (r : Fin 512) (c : Fin 1024) :
    k0_pay1 (F := Ideal) x0 x1 (ix2 r c) = ∑ k : Fin 4352, x0 (ix2 k (r)) * x1 (ix2 k (c)) :=
  Cert.Prod.tn (φ₁ := .bf16) (φ₂ := .bf16) dot_S4352x512_S4352x1024_S512x1024_0_0_1_1_n_n _ rfl x0 x1 r c

variable (m : (ℓ : Loc nD τ sig) → Buf (Elt Ideal) ℓ)

/-- The whole product. -/
def whole (x0 : S4352x2048.Idx → EReal) (x1 : S4352x2048.Idx → EReal) : S2048x2048.Idx → EReal :=
  fun i => ∑ k : Fin 4352, x0 (ix2 k (i 0)) * x1 (ix2 k (i 1))

/-- Where each window's block stands at a grid point. -/
theorem places : ∀ t : Fin cfg0.N,
    (win0_0.index t (0 : Fin 2) = 0 ∧ win0_0.index t (1 : Fin 2) = t.val / 2)
      ∧ (win0_1.index t (0 : Fin 2) = 0 ∧ win0_1.index t (1 : Fin 2) = t.val % 2)
      ∧ (win0_2.index t (0 : Fin 2) = t.val / 2 ∧ win0_2.index t (1 : Fin 2) = t.val % 2) :=
  (by decide +kernel : ∀ t : Fin grid0.N,
    (win0_0.index t (0 : Fin 2) = 0 ∧ win0_0.index t (1 : Fin 2) = t.val / 2)
      ∧ (win0_1.index t (0 : Fin 2) = 0 ∧ win0_1.index t (1 : Fin 2) = t.val % 2)
      ∧ (win0_2.index t (0 : Fin 2) = t.val / 2 ∧ win0_2.index t (1 : Fin 2) = t.val % 2))

/-- A block of the first argument, element by element. -/
theorem at0 (c : Dev nD) (t : Fin cfg0.N) (a : Fin 4352) (b : Fin 512) (a' : Fin 4352) (b' : Fin 2048)
    (ha : a'.val = win0_0.index t (0 : Fin 2) * 4352 + 1 * a.val) (hb : b'.val = win0_0.index t (1 : Fin 2) * 512 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 4352) (b : Fin 1024) (a' : Fin 4352) (b' : Fin 2048)
    (ha : a'.val = win0_1.index t (0 : Fin 2) * 4352 + 1 * a.val) (hb : b'.val = win0_1.index t (1 : Fin 2) * 1024 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel8Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 512 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 512) (n1 := 1024) y)).trans ((pay_at _ _ _ _).trans (Finset.sum_congr rfl fun k _ => ?_))
  exact congr (congrArg _ (at0 m c t k _ k ((((cfg0.win 2).blk t).view.emb y) (0 : Fin 2)) (by rw [p0]; omega) (by rw [p1, e0, p4])))
    (at1 m c t k _ k ((((cfg0.win 2).blk t).view.emb y) (1 : Fin 2)) (by rw [p2]; omega) (by rw [p3, e1, p5]))

/-- Every element of the result stands in some grid point's block. -/
theorem covered (i : S2048x2048.Idx) :
    ∃ t : Fin cfg0.N, (cfg0.win 2).flush t = true ∧ i ∈ ((cfg0.win 2).blk t).view.set := by
  have h0 : (i 0).val < 2048 := (i 0).isLt
  have h1 : (i 1).val < 2048 := (i 1).isLt
  have hN : cfg0.N = 8 := N_0
  let t : Fin cfg0.N := ⟨(i 0).val / 512 * 2 + (i 1).val / 1024, by omega⟩
  have ht : t.val = (i 0).val / 512 * 2 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference8Ideal.Read in
/-- The reference's result is the whole product. -/
theorem reference (x0 : S4352x2048.Idx → EReal) (x1 : S4352x2048.Idx → EReal) :
    val_main_v6 (F := Ideal) x0 x1 = whole x0 x1 := by
  funext i
  rw [val_main_v6_apply]
  refine (val_main_v5_apply (F := Ideal) x0 x1 i).trans ((val_main_v4_apply x0 x1 _).trans (Finset.sum_congr rfl fun k _ => ?_))
  exact (mul_comm _ _).trans (congr (congrArg _ (congrArg x0 (eq_ix2 _))) (congrArg x1 (eq_ix2 _)))

end Cert.Kernel8Ideal.Prod

end
-- ==== Proof.Product9.lean ====
module

public import proofs.«01_k».proof.Proof.Product
public import proofs.«01_k».proof.Proof.Gen.Kernel9Ideal.Value
public import proofs.«01_k».proof.Proof.Gen.Reference9Ideal.Read

@[expose] public section

set_option maxRecDepth 16384

noncomputable section

namespace Cert.Kernel9Ideal.Prod

open Cert.Kernel9Ideal Cert.Kernel9Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S1088x2048 .bf16) (h3 : arg3.IsWhole) (arg4 : Memref sig .tc .vmem S1024x2048 .bf16) (h4 : arg4.IsWhole)
    (arg5 : Memref sig .tc .vmem S1088x1024 .f32) (h5 : arg5.IsWhole) (arg6 : Memref sig .tc .vmem S8x128 .f32) (h6 : arg6.IsWhole)
    (x0 : Vec F S1088x2048 .bf16) (x1 : Vec F S1024x2048 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S1088x2048) hz, View.ld_unit_zero (S := S1024x2048) hz]

/-- That product at an element. -/
theorem pay_at (x0 : Vec Ideal S1088x2048 .bf16) (x1 : Vec Ideal S1024x2048 .bf16) (r : Fin 1088) (c : Fin 1024) :
    k0_pay1 (F := Ideal) x0 x1 (ix2 r c) = ∑ k : Fin 2048, x0 (ix2 (r) k) * x1 (ix2 (c) k) :=
  Cert.Prod.nt (φ₁ := .bf16) (φ₂ := .bf16) x0 x1 r c

variable (m : (ℓ : Loc nD τ sig) → Buf (Elt Ideal) ℓ)

/-- The whole product. -/
def whole (x0 : S4352x2048.Idx → EReal) (x1 : S2048x2048.Idx → EReal) : S4352x2048.Idx → EReal :=
  fun i => ∑ k : Fin 2048, x0 (ix2 (i 0) k) * x1 (ix2 (i 1) k)

/-- Where each window's block stands at a grid point. -/
theorem places : ∀ t : Fin cfg0.N,
    (win0_0.index t (0 : Fin 2) = t.val / 2 ∧ win0_0.index t (1 : Fin 2) = 0)
      ∧ (win0_1.index t (0 : Fin 2) = t.val % 2 ∧ win0_1.index t (1 : Fin 2) = 0)
      ∧ (win0_2.index t (0 : Fin 2) = t.val / 2 ∧ win0_2.index t (1 : Fin 2) = t.val % 2) :=
  (by decide +kernel : ∀ t : Fin grid0.N,
    (win0_0.index t (0 : Fin 2) = t.val / 2 ∧ win0_0.index t (1 : Fin 2) = 0)
      ∧ (win0_1.index t (0 : Fin 2) = t.val % 2 ∧ win0_1.index t (1 : Fin 2) = 0)
      ∧ (win0_2.index t (0 : Fin 2) = t.val / 2 ∧ win0_2.index t (1 : Fin 2) = t.val % 2))

/-- A block of the first argument, element by element. -/
theorem at0 (c : Dev nD) (t : Fin cfg0.N) (a : Fin 1088) (b : Fin 2048) (a' : Fin 4352) (b' : Fin 2048)
    (ha : a'.val = win0_0.index t (0 : Fin 2) * 1088 + 1 * a.val) (hb : b'.val = win0_0.index t (1 : Fin 2) * 2048 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 1024) (b : Fin 2048) (a' : Fin 2048) (b' : Fin 2048)
    (ha : a'.val = win0_1.index t (0 : Fin 2) * 1024 + 1 * a.val) (hb : b'.val = win0_1.index t (1 : Fin 2) * 2048 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel9Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 1088 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 1088) (n1 := 1024) y)).trans ((pay_at _ _ _ _).trans (Finset.sum_congr rfl fun k _ => ?_))
  exact congr (congrArg _ (at0 m c t _ k ((((cfg0.win 2).blk t).view.emb y) (0 : Fin 2)) k (by rw [p0, e0, p4]) (by rw [p1]; omega)))
    (at1 m c t _ k ((((cfg0.win 2).blk t).view.emb y) (1 : Fin 2)) k (by rw [p2, e1, p5]) (by rw [p3]; omega))

/-- Every element of the result stands in some grid point's block. -/
theorem covered (i : S4352x2048.Idx) :
    ∃ t : Fin cfg0.N, (cfg0.win 2).flush t = true ∧ i ∈ ((cfg0.win 2).blk t).view.set := by
  have h0 : (i 0).val < 4352 := (i 0).isLt
  have h1 : (i 1).val < 2048 := (i 1).isLt
  have hN : cfg0.N = 8 := N_0
  let t : Fin cfg0.N := ⟨(i 0).val / 1088 * 2 + (i 1).val / 1024, by omega⟩
  have ht : t.val = (i 0).val / 1088 * 2 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1088 ≤ (i 0).val ∧ (i 0).val < win0_2.index t (0 : Fin 2) * 1088 + 1088
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference9Ideal.Read in
/-- The reference's result is the whole product. -/
theorem reference (x0 : S4352x2048.Idx → EReal) (x1 : S2048x2048.Idx → EReal) :
    val_main_v4 (F := Ideal) x0 x1 = whole x0 x1 := by
  funext i
  refine (val_main_v4_apply x0 x1 i).trans (Finset.sum_congr rfl fun k _ => ?_)
  exact congr (congrArg _ (congrArg x0 (eq_ix2 _))) (congrArg x1 (eq_ix2 _))

end Cert.Kernel9Ideal.Prod

end
-- ==== Proof.Product10.lean ====
module

public import proofs.«01_k».proof.Proof.Product
public import proofs.«01_k».proof.Proof.Gen.Kernel10Ideal.Value
public import proofs.«01_k».proof.Proof.Gen.Reference10Ideal.Read

@[expose] public section

set_option maxRecDepth 16384

noncomputable section

namespace Cert.Kernel10Ideal.Prod

open Cert.Kernel10Ideal Cert.Kernel10Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S4352x512 .bf16) (h3 : arg3.IsWhole) (arg4 : Memref sig .tc .vmem S4352x1024 .bf16) (h4 : arg4.IsWhole)
    (arg5 : Memref sig .tc .vmem S512x1024 .bf16) (h5 : arg5.IsWhole) (arg6 : Memref sig .tc .vmem S8x128 .f32) (h6 : arg6.IsWhole)
    (x0 : Vec F S4352x512 .bf16) (x1 : Vec F S4352x1024 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S4352x512) hz, View.ld_unit_zero (S := S4352x1024) hz]

/-- That product at an element. -/
theorem pay_at (x0 : Vec Ideal S4352x512 .bf16) (x1 : Vec Ideal S4352x1024 .bf16) (r : Fin 512) (c : Fin 1024) :
    k0_pay1 (F := Ideal) x0 x1 (ix2 r c) = ∑ k : Fin 4352, x0 (ix2 k (r)) * x1 (ix2 k (c)) :=
  Cert.Prod.tn (φ₁ := .bf16) (φ₂ := .bf16) dot_S4352x512_S4352x1024_S512x1024_0_0_1_1_n_n _ rfl x0 x1 r c

variable (m : (ℓ : Loc nD τ sig) → Buf (Elt Ideal) ℓ)

/-- The whole product. -/
def whole (x0 : S4352x1024.Idx → EReal) (x1 : S4352x2048.Idx → EReal) : S1024x2048.Idx → EReal :=
  fun i => ∑ k : Fin 4352, x0 (ix2 k (i 0)) * x1 (ix2 k (i 1))

/-- Where each window's block stands at a grid point. -/
theorem places : ∀ t : Fin cfg0.N,
    (win0_0.index t (0 : Fin 2) = 0 ∧ win0_0.index t (1 : Fin 2) = t.val / 2)
      ∧ (win0_1.index t (0 : Fin 2) = 0 ∧ win0_1.index t (1 : Fin 2) = t.val % 2)
      ∧ (win0_2.index t (0 : Fin 2) = t.val / 2 ∧ win0_2.index t (1 : Fin 2) = t.val % 2) :=
  (by decide +kernel : ∀ t : Fin grid0.N,
    (win0_0.index t (0 : Fin 2) = 0 ∧ win0_0.index t (1 : Fin 2) = t.val / 2)
      ∧ (win0_1.index t (0 : Fin 2) = 0 ∧ win0_1.index t (1 : Fin 2) = t.val % 2)
      ∧ (win0_2.index t (0 : Fin 2) = t.val / 2 ∧ win0_2.index t (1 : Fin 2) = t.val % 2))

/-- A block of the first argument, element by element. -/
theorem at0 (c : Dev nD) (t : Fin cfg0.N) (a : Fin 4352) (b : Fin 512) (a' : Fin 4352) (b' : Fin 1024)
    (ha : a'.val = win0_0.index t (0 : Fin 2) * 4352 + 1 * a.val) (hb : b'.val = win0_0.index t (1 : Fin 2) * 512 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 4352) (b : Fin 1024) (a' : Fin 4352) (b' : Fin 2048)
    (ha : a'.val = win0_1.index t (0 : Fin 2) * 4352 + 1 * a.val) (hb : b'.val = win0_1.index t (1 : Fin 2) * 1024 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel10Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 512 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 512) (n1 := 1024) y)).trans ((pay_at _ _ _ _).trans (Finset.sum_congr rfl fun k _ => ?_))
  exact congr (congrArg _ (at0 m c t k _ k ((((cfg0.win 2).blk t).view.emb y) (0 : Fin 2)) (by rw [p0]; omega) (by rw [p1, e0, p4])))
    (at1 m c t k _ k ((((cfg0.win 2).blk t).view.emb y) (1 : Fin 2)) (by rw [p2]; omega) (by rw [p3, e1, p5]))

/-- Every element of the result stands in some grid point's block. -/
theorem covered (i : S1024x2048.Idx) :
    ∃ t : Fin cfg0.N, (cfg0.win 2).flush t = true ∧ i ∈ ((cfg0.win 2).blk t).view.set := by
  have h0 : (i 0).val < 1024 := (i 0).isLt
  have h1 : (i 1).val < 2048 := (i 1).isLt
  have hN : cfg0.N = 4 := N_0
  let t : Fin cfg0.N := ⟨(i 0).val / 512 * 2 + (i 1).val / 1024, by omega⟩
  have ht : t.val = (i 0).val / 512 * 2 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference10Ideal.Read in
/-- The reference's result is the whole product. -/
theorem reference (x0 : S4352x1024.Idx → EReal) (x1 : S4352x2048.Idx → EReal) :
    val_main_v6 (F := Ideal) x0 x1 = whole x0 x1 := by
  funext i
  rw [val_main_v6_apply]
  refine (val_main_v5_apply (F := Ideal) x0 x1 i).trans ((val_main_v4_apply x0 x1 _).trans (Finset.sum_congr rfl fun k _ => ?_))
  exact (mul_comm _ _).trans (congr (congrArg _ (congrArg x0 (eq_ix2 _))) (congrArg x1 (eq_ix2 _)))

end Cert.Kernel10Ideal.Prod

end
-- ==== Proof.Product11.lean ====
module

public import proofs.«01_k».proof.Proof.Product
public import proofs.«01_k».proof.Proof.Gen.Kernel11Ideal.Value
public import proofs.«01_k».proof.Proof.Gen.Reference11Ideal.Read

@[expose] public section

set_option maxRecDepth 16384

noncomputable section

namespace Cert.Kernel11Ideal.Prod

open Cert.Kernel11Ideal Cert.Kernel11Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S1088x2048 .bf16) (h3 : arg3.IsWhole) (arg4 : Memref sig .tc .vmem S1024x2048 .bf16) (h4 : arg4.IsWhole)
    (arg5 : Memref sig .tc .vmem S1088x1024 .f32) (h5 : arg5.IsWhole) (arg6 : Memref sig .tc .vmem S8x128 .f32) (h6 : arg6.IsWhole)
    (x0 : Vec F S1088x2048 .bf16) (x1 : Vec F S1024x2048 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S1088x2048) hz, View.ld_unit_zero (S := S1024x2048) hz]

/-- That product at an element. -/
theorem pay_at (x0 : Vec Ideal S1088x2048 .bf16) (x1 : Vec Ideal S1024x2048 .bf16) (r : Fin 1088) (c : Fin 1024) :
    k0_pay1 (F := Ideal) x0 x1 (ix2 r c) = ∑ k : Fin 2048, x0 (ix2 (r) k) * x1 (ix2 (c) k) :=
  Cert.Prod.nt (φ₁ := .bf16) (φ₂ := .bf16) x0 x1 r c

variable (m : (ℓ : Loc nD τ sig) → Buf (Elt Ideal) ℓ)

/-- The whole product. -/
def whole (x0 : S4352x2048.Idx → EReal) (x1 : S1024x2048.Idx → EReal) : S4352x1024.Idx → EReal :=
  fun i => ∑ k : Fin 2048, x0 (ix2 (i 0) k) * x1 (ix2 (i 1) k)

/-- Where each window's block stands at a grid point. -/
theorem places : ∀ t : Fin cfg0.N,
    (win0_0.index t (0 : Fin 2) = t.val / 1 ∧ win0_0.index t (1 : Fin 2) = 0)
      ∧ (win0_1.index t (0 : Fin 2) = t.val % 1 ∧ win0_1.index t (1 : Fin 2) = 0)
      ∧ (win0_2.index t (0 : Fin 2) = t.val / 1 ∧ win0_2.index t (1 : Fin 2) = t.val % 1) :=
  (by decide +kernel : ∀ t : Fin grid0.N,
    (win0_0.index t (0 : Fin 2) = t.val / 1 ∧ win0_0.index t (1 : Fin 2) = 0)
      ∧ (win0_1.index t (0 : Fin 2) = t.val % 1 ∧ win0_1.index t (1 : Fin 2) = 0)
      ∧ (win0_2.index t (0 : Fin 2) = t.val / 1 ∧ win0_2.index t (1 : Fin 2) = t.val % 1))

/-- A block of the first argument, element by element. -/
theorem at0 (c : Dev nD) (t : Fin cfg0.N) (a : Fin 1088) (b : Fin 2048) (a' : Fin 4352) (b' : Fin 2048)
    (ha : a'.val = win0_0.index t (0 : Fin 2) * 1088 + 1 * a.val) (hb : b'.val = win0_0.index t (1 : Fin 2) * 2048 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 1024) (b : Fin 2048) (a' : Fin 1024) (b' : Fin 2048)
    (ha : a'.val = win0_1.index t (0 : Fin 2) * 1024 + 1 * a.val) (hb : b'.val = win0_1.index t (1 : Fin 2) * 2048 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel11Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 1088 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 1088) (n1 := 1024) y)).trans ((pay_at _ _ _ _).trans (Finset.sum_congr rfl fun k _ => ?_))
  exact congr (congrArg _ (at0 m c t _ k ((((cfg0.win 2).blk t).view.emb y) (0 : Fin 2)) k (by rw [p0, e0, p4]) (by rw [p1]; omega)))
    (at1 m c t _ k ((((cfg0.win 2).blk t).view.emb y) (1 : Fin 2)) k (by rw [p2, e1, p5]) (by rw [p3]; omega))

/-- Every element of the result stands in some grid point's block. -/
theorem covered (i : S4352x1024.Idx) :
    ∃ t : Fin cfg0.N, (cfg0.win 2).flush t = true ∧ i ∈ ((cfg0.win 2).blk t).view.set := by
  have h0 : (i 0).val < 4352 := (i 0).isLt
  have h1 : (i 1).val < 1024 := (i 1).isLt
  have hN : cfg0.N = 4 := N_0
  let t : Fin cfg0.N := ⟨(i 0).val / 1088 * 1 + (i 1).val / 1024, by omega⟩
  have ht : t.val = (i 0).val / 1088 * 1 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1088 ≤ (i 0).val ∧ (i 0).val < win0_2.index t (0 : Fin 2) * 1088 + 1088
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference11Ideal.Read in
/-- The reference's result is the whole product. -/
theorem reference (x0 : S4352x2048.Idx → EReal) (x1 : S1024x2048.Idx → EReal) :
    val_main_v4 (F := Ideal) x0 x1 = whole x0 x1 := by
  funext i
  refine (val_main_v4_apply x0 x1 i).trans (Finset.sum_congr rfl fun k _ => ?_)
  exact congr (congrArg _ (congrArg x0 (eq_ix2 _))) (congrArg x1 (eq_ix2 _))

end Cert.Kernel11Ideal.Prod

end
-- ==== Proof.Product12.lean ====
module

public import proofs.«01_k».proof.Proof.Product
public import proofs.«01_k».proof.Proof.Gen.Kernel12Ideal.Value
public import proofs.«01_k».proof.Proof.Gen.Reference12Ideal.Read

@[expose] public section

set_option maxRecDepth 16384

noncomputable section

namespace Cert.Kernel12Ideal.Prod

open Cert.Kernel12Ideal Cert.Kernel12Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S1088x2048 .bf16) (h3 : arg3.IsWhole) (arg4 : Memref sig .tc .vmem S1024x2048 .bf16) (h4 : arg4.IsWhole)
    (arg5 : Memref sig .tc .vmem S1088x1024 .bf16) (h5 : arg5.IsWhole) (arg6 : Memref sig .tc .vmem S8x128 .f32) (h6 : arg6.IsWhole)
    (x0 : Vec F S1088x2048 .bf16) (x1 : Vec F S1024x2048 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S1088x2048) hz, View.ld_unit_zero (S := S1024x2048) hz]

/-- That product at an element. -/
theorem pay_at (x0 : Vec Ideal S1088x2048 .bf16) (x1 : Vec Ideal S1024x2048 .bf16) (r : Fin 1088) (c : Fin 1024) :
    k0_pay1 (F := Ideal) x0 x1 (ix2 r c) = ∑ k : Fin 2048, x0 (ix2 (r) k) * x1 (ix2 (c) k) :=
  Cert.Prod.nt (φ₁ := .bf16) (φ₂ := .bf16) x0 x1 r c

variable (m : (ℓ : Loc nD τ sig) → Buf (Elt Ideal) ℓ)

/-- The whole product. -/
def whole (x0 : S4352x2048.Idx → EReal) (x1 : S2048x2048.Idx → EReal) : S4352x2048.Idx → EReal :=
  fun i => ∑ k : Fin 2048, x0 (ix2 (i 0) k) * x1 (ix2 (i 1) k)

/-- Where each window's block stands at a grid point. -/
theorem places : ∀ t : Fin cfg0.N,
    (win0_0.index t (0 : Fin 2) = t.val / 2 ∧ win0_0.index t (1 : Fin 2) = 0)
      ∧ (win0_1.index t (0 : Fin 2) = t.val % 2 ∧ win0_1.index t (1 : Fin 2) = 0)
      ∧ (win0_2.index t (0 : Fin 2) = t.val / 2 ∧ win0_2.index t (1 : Fin 2) = t.val % 2) :=
  (by decide +kernel : ∀ t : Fin grid0.N,
    (win0_0.index t (0 : Fin 2) = t.val / 2 ∧ win0_0.index t (1 : Fin 2) = 0)
      ∧ (win0_1.index t (0 : Fin 2) = t.val % 2 ∧ win0_1.index t (1 : Fin 2) = 0)
      ∧ (win0_2.index t (0 : Fin 2) = t.val / 2 ∧ win0_2.index t (1 : Fin 2) = t.val % 2))

/-- A block of the first argument, element by element. -/
theorem at0 (c : Dev nD) (t : Fin cfg0.N) (a : Fin 1088) (b : Fin 2048) (a' : Fin 4352) (b' : Fin 2048)
    (ha : a'.val = win0_0.index t (0 : Fin 2) * 1088 + 1 * a.val) (hb : b'.val = win0_0.index t (1 : Fin 2) * 2048 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 1024) (b : Fin 2048) (a' : Fin 2048) (b' : Fin 2048)
    (ha : a'.val = win0_1.index t (0 : Fin 2) * 1024 + 1 * a.val) (hb : b'.val = win0_1.index t (1 : Fin 2) * 2048 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel12Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 1088 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 1088) (n1 := 1024) y)).trans ((pay_at _ _ _ _).trans (Finset.sum_congr rfl fun k _ => ?_))
  exact congr (congrArg _ (at0 m c t _ k ((((cfg0.win 2).blk t).view.emb y) (0 : Fin 2)) k (by rw [p0, e0, p4]) (by rw [p1]; omega)))
    (at1 m c t _ k ((((cfg0.win 2).blk t).view.emb y) (1 : Fin 2)) k (by rw [p2, e1, p5]) (by rw [p3]; omega))

/-- Every element of the result stands in some grid point's block. -/
theorem covered (i : S4352x2048.Idx) :
    ∃ t : Fin cfg0.N, (cfg0.win 2).flush t = true ∧ i ∈ ((cfg0.win 2).blk t).view.set := by
  have h0 : (i 0).val < 4352 := (i 0).isLt
  have h1 : (i 1).val < 2048 := (i 1).isLt
  have hN : cfg0.N = 8 := N_0
  let t : Fin cfg0.N := ⟨(i 0).val / 1088 * 2 + (i 1).val / 1024, by omega⟩
  have ht : t.val = (i 0).val / 1088 * 2 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1088 ≤ (i 0).val ∧ (i 0).val < win0_2.index t (0 : Fin 2) * 1088 + 1088
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference12Ideal.Read in
/-- The reference's result is the whole product. -/
theorem reference (x0 : S4352x2048.Idx → EReal) (x1 : S2048x2048.Idx → EReal) :
    val_main_v5 (F := Ideal) x0 x1 = whole x0 x1 := by
  funext i
  rw [val_main_v5_apply]
  refine (val_main_v4_apply x0 x1 i).trans (Finset.sum_congr rfl fun k _ => ?_)
  exact congr (congrArg _ (congrArg x0 (eq_ix2 _))) (congrArg x1 (eq_ix2 _))

end Cert.Kernel12Ideal.Prod

end
-- ==== Proof.Product13.lean ====
module

public import proofs.«01_k».proof.Proof.Product
public import proofs.«01_k».proof.Proof.Gen.Kernel13Ideal.Value
public import proofs.«01_k».proof.Proof.Gen.Reference13Ideal.Read

@[expose] public section

set_option maxRecDepth 16384

noncomputable section

namespace Cert.Kernel13Ideal.Prod

open Cert.Kernel13Ideal Cert.Kernel13Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S4352x512 .bf16) (h3 : arg3.IsWhole) (arg4 : Memref sig .tc .vmem S4352x1024 .bf16) (h4 : arg4.IsWhole)
    (arg5 : Memref sig .tc .vmem S512x1024 .bf16) (h5 : arg5.IsWhole) (arg6 : Memref sig .tc .vmem S8x128 .f32) (h6 : arg6.IsWhole)
    (x0 : Vec F S4352x512 .bf16) (x1 : Vec F S4352x1024 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S4352x512) hz, View.ld_unit_zero (S := S4352x1024) hz]

/-- That product at an element. -/
theorem pay_at (x0 : Vec Ideal S4352x512 .bf16) (x1 : Vec Ideal S4352x1024 .bf16) (r : Fin 512) (c : Fin 1024) :
    k0_pay1 (F := Ideal) x0 x1 (ix2 r c) = ∑ k : Fin 4352, x0 (ix2 k (r)) * x1 (ix2 k (c)) :=
  Cert.Prod.tn (φ₁ := .bf16) (φ₂ := .bf16) dot_S4352x512_S4352x1024_S512x1024_0_0_1_1_n_n _ rfl x0 x1 r c

variable (m : (ℓ : Loc nD τ sig) → Buf (Elt Ideal) ℓ)

/-- The whole product. -/
def whole (x0 : S4352x512.Idx → EReal) (x1 : S4352x4096.Idx → EReal) : S512x4096.Idx → EReal :=
  fun i => ∑ k : Fin 4352, x0 (ix2 k (i 0)) * x1 (ix2 k (i 1))

/-- Where each window's block stands at a grid point. -/
theorem places : ∀ t : Fin cfg0.N,
    (win0_0.index t (0 : Fin 2) = 0 ∧ win0_0.index t (1 : Fin 2) = t.val / 4)
      ∧ (win0_1.index t (0 : Fin 2) = 0 ∧ win0_1.index t (1 : Fin 2) = t.val % 4)
      ∧ (win0_2.index t (0 : Fin 2) = t.val / 4 ∧ win0_2.index t (1 : Fin 2) = t.val % 4) :=
  (by decide +kernel : ∀ t : Fin grid0.N,
    (win0_0.index t (0 : Fin 2) = 0 ∧ win0_0.index t (1 : Fin 2) = t.val / 4)
      ∧ (win0_1.index t (0 : Fin 2) = 0 ∧ win0_1.index t (1 : Fin 2) = t.val % 4)
      ∧ (win0_2.index t (0 : Fin 2) = t.val / 4 ∧ win0_2.index t (1 : Fin 2) = t.val % 4))

/-- A block of the first argument, element by element. -/
theorem at0 (c : Dev nD) (t : Fin cfg0.N) (a : Fin 4352) (b : Fin 512) (a' : Fin 4352) (b' : Fin 512)
    (ha : a'.val = win0_0.index t (0 : Fin 2) * 4352 + 1 * a.val) (hb : b'.val = win0_0.index t (1 : Fin 2) * 512 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 4352) (b : Fin 1024) (a' : Fin 4352) (b' : Fin 4096)
    (ha : a'.val = win0_1.index t (0 : Fin 2) * 4352 + 1 * a.val) (hb : b'.val = win0_1.index t (1 : Fin 2) * 1024 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel13Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 512 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 512) (n1 := 1024) y)).trans ((pay_at _ _ _ _).trans (Finset.sum_congr rfl fun k _ => ?_))
  exact congr (congrArg _ (at0 m c t k _ k ((((cfg0.win 2).blk t).view.emb y) (0 : Fin 2)) (by rw [p0]; omega) (by rw [p1, e0, p4])))
    (at1 m c t k _ k ((((cfg0.win 2).blk t).view.emb y) (1 : Fin 2)) (by rw [p2]; omega) (by rw [p3, e1, p5]))

/-- Every element of the result stands in some grid point's block. -/
theorem covered (i : S512x4096.Idx) :
    ∃ t : Fin cfg0.N, (cfg0.win 2).flush t = true ∧ i ∈ ((cfg0.win 2).blk t).view.set := by
  have h0 : (i 0).val < 512 := (i 0).isLt
  have h1 : (i 1).val < 4096 := (i 1).isLt
  have hN : cfg0.N = 4 := N_0
  let t : Fin cfg0.N := ⟨(i 0).val / 512 * 4 + (i 1).val / 1024, by omega⟩
  have ht : t.val = (i 0).val / 512 * 4 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference13Ideal.Read in
/-- The reference's result is the whole product. -/
theorem reference (x0 : S4352x512.Idx → EReal) (x1 : S4352x4096.Idx → EReal) :
    val_main_v6 (F := Ideal) x0 x1 = whole x0 x1 := by
  funext i
  rw [val_main_v6_apply]
  refine (val_main_v5_apply (F := Ideal) x0 x1 i).trans ((val_main_v4_apply x0 x1 _).trans (Finset.sum_congr rfl fun k _ => ?_))
  exact (mul_comm _ _).trans (congr (congrArg _ (congrArg x0 (eq_ix2 _))) (congrArg x1 (eq_ix2 _)))

end Cert.Kernel13Ideal.Prod

end
-- ==== Proof.Product14.lean ====
module

public import proofs.«01_k».proof.Proof.Product
public import proofs.«01_k».proof.Proof.Gen.Kernel14Ideal.Value
public import proofs.«01_k».proof.Proof.Gen.Reference14Ideal.Read

@[expose] public section

set_option maxRecDepth 16384

noncomputable section

namespace Cert.Kernel14Ideal.Prod

open Cert.Kernel14Ideal Cert.Kernel14Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S1088x4096 .bf16) (h3 : arg3.IsWhole) (arg4 : Memref sig .tc .vmem S512x4096 .bf16) (h4 : arg4.IsWhole)
    (arg5 : Memref sig .tc .vmem S1088x512 .f32) (h5 : arg5.IsWhole) (arg6 : Memref sig .tc .vmem S8x128 .f32) (h6 : arg6.IsWhole)
    (x0 : Vec F S1088x4096 .bf16) (x1 : Vec F S512x4096 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S1088x4096) hz, View.ld_unit_zero (S := S512x4096) hz]

/-- That product at an element. -/
theorem pay_at (x0 : Vec Ideal S1088x4096 .bf16) (x1 : Vec Ideal S512x4096 .bf16) (r : Fin 1088) (c : Fin 512) :
    k0_pay1 (F := Ideal) x0 x1 (ix2 r c) = ∑ k : Fin 4096, x0 (ix2 (r) k) * x1 (ix2 (c) k) :=
  Cert.Prod.nt (φ₁ := .bf16) (φ₂ := .bf16) x0 x1 r c

variable (m : (ℓ : Loc nD τ sig) → Buf (Elt Ideal) ℓ)

/-- The whole product. -/
def whole (x0 : S4352x4096.Idx → EReal) (x1 : S512x4096.Idx → EReal) : S4352x512.Idx → EReal :=
  fun i => ∑ k : Fin 4096, x0 (ix2 (i 0) k) * x1 (ix2 (i 1) k)

/-- Where each window's block stands at a grid point. -/
theorem places : ∀ t : Fin cfg0.N,
    (win0_0.index t (0 : Fin 2) = t.val / 1 ∧ win0_0.index t (1 : Fin 2) = 0)
      ∧ (win0_1.index t (0 : Fin 2) = t.val % 1 ∧ win0_1.index t (1 : Fin 2) = 0)
      ∧ (win0_2.index t (0 : Fin 2) = t.val / 1 ∧ win0_2.index t (1 : Fin 2) = t.val % 1) :=
  (by decide +kernel : ∀ t : Fin grid0.N,
    (win0_0.index t (0 : Fin 2) = t.val / 1 ∧ win0_0.index t (1 : Fin 2) = 0)
      ∧ (win0_1.index t (0 : Fin 2) = t.val % 1 ∧ win0_1.index t (1 : Fin 2) = 0)
      ∧ (win0_2.index t (0 : Fin 2) = t.val / 1 ∧ win0_2.index t (1 : Fin 2) = t.val % 1))

/-- A block of the first argument, element by element. -/
theorem at0 (c : Dev nD) (t : Fin cfg0.N) (a : Fin 1088) (b : Fin 4096) (a' : Fin 4352) (b' : Fin 4096)
    (ha : a'.val = win0_0.index t (0 : Fin 2) * 1088 + 1 * a.val) (hb : b'.val = win0_0.index t (1 : Fin 2) * 4096 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 512) (b : Fin 4096) (a' : Fin 512) (b' : Fin 4096)
    (ha : a'.val = win0_1.index t (0 : Fin 2) * 512 + 1 * a.val) (hb : b'.val = win0_1.index t (1 : Fin 2) * 4096 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel14Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 1088 + 1 * (y (0 : Fin 2)).val := rfl
  have e1 : (((((cfg0.win 2).blk t).view.emb y) (1 : Fin 2))).val = win0_2.index t (1 : Fin 2) * 512 + 1 * (y (1 : Fin 2)).val := rfl
  refine (congrArg _ (eq_ix2 (n0 := 1088) (n1 := 512) y)).trans ((pay_at _ _ _ _).trans (Finset.sum_congr rfl fun k _ => ?_))
  exact congr (congrArg _ (at0 m c t _ k ((((cfg0.win 2).blk t).view.emb y) (0 : Fin 2)) k (by rw [p0, e0, p4]) (by rw [p1]; omega)))
    (at1 m c t _ k ((((cfg0.win 2).blk t).view.emb y) (1 : Fin 2)) k (by rw [p2, e1, p5]) (by rw [p3]; omega))

/-- Every element of the result stands in some grid point's block. -/
theorem covered (i : S4352x512.Idx) :
    ∃ t : Fin cfg0.N, (cfg0.win 2).flush t = true ∧ i ∈ ((cfg0.win 2).blk t).view.set := by
  have h0 : (i 0).val < 4352 := (i 0).isLt
  have h1 : (i 1).val < 512 := (i 1).isLt
  have hN : cfg0.N = 4 := N_0
  let t : Fin cfg0.N := ⟨(i 0).val / 1088 * 1 + (i 1).val / 512, by omega⟩
  have ht : t.val = (i 0).val / 1088 * 1 + (i 1).val / 512 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1088 ≤ (i 0).val ∧ (i 0).val < win0_2.index t (0 : Fin 2) * 1088 + 1088
    omega
  | ⟨1, _⟩ =>
    show win0_2.index t (1 : Fin 2) * 512 ≤ (i 1).val ∧ (i 1).val < win0_2.index t (1 : Fin 2) * 512 + 512
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference14Ideal.Read in
/-- The reference's result is the whole product. -/
theorem reference (x0 : S4352x4096.Idx → EReal) (x1 : S512x4096.Idx → EReal) :
    val_main_v4 (F := Ideal) x0 x1 = whole x0 x1 := by
  funext i
  refine (val_main_v4_apply x0 x1 i).trans (Finset.sum_congr rfl fun k _ => ?_)
  exact congr (congrArg _ (congrArg x0 (eq_ix2 _))) (congrArg x1 (eq_ix2 _))

end Cert.Kernel14Ideal.Prod

end
-- ==== Proof.Product15.lean ====
module

public import proofs.«01_k».proof.Proof.Product
public import proofs.«01_k».proof.Proof.Gen.Kernel15Ideal.Value
public import proofs.«01_k».proof.Proof.Gen.Reference15Ideal.Read

@[expose] public section

set_option maxRecDepth 16384

noncomputable section

namespace Cert.Kernel15Ideal.Prod

open Cert.Kernel15Ideal Cert.Kernel15Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S4352x896 .bf16) (h3 : arg3.IsWhole) (arg4 : Memref sig .tc .vmem S4352x1024 .bf16) (h4 : arg4.IsWhole)
    (arg5 : Memref sig .tc .vmem S896x1024 .bf16) (h5 : arg5.IsWhole) (arg6 : Memref sig .tc .vmem S8x128 .f32) (h6 : arg6.IsWhole)
    (x0 : Vec F S4352x896 .bf16) (x1 : Vec F S4352x1024 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S4352x896) hz, View.ld_unit_zero (S := S4352x1024) hz]

/-- That product at an element. -/
theorem pay_at (x0 : Vec Ideal S4352x896 .bf16) (x1 : Vec Ideal S4352x1024 .bf16) (r : Fin 896) (c : Fin 1024) :
    k0_pay1 (F := Ideal) x0 x1 (ix2 r c) = ∑ k : Fin 4352, x0 (ix2 k (r)) * x1 (ix2 k (c)) :=
  Cert.Prod.tn (φ₁ := .bf16) (φ₂ := .bf16) dot_S4352x896_S4352x1024_S896x1024_0_0_1_1_n_n _ rfl x0 x1 r c

variable (m : (ℓ : Loc nD τ sig) → Buf (Elt Ideal) ℓ)

/-- The whole product. -/
def whole (x0 : S4352x6272.Idx → EReal) (x1 : S4352x2048.Idx → EReal) : S6272x2048.Idx → EReal :=
  fun i => ∑ k : Fin 4352, x0 (ix2 k (i 0)) * x1 (ix2 k (i 1))

/-- Where each window's block stands at a grid point. -/
theorem places : ∀ t : Fin cfg0.N,
    (win0_0.index t (0 : Fin 2) = 0 ∧ win0_0.index t (1 : Fin 2) = t.val / 2)
      ∧ (win0_1.index t (0 : Fin 2) = 0 ∧ win0_1.index t (1 : Fin 2) = t.val % 2)
      ∧ (win0_2.index t (0 : Fin 2) = t.val / 2 ∧ win0_2.index t (1 : Fin 2) = t.val % 2) :=
  (by decide +kernel : ∀ t : Fin grid0.N,
    (win0_0.index t (0 : Fin 2) = 0 ∧ win0_0.index t (1 : Fin 2) = t.val / 2)
      ∧ (win0_1.index t (0 : Fin 2) = 0 ∧ win0_1.index t (1 : Fin 2) = t.val % 2)
      ∧ (win0_2.index t (0 : Fin 2) = t.val / 2 ∧ win0_2.index t (1 : Fin 2) = t.val % 2))

/-- A block of the first argument, element by element. -/
theorem at0 (c : Dev nD) (t : Fin cfg0.N) (a : Fin 4352) (b : Fin 896) (a' : Fin 4352) (b' : Fin 6272)
    (ha : a'.val = win0_0.index t (0 : Fin 2) * 4352 + 1 * a.val) (hb : b'.val = win0_0.index t (1 : Fin 2) * 896 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 4352) (b : Fin 1024) (a' : Fin 4352) (b' : Fin 2048)
    (ha : a'.val = win0_1.index t (0 : Fin 2) * 4352 + 1 * a.val) (hb : b'.val = win0_1.index t (1 : Fin 2) * 1024 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel15Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 896 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 896) (n1 := 1024) y)).trans ((pay_at _ _ _ _).trans (Finset.sum_congr rfl fun k _ => ?_))
  exact congr (congrArg _ (at0 m c t k _ k ((((cfg0.win 2).blk t).view.emb y) (0 : Fin 2)) (by rw [p0]; omega) (by rw [p1, e0, p4])))
    (at1 m c t k _ k ((((cfg0.win 2).blk t).view.emb y) (1 : Fin 2)) (by rw [p2]; omega) (by rw [p3, e1, p5]))

/-- Every element of the result stands in some grid point's block. -/
theorem covered (i : S6272x2048.Idx) :
    ∃ t : Fin cfg0.N, (cfg0.win 2).flush t = true ∧ i ∈ ((cfg0.win 2).blk t).view.set := by
  have h0 : (i 0).val < 6272 := (i 0).isLt
  have h1 : (i 1).val < 2048 := (i 1).isLt
  have hN : cfg0.N = 14 := N_0
  let t : Fin cfg0.N := ⟨(i 0).val / 896 * 2 + (i 1).val / 1024, by omega⟩
  have ht : t.val = (i 0).val / 896 * 2 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 896 ≤ (i 0).val ∧ (i 0).val < win0_2.index t (0 : Fin 2) * 896 + 896
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference15Ideal.Read in
/-- The reference's result is the whole product. -/
theorem reference (x0 : S4352x6272.Idx → EReal) (x1 : S4352x2048.Idx → EReal) :
    val_main_v8 (F := Ideal) x0 x1 = whole x0 x1 := by
  funext i
  rw [val_main_v8_apply]
  refine (val_main_v7_apply (F := Ideal) x0 x1 i).trans ((val_main_v6_apply (F := Ideal) x0 x1 _).trans
    ((val_main_v5_apply x0 x1 _).trans (Finset.sum_congr rfl fun k _ => ?_)))
  exact congr (congrArg _ (congrArg x0 (eq_ix2 _))) (congrArg x1 (eq_ix2 _))

end Cert.Kernel15Ideal.Prod

end
-- ==== Proof.Product16.lean ====
module

public import proofs.«01_k».proof.Proof.Product
public import proofs.«01_k».proof.Proof.Gen.Kernel16Ideal.Value
public import proofs.«01_k».proof.Proof.Gen.Reference16Ideal.Read

@[expose] public section

set_option maxRecDepth 16384

noncomputable section

namespace Cert.Kernel16Ideal.Prod

open Cert.Kernel16Ideal Cert.Kernel16Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S1088x6272 .bf16) (h3 : arg3.IsWhole) (arg4 : Memref sig .tc .vmem S6272x512 .bf16) (h4 : arg4.IsWhole)
    (arg5 : Memref sig .tc .vmem S1088x512 .f32) (h5 : arg5.IsWhole) (arg6 : Memref sig .tc .vmem S8x128 .f32) (h6 : arg6.IsWhole)
    (x0 : Vec F S1088x6272 .bf16) (x1 : Vec F S6272x512 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S1088x6272) hz, View.ld_unit_zero (S := S6272x512) hz]

/-- That product at an element. -/
theorem pay_at (x0 : Vec Ideal S1088x6272 .bf16) (x1 : Vec Ideal S6272x512 .bf16) (r : Fin 1088) (c : Fin 512) :
    k0_pay1 (F := Ideal) x0 x1 (ix2 r c) = ∑ k : Fin 6272, x0 (ix2 (r) k) * x1 (ix2 k (c)) :=
  Cert.Prod.nn (φ₁ := .bf16) (φ₂ := .bf16) x0 x1 r c

variable (m : (ℓ : Loc nD τ sig) → Buf (Elt Ideal) ℓ)

/-- The whole product. -/
def whole (x0 : S4352x6272.Idx → EReal) (x1 : S6272x2048.Idx → EReal) : S4352x2048.Idx → EReal :=
  fun i => ∑ k : Fin 6272, x0 (ix2 (i 0) k) * x1 (ix2 k (i 1))

/-- Where each window's block stands at a grid point. -/
theorem places : ∀ t : Fin cfg0.N,
    (win0_0.index t (0 : Fin 2) = t.val / 4 ∧ win0_0.index t (1 : Fin 2) = 0)
      ∧ (win0_1.index t (0 : Fin 2) = 0 ∧ win0_1.index t (1 : Fin 2) = t.val % 4)
      ∧ (win0_2.index t (0 : Fin 2) = t.val / 4 ∧ win0_2.index t (1 : Fin 2) = t.val % 4) :=
  (by decide +kernel : ∀ t : Fin grid0.N,
    (win0_0.index t (0 : Fin 2) = t.val / 4 ∧ win0_0.index t (1 : Fin 2) = 0)
      ∧ (win0_1.index t (0 : Fin 2) = 0 ∧ win0_1.index t (1 : Fin 2) = t.val % 4)
      ∧ (win0_2.index t (0 : Fin 2) = t.val / 4 ∧ win0_2.index t (1 : Fin 2) = t.val % 4))

/-- A block of the first argument, element by element. -/
theorem at0 (c : Dev nD) (t : Fin cfg0.N) (a : Fin 1088) (b : Fin 6272) (a' : Fin 4352) (b' : Fin 6272)
    (ha : a'.val = win0_0.index t (0 : Fin 2) * 1088 + 1 * a.val) (hb : b'.val = win0_0.index t (1 : Fin 2) * 6272 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 6272) (b : Fin 512) (a' : Fin 6272) (b' : Fin 2048)
    (ha : a'.val = win0_1.index t (0 : Fin 2) * 6272 + 1 * a.val) (hb : b'.val = win0_1.index t (1 : Fin 2) * 512 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel16Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 1088 + 1 * (y (0 : Fin 2)).val := rfl
  have e1 : (((((cfg0.win 2).blk t).view.emb y) (1 : Fin 2))).val = win0_2.index t (1 : Fin 2) * 512 + 1 * (y (1 : Fin 2)).val := rfl
  refine (congrArg _ (eq_ix2 (n0 := 1088) (n1 := 512) y)).trans ((pay_at _ _ _ _).trans (Finset.sum_congr rfl fun k _ => ?_))
  exact congr (congrArg _ (at0 m c t _ k ((((cfg0.win 2).blk t).view.emb y) (0 : Fin 2)) k (by rw [p0, e0, p4]) (by rw [p1]; omega)))
    (at1 m c t k _ k ((((cfg0.win 2).blk t).view.emb y) (1 : Fin 2)) (by rw [p2]; omega) (by rw [p3, e1, p5]))

/-- Every element of the result stands in some grid point's block. -/
theorem covered (i : S4352x2048.Idx) :
    ∃ t : Fin cfg0.N, (cfg0.win 2).flush t = true ∧ i ∈ ((cfg0.win 2).blk t).view.set := by
  have h0 : (i 0).val < 4352 := (i 0).isLt
  have h1 : (i 1).val < 2048 := (i 1).isLt
  have hN : cfg0.N = 16 := N_0
  let t : Fin cfg0.N := ⟨(i 0).val / 1088 * 4 + (i 1).val / 512, by omega⟩
  have ht : t.val = (i 0).val / 1088 * 4 + (i 1).val / 512 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1088 ≤ (i 0).val ∧ (i 0).val < win0_2.index t (0 : Fin 2) * 1088 + 1088
    omega
  | ⟨1, _⟩ =>
    show win0_2.index t (1 : Fin 2) * 512 ≤ (i 1).val ∧ (i 1).val < win0_2.index t (1 : Fin 2) * 512 + 512
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference16Ideal.Read in
/-- The reference's result is the whole product. -/
theorem reference (x0 : S4352x6272.Idx → EReal) (x1 : S6272x2048.Idx → EReal) :
    val_main_v5 (F := Ideal) x0 x1 = whole x0 x1 := by
  funext i
  refine (val_main_v5_apply x0 x1 i).trans (Finset.sum_congr rfl fun k _ => ?_)
  exact congr (congrArg _ (congrArg x0 (eq_ix2 _))) ((val_main_v2_apply (F := Ideal) x1 _).trans (congrArg x1 (eq_ix2 _)))

end Cert.Kernel16Ideal.Prod

end
-- ==== Proof.Product17.lean ====
module

public import proofs.«01_k».proof.Proof.Product
public import proofs.«01_k».proof.Proof.Gen.Kernel17Ideal.Value
public import proofs.«01_k».proof.Proof.Gen.Reference17Ideal.Read

@[expose] public section

set_option maxRecDepth 16384

noncomputable section

namespace Cert.Kernel17Ideal.Prod

open Cert.Kernel17Ideal Cert.Kernel17Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S1088x2048 .bf16) (h3 : arg3.IsWhole) (arg4 : Memref sig .tc .vmem S896x2048 .bf16) (h4 : arg4.IsWhole)
    (arg5 : Memref sig .tc .vmem S1088x896 .f32) (h5 : arg5.IsWhole) (arg6 : Memref sig .tc .vmem S8x128 .f32) (h6 : arg6.IsWhole)
    (x0 : Vec F S1088x2048 .bf16) (x1 : Vec F S896x2048 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S1088x2048) hz, View.ld_unit_zero (S := S896x2048) hz]

/-- That product at an element. -/
theorem pay_at (x0 : Vec Ideal S1088x2048 .bf16) (x1 : Vec Ideal S896x2048 .bf16) (r : Fin 1088) (c : Fin 896) :
    k0_pay1 (F := Ideal) x0 x1 (ix2 r c) = ∑ k : Fin 2048, x0 (ix2 (r) k) * x1 (ix2 (c) k) :=
  Cert.Prod.nt (φ₁ := .bf16) (φ₂ := .bf16) x0 x1 r c

variable (m : (ℓ : Loc nD τ sig) → Buf (Elt Ideal) ℓ)

/-- The whole product. -/
def whole (x0 : S4352x2048.Idx → EReal) (x1 : S6272x2048.Idx → EReal) : S4352x6272.Idx → EReal :=
  fun i => ∑ k : Fin 2048, x0 (ix2 (i 0) k) * x1 (ix2 (i 1) k)

/-- Where each window's block stands at a grid point. -/
theorem places : ∀ t : Fin cfg0.N,
    (win0_0.index t (0 : Fin 2) = t.val / 7 ∧ win0_0.index t (1 : Fin 2) = 0)
      ∧ (win0_1.index t (0 : Fin 2) = t.val % 7 ∧ win0_1.index t (1 : Fin 2) = 0)
      ∧ (win0_2.index t (0 : Fin 2) = t.val / 7 ∧ win0_2.index t (1 : Fin 2) = t.val % 7) :=
  (by decide +kernel : ∀ t : Fin grid0.N,
    (win0_0.index t (0 : Fin 2) = t.val / 7 ∧ win0_0.index t (1 : Fin 2) = 0)
      ∧ (win0_1.index t (0 : Fin 2) = t.val % 7 ∧ win0_1.index t (1 : Fin 2) = 0)
      ∧ (win0_2.index t (0 : Fin 2) = t.val / 7 ∧ win0_2.index t (1 : Fin 2) = t.val % 7))

/-- A block of the first argument, element by element. -/
theorem at0 (c : Dev nD) (t : Fin cfg0.N) (a : Fin 1088) (b : Fin 2048) (a' : Fin 4352) (b' : Fin 2048)
    (ha : a'.val = win0_0.index t (0 : Fin 2) * 1088 + 1 * a.val) (hb : b'.val = win0_0.index t (1 : Fin 2) * 2048 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 896) (b : Fin 2048) (a' : Fin 6272) (b' : Fin 2048)
    (ha : a'.val = win0_1.index t (0 : Fin 2) * 896 + 1 * a.val) (hb : b'.val = win0_1.index t (1 : Fin 2) * 2048 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel17Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 1088 + 1 * (y (0 : Fin 2)).val := rfl
  have e1 : (((((cfg0.win 2).blk t).view.emb y) (1 : Fin 2))).val = win0_2.index t (1 : Fin 2) * 896 + 1 * (y (1 : Fin 2)).val := rfl
  refine (congrArg _ (eq_ix2 (n0 := 1088) (n1 := 896) y)).trans ((pay_at _ _ _ _).trans (Finset.sum_congr rfl fun k _ => ?_))
  exact congr (congrArg _ (at0 m c t _ k ((((cfg0.win 2).blk t).view.emb y) (0 : Fin 2)) k (by rw [p0, e0, p4]) (by rw [p1]; omega)))
    (at1 m c t _ k ((((cfg0.win 2).blk t).view.emb y) (1 : Fin 2)) k (by rw [p2, e1, p5]) (by rw [p3]; omega))

/-- Every element of the result stands in some grid point's block. -/
theorem covered (i : S4352x6272.Idx) :
    ∃ t : Fin cfg0.N, (cfg0.win 2).flush t = true ∧ i ∈ ((cfg0.win 2).blk t).view.set := by
  have h0 : (i 0).val < 4352 := (i 0).isLt
  have h1 : (i 1).val < 6272 := (i 1).isLt
  have hN : cfg0.N = 28 := N_0
  let t : Fin cfg0.N := ⟨(i 0).val / 1088 * 7 + (i 1).val / 896, by omega⟩
  have ht : t.val = (i 0).val / 1088 * 7 + (i 1).val / 896 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1088 ≤ (i 0).val ∧ (i 0).val < win0_2.index t (0 : Fin 2) * 1088 + 1088
    omega
  | ⟨1, _⟩ =>
    show win0_2.index t (1 : Fin 2) * 896 ≤ (i 1).val ∧ (i 1).val < win0_2.index t (1 : Fin 2) * 896 + 896
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference17Ideal.Read in
/-- The reference's result is the whole product. -/
theorem reference (x0 : S4352x2048.Idx → EReal) (x1 : S6272x2048.Idx → EReal) :
    val_main_v3 (F := Ideal) x0 x1 = whole x0 x1 := by
  funext i
  refine (val_main_v3_apply x0 x1 i).trans (Finset.sum_congr rfl fun k _ => ?_)
  exact congr (congrArg _ (congrArg x0 (eq_ix2 _))) ((val_main_v2_apply (F := Ideal) x1 _).trans (congrArg x1 (eq_ix2 _)))

end Cert.Kernel17Ideal.Prod

end
-- ==== Proof.Product18.lean ====
module

public import proofs.«01_k».proof.Proof.Product
public import proofs.«01_k».proof.Proof.Gen.Kernel18Ideal.Value
public import proofs.«01_k».proof.Proof.Gen.Reference18Ideal.Read

@[expose] public section

set_option maxRecDepth 16384

noncomputable section

namespace Cert.Kernel18Ideal.Prod

open Cert.Kernel18Ideal Cert.Kernel18Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S1088x1024 .bf16) (h3 : arg3.IsWhole) (arg4 : Memref sig .tc .vmem S1024x1024 .bf16) (h4 : arg4.IsWhole)
    (arg5 : Memref sig .tc .vmem S1088x1024 .f32) (h5 : arg5.IsWhole) (arg6 : Memref sig .tc .vmem S8x128 .f32) (h6 : arg6.IsWhole)
    (x0 : Vec F S1088x1024 .bf16) (x1 : Vec F S1024x1024 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S1088x1024) hz, View.ld_unit_zero (S := S1024x1024) hz]

/-- That product at an element. -/
theorem pay_at (x0 : Vec Ideal S1088x1024 .bf16) (x1 : Vec Ideal S1024x1024 .bf16) (r : Fin 1088) (c : Fin 1024) :
    k0_pay1 (F := Ideal) x0 x1 (ix2 r c) = ∑ k : Fin 1024, x0 (ix2 (r) k) * x1 (ix2 k (c)) :=
  Cert.Prod.nn (φ₁ := .bf16) (φ₂ := .bf16) x0 x1 r c

variable (m : (ℓ : Loc nD τ sig) → Buf (Elt Ideal) ℓ)

/-- The whole product. -/
def whole (x0 : S4352x1024.Idx → EReal) (x1 : S1024x2048.Idx → EReal) : S4352x2048.Idx → EReal :=
  fun i => ∑ k : Fin 1024, x0 (ix2 (i 0) k) * x1 (ix2 k (i 1))

/-- Where each window's block stands at a grid point. -/
theorem places : ∀ t : Fin cfg0.N,
    (win0_0.index t (0 : Fin 2) = t.val / 2 ∧ win0_0.index t (1 : Fin 2) = 0)
      ∧ (win0_1.index t (0 : Fin 2) = 0 ∧ win0_1.index t (1 : Fin 2) = t.val % 2)
      ∧ (win0_2.index t (0 : Fin 2) = t.val / 2 ∧ win0_2.index t (1 : Fin 2) = t.val % 2) :=
  (by decide +kernel : ∀ t : Fin grid0.N,
    (win0_0.index t (0 : Fin 2) = t.val / 2 ∧ win0_0.index t (1 : Fin 2) = 0)
      ∧ (win0_1.index t (0 : Fin 2) = 0 ∧ win0_1.index t (1 : Fin 2) = t.val % 2)
      ∧ (win0_2.index t (0 : Fin 2) = t.val / 2 ∧ win0_2.index t (1 : Fin 2) = t.val % 2))

/-- A block of the first argument, element by element. -/
theorem at0 (c : Dev nD) (t : Fin cfg0.N) (a : Fin 1088) (b : Fin 1024) (a' : Fin 4352) (b' : Fin 1024)
    (ha : a'.val = win0_0.index t (0 : Fin 2) * 1088 + 1 * a.val) (hb : b'.val = win0_0.index t (1 : Fin 2) * 1024 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 1024) (b : Fin 1024) (a' : Fin 1024) (b' : Fin 2048)
    (ha : a'.val = win0_1.index t (0 : Fin 2) * 1024 + 1 * a.val) (hb : b'.val = win0_1.index t (1 : Fin 2) * 1024 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel18Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 1088 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 1088) (n1 := 1024) y)).trans ((pay_at _ _ _ _).trans (Finset.sum_congr rfl fun k _ => ?_))
  exact congr (congrArg _ (at0 m c t _ k ((((cfg0.win 2).blk t).view.emb y) (0 : Fin 2)) k (by rw [p0, e0, p4]) (by rw [p1]; omega)))
    (at1 m c t k _ k ((((cfg0.win 2).blk t).view.emb y) (1 : Fin 2)) (by rw [p2]; omega) (by rw [p3, e1, p5]))

/-- Every element of the result stands in some grid point's block. -/
theorem covered (i : S4352x2048.Idx) :
    ∃ t : Fin cfg0.N, (cfg0.win 2).flush t = true ∧ i ∈ ((cfg0.win 2).blk t).view.set := by
  have h0 : (i 0).val < 4352 := (i 0).isLt
  have h1 : (i 1).val < 2048 := (i 1).isLt
  have hN : cfg0.N = 8 := N_0
  let t : Fin cfg0.N := ⟨(i 0).val / 1088 * 2 + (i 1).val / 1024, by omega⟩
  have ht : t.val = (i 0).val / 1088 * 2 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1088 ≤ (i 0).val ∧ (i 0).val < win0_2.index t (0 : Fin 2) * 1088 + 1088
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference18Ideal.Read in
/-- The reference's result is the whole product. -/
theorem reference (x0 : S4352x1024.Idx → EReal) (x1 : S1024x2048.Idx → EReal) :
    val_main_v2 (F := Ideal) x0 x1 = whole x0 x1 := by
  funext i
  refine (val_main_v2_apply x0 x1 i).trans (Finset.sum_congr rfl fun k _ => ?_)
  exact congr (congrArg _ (congrArg x0 (eq_ix2 _))) (congrArg x1 (eq_ix2 _))

end Cert.Kernel18Ideal.Prod

end
-- ==== Proof.Product19.lean ====
module

public import proofs.«01_k».proof.Proof.Product
public import proofs.«01_k».proof.Proof.Gen.Kernel19Ideal.Value
public import proofs.«01_k».proof.Proof.Gen.Reference19Ideal.Read

@[expose] public section

set_option maxRecDepth 16384

noncomputable section

namespace Cert.Kernel19Ideal.Prod

open Cert.Kernel19Ideal Cert.Kernel19Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S1088x512 .bf16) (h3 : arg3.IsWhole) (arg4 : Memref sig .tc .vmem S512x1024 .bf16) (h4 : arg4.IsWhole)
    (arg5 : Memref sig .tc .vmem S1088x1024 .bf16) (h5 : arg5.IsWhole) (arg6 : Memref sig .tc .vmem S8x128 .f32) (h6 : arg6.IsWhole)
    (x0 : Vec F S1088x512 .bf16) (x1 : Vec F S512x1024 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S1088x512) hz, View.ld_unit_zero (S := S512x1024) hz]

/-- That product at an element. -/
theorem pay_at (x0 : Vec Ideal S1088x512 .bf16) (x1 : Vec Ideal S512x1024 .bf16) (r : Fin 1088) (c : Fin 1024) :
    k0_pay1 (F := Ideal) x0 x1 (ix2 r c) = ∑ k : Fin 512, x0 (ix2 (r) k) * x1 (ix2 k (c)) :=
  Cert.Prod.nn (φ₁ := .bf16) (φ₂ := .bf16) x0 x1 r c

variable (m : (ℓ : Loc nD τ sig) → Buf (Elt Ideal) ℓ)

/-- The whole product. -/
def whole (x0 : S4352x512.Idx → EReal) (x1 : S512x4096.Idx → EReal) : S4352x4096.Idx → EReal :=
  fun i => ∑ k : Fin 512, x0 (ix2 (i 0) k) * x1 (ix2 k (i 1))

/-- Where each window's block stands at a grid point. -/
theorem places : ∀ t : Fin cfg0.N,
    (win0_0.index t (0 : Fin 2) = t.val / 4 ∧ win0_0.index t (1 : Fin 2) = 0)
      ∧ (win0_1.index t (0 : Fin 2) = 0 ∧ win0_1.index t (1 : Fin 2) = t.val % 4)
      ∧ (win0_2.index t (0 : Fin 2) = t.val / 4 ∧ win0_2.index t (1 : Fin 2) = t.val % 4) :=
  (by decide +kernel : ∀ t : Fin grid0.N,
    (win0_0.index t (0 : Fin 2) = t.val / 4 ∧ win0_0.index t (1 : Fin 2) = 0)
      ∧ (win0_1.index t (0 : Fin 2) = 0 ∧ win0_1.index t (1 : Fin 2) = t.val % 4)
      ∧ (win0_2.index t (0 : Fin 2) = t.val / 4 ∧ win0_2.index t (1 : Fin 2) = t.val % 4))

/-- A block of the first argument, element by element. -/
theorem at0 (c : Dev nD) (t : Fin cfg0.N) (a : Fin 1088) (b : Fin 512) (a' : Fin 4352) (b' : Fin 512)
    (ha : a'.val = win0_0.index t (0 : Fin 2) * 1088 + 1 * a.val) (hb : b'.val = win0_0.index t (1 : Fin 2) * 512 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 512) (b : Fin 1024) (a' : Fin 512) (b' : Fin 4096)
    (ha : a'.val = win0_1.index t (0 : Fin 2) * 512 + 1 * a.val) (hb : b'.val = win0_1.index t (1 : Fin 2) * 1024 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel19Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 1088 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 1088) (n1 := 1024) y)).trans ((pay_at _ _ _ _).trans (Finset.sum_congr rfl fun k _ => ?_))
  exact congr (congrArg _ (at0 m c t _ k ((((cfg0.win 2).blk t).view.emb y) (0 : Fin 2)) k (by rw [p0, e0, p4]) (by rw [p1]; omega)))
    (at1 m c t k _ k ((((cfg0.win 2).blk t).view.emb y) (1 : Fin 2)) (by rw [p2]; omega) (by rw [p3, e1, p5]))

/-- Every element of the result stands in some grid point's block. -/
theorem covered (i : S4352x4096.Idx) :
    ∃ t : Fin cfg0.N, (cfg0.win 2).flush t = true ∧ i ∈ ((cfg0.win 2).blk t).view.set := by
  have h0 : (i 0).val < 4352 := (i 0).isLt
  have h1 : (i 1).val < 4096 := (i 1).isLt
  have hN : cfg0.N = 16 := N_0
  let t : Fin cfg0.N := ⟨(i 0).val / 1088 * 4 + (i 1).val / 1024, by omega⟩
  have ht : t.val = (i 0).val / 1088 * 4 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1088 ≤ (i 0).val ∧ (i 0).val < win0_2.index t (0 : Fin 2) * 1088 + 1088
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference19Ideal.Read in
/-- The reference's result is the whole product. -/
theorem reference (x0 : S4352x512.Idx → EReal) (x1 : S512x4096.Idx → EReal) :
    val_main_v3 (F := Ideal) x0 x1 = whole x0 x1 := by
  funext i
  rw [val_main_v3_apply]
  refine (val_main_v2_apply x0 x1 i).trans (Finset.sum_congr rfl fun k _ => ?_)
  exact congr (congrArg _ (congrArg x0 (eq_ix2 _))) (congrArg x1 (eq_ix2 _))

end Cert.Kernel19Ideal.Prod

end
-- ==== Proof.Product20.lean ====
module

public import proofs.«01_k».proof.Proof.Product
public import proofs.«01_k».proof.Proof.Gen.Kernel20Ideal.Value
public import proofs.«01_k».proof.Proof.Gen.Reference20Ideal.Read

@[expose] public section

set_option maxRecDepth 16384

noncomputable section

namespace Cert.Kernel20Ideal.Prod

open Cert.Kernel20Ideal Cert.Kernel20Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block: the product of its two input blocks. -/
theorem out_eq {F : FTy → Type} [FloatOps F] (c : Dev nD) (i : grid0.Coords)
    (arg3 : Memref sig .tc .vmem S1088x2048 .bf16) (h3 : arg3.IsWhole) (arg4 : Memref sig .tc .vmem S2048x1024 .bf16) (h4 : arg4.IsWhole)
    (arg5 : Memref sig .tc .vmem S1088x1024 .f32) (h5 : arg5.IsWhole) (arg6 : Memref sig .tc .vmem S8x128 .f32) (h6 : arg6.IsWhole)
    (x0 : Vec F S1088x2048 .bf16) (x1 : Vec F S2048x1024 .bf16) :
    out0_A_2 c i arg3 h3 arg4 h4 arg5 h5 arg6 h6 x0 x1 = k0_pay1 x0 x1 := by
  unfold out0_A_2
  rw [View.read_writes_junk_eq_canon]
  unfold kernelRun0_A
  dsimp only
  rw [View.canon_unit_zero hz]
  simp only [View.readAt_eq_ld, h3.read_unread, h4.read_unread, View.ld_unit_zero (S := S1088x2048) hz, View.ld_unit_zero (S := S2048x1024) hz]

/-- That product at an element. -/
theorem pay_at (x0 : Vec Ideal S1088x2048 .bf16) (x1 : Vec Ideal S2048x1024 .bf16) (r : Fin 1088) (c : Fin 1024) :
    k0_pay1 (F := Ideal) x0 x1 (ix2 r c) = ∑ k : Fin 2048, x0 (ix2 (r) k) * x1 (ix2 k (c)) :=
  Cert.Prod.nn (φ₁ := .bf16) (φ₂ := .bf16) x0 x1 r c

variable (m : (ℓ : Loc nD τ sig) → Buf (Elt Ideal) ℓ)

/-- The whole product. -/
def whole (x0 : S4352x2048.Idx → EReal) (x1 : S2048x2048.Idx → EReal) : S4352x2048.Idx → EReal :=
  fun i => ∑ k : Fin 2048, x0 (ix2 (i 0) k) * x1 (ix2 k (i 1))

/-- Where each window's block stands at a grid point. -/
theorem places : ∀ t : Fin cfg0.N,
    (win0_0.index t (0 : Fin 2) = t.val / 2 ∧ win0_0.index t (1 : Fin 2) = 0)
      ∧ (win0_1.index t (0 : Fin 2) = 0 ∧ win0_1.index t (1 : Fin 2) = t.val % 2)
      ∧ (win0_2.index t (0 : Fin 2) = t.val / 2 ∧ win0_2.index t (1 : Fin 2) = t.val % 2) :=
  (by decide +kernel : ∀ t : Fin grid0.N,
    (win0_0.index t (0 : Fin 2) = t.val / 2 ∧ win0_0.index t (1 : Fin 2) = 0)
      ∧ (win0_1.index t (0 : Fin 2) = 0 ∧ win0_1.index t (1 : Fin 2) = t.val % 2)
      ∧ (win0_2.index t (0 : Fin 2) = t.val / 2 ∧ win0_2.index t (1 : Fin 2) = t.val % 2))

/-- A block of the first argument, element by element. -/
theorem at0 (c : Dev nD) (t : Fin cfg0.N) (a : Fin 1088) (b : Fin 2048) (a' : Fin 4352) (b' : Fin 2048)
    (ha : a'.val = win0_0.index t (0 : Fin 2) * 1088 + 1 * a.val) (hb : b'.val = win0_0.index t (1 : Fin 2) * 2048 + 1 * b.val) :
    iblk m c 0 t (ix2 a b) = m ((c : Thread nD τ).loc main_arg0) (ix2 a' b') := by
  show V m c main_arg0 (((cfg0.win 0).blk t).view.emb (ix2 a b)) = _
  refine congrArg (m ((c : Thread nD τ).loc main_arg0)) (funext fun d => Fin.ext ?_)
  match d with
  | ⟨0, _⟩ => exact ha.symm
  | ⟨1, _⟩ => exact hb.symm

/-- A block of the second argument, element by element. -/
theorem at1 (c : Dev nD) (t : Fin cfg0.N) (a : Fin 2048) (b : Fin 1024) (a' : Fin 2048) (b' : Fin 2048)
    (ha : a'.val = win0_1.index t (0 : Fin 2) * 2048 + 1 * a.val) (hb : b'.val = win0_1.index t (1 : Fin 2) * 1024 + 1 * b.val) :
    iblk m c 1 t (ix2 a b) = m ((c : Thread nD τ).loc main_arg1) (ix2 a' b') := by
  show V m c main_arg1 (((cfg0.win 1).blk t).view.emb (ix2 a b)) = _
  refine congrArg (m ((c : Thread nD τ).loc main_arg1)) (funext fun d => Fin.ext ?_)
  match d with
  | ⟨0, _⟩ => exact ha.symm
  | ⟨1, _⟩ => exact hb.symm

/-- A grid point writes its block of the whole product. -/
theorem flushed_eq (c : Dev nD) (t : Fin cfg0.N) :
    (dats m 0 c).flushed 2 t
      = ((cfg0.win 2).blk t).view.read (Elt Ideal) (whole (m ((c : Thread nD τ).loc main_arg0)) (m ((c : Thread nD τ).loc main_arg1))) := by
  rw [Cert.Kernel20Ideal.Value.flushed2_A, out_eq]
  funext y
  show k0_pay1 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 1088 + 1 * (y (0 : Fin 2)).val := rfl
  have e1 : (((((cfg0.win 2).blk t).view.emb y) (1 : Fin 2))).val = win0_2.index t (1 : Fin 2) * 1024 + 1 * (y (1 : Fin 2)).val := rfl
  refine (congrArg _ (eq_ix2 (n0 := 1088) (n1 := 1024) y)).trans ((pay_at _ _ _ _).trans (Finset.sum_congr rfl fun k _ => ?_))
  exact congr (congrArg _ (at0 m c t _ k ((((cfg0.win 2).blk t).view.emb y) (0 : Fin 2)) k (by rw [p0, e0, p4]) (by rw [p1]; omega)))
    (at1 m c t k _ k ((((cfg0.win 2).blk t).view.emb y) (1 : Fin 2)) (by rw [p2]; omega) (by rw [p3, e1, p5]))

/-- Every element of the result stands in some grid point's block. -/
theorem covered (i : S4352x2048.Idx) :
    ∃ t : Fin cfg0.N, (cfg0.win 2).flush t = true ∧ i ∈ ((cfg0.win 2).blk t).view.set := by
  have h0 : (i 0).val < 4352 := (i 0).isLt
  have h1 : (i 1).val < 2048 := (i 1).isLt
  have hN : cfg0.N = 8 := N_0
  let t : Fin cfg0.N := ⟨(i 0).val / 1088 * 2 + (i 1).val / 1024, by omega⟩
  have ht : t.val = (i 0).val / 1088 * 2 + (i 1).val / 1024 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1088 ≤ (i 0).val ∧ (i 0).val < win0_2.index t (0 : Fin 2) * 1088 + 1088
    omega
  | ⟨1, _⟩ =>
    show win0_2.index t (1 : Fin 2) * 1024 ≤ (i 1).val ∧ (i 1).val < win0_2.index t (1 : Fin 2) * 1024 + 1024
    omega

/-- The kernel's result is the whole product. -/
theorem final (c : Dev nD) :
    (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference20Ideal.Read in
/-- The reference's result is the whole product. -/
theorem reference (x0 : S4352x2048.Idx → EReal) (x1 : S2048x2048.Idx → EReal) :
    val_main_v2 (F := Ideal) x0 x1 = whole x0 x1 := by
  funext i
  refine (val_main_v2_apply x0 x1 i).trans (Finset.sum_congr rfl fun k _ => ?_)
  exact congr (congrArg _ (congrArg x0 (eq_ix2 _))) (congrArg x1 (eq_ix2 _))

end Cert.Kernel20Ideal.Prod

end
-- ==== Proof.Products.lean ====
module

public import proofs.«01_k».proof.Defs
public import proofs.«01_k».proof.Proof.Product2
public import proofs.«01_k».proof.Proof.Gen.Kernel2.Frame
public import proofs.«01_k».proof.Proof.Product3
public import proofs.«01_k».proof.Proof.Gen.Kernel3.Frame
public import proofs.«01_k».proof.Proof.Product4
public import proofs.«01_k».proof.Proof.Gen.Kernel4.Frame
public import proofs.«01_k».proof.Proof.Product5
public import proofs.«01_k».proof.Proof.Gen.Kernel5.Frame
public import proofs.«01_k».proof.Proof.Product6
public import proofs.«01_k».proof.Proof.Gen.Kernel6.Frame
public import proofs.«01_k».proof.Proof.Product7
public import proofs.«01_k».proof.Proof.Gen.Kernel7.Frame
public import proofs.«01_k».proof.Proof.Product8
public import proofs.«01_k».proof.Proof.Gen.Kernel8.Frame
public import proofs.«01_k».proof.Proof.Product9
public import proofs.«01_k».proof.Proof.Gen.Kernel9.Frame
public import proofs.«01_k».proof.Proof.Product10
public import proofs.«01_k».proof.Proof.Gen.Kernel10.Frame
public import proofs.«01_k».proof.Proof.Product11
public import proofs.«01_k».proof.Proof.Gen.Kernel11.Frame
public import proofs.«01_k».proof.Proof.Product12
public import proofs.«01_k».proof.Proof.Gen.Kernel12.Frame
public import proofs.«01_k».proof.Proof.Product13
public import proofs.«01_k».proof.Proof.Gen.Kernel13.Frame
public import proofs.«01_k».proof.Proof.Product14
public import proofs.«01_k».proof.Proof.Gen.Kernel14.Frame
public import proofs.«01_k».proof.Proof.Product15
public import proofs.«01_k».proof.Proof.Gen.Kernel15.Frame
public import proofs.«01_k».proof.Proof.Product16
public import proofs.«01_k».proof.Proof.Gen.Kernel16.Frame
public import proofs.«01_k».proof.Proof.Product17
public import proofs.«01_k».proof.Proof.Gen.Kernel17.Frame
public import proofs.«01_k».proof.Proof.Product18
public import proofs.«01_k».proof.Proof.Gen.Kernel18.Frame
public import proofs.«01_k».proof.Proof.Product19
public import proofs.«01_k».proof.Proof.Gen.Kernel19.Frame
public import proofs.«01_k».proof.Proof.Product20
public import proofs.«01_k».proof.Proof.Gen.Kernel20.Frame
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-! # The claims of the products -/

theorem kernel2_bits : Cert.quiescent_Kernel2 := fun m g _ => Cert.Kernel2.Gen.frame (F := Bits) m g

theorem kernel2_ideal : Cert.quiescent_Kernel2Ideal := fun m g _ => Cert.Kernel2Ideal.Gen.frame (F := Ideal) m g

theorem reference2_ideal : Cert.quiescent_Reference2Ideal := fun m g _ =>
  (θ_run _ _ _).mono (fun r h => ⟨fun c => (h c).2, sem_eq_zero_of_no_sems (by decide) r.2⟩) (Cert.Reference2Ideal.Value.run m g)

/-- The kernel's product is the reference's. -/
theorem equal2 : Cert.algebraic_Kernel2Ideal_Reference2Ideal := fun m g m' g' _ ha =>
  ⟨fun c => Cert.Kernel2Ideal.Prod.whole (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)),
    (θ_run _ _ _).mono (fun _ h c => ⟨(h c).1.trans (Cert.Kernel2Ideal.Prod.final m c), (h c).2⟩) (Cert.Kernel2Ideal.Value.run_blocks m g),
    (θ_run _ _ _).mono (fun _ h c => by
      obtain ⟨a0, a1⟩ := ha c
      obtain ⟨e, eargs⟩ := h c
      refine ⟨e.trans ((Cert.Reference2Ideal.Read.val_main_v4_eq (F := Ideal) _ _).trans ((Cert.Kernel2Ideal.Prod.reference _ _).trans ?_)), eargs⟩
      rw [a0, a1])
      (Cert.Reference2Ideal.Value.run m' g')⟩

theorem kernel3_bits : Cert.quiescent_Kernel3 := fun m g _ => Cert.Kernel3.Gen.frame (F := Bits) m g

theorem kernel3_ideal : Cert.quiescent_Kernel3Ideal := fun m g _ => Cert.Kernel3Ideal.Gen.frame (F := Ideal) m g

theorem reference3_ideal : Cert.quiescent_Reference3Ideal := fun m g _ =>
  (θ_run _ _ _).mono (fun r h => ⟨fun c => (h c).2, sem_eq_zero_of_no_sems (by decide) r.2⟩) (Cert.Reference3Ideal.Value.run m g)

/-- The kernel's product is the reference's. -/
theorem equal3 : Cert.algebraic_Kernel3Ideal_Reference3Ideal := fun m g m' g' _ ha =>
  ⟨fun c => Cert.Kernel3Ideal.Prod.whole (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)),
    (θ_run _ _ _).mono (fun _ h c => ⟨(h c).1.trans (Cert.Kernel3Ideal.Prod.final m c), (h c).2⟩) (Cert.Kernel3Ideal.Value.run_blocks m g),
    (θ_run _ _ _).mono (fun _ h c => by
      obtain ⟨a0, a1⟩ := ha c
      obtain ⟨e, eargs⟩ := h c
      refine ⟨e.trans ((Cert.Reference3Ideal.Read.val_main_v6_eq (F := Ideal) _ _).trans ((Cert.Kernel3Ideal.Prod.reference _ _).trans ?_)), eargs⟩
      rw [a0, a1])
      (Cert.Reference3Ideal.Value.run m' g')⟩

theorem kernel4_bits : Cert.quiescent_Kernel4 := fun m g _ => Cert.Kernel4.Gen.frame (F := Bits) m g

theorem kernel4_ideal : Cert.quiescent_Kernel4Ideal := fun m g _ => Cert.Kernel4Ideal.Gen.frame (F := Ideal) m g

theorem reference4_ideal : Cert.quiescent_Reference4Ideal := fun m g _ =>
  (θ_run _ _ _).mono (fun r h => ⟨fun c => (h c).2, sem_eq_zero_of_no_sems (by decide) r.2⟩) (Cert.Reference4Ideal.Value.run m g)

/-- The kernel's product is the reference's. -/
theorem equal4 : Cert.algebraic_Kernel4Ideal_Reference4Ideal := fun m g m' g' _ ha =>
  ⟨fun c => Cert.Kernel4Ideal.Prod.whole (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)),
    (θ_run _ _ _).mono (fun _ h c => ⟨(h c).1.trans (Cert.Kernel4Ideal.Prod.final m c), (h c).2⟩) (Cert.Kernel4Ideal.Value.run_blocks m g),
    (θ_run _ _ _).mono (fun _ h c => by
      obtain ⟨a0, a1⟩ := ha c
      obtain ⟨e, eargs⟩ := h c
      refine ⟨e.trans ((Cert.Reference4Ideal.Read.val_main_v5_eq (F := Ideal) _ _).trans ((Cert.Kernel4Ideal.Prod.reference _ _).trans ?_)), eargs⟩
      rw [a0, a1])
      (Cert.Reference4Ideal.Value.run m' g')⟩

theorem kernel5_bits : Cert.quiescent_Kernel5 := fun m g _ => Cert.Kernel5.Gen.frame (F := Bits) m g

theorem kernel5_ideal : Cert.quiescent_Kernel5Ideal := fun m g _ => Cert.Kernel5Ideal.Gen.frame (F := Ideal) m g

theorem reference5_ideal : Cert.quiescent_Reference5Ideal := fun m g _ =>
  (θ_run _ _ _).mono (fun r h => ⟨fun c => (h c).2, sem_eq_zero_of_no_sems (by decide) r.2⟩) (Cert.Reference5Ideal.Value.run m g)

/-- The kernel's product is the reference's. -/
theorem equal5 : Cert.algebraic_Kernel5Ideal_Reference5Ideal := fun m g m' g' _ ha =>
  ⟨fun c => Cert.Kernel5Ideal.Prod.whole (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)),
    (θ_run _ _ _).mono (fun _ h c => ⟨(h c).1.trans (Cert.Kernel5Ideal.Prod.final m c), (h c).2⟩) (Cert.Kernel5Ideal.Value.run_blocks m g),
    (θ_run _ _ _).mono (fun _ h c => by
      obtain ⟨a0, a1⟩ := ha c
      obtain ⟨e, eargs⟩ := h c
      refine ⟨e.trans ((Cert.Reference5Ideal.Read.val_main_v6_eq (F := Ideal) _ _).trans ((Cert.Kernel5Ideal.Prod.reference _ _).trans ?_)), eargs⟩
      rw [a0, a1])
      (Cert.Reference5Ideal.Value.run m' g')⟩

theorem kernel6_bits : Cert.quiescent_Kernel6 := fun m g _ => Cert.Kernel6.Gen.frame (F := Bits) m g

theorem kernel6_ideal : Cert.quiescent_Kernel6Ideal := fun m g _ => Cert.Kernel6Ideal.Gen.frame (F := Ideal) m g

theorem reference6_ideal : Cert.quiescent_Reference6Ideal := fun m g _ =>
  (θ_run _ _ _).mono (fun r h => ⟨fun c => (h c).2, sem_eq_zero_of_no_sems (by decide) r.2⟩) (Cert.Reference6Ideal.Value.run m g)

/-- The kernel's product is the reference's. -/
theorem equal6 : Cert.algebraic_Kernel6Ideal_Reference6Ideal := fun m g m' g' _ ha =>
  ⟨fun c => Cert.Kernel6Ideal.Prod.whole (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)),
    (θ_run _ _ _).mono (fun _ h c => ⟨(h c).1.trans (Cert.Kernel6Ideal.Prod.final m c), (h c).2⟩) (Cert.Kernel6Ideal.Value.run_blocks m g),
    (θ_run _ _ _).mono (fun _ h c => by
      obtain ⟨a0, a1⟩ := ha c
      obtain ⟨e, eargs⟩ := h c
      refine ⟨e.trans ((Cert.Reference6Ideal.Read.val_main_v3_eq (F := Ideal) _ _).trans ((Cert.Kernel6Ideal.Prod.reference _ _).trans ?_)), eargs⟩
      rw [a0, a1])
      (Cert.Reference6Ideal.Value.run m' g')⟩

theorem kernel7_bits : Cert.quiescent_Kernel7 := fun m g _ => Cert.Kernel7.Gen.frame (F := Bits) m g

theorem kernel7_ideal : Cert.quiescent_Kernel7Ideal := fun m g _ => Cert.Kernel7Ideal.Gen.frame (F := Ideal) m g

theorem reference7_ideal : Cert.quiescent_Reference7Ideal := fun m g _ =>
  (θ_run _ _ _).mono (fun r h => ⟨fun c => (h c).2, sem_eq_zero_of_no_sems (by decide) r.2⟩) (Cert.Reference7Ideal.Value.run m g)

/-- The kernel's product is the reference's. -/
theorem equal7 : Cert.algebraic_Kernel7Ideal_Reference7Ideal := fun m g m' g' _ ha =>
  ⟨fun c => Cert.Kernel7Ideal.Prod.whole (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)),
    (θ_run _ _ _).mono (fun _ h c => ⟨(h c).1.trans (Cert.Kernel7Ideal.Prod.final m c), (h c).2⟩) (Cert.Kernel7Ideal.Value.run_blocks m g),
    (θ_run _ _ _).mono (fun _ h c => by
      obtain ⟨a0, a1⟩ := ha c
      obtain ⟨e, eargs⟩ := h c
      refine ⟨e.trans ((Cert.Reference7Ideal.Read.val_main_v2_eq (F := Ideal) _ _).trans ((Cert.Kernel7Ideal.Prod.reference _ _).trans ?_)), eargs⟩
      rw [a0, a1])
      (Cert.Reference7Ideal.Value.run m' g')⟩

theorem kernel8_bits : Cert.quiescent_Kernel8 := fun m g _ => Cert.Kernel8.Gen.frame (F := Bits) m g

theorem kernel8_ideal : Cert.quiescent_Kernel8Ideal := fun m g _ => Cert.Kernel8Ideal.Gen.frame (F := Ideal) m g

theorem reference8_ideal : Cert.quiescent_Reference8Ideal := fun m g _ =>
  (θ_run _ _ _).mono (fun r h => ⟨fun c => (h c).2, sem_eq_zero_of_no_sems (by decide) r.2⟩) (Cert.Reference8Ideal.Value.run m g)

/-- The kernel's product is the reference's. -/
theorem equal8 : Cert.algebraic_Kernel8Ideal_Reference8Ideal := fun m g m' g' _ ha =>
  ⟨fun c => Cert.Kernel8Ideal.Prod.whole (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)),
    (θ_run _ _ _).mono (fun _ h c => ⟨(h c).1.trans (Cert.Kernel8Ideal.Prod.final m c), (h c).2⟩) (Cert.Kernel8Ideal.Value.run_blocks m g),
    (θ_run _ _ _).mono (fun _ h c => by
      obtain ⟨a0, a1⟩ := ha c
      obtain ⟨e, eargs⟩ := h c
      refine ⟨e.trans ((Cert.Reference8Ideal.Read.val_main_v6_eq (F := Ideal) _ _).trans ((Cert.Kernel8Ideal.Prod.reference _ _).trans ?_)), eargs⟩
      rw [a0, a1])
      (Cert.Reference8Ideal.Value.run m' g')⟩

theorem kernel9_bits : Cert.quiescent_Kernel9 := fun m g _ => Cert.Kernel9.Gen.frame (F := Bits) m g

theorem kernel9_ideal : Cert.quiescent_Kernel9Ideal := fun m g _ => Cert.Kernel9Ideal.Gen.frame (F := Ideal) m g

theorem reference9_ideal : Cert.quiescent_Reference9Ideal := fun m g _ =>
  (θ_run _ _ _).mono (fun r h => ⟨fun c => (h c).2, sem_eq_zero_of_no_sems (by decide) r.2⟩) (Cert.Reference9Ideal.Value.run m g)

/-- The kernel's product is the reference's. -/
theorem equal9 : Cert.algebraic_Kernel9Ideal_Reference9Ideal := fun m g m' g' _ ha =>
  ⟨fun c => Cert.Kernel9Ideal.Prod.whole (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1)),
    (θ_run _ _ _).mono (fun _ h c => ⟨(h c).1.trans (Cert.Kernel9Ideal.Prod.final m c), (h c).2⟩) (Cert.Kernel9Ideal.Value.run_blocks m g),
    (θ_run _ _ _).mono (fun _ h c => by
      obtain ⟨a0, a1⟩ := ha c
      obtain ⟨e, eargs⟩ := h c
      refine ⟨e.trans ((Cert.Reference9Ideal.Read.val_main_v4_eq (F := Ideal) _ _).trans ((Cert.Kernel9Ideal.Prod.reference _ _).trans ?_)), eargs⟩
      rw [a0, a1])
      (Cert.Reference9Ideal.Value.run m' g')⟩

theorem kernel10_bits : Cert.quiescent_Kernel10 := fun m g _ => Cert.Kernel10.Gen.frame (F := Bits) m g

theorem kernel10_ideal : Cert.quiescent_Kernel10Ideal := fun m g _ => Cert.Kernel10Ideal.Gen.frame (F := Ideal) m g

theorem reference10_ideal : Cert.quiescent_Reference10Ideal := fun m g _ =>
  (θ_run _ _ _).mono (fun r h => ⟨fun c => (h c).2, sem_eq_zero_of_no_sems (by decide) r.2⟩) (Cert.Reference10Ideal.Value.run m g)

/-- The kernel's product is the reference's. -/
theorem equal10 : Cert.algebraic_Kernel10Ideal_Reference10Ideal := fun m g m' g' _ ha =>
  ⟨fun c => Cert.Kernel10Ideal.Prod.whole (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1)),
    (θ_run _ _ _).mono (fun _ h c => ⟨(h c).1.trans (Cert.Kernel10Ideal.Prod.final m c), (h c).2⟩) (Cert.Kernel10Ideal.Value.run_blocks m g),
    (θ_run _ _ _).mono (fun _ h c => by
      obtain ⟨a0, a1⟩ := ha c
      obtain ⟨e, eargs⟩ := h c
      refine ⟨e.trans ((Cert.Reference10Ideal.Read.val_main_v6_eq (F := Ideal) _ _).trans ((Cert.Kernel10Ideal.Prod.reference _ _).trans ?_)), eargs⟩
      rw [a0, a1])
      (Cert.Reference10Ideal.Value.run m' g')⟩

theorem kernel11_bits : Cert.quiescent_Kernel11 := fun m g _ => Cert.Kernel11.Gen.frame (F := Bits) m g

theorem kernel11_ideal : Cert.quiescent_Kernel11Ideal := fun m g _ => Cert.Kernel11Ideal.Gen.frame (F := Ideal) m g

theorem reference11_ideal : Cert.quiescent_Reference11Ideal := fun m g _ =>
  (θ_run _ _ _).mono (fun r h => ⟨fun c => (h c).2, sem_eq_zero_of_no_sems (by decide) r.2⟩) (Cert.Reference11Ideal.Value.run m g)

/-- The kernel's product is the reference's. -/
theorem equal11 : Cert.algebraic_Kernel11Ideal_Reference11Ideal := fun m g m' g' _ ha =>
  ⟨fun c => Cert.Kernel11Ideal.Prod.whole (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1)),
    (θ_run _ _ _).mono (fun _ h c => ⟨(h c).1.trans (Cert.Kernel11Ideal.Prod.final m c), (h c).2⟩) (Cert.Kernel11Ideal.Value.run_blocks m g),
    (θ_run _ _ _).mono (fun _ h c => by
      obtain ⟨a0, a1⟩ := ha c
      obtain ⟨e, eargs⟩ := h c
      refine ⟨e.trans ((Cert.Reference11Ideal.Read.val_main_v4_eq (F := Ideal) _ _).trans ((Cert.Kernel11Ideal.Prod.reference _ _).trans ?_)), eargs⟩
      rw [a0, a1])
      (Cert.Reference11Ideal.Value.run m' g')⟩

theorem kernel12_bits : Cert.quiescent_Kernel12 := fun m g _ => Cert.Kernel12.Gen.frame (F := Bits) m g

theorem kernel12_ideal : Cert.quiescent_Kernel12Ideal := fun m g _ => Cert.Kernel12Ideal.Gen.frame (F := Ideal) m g

theorem reference12_ideal : Cert.quiescent_Reference12Ideal := fun m g _ =>
  (θ_run _ _ _).mono (fun r h => ⟨fun c => (h c).2, sem_eq_zero_of_no_sems (by decide) r.2⟩) (Cert.Reference12Ideal.Value.run m g)

/-- The kernel's product is the reference's. -/
theorem equal12 : Cert.algebraic_Kernel12Ideal_Reference12Ideal := fun m g m' g' _ ha =>
  ⟨fun c => Cert.Kernel12Ideal.Prod.whole (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1)),
    (θ_run _ _ _).mono (fun _ h c => ⟨(h c).1.trans (Cert.Kernel12Ideal.Prod.final m c), (h c).2⟩) (Cert.Kernel12Ideal.Value.run_blocks m g),
    (θ_run _ _ _).mono (fun _ h c => by
      obtain ⟨a0, a1⟩ := ha c
      obtain ⟨e, eargs⟩ := h c
      refine ⟨e.trans ((Cert.Reference12Ideal.Read.val_main_v5_eq (F := Ideal) _ _).trans ((Cert.Kernel12Ideal.Prod.reference _ _).trans ?_)), eargs⟩
      rw [a0, a1])
      (Cert.Reference12Ideal.Value.run m' g')⟩

theorem kernel13_bits : Cert.quiescent_Kernel13 := fun m g _ => Cert.Kernel13.Gen.frame (F := Bits) m g

theorem kernel13_ideal : Cert.quiescent_Kernel13Ideal := fun m g _ => Cert.Kernel13Ideal.Gen.frame (F := Ideal) m g

theorem reference13_ideal : Cert.quiescent_Reference13Ideal := fun m g _ =>
  (θ_run _ _ _).mono (fun r h => ⟨fun c => (h c).2, sem_eq_zero_of_no_sems (by decide) r.2⟩) (Cert.Reference13Ideal.Value.run m g)

/-- The kernel's product is the reference's. -/
theorem equal13 : Cert.algebraic_Kernel13Ideal_Reference13Ideal := fun m g m' g' _ ha =>
  ⟨fun c => Cert.Kernel13Ideal.Prod.whole (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1)),
    (θ_run _ _ _).mono (fun _ h c => ⟨(h c).1.trans (Cert.Kernel13Ideal.Prod.final m c), (h c).2⟩) (Cert.Kernel13Ideal.Value.run_blocks m g),
    (θ_run _ _ _).mono (fun _ h c => by
      obtain ⟨a0, a1⟩ := ha c
      obtain ⟨e, eargs⟩ := h c
      refine ⟨e.trans ((Cert.Reference13Ideal.Read.val_main_v6_eq (F := Ideal) _ _).trans ((Cert.Kernel13Ideal.Prod.reference _ _).trans ?_)), eargs⟩
      rw [a0, a1])
      (Cert.Reference13Ideal.Value.run m' g')⟩

theorem kernel14_bits : Cert.quiescent_Kernel14 := fun m g _ => Cert.Kernel14.Gen.frame (F := Bits) m g

theorem kernel14_ideal : Cert.quiescent_Kernel14Ideal := fun m g _ => Cert.Kernel14Ideal.Gen.frame (F := Ideal) m g

theorem reference14_ideal : Cert.quiescent_Reference14Ideal := fun m g _ =>
  (θ_run _ _ _).mono (fun r h => ⟨fun c => (h c).2, sem_eq_zero_of_no_sems (by decide) r.2⟩) (Cert.Reference14Ideal.Value.run m g)

/-- The kernel's product is the reference's. -/
theorem equal14 : Cert.algebraic_Kernel14Ideal_Reference14Ideal := fun m g m' g' _ ha =>
  ⟨fun c => Cert.Kernel14Ideal.Prod.whole (m ((c.tc : Thread Cert.Kernel14Ideal.nD Cert.Kernel14Ideal.τ).loc Cert.Kernel14Ideal.main_arg0))
      (m ((c.tc : Thread Cert.Kernel14Ideal.nD Cert.Kernel14Ideal.τ).loc Cert.Kernel14Ideal.main_arg1)),
    (θ_run _ _ _).mono (fun _ h c => ⟨(h c).1.trans (Cert.Kernel14Ideal.Prod.final m c), (h c).2⟩) (Cert.Kernel14Ideal.Value.run_blocks m g),
    (θ_run _ _ _).mono (fun _ h c => by
      obtain ⟨a0, a1⟩ := ha c
      obtain ⟨e, eargs⟩ := h c
      refine ⟨e.trans ((Cert.Reference14Ideal.Read.val_main_v4_eq (F := Ideal) _ _).trans ((Cert.Kernel14Ideal.Prod.reference _ _).trans ?_)), eargs⟩
      rw [a0, a1])
      (Cert.Reference14Ideal.Value.run m' g')⟩

theorem kernel15_bits : Cert.quiescent_Kernel15 := fun m g _ => Cert.Kernel15.Gen.frame (F := Bits) m g

theorem kernel15_ideal : Cert.quiescent_Kernel15Ideal := fun m g _ => Cert.Kernel15Ideal.Gen.frame (F := Ideal) m g

theorem reference15_ideal : Cert.quiescent_Reference15Ideal := fun m g _ =>
  (θ_run _ _ _).mono (fun r h => ⟨fun c => (h c).2, sem_eq_zero_of_no_sems (by decide) r.2⟩) (Cert.Reference15Ideal.Value.run m g)

/-- The kernel's product is the reference's. -/
theorem equal15 : Cert.algebraic_Kernel15Ideal_Reference15Ideal := fun m g m' g' _ ha =>
  ⟨fun c => Cert.Kernel15Ideal.Prod.whole (m ((c.tc : Thread Cert.Kernel15Ideal.nD Cert.Kernel15Ideal.τ).loc Cert.Kernel15Ideal.main_arg0))
      (m ((c.tc : Thread Cert.Kernel15Ideal.nD Cert.Kernel15Ideal.τ).loc Cert.Kernel15Ideal.main_arg1)),
    (θ_run _ _ _).mono (fun _ h c => ⟨(h c).1.trans (Cert.Kernel15Ideal.Prod.final m c), (h c).2⟩) (Cert.Kernel15Ideal.Value.run_blocks m g),
    (θ_run _ _ _).mono (fun _ h c => by
      obtain ⟨a0, a1⟩ := ha c
      obtain ⟨e, eargs⟩ := h c
      refine ⟨e.trans ((Cert.Reference15Ideal.Read.val_main_v8_eq (F := Ideal) _ _).trans ((Cert.Kernel15Ideal.Prod.reference _ _).trans ?_)), eargs⟩
      rw [a0, a1])
      (Cert.Reference15Ideal.Value.run m' g')⟩

theorem kernel16_bits : Cert.quiescent_Kernel16 := fun m g _ => Cert.Kernel16.Gen.frame (F := Bits) m g

theorem kernel16_ideal : Cert.quiescent_Kernel16Ideal := fun m g _ => Cert.Kernel16Ideal.Gen.frame (F := Ideal) m g

theorem reference16_ideal : Cert.quiescent_Reference16Ideal := fun m g _ =>
  (θ_run _ _ _).mono (fun r h => ⟨fun c => (h c).2, sem_eq_zero_of_no_sems (by decide) r.2⟩) (Cert.Reference16Ideal.Value.run m g)

/-- The kernel's product is the reference's. -/
theorem equal16 : Cert.algebraic_Kernel16Ideal_Reference16Ideal := fun m g m' g' _ ha =>
  ⟨fun c => Cert.Kernel16Ideal.Prod.whole (m ((c.tc : Thread Cert.Kernel16Ideal.nD Cert.Kernel16Ideal.τ).loc Cert.Kernel16Ideal.main_arg0))
      (m ((c.tc : Thread Cert.Kernel16Ideal.nD Cert.Kernel16Ideal.τ).loc Cert.Kernel16Ideal.main_arg1)),
    (θ_run _ _ _).mono (fun _ h c => ⟨(h c).1.trans (Cert.Kernel16Ideal.Prod.final m c), (h c).2⟩) (Cert.Kernel16Ideal.Value.run_blocks m g),
    (θ_run _ _ _).mono (fun _ h c => by
      obtain ⟨a0, a1⟩ := ha c
      obtain ⟨e, eargs⟩ := h c
      refine ⟨e.trans ((Cert.Reference16Ideal.Read.val_main_v5_eq (F := Ideal) _ _).trans ((Cert.Kernel16Ideal.Prod.reference _ _).trans ?_)), eargs⟩
      rw [a0, a1])
      (Cert.Reference16Ideal.Value.run m' g')⟩

theorem kernel17_bits : Cert.quiescent_Kernel17 := fun m g _ => Cert.Kernel17.Gen.frame (F := Bits) m g

theorem kernel17_ideal : Cert.quiescent_Kernel17Ideal := fun m g _ => Cert.Kernel17Ideal.Gen.frame (F := Ideal) m g

theorem reference17_ideal : Cert.quiescent_Reference17Ideal := fun m g _ =>
  (θ_run _ _ _).mono (fun r h => ⟨fun c => (h c).2, sem_eq_zero_of_no_sems (by decide) r.2⟩) (Cert.Reference17Ideal.Value.run m g)

/-- The kernel's product is the reference's. -/
theorem equal17 : Cert.algebraic_Kernel17Ideal_Reference17Ideal := fun m g m' g' _ ha =>
  ⟨fun c => Cert.Kernel17Ideal.Prod.whole (m ((c.tc : Thread Cert.Kernel17Ideal.nD Cert.Kernel17Ideal.τ).loc Cert.Kernel17Ideal.main_arg0))
      (m ((c.tc : Thread Cert.Kernel17Ideal.nD Cert.Kernel17Ideal.τ).loc Cert.Kernel17Ideal.main_arg1)),
    (θ_run _ _ _).mono (fun _ h c => ⟨(h c).1.trans (Cert.Kernel17Ideal.Prod.final m c), (h c).2⟩) (Cert.Kernel17Ideal.Value.run_blocks m g),
    (θ_run _ _ _).mono (fun _ h c => by
      obtain ⟨a0, a1⟩ := ha c
      obtain ⟨e, eargs⟩ := h c
      refine ⟨e.trans ((Cert.Reference17Ideal.Read.val_main_v3_eq (F := Ideal) _ _).trans ((Cert.Kernel17Ideal.Prod.reference _ _).trans ?_)), eargs⟩
      rw [a0, a1])
      (Cert.Reference17Ideal.Value.run m' g')⟩

theorem kernel18_bits : Cert.quiescent_Kernel18 := fun m g _ => Cert.Kernel18.Gen.frame (F := Bits) m g

theorem kernel18_ideal : Cert.quiescent_Kernel18Ideal := fun m g _ => Cert.Kernel18Ideal.Gen.frame (F := Ideal) m g

theorem reference18_ideal : Cert.quiescent_Reference18Ideal := fun m g _ =>
  (θ_run _ _ _).mono (fun r h => ⟨fun c => (h c).2, sem_eq_zero_of_no_sems (by decide) r.2⟩) (Cert.Reference18Ideal.Value.run m g)

/-- The kernel's product is the reference's. -/
theorem equal18 : Cert.algebraic_Kernel18Ideal_Reference18Ideal := fun m g m' g' _ ha =>
  ⟨fun c => Cert.Kernel18Ideal.Prod.whole (m ((c.tc : Thread Cert.Kernel18Ideal.nD Cert.Kernel18Ideal.τ).loc Cert.Kernel18Ideal.main_arg0))
      (m ((c.tc : Thread Cert.Kernel18Ideal.nD Cert.Kernel18Ideal.τ).loc Cert.Kernel18Ideal.main_arg1)),
    (θ_run _ _ _).mono (fun _ h c => ⟨(h c).1.trans (Cert.Kernel18Ideal.Prod.final m c), (h c).2⟩) (Cert.Kernel18Ideal.Value.run_blocks m g),
    (θ_run _ _ _).mono (fun _ h c => by
      obtain ⟨a0, a1⟩ := ha c
      obtain ⟨e, eargs⟩ := h c
      refine ⟨e.trans ((Cert.Reference18Ideal.Read.val_main_v2_eq (F := Ideal) _ _).trans ((Cert.Kernel18Ideal.Prod.reference _ _).trans ?_)), eargs⟩
      rw [a0, a1])
      (Cert.Reference18Ideal.Value.run m' g')⟩

theorem kernel19_bits : Cert.quiescent_Kernel19 := fun m g _ => Cert.Kernel19.Gen.frame (F := Bits) m g

theorem kernel19_ideal : Cert.quiescent_Kernel19Ideal := fun m g _ => Cert.Kernel19Ideal.Gen.frame (F := Ideal) m g

theorem reference19_ideal : Cert.quiescent_Reference19Ideal := fun m g _ =>
  (θ_run _ _ _).mono (fun r h => ⟨fun c => (h c).2, sem_eq_zero_of_no_sems (by decide) r.2⟩) (Cert.Reference19Ideal.Value.run m g)

/-- The kernel's product is the reference's. -/
theorem equal19 : Cert.algebraic_Kernel19Ideal_Reference19Ideal := fun m g m' g' _ ha =>
  ⟨fun c => Cert.Kernel19Ideal.Prod.whole (m ((c.tc : Thread Cert.Kernel19Ideal.nD Cert.Kernel19Ideal.τ).loc Cert.Kernel19Ideal.main_arg0))
      (m ((c.tc : Thread Cert.Kernel19Ideal.nD Cert.Kernel19Ideal.τ).loc Cert.Kernel19Ideal.main_arg1)),
    (θ_run _ _ _).mono (fun _ h c => ⟨(h c).1.trans (Cert.Kernel19Ideal.Prod.final m c), (h c).2⟩) (Cert.Kernel19Ideal.Value.run_blocks m g),
    (θ_run _ _ _).mono (fun _ h c => by
      obtain ⟨a0, a1⟩ := ha c
      obtain ⟨e, eargs⟩ := h c
      refine ⟨e.trans ((Cert.Reference19Ideal.Read.val_main_v3_eq (F := Ideal) _ _).trans ((Cert.Kernel19Ideal.Prod.reference _ _).trans ?_)), eargs⟩
      rw [a0, a1])
      (Cert.Reference19Ideal.Value.run m' g')⟩

theorem kernel20_bits : Cert.quiescent_Kernel20 := fun m g _ => Cert.Kernel20.Gen.frame (F := Bits) m g

theorem kernel20_ideal : Cert.quiescent_Kernel20Ideal := fun m g _ => Cert.Kernel20Ideal.Gen.frame (F := Ideal) m g

theorem reference20_ideal : Cert.quiescent_Reference20Ideal := fun m g _ =>
  (θ_run _ _ _).mono (fun r h => ⟨fun c => (h c).2, sem_eq_zero_of_no_sems (by decide) r.2⟩) (Cert.Reference20Ideal.Value.run m g)

/-- The kernel's product is the reference's. -/
theorem equal20 : Cert.algebraic_Kernel20Ideal_Reference20Ideal := fun m g m' g' _ ha =>
  ⟨fun c => Cert.Kernel20Ideal.Prod.whole (m ((c.tc : Thread Cert.Kernel20Ideal.nD Cert.Kernel20Ideal.τ).loc Cert.Kernel20Ideal.main_arg0))
      (m ((c.tc : Thread Cert.Kernel20Ideal.nD Cert.Kernel20Ideal.τ).loc Cert.Kernel20Ideal.main_arg1)),
    (θ_run _ _ _).mono (fun _ h c => ⟨(h c).1.trans (Cert.Kernel20Ideal.Prod.final m c), (h c).2⟩) (Cert.Kernel20Ideal.Value.run_blocks m g),
    (θ_run _ _ _).mono (fun _ h c => by
      obtain ⟨a0, a1⟩ := ha c
      obtain ⟨e, eargs⟩ := h c
      refine ⟨e.trans ((Cert.Reference20Ideal.Read.val_main_v2_eq (F := Ideal) _ _).trans ((Cert.Kernel20Ideal.Prod.reference _ _).trans ?_)), eargs⟩
      rw [a0, a1])
      (Cert.Reference20Ideal.Value.run m' g')⟩

end Cert.Proof

end
-- ==== Proof.Gate.lean ====
module

public import Idealize.ShloMosaic.Lib.MatmulPlain
public import Idealize.ShloMosaic.Lib.ValueIdx
public import Idealize.ShloMosaic.PureOps
public import Idealize.ShloMosaic.PureOps.Ideal
public import Idealize.ShloMosaic.Lib.Pipeline.ValueKit.Tiles

@[expose] public section

noncomputable section

namespace Cert.Gate

open Idealize.ShloMosaic

/-! # The sigmoid of the gates, at an element -/

/-- The literal 1. -/
theorem one : Ideal.ofBits .f32 0x3F800000#32 = (1 : EReal) := by
  simp [Ideal.ofBits, Ideal.ieee]
  rw [← EReal.coe_mul]
  norm_num

/-- The sigmoid, written out as a quotient. -/
theorem sigmoid (x : EReal) :
    Ideal.div (Ideal.ofBits .f32 0x3F800000#32) (Ideal.ofBits .f32 0x3F800000#32 + Ideal.exp (-x)) = Ideal.logistic x := by
  rw [one]
  rfl

/-- The two forms of the derivative of `g ↦ g * sigmoid g`, times a factor, at reals. -/
theorem slope (d g u : ℝ) :
    ((d : EReal) * u) * (Ideal.logistic g * (1 + g * (1 - Ideal.logistic g)))
      = ((d : EReal) * u) * Ideal.logistic g + (g * ((d : EReal) * u)) * (Ideal.logistic g * (1 - Ideal.logistic g)) := by
  rw [Ideal.logistic_coe]
  norm_cast
  ring

end Cert.Gate

end
-- ==== Proof.Gate21.lean ====
module

public import proofs.«01_k».proof.Proof.Gate
public import proofs.«01_k».proof.Proof.Gen.Kernel21Ideal.Value
public import proofs.«01_k».proof.Proof.Gen.Reference21Ideal.Read

@[expose] public section

set_option maxRecDepth 16384

noncomputable section

namespace Cert.Kernel21Ideal.Act

open Cert.Kernel21Ideal Cert.Kernel21Ideal.Gen
open Idealize.ShloMosaic Idealize.ShloMosaic.TcCoe Idealize.ShloMosaic.Tactic Idealize.ShloMosaic.ValueIdx
open Idealize.SL.Sem

variable (m : (ℓ : Loc nD τ sig) → Buf (Elt Ideal) ℓ)

/-- Where an element's gate stands in the array of gates and ups. -/
abbrev lo (i : S4352x5632.Idx) : S4352x11264.Idx :=
  ix2 (i 0) (⟨(i 1).val, by have h : (i 1).val < 5632 := (i 1).isLt; omega⟩ : Fin 11264)

/-- Where its up stands. -/
abbrev hi (i : S4352x5632.Idx) : S4352x11264.Idx :=
  ix2 (i 0) (⟨5632 + (i 1).val, by have h : (i 1).val < 5632 := (i 1).isLt; omega⟩ : Fin 11264)

/-- The gradient of a gate, of the gradient `d` of the activation. -/
def dg (d g u : EReal) : EReal := (d * u) * (Ideal.logistic g * (1 + g * (1 - Ideal.logistic g)))

/-- The gradient of an up. -/
def du (d g : EReal) : EReal := d * (g * Ideal.logistic g)

/-- The gradients of the gates. -/
def left (d : S4352x5632.Idx → EReal) (x : S4352x11264.Idx → EReal) (i : S4352x5632.Idx) : EReal := dg (d i) (x (lo i)) (x (hi i))

/-- The gradients of the ups. -/
def right (d : S4352x5632.Idx → EReal) (x : S4352x11264.Idx → EReal) (i : S4352x5632.Idx) : EReal := du (d i) (x (lo i))

/-- Both, side by side. -/
def whole (d : S4352x5632.Idx → EReal) (x : S4352x11264.Idx → EReal) : S4352x11264.Idx → EReal := fun i =>
  if h : (i 1).val < 5632 then left d x (ix2 (i 0) (⟨(i 1).val, h⟩ : Fin 5632))
  else right d x (ix2 (i 0) (⟨(i 1).val - 5632, by have h1 : (i 1).val < 11264 := (i 1).isLt; omega⟩ : Fin 5632))

theorem whole_left (d : S4352x5632.Idx → EReal) (x : S4352x11264.Idx → EReal) (i : S4352x11264.Idx) (j : S4352x5632.Idx)
    (h0 : (i 0).val = (j 0).val) (h1 : (i 1).val = (j 1).val) : whole d x i = left d x j := by
  have hj : (j 1).val < 5632 := (j 1).isLt
  unfold whole
  rw [dif_pos (by omega)]
  refine congrArg (left d x) (funext fun a => Fin.ext ?_)
  match a with
  | ⟨0, _⟩ => exact h0
  | ⟨1, _⟩ => exact h1

theorem whole_right (d : S4352x5632.Idx → EReal) (x : S4352x11264.Idx → EReal) (i : S4352x11264.Idx) (j : S4352x5632.Idx)
    (h0 : (i 0).val = (j 0).val) (h1 : (i 1).val = 5632 + (j 1).val) : whole d x i = right d x j := by
  unfold whole
  rw [dif_neg (by omega)]
  refine congrArg (right d x) (funext fun a => Fin.ext ?_)
  match a with
  | ⟨0, _⟩ => exact h0
  | ⟨1, _⟩ => show (i 1).val - 5632 = (j 1).val; omega

/-- Where each window's block stands at a grid point. -/
theorem places : ∀ t : Fin cfg0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0) :=
  (by decide +kernel : ∀ t : Fin grid0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = t.val ∧ win0_2.index t (1 : Fin 2) = 0))

/-- A block of the first argument, element by element. -/
theorem at0 (c : Dev nD) (t : Fin cfg0.N) (j : S256x5632.Idx) (i : S4352x5632.Idx)
    (h0 : (i 0).val = win0_0.index t (0 : Fin 2) * 256 + 1 * (j 0).val) (h1 : (i 1).val = win0_0.index t (1 : Fin 2) * 5632 + 1 * (j 1).val) :
    iblk m c 0 t j = m ((c : Thread nD τ).loc main_arg0) i := by
  show V m c main_arg0 (((cfg0.win 0).blk t).view.emb j) = _
  refine congrArg (m ((c : Thread nD τ).loc main_arg0)) (funext fun d => Fin.ext ?_)
  match d with
  | ⟨0, _⟩ => exact h0.symm
  | ⟨1, _⟩ => exact h1.symm

/-- A block of the second argument, element by element. -/
theorem at1 (c : Dev nD) (t : Fin cfg0.N) (j : S256x11264.Idx) (i : S4352x11264.Idx)
    (h0 : (i 0).val = win0_1.index t (0 : Fin 2) * 256 + 1 * (j 0).val) (h1 : (i 1).val = win0_1.index t (1 : Fin 2) * 11264 + 1 * (j 1).val) :
    iblk m c 1 t j = m ((c : Thread nD τ).loc main_arg1) i := by
  show V m c main_arg1 (((cfg0.win 1).blk t).view.emb j) = _
  refine congrArg (m ((c : Thread nD τ).loc main_arg1)) (funext fun d => Fin.ext ?_)
  match d with
  | ⟨0, _⟩ => exact h0.symm
  | ⟨1, _⟩ => exact h1.symm

/-- What a grid point writes into the left half, at an element. -/
theorem left_at (x0 : S256x5632.Idx → EReal) (x1 : S256x11264.Idx → EReal) (y : S256x5632.Idx) :
    k0_pay4 (F := Ideal) (View.ld (e' := .bf16) x1 r0_0) (View.ld (e' := .bf16) x1 r0_1) (View.ld (e' := .bf16) x0 r0_2) y
      = dg (x0 (r0_2.idx y)) (x1 (r0_0.idx y)) (x1 (r0_1.idx y)) := by
  show (x0 (r0_2.idx y) * x1 (r0_1.idx y)) * (Ideal.logistic (x1 (r0_0.idx y)) * (Ideal.ofBits .f32 0x3F800000#32
    + x1 (r0_0.idx y) * (Ideal.ofBits .f32 0x3F800000#32 - Ideal.logistic (x1 (r0_0.idx y))))) = _
  rw [Cert.Gate.one]
  rfl

/-- What it writes into the right half, at an element. -/
theorem right_at (x0 : S256x5632.Idx → EReal) (x1 : S256x11264.Idx → EReal) (y : S256x5632.Idx) :
    k0_pay5 (F := Ideal) (View.ld (e' := .bf16) x1 r0_0) (View.ld (e' := .bf16) x0 r0_2) y
      = du (x0 (r0_2.idx y)) (x1 (r0_0.idx y)) := rfl

/-- A grid point writes its block of the whole gradient. -/
theorem flushed_eq (c : Dev nD) (t : Fin cfg0.N) :
    (dats m 0 c).flushed 2 t = ((cfg0.win 2).blk t).view.read (Elt Ideal) (whole (m ((c : Thread nD τ).loc main_arg0))
      (m ((c : Thread nD τ).loc main_arg1))) := by
  rw [Cert.Kernel21Ideal.Value.flushed2]
  funext y
  show out0_2 (F := Ideal) (iblk m c 0 t) (iblk m c 1 t) y = whole _ _ (((cfg0.win 2).blk t).view.emb y)
  obtain ⟨⟨p0, p1⟩, ⟨p2, p3⟩, ⟨p4, p5⟩⟩ := places t
  have e0 : (((((cfg0.win 2).blk t).view.emb y) (0 : Fin 2))).val = win0_2.index t (0 : Fin 2) * 256 + 1 * (y (0 : Fin 2)).val := rfl
  have e1 : (((((cfg0.win 2).blk t).view.emb y) (1 : Fin 2))).val = win0_2.index t (1 : Fin 2) * 11264 + 1 * (y (1 : Fin 2)).val := rfl
  generalize ((cfg0.win 2).blk t).view.emb y = i at e0 e1 ⊢
  unfold out0_2
  refine View.canon_eq_of_allAt _ y _ (cover0_2 _ _ y) (View.allAt_cons_unit _ _ _ _ _ (fun x hx => ?_)
    (View.allAt_cons_unit _ _ _ _ _ (fun x hx => ?_) (View.allAt_nil _ _)))
  · have h0 : (y (0 : Fin 2)).val = 0 + (x (0 : Fin 2)).val := hx 0
    have h1 : (y (1 : Fin 2)).val = 5632 + (x (1 : Fin 2)).val := hx 1
    have k0 : (((r0_0.idx x) (0 : Fin 2))).val = 0 + 1 * (x (0 : Fin 2)).val := rfl
    have k1 : (((r0_0.idx x) (1 : Fin 2))).val = 0 + 1 * (x (1 : Fin 2)).val := rfl
    have k4 : (((r0_2.idx x) (0 : Fin 2))).val = 0 + 1 * (x (0 : Fin 2)).val := rfl
    have k5 : (((r0_2.idx x) (1 : Fin 2))).val = 0 + 1 * (x (1 : Fin 2)).val := rfl
    refine (right_at (iblk m c 0 t) (iblk m c 1 t) x).trans ?_
    rw [whole_right _ _ i (ix2 (i 0) (x 1)) rfl (by show (i 1).val = 5632 + (x (1 : Fin 2)).val; omega),
      at0 m c t (r0_2.idx x) (ix2 (i 0) (x 1)) (by show (i 0).val = _; omega) (by show (x (1 : Fin 2)).val = _; omega),
      at1 m c t (r0_0.idx x) (lo (ix2 (i 0) (x 1))) (by show (i 0).val = _; omega) (by show (x (1 : Fin 2)).val = _; omega)]
    rfl
  · have h0 : (y (0 : Fin 2)).val = 0 + (x (0 : Fin 2)).val := hx 0
    have h1 : (y (1 : Fin 2)).val = 0 + (x (1 : Fin 2)).val := hx 1
    have k0 : (((r0_0.idx x) (0 : Fin 2))).val = 0 + 1 * (x (0 : Fin 2)).val := rfl
    have k1 : (((r0_0.idx x) (1 : Fin 2))).val = 0 + 1 * (x (1 : Fin 2)).val := rfl
    have k2 : (((r0_1.idx x) (0 : Fin 2))).val = 0 + 1 * (x (0 : Fin 2)).val := rfl
    have k3 : (((r0_1.idx x) (1 : Fin 2))).val = 5632 + 1 * (x (1 : Fin 2)).val := rfl
    have k4 : (((r0_2.idx x) (0 : Fin 2))).val = 0 + 1 * (x (0 : Fin 2)).val := rfl
    have k5 : (((r0_2.idx x) (1 : Fin 2))).val = 0 + 1 * (x (1 : Fin 2)).val := rfl
    refine (left_at (iblk m c 0 t) (iblk m c 1 t) x).trans ?_
    rw [whole_left _ _ i (ix2 (i 0) (x 1)) rfl (by show (i 1).val = (x (1 : Fin 2)).val; omega),
      at0 m c t (r0_2.idx x) (ix2 (i 0) (x 1)) (by show (i 0).val = _; omega) (by show (x (1 : Fin 2)).val = _; omega),
      at1 m c t (r0_0.idx x) (lo (ix2 (i 0) (x 1))) (by show (i 0).val = _; omega) (by show (x (1 : Fin 2)).val = _; omega),
      at1 m c t (r0_1.idx x) (hi (ix2 (i 0) (x 1))) (by show (i 0).val = _; omega) (by show 5632 + (x (1 : Fin 2)).val = _; omega)]
    rfl

/-- Every element of the result stands in some grid point's block. -/
theorem covered (i : S4352x11264.Idx) :
    ∃ t : Fin cfg0.N, (cfg0.win 2).flush t = true ∧ i ∈ ((cfg0.win 2).blk t).view.set := by
  have h0 : (i 0).val < 4352 := (i 0).isLt
  have h1 : (i 1).val < 11264 := (i 1).isLt
  have hN : cfg0.N = 17 := N_0
  let t : Fin cfg0.N := ⟨(i 0).val / 256, by omega⟩
  have ht : t.val = (i 0).val / 256 := rfl
  obtain ⟨-, -, p4, p5⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 11264 ≤ (i 1).val ∧ (i 1).val < win0_2.index t (1 : Fin 2) * 11264 + 11264
    omega

/-- The kernel's result is the whole gradient. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference21Ideal.Read in
/-- The reference's gradient of the gates, of real arguments. -/
theorem gates (d : S4352x5632.Idx → EReal) (x : S4352x11264.Idx → EReal) (hd : d = fun i => (((d i).toReal : ℝ) : EReal))
    (hx : x = fun i => (((x i).toReal : ℝ) : EReal)) (i : S4352x5632.Idx) : val_main_v8 (F := Ideal) d x i = left d x i := by
  simp only [val_main_v8_apply, val_main_call1_v2_apply, val_main_call1_v1_apply, val_main_call1_v0_apply, val_main_v7_apply, val_main_v5_apply,
    val_main_v3_1_apply, val_main_call0_v7_apply, val_main_call0_v6_apply, val_main_call0_cst_1_apply, val_main_v3_2_apply,
    val_main_call0_v4_apply, val_main_call0_v3_apply, val_main_call0_v2_apply, val_main_call0_v1_apply, val_main_call0_v0_apply,
    val_main_call0_cst_apply, val_main_call0_cst_0_apply, val_main_v2_apply, val_main_v1_apply, val_main_v0_apply]
  show (d i * x (idx_main_v2 i)) * Ideal.div (Ideal.ofBits .f32 0x3F800000#32) (Ideal.ofBits .f32 0x3F800000#32 + Ideal.exp (-x (idx_main_v1 i)))
    + (x (idx_main_v1 i) * (d i * x (idx_main_v2 i)))
      * (Ideal.div (Ideal.ofBits .f32 0x3F800000#32) (Ideal.ofBits .f32 0x3F800000#32 + Ideal.exp (-x (idx_main_v1 i)))
        * (Ideal.ofBits .f32 0x3F800000#32
          - Ideal.div (Ideal.ofBits .f32 0x3F800000#32) (Ideal.ofBits .f32 0x3F800000#32 + Ideal.exp (-x (idx_main_v1 i))))) = _
  rw [Cert.Gate.sigmoid, Cert.Gate.one, show (idx_main_v1 i : S4352x11264.Idx) = lo i from eq_ix2 _,
    show (idx_main_v2 i : S4352x11264.Idx) = hi i from eq_ix2 _]
  unfold left dg
  rw [congrFun hd i, congrFun hx (lo i), congrFun hx (hi i)]
  exact (Cert.Gate.slope _ _ _).symm

open Cert.Reference21Ideal.Read in
/-- The reference's gradient of the ups. -/
theorem ups (d : S4352x5632.Idx → EReal) (x : S4352x11264.Idx → EReal) (i : S4352x5632.Idx) : val_main_v6 (F := Ideal) d x i = right d x i := by
  simp only [val_main_v6_apply, val_main_v5_apply, val_main_v3_0_apply, val_main_v3_2_apply,
    val_main_call0_v4_apply, val_main_call0_v3_apply, val_main_call0_v2_apply, val_main_call0_v1_apply, val_main_call0_v0_apply,
    val_main_call0_cst_apply, val_main_call0_cst_0_apply, val_main_v1_apply, val_main_v0_apply]
  show (x (idx_main_v1 i) * Ideal.div (Ideal.ofBits .f32 0x3F800000#32) (Ideal.ofBits .f32 0x3F800000#32 + Ideal.exp (-x (idx_main_v1 i)))) * d i = _
  rw [Cert.Gate.sigmoid, show (idx_main_v1 i : S4352x11264.Idx) = lo i from eq_ix2 _]
  exact mul_comm _ _

open Cert.Reference21Ideal.Read in
/-- The reference's result, of real arguments, is the whole gradient. -/
theorem reference (d : S4352x5632.Idx → EReal) (x : S4352x11264.Idx → EReal) (hd : d = fun i => (((d i).toReal : ℝ) : EReal))
    (hx : x = fun i => (((x i).toReal : ℝ) : EReal)) : val_main_v10 (F := Ideal) d x = whole d x := by
  funext i
  have hi1 : (i 1).val < 11264 := (i 1).isLt
  show val_main_v9 (F := Ideal) d x i = _
  unfold val_main_v9
  by_cases h : (i 1).val < 5632
  · let j : S4352x5632.Idx := ix2 (i 0) (⟨(i 1).val, h⟩ : Fin 5632)
    refine (concatenate_pair_apply_left (t := S4352x11264) (s₁ := S4352x5632) (s₂ := S4352x5632) 1 _ _ _ i rfl j (fun b => ?_)).trans ((gates d x hd hx j).trans (whole_left d x i j rfl rfl).symm)
    match b with
    | ⟨0, _⟩ => rfl
    | ⟨1, _⟩ => rfl
  · let j : S4352x5632.Idx := ix2 (i 0) (⟨(i 1).val - 5632, by omega⟩ : Fin 5632)
    have hj : (i 1).val = 5632 + (j 1).val := by show (i 1).val = 5632 + ((i 1).val - 5632); omega
    refine (concatenate_pair_apply_right (t := S4352x11264) (s₁ := S4352x5632) (s₂ := S4352x5632) 1 _ _ _ i rfl rfl j (fun b hb => ?_) ((Nat.add_comm _ _).trans hj.symm)).trans
      ((ups d x j).trans (whole_right d x i j rfl hj).symm)
    match b with
    | ⟨0, _⟩ => rfl
    | ⟨1, _⟩ => exact absurd rfl hb

end Cert.Kernel21Ideal.Act

end
-- ==== Proof.Gate22.lean ====
module

public import proofs.«01_k».proof.Proof.Gate
public import proofs.«01_k».proof.Proof.Gen.Kernel22Ideal.Value
public import proofs.«01_k».proof.Proof.Gen.Reference22Ideal.Read

@[expose] public section

set_option maxRecDepth 16384

noncomputable section

namespace Cert.Kernel22Ideal.Mix

open Cert.Kernel22Ideal Cert.Kernel22Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

section Outs
variable {F : FTy → Type} [FloatOps F] (c : Dev nD) (i : grid0.Coords)
  (arg1 : Memref sig .tc .vmem S256x2048 .f32) (h1 : arg1.IsWhole) (arg2 : Memref sig .tc .vmem S256x2048 .f32) (h2 : arg2.IsWhole)
  (arg3 : Memref sig .tc .vmem S256x2048 .f32) (h3 : arg3.IsWhole) (arg4 : Memref sig .tc .vmem S256x2048 .f32) (h4 : arg4.IsWhole)
  (arg5 : Memref sig .tc .vmem S256x2048 .f32) (h5 : arg5.IsWhole) (arg6 : Memref sig .tc .vmem S256x2048 .bf16) (h6 : arg6.IsWhole)
  (arg7 : Memref sig .tc .vmem S256x2048 .bf16) (h7 : arg7.IsWhole) (arg8 : Memref sig .tc .vmem S256x4096 .bf16) (h8 : arg8.IsWhole)
  (x0 x1 x2 x3 x4 : Vec F S256x2048 .f32)

/-- What a grid point leaves in its block of the pooling mixer's gradient. -/
theorem out5_eq : out0_A_5 c i arg1 h1 arg2 h2 arg3 h3 arg4 h4 arg5 h5 arg6 h6 arg7 h7 arg8 h8 x0 x1 x2 x3 x4 = k0_pay3 x0 x1 := by
  unfold out0_A_5
  rw [View.read_writes_junk_eq_canon]
  unfold kernelRun0_A
  dsimp only
  rw [View.canon_unit_zero hz]
  simp only [View.readAt_eq_ld, h1.read_unread, h2.read_unread, View.ld_unit_zero (S := S256x2048) hz]

/-- What it leaves in its block of the attention's gradient. -/
theorem out6_eq : out0_A_6 c i arg1 h1 arg2 h2 arg3 h3 arg4 h4 arg5 h5 arg6 h6 arg7 h7 arg8 h8 x0 x1 x2 x3 x4 = k0_pay4 x0 x2 := by
  unfold out0_A_6
  rw [View.read_writes_junk_eq_canon]
  unfold kernelRun0_A
  dsimp only
  rw [View.canon_unit_zero hz]
  simp only [View.readAt_eq_ld, h1.read_unread, h3.read_unread, View.ld_unit_zero (S := S256x2048) hz]

/-- What it leaves in its block of the gates' gradient: one half after the other. -/
theorem out7_eq : out0_A_7 c i arg1 h1 arg2 h2 arg3 h3 arg4 h4 arg5 h5 arg6 h6 arg7 h7 arg8 h8 x0 x1 x2 x3 x4
    = View.canon [⟨Rect.unit (s := S256x4096) ![0, 2048] S256x2048.size inb_S256x4096_S256x2048_0_2048, k0_pay6 x0 x2 x4⟩,
      ⟨Rect.unit (s := S256x4096) ![0, 0] S256x2048.size inb_S256x4096_S256x2048_0_0, k0_pay5 x0 x1 x3⟩] := by
  unfold out0_A_7
  rw [View.read_writes_junk_eq_canon]
  unfold kernelRun0_A
  dsimp only
  simp only [View.readAt_eq_ld, h1.read_unread, h2.read_unread, h3.read_unread, h4.read_unread, h5.read_unread, View.ld_unit_zero (S := S256x2048) hz]

end Outs

/-- A gradient times a gate. -/
def dy (d g : EReal) : EReal := d * Ideal.logistic g

/-- The gradient of a gate's argument. -/
def dg (d g y : EReal) : EReal := (d * y) * (Ideal.logistic g * (1 - Ideal.logistic g))

theorem pay3_at (d g : S256x2048.Idx → EReal) (y : S256x2048.Idx) : k0_pay3 (F := Ideal) d g y = dy (d y) (g y) := rfl

theorem pay4_at (d g : S256x2048.Idx → EReal) (y : S256x2048.Idx) : k0_pay4 (F := Ideal) d g y = dy (d y) (g y) := rfl

theorem pay5_at (d g o : S256x2048.Idx → EReal) (y : S256x2048.Idx) : k0_pay5 (F := Ideal) d g o y = dg (d y) (g y) (o y) := by
  show (d y * o y) * (Ideal.logistic (g y) * (Ideal.ofBits .f32 0x3F800000#32 - Ideal.logistic (g y))) = _
  rw [Cert.Gate.one]
  rfl

theorem pay6_at (d g o : S256x2048.Idx → EReal) (y : S256x2048.Idx) : k0_pay6 (F := Ideal) d g o y = dg (d y) (g y) (o y) := by
  show (d y * o y) * (Ideal.logistic (g y) * (Ideal.ofBits .f32 0x3F800000#32 - Ideal.logistic (g y))) = _
  rw [Cert.Gate.one]
  rfl

variable (m : (ℓ : Loc nD τ sig) → Buf (Elt Ideal) ℓ)

/-- Where the pooling mixer's gate stands in the projected input. -/
abbrev pool (i : S4352x2048.Idx) : S4352x6272.Idx :=
  ix2 (i 0) (⟨2048 + (i 1).val, by have h : (i 1).val < 2048 := (i 1).isLt; omega⟩ : Fin 6272)

/-- Where the attention's gate stands. -/
abbrev mla (i : S4352x2048.Idx) : S4352x6272.Idx :=
  ix2 (i 0) (⟨4096 + (i 1).val, by have h : (i 1).val < 2048 := (i 1).isLt; omega⟩ : Fin 6272)

/-- The whole gradient of the pooling mixer's output. -/
def wholeP (d : S4352x2048.Idx → EReal) (z : S4352x6272.Idx → EReal) : S4352x2048.Idx → EReal := fun i => dy (d i) (z (pool i))

/-- The whole gradient of the attention's output. -/
def wholeM (d : S4352x2048.Idx → EReal) (z : S4352x6272.Idx → EReal) : S4352x2048.Idx → EReal := fun i => dy (d i) (z (mla i))

/-- The gradients of the pooling mixer's gates. -/
def left (d : S4352x2048.Idx → EReal) (z : S4352x6272.Idx → EReal) (yp : S4352x2048.Idx → EReal) (i : S4352x2048.Idx) : EReal :=
  dg (d i) (z (pool i)) (yp i)

/-- The gradients of the attention's gates. -/
def right (d : S4352x2048.Idx → EReal) (z : S4352x6272.Idx → EReal) (ym : S4352x2048.Idx → EReal) (i : S4352x2048.Idx) : EReal :=
  dg (d i) (z (mla i)) (ym i)

/-- Both, side by side. -/
def wholeG (d : S4352x2048.Idx → EReal) (z : S4352x6272.Idx → EReal) (yp ym : S4352x2048.Idx → EReal) : S4352x4096.Idx → EReal := fun i =>
  if h : (i 1).val < 2048 then left d z yp (ix2 (i 0) (⟨(i 1).val, h⟩ : Fin 2048))
  else right d z ym (ix2 (i 0) (⟨(i 1).val - 2048, by have h1 : (i 1).val < 4096 := (i 1).isLt; omega⟩ : Fin 2048))

theorem whole_left (d : S4352x2048.Idx → EReal) (z : S4352x6272.Idx → EReal) (yp ym : S4352x2048.Idx → EReal) (i : S4352x4096.Idx)
    (j : S4352x2048.Idx) (h0 : (i 0).val = (j 0).val) (h1 : (i 1).val = (j 1).val) : wholeG d z yp ym i = left d z yp j := by
  have hj : (j 1).val < 2048 := (j 1).isLt
  unfold wholeG
  rw [dif_pos (by omega)]
  refine congrArg (left d z yp) (funext fun a => Fin.ext ?_)
  match a with
  | ⟨0, _⟩ => exact h0
  | ⟨1, _⟩ => exact h1

theorem whole_right (d : S4352x2048.Idx → EReal) (z : S4352x6272.Idx → EReal) (yp ym : S4352x2048.Idx → EReal) (i : S4352x4096.Idx)
    (j : S4352x2048.Idx) (h0 : (i 0).val = (j 0).val) (h1 : (i 1).val = 2048 + (j 1).val) : wholeG d z yp ym i = right d z ym j := by
  unfold wholeG
  rw [dif_neg (by omega)]
  refine congrArg (right d z ym) (funext fun a => Fin.ext ?_)
  match a with
  | ⟨0, _⟩ => exact h0
  | ⟨1, _⟩ => show (i 1).val - 2048 = (j 1).val; omega

/-- Where each window's block stands at a grid point. -/
theorem places : ∀ t : Fin cfg0.N,
    (win0_0.index t (0 : Fin 2) = t.val ∧ win0_0.index t (1 : Fin 2) = 0)
      ∧ (win0_1.index t (0 : Fin 2) = t.val ∧ win0_1.index t (1 : Fin 2) = 1)
      ∧ (win0_2.index t (0 : Fin 2) = t.val ∧ win0_2.index t (1 : Fin 2) = 2)
      ∧ (win0_3.index t (0 : Fin 2) = t.val ∧ win0_3.index t (1 : Fin 2) = 0)
      ∧ (win0_4.index t (0 : Fin 2) = t.val ∧ win0_4.index t (1 : Fin 2) = 0)
      ∧ (win0_5.index t (0 : Fin 2) = t.val ∧ win0_5.index t (1 : Fin 2) = 0)
      ∧ (win0_6.index t (0 : Fin 2) = t.val ∧ win0_6.index t (1 : Fin 2) = 0)
      ∧ (win0_7.index t (0 : Fin 2) = t.val ∧ win0_7.index t (1 : Fin 2) = 0) :=
  (by decide +kernel : ∀ t : Fin grid0.N,
    (win0_0.index t (0 : Fin 2) = t.val ∧ win0_0.index t (1 : Fin 2) = 0)
      ∧ (win0_1.index t (0 : Fin 2) = t.val ∧ win0_1.index t (1 : Fin 2) = 1)
      ∧ (win0_2.index t (0 : Fin 2) = t.val ∧ win0_2.index t (1 : Fin 2) = 2)
      ∧ (win0_3.index t (0 : Fin 2) = t.val ∧ win0_3.index t (1 : Fin 2) = 0)
      ∧ (win0_4.index t (0 : Fin 2) = t.val ∧ win0_4.index t (1 : Fin 2) = 0)
      ∧ (win0_5.index t (0 : Fin 2) = t.val ∧ win0_5.index t (1 : Fin 2) = 0)
      ∧ (win0_6.index t (0 : Fin 2) = t.val ∧ win0_6.index t (1 : Fin 2) = 0)
      ∧ (win0_7.index t (0 : Fin 2) = t.val ∧ win0_7.index t (1 : Fin 2) = 0))

/-- A block of the gradient, element by element. -/
theorem at0 (c : Dev nD) (t : Fin cfg0.N) (j : S256x2048.Idx) (i : S4352x2048.Idx)
    (h0 : (i 0).val = win0_0.index t (0 : Fin 2) * 256 + 1 * (j 0).val) (h1 : (i 1).val = win0_0.index t (1 : Fin 2) * 2048 + 1 * (j 1).val) :
    iblk m c 0 t j = m ((c : Thread nD τ).loc main_arg0) i := by
  show V m c main_arg0 (((cfg0.win 0).blk t).view.emb j) = _
  refine congrArg (m ((c : Thread nD τ).loc main_arg0)) (funext fun d => Fin.ext ?_)
  match d with
  | ⟨0, _⟩ => exact h0.symm
  | ⟨1, _⟩ => exact h1.symm

/-- A block of the pooling mixer's gates, element by element. -/
theorem at1 (c : Dev nD) (t : Fin cfg0.N) (j : S256x2048.Idx) (i : S4352x6272.Idx)
    (h0 : (i 0).val = win0_1.index t (0 : Fin 2) * 256 + 1 * (j 0).val) (h1 : (i 1).val = win0_1.index t (1 : Fin 2) * 2048 + 1 * (j 1).val) :
    X0_1 m c t j = m ((c : Thread nD τ).loc main_arg1) i := by
  unfold X0_1 Pipeline.Window.fill
  rw [dif_pos (moved0_1 t j)]
  show V m c main_arg1 (((cfg0.win 1).blk t).view.emb _) = _
  refine congrArg (m ((c : Thread nD τ).loc main_arg1)) (funext fun d => Fin.ext ?_)
  match d with
  | ⟨0, _⟩ => exact h0.symm
  | ⟨1, _⟩ => exact h1.symm

/-- A block of the attention's gates, element by element. -/
theorem at2 (c : Dev nD) (t : Fin cfg0.N) (j : S256x2048.Idx) (i : S4352x6272.Idx)
    (h0 : (i 0).val = win0_2.index t (0 : Fin 2) * 256 + 1 * (j 0).val) (h1 : (i 1).val = win0_2.index t (1 : Fin 2) * 2048 + 1 * (j 1).val) :
    X0_2 m c t j = m ((c : Thread nD τ).loc main_arg1) i := by
  unfold X0_2 Pipeline.Window.fill
  rw [dif_pos (moved0_2 t j)]
  show V m c main_arg1 (((cfg0.win 2).blk t).view.emb _) = _
  refine congrArg (m ((c : Thread nD τ).loc main_arg1)) (funext fun d => Fin.ext ?_)
  match d with
  | ⟨0, _⟩ => exact h0.symm
  | ⟨1, _⟩ => exact h1.symm

/-- A block of the pooling mixer's output, element by element. -/
theorem at3 (c : Dev nD) (t : Fin cfg0.N) (j : S256x2048.Idx) (i : S4352x2048.Idx)
    (h0 : (i 0).val = win0_3.index t (0 : Fin 2) * 256 + 1 * (j 0).val) (h1 : (i 1).val = win0_3.index t (1 : Fin 2) * 2048 + 1 * (j 1).val) :
    iblk m c 3 t j = m ((c : Thread nD τ).loc main_arg2) i := by
  show V m c main_arg2 (((cfg0.win 3).blk t).view.emb j) = _
  refine congrArg (m ((c : Thread nD τ).loc main_arg2)) (funext fun d => Fin.ext ?_)
  match d with
  | ⟨0, _⟩ => exact h0.symm
  | ⟨1, _⟩ => exact h1.symm

/-- A block of the attention's output, element by element. -/
theorem at4 (c : Dev nD) (t : Fin cfg0.N) (j : S256x2048.Idx) (i : S4352x2048.Idx)
    (h0 : (i 0).val = win0_4.index t (0 : Fin 2) * 256 + 1 * (j 0).val) (h1 : (i 1).val = win0_4.index t (1 : Fin 2) * 2048 + 1 * (j 1).val) :
    iblk m c 4 t j = m ((c : Thread nD τ).loc main_arg3) i := by
  show V m c main_arg3 (((cfg0.win 4).blk t).view.emb j) = _
  refine congrArg (m ((c : Thread nD τ).loc main_arg3)) (funext fun d => Fin.ext ?_)
  match d with
  | ⟨0, _⟩ => exact h0.symm
  | ⟨1, _⟩ => exact h1.symm

/-- A grid point writes its block of the whole gradient of the pooling mixer's output. -/
theorem flushed5_eq (c : Dev nD) (t : Fin cfg0.N) :
    (dats m 0 c).flushed 5 t = ((cfg0.win 5).blk t).view.read (Elt Ideal) (wholeP (m ((c : Thread nD τ).loc main_arg0)) (m ((c : Thread nD τ).loc main_arg1))) := by
  rw [Cert.Kernel22Ideal.Value.flushed5_A, out5_eq]
  funext y
  show k0_pay3 (F := Ideal) (iblk m c 0 t) (X0_1 m c t) y = wholeP _ _ (((cfg0.win 5).blk t).view.emb y)
  obtain ⟨⟨p0, q0⟩, ⟨p1, q1⟩, ⟨p2, q2⟩, ⟨p3, q3⟩, ⟨p4, q4⟩, ⟨p5, q5⟩, ⟨p6, q6⟩, ⟨p7, q7⟩⟩ := places t
  have e0 : (((((cfg0.win 5).blk t).view.emb y) (0 : Fin 2))).val = win0_5.index t (0 : Fin 2) * 256 + 1 * (y (0 : Fin 2)).val := rfl
  have e1 : (((((cfg0.win 5).blk t).view.emb y) (1 : Fin 2))).val = win0_5.index t (1 : Fin 2) * 2048 + 1 * (y (1 : Fin 2)).val := rfl
  generalize ((cfg0.win 5).blk t).view.emb y = i at e0 e1 ⊢
  refine (pay3_at (iblk m c 0 t) (X0_1 m c t) y).trans ?_
  rw [at0 m c t y i (by omega) (by omega), at1 m c t y (pool i) (by show (i 0).val = _; omega) (by show 2048 + (i 1).val = _; omega)]
  rfl

/-- A grid point writes its block of the whole gradient of the attention's output. -/
theorem flushed6_eq (c : Dev nD) (t : Fin cfg0.N) :
    (dats m 0 c).flushed 6 t = ((cfg0.win 6).blk t).view.read (Elt Ideal) (wholeM (m ((c : Thread nD τ).loc main_arg0)) (m ((c : Thread nD τ).loc main_arg1))) := by
  rw [Cert.Kernel22Ideal.Value.flushed6_A, out6_eq]
  funext y
  show k0_pay4 (F := Ideal) (iblk m c 0 t) (X0_2 m c t) y = wholeM _ _ (((cfg0.win 6).blk t).view.emb y)
  obtain ⟨⟨p0, q0⟩, ⟨p1, q1⟩, ⟨p2, q2⟩, ⟨p3, q3⟩, ⟨p4, q4⟩, ⟨p5, q5⟩, ⟨p6, q6⟩, ⟨p7, q7⟩⟩ := places t
  have e0 : (((((cfg0.win 6).blk t).view.emb y) (0 : Fin 2))).val = win0_6.index t (0 : Fin 2) * 256 + 1 * (y (0 : Fin 2)).val := rfl
  have e1 : (((((cfg0.win 6).blk t).view.emb y) (1 : Fin 2))).val = win0_6.index t (1 : Fin 2) * 2048 + 1 * (y (1 : Fin 2)).val := rfl
  generalize ((cfg0.win 6).blk t).view.emb y = i at e0 e1 ⊢
  refine (pay4_at (iblk m c 0 t) (X0_2 m c t) y).trans ?_
  rw [at0 m c t y i (by omega) (by omega), at2 m c t y (mla i) (by show (i 0).val = _; omega) (by show 4096 + (i 1).val = _; omega)]
  rfl

/-- The two halves fill the block. -/
theorem cover7 (p q : Vec Ideal S256x2048 .bf16) (y : S256x4096.Idx) :
    ∃ pc ∈ ([⟨Rect.unit (s := S256x4096) ![0, 2048] S256x2048.size inb_S256x4096_S256x2048_0_2048, p⟩,
      ⟨Rect.unit (s := S256x4096) ![0, 0] S256x2048.size inb_S256x4096_S256x2048_0_0, q⟩] : List (View.Piece (Elt Ideal) S256x4096 .bf16)), y ∈ pc.1.set :=
  View.cover_of_tiled [⟨Rect.unit (s := S256x4096) ![0, 2048] S256x2048.size inb_S256x4096_S256x2048_0_2048, p⟩,
      ⟨Rect.unit (s := S256x4096) ![0, 0] S256x2048.size inb_S256x4096_S256x2048_0_0, q⟩] S256x2048.size (by rfl) y

/-- A grid point writes its block of the whole gradient of the gates. -/
theorem flushed7_eq (c : Dev nD) (t : Fin cfg0.N) :
    (dats m 0 c).flushed 7 t = ((cfg0.win 7).blk t).view.read (Elt Ideal) (wholeG (m ((c : Thread nD τ).loc main_arg0)) (m ((c : Thread nD τ).loc main_arg1)) (m ((c : Thread nD τ).loc main_arg2))
      (m ((c : Thread nD τ).loc main_arg3))) := by
  rw [Cert.Kernel22Ideal.Value.flushed7_A, out7_eq]
  funext y
  show View.canon (Val := Elt Ideal) (s := S256x4096) (e := .bf16) _ y
    = wholeG _ _ _ _ (((cfg0.win 7).blk t).view.emb y)
  obtain ⟨⟨p0, q0⟩, ⟨p1, q1⟩, ⟨p2, q2⟩, ⟨p3, q3⟩, ⟨p4, q4⟩, ⟨p5, q5⟩, ⟨p6, q6⟩, ⟨p7, q7⟩⟩ := places t
  have e0 : (((((cfg0.win 7).blk t).view.emb y) (0 : Fin 2))).val = win0_7.index t (0 : Fin 2) * 256 + 1 * (y (0 : Fin 2)).val := rfl
  have e1 : (((((cfg0.win 7).blk t).view.emb y) (1 : Fin 2))).val = win0_7.index t (1 : Fin 2) * 4096 + 1 * (y (1 : Fin 2)).val := rfl
  generalize ((cfg0.win 7).blk t).view.emb y = i at e0 e1 ⊢
  refine View.canon_eq_of_allAt _ y _ (cover7 _ _ y) (View.allAt_cons_unit _ _ _ _ _ (fun x hx => ?_)
    (View.allAt_cons_unit _ _ _ _ _ (fun x hx => ?_) (View.allAt_nil _ _)))
  · have h0 : (y (0 : Fin 2)).val = 0 + (x (0 : Fin 2)).val := hx 0
    have h1 : (y (1 : Fin 2)).val = 2048 + (x (1 : Fin 2)).val := hx 1
    refine (pay6_at (iblk m c 0 t) (X0_2 m c t) (iblk m c 4 t) x).trans ?_
    rw [whole_right _ _ _ _ i (ix2 (i 0) (x 1)) rfl (by show (i 1).val = 2048 + (x (1 : Fin 2)).val; omega),
      at0 m c t x (ix2 (i 0) (x 1)) (by show (i 0).val = _; omega) (by show (x (1 : Fin 2)).val = _; omega),
      at2 m c t x (mla (ix2 (i 0) (x 1))) (by show (i 0).val = _; omega) (by show 4096 + (x (1 : Fin 2)).val = _; omega),
      at4 m c t x (ix2 (i 0) (x 1)) (by show (i 0).val = _; omega) (by show (x (1 : Fin 2)).val = _; omega)]
    rfl
  · have h0 : (y (0 : Fin 2)).val = 0 + (x (0 : Fin 2)).val := hx 0
    have h1 : (y (1 : Fin 2)).val = 0 + (x (1 : Fin 2)).val := hx 1
    refine (pay5_at (iblk m c 0 t) (X0_1 m c t) (iblk m c 3 t) x).trans ?_
    rw [whole_left _ _ _ _ i (ix2 (i 0) (x 1)) rfl (by show (i 1).val = (x (1 : Fin 2)).val; omega),
      at0 m c t x (ix2 (i 0) (x 1)) (by show (i 0).val = _; omega) (by show (x (1 : Fin 2)).val = _; omega),
      at1 m c t x (pool (ix2 (i 0) (x 1))) (by show (i 0).val = _; omega) (by show 2048 + (x (1 : Fin 2)).val = _; omega),
      at3 m c t x (ix2 (i 0) (x 1)) (by show (i 0).val = _; omega) (by show (x (1 : Fin 2)).val = _; omega)]
    rfl

/-! Every element of the three results stands in some grid point's block. -/

theorem covered5 (i : S4352x2048.Idx) :
    ∃ t : Fin cfg0.N, (cfg0.win 5).flush t = true ∧ i ∈ ((cfg0.win 5).blk t).view.set := by
  have h0 : (i 0).val < 4352 := (i 0).isLt
  have h1 : (i 1).val < 2048 := (i 1).isLt
  have hN : cfg0.N = 17 := N_0
  let t : Fin cfg0.N := ⟨(i 0).val / 256, by omega⟩
  have ht : t.val = (i 0).val / 256 := rfl
  obtain ⟨⟨p0, q0⟩, ⟨p1, q1⟩, ⟨p2, q2⟩, ⟨p3, q3⟩, ⟨p4, q4⟩, ⟨p5, q5⟩, ⟨p6, q6⟩, ⟨p7, q7⟩⟩ := places t
  refine ⟨t, flush0_5 t, ?_⟩
  show i ∈ ((View.whole main_v0_0).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 2048 ≤ (i 1).val ∧ (i 1).val < win0_5.index t (1 : Fin 2) * 2048 + 2048
    omega

theorem covered6 (i : S4352x2048.Idx) :
    ∃ t : Fin cfg0.N, (cfg0.win 6).flush t = true ∧ i ∈ ((cfg0.win 6).blk t).view.set := by
  have h0 : (i 0).val < 4352 := (i 0).isLt
  have h1 : (i 1).val < 2048 := (i 1).isLt
  have hN : cfg0.N = 17 := N_0
  let t : Fin cfg0.N := ⟨(i 0).val / 256, by omega⟩
  have ht : t.val = (i 0).val / 256 := rfl
  obtain ⟨⟨p0, q0⟩, ⟨p1, q1⟩, ⟨p2, q2⟩, ⟨p3, q3⟩, ⟨p4, q4⟩, ⟨p5, q5⟩, ⟨p6, q6⟩, ⟨p7, q7⟩⟩ := places t
  refine ⟨t, flush0_6 t, ?_⟩
  show i ∈ ((View.whole main_v0_1).slice (win0_6.rect t)).set
  rw [View.set_slice_whole, Rect.mem_set_unit]
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 2048 ≤ (i 1).val ∧ (i 1).val < win0_6.index t (1 : Fin 2) * 2048 + 2048
    omega

theorem covered7 (i : S4352x4096.Idx) :
    ∃ t : Fin cfg0.N, (cfg0.win 7).flush t = true ∧ i ∈ ((cfg0.win 7).blk t).view.set := by
  have h0 : (i 0).val < 4352 := (i 0).isLt
  have h1 : (i 1).val < 4096 := (i 1).isLt
  have hN : cfg0.N = 17 := N_0
  let t : Fin cfg0.N := ⟨(i 0).val / 256, by omega⟩
  have ht : t.val = (i 0).val / 256 := rfl
  obtain ⟨⟨p0, q0⟩, ⟨p1, q1⟩, ⟨p2, q2⟩, ⟨p3, q3⟩, ⟨p4, q4⟩, ⟨p5, q5⟩, ⟨p6, q6⟩, ⟨p7, q7⟩⟩ := places t
  refine ⟨t, flush0_7 t, ?_⟩
  show i ∈ ((View.whole main_v0_2).slice (win0_7.rect t)).set
  rw [View.set_slice_whole, Rect.mem_set_unit]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 4096 ≤ (i 1).val ∧ (i 1).val < win0_7.index t (1 : Fin 2) * 4096 + 4096
    omega

/-! The kernel's results are the whole gradients. -/

theorem final5 (c : Dev nD) : (dats m 0 c).arrAt 5 cfg0.N
    = wholeP (m ((c : Thread nD τ).loc main_arg0)) (m ((c : Thread nD τ).loc main_arg1)) :=
  (dats m 0 c).arrAt_eq_of_cover 5 _ (fun t _ => flushed5_eq m c t) covered5

theorem final6 (c : Dev nD) : (dats m 0 c).arrAt 6 cfg0.N
    = wholeM (m ((c : Thread nD τ).loc main_arg0)) (m ((c : Thread nD τ).loc main_arg1)) :=
  (dats m 0 c).arrAt_eq_of_cover 6 _ (fun t _ => flushed6_eq m c t) covered6

theorem final7 (c : Dev nD) : (dats m 0 c).arrAt 7 cfg0.N
    = wholeG (m ((c : Thread nD τ).loc main_arg0)) (m ((c : Thread nD τ).loc main_arg1)) (m ((c : Thread nD τ).loc main_arg2)) (m ((c : Thread nD τ).loc main_arg3)) :=
  (dats m 0 c).arrAt_eq_of_cover 7 _ (fun t _ => flushed7_eq m c t) covered7

section Reference
open Cert.Reference22Ideal.Read

theorem same23 (i : S4352x2048.Idx) : (idx_main_v23 i : S4352x2048.Idx) = i := by
  have h0 : (i 0).val < 4352 := (i 0).isLt
  have h1 : (i 1).val < 2048 := (i 1).isLt
  refine funext fun a => Fin.ext ?_
  match a with
  | ⟨0, _⟩ => show ((i 0).val * 2048 + (i 1).val) / 2048 = (i 0).val; omega
  | ⟨1, _⟩ => show ((i 0).val * 2048 + (i 1).val) % 2048 = (i 1).val; omega

theorem same24 (i : S4352x2048.Idx) : (idx_main_v24 i : S4352x2048.Idx) = i := same23 i

theorem refP (d : S4352x2048.Idx → EReal) (z : S4352x6272.Idx → EReal) : val_main_v31 (F := Ideal) d z = wholeP d z := by
  funext i
  simp only [val_main_v31_apply, val_main_v32_apply, val_main_v30_apply, val_main_v29_apply, val_main_v28_apply, val_main_v27_apply, val_main_v26_apply, val_main_v25_apply, val_main_v24_apply, val_main_v23_apply, val_main_v20_apply, val_main_v19_apply, val_main_v18_apply, val_main_v17_apply, val_main_v16_apply, val_main_v15_apply, val_main_v14_apply, val_main_v13_apply, val_main_v12_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply, val_main_cst_4_apply]
  show Ideal.div (Ideal.ofBits .f32 0x3F800000#32) (Ideal.ofBits .f32 0x3F800000#32 + Ideal.exp (-z (idx_main_v0 i))) * d (idx_main_v23 i) = _
  rw [Cert.Gate.sigmoid, show (idx_main_v0 i : S4352x6272.Idx) = pool i from eq_ix2 _, same23 i]
  exact mul_comm _ _

theorem refM (d : S4352x2048.Idx → EReal) (z : S4352x6272.Idx → EReal) : val_main_v32 (F := Ideal) d z = wholeM d z := by
  funext i
  simp only [val_main_v31_apply, val_main_v32_apply, val_main_v30_apply, val_main_v29_apply, val_main_v28_apply, val_main_v27_apply, val_main_v26_apply, val_main_v25_apply, val_main_v24_apply, val_main_v23_apply, val_main_v20_apply, val_main_v19_apply, val_main_v18_apply, val_main_v17_apply, val_main_v16_apply, val_main_v15_apply, val_main_v14_apply, val_main_v13_apply, val_main_v12_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply, val_main_cst_4_apply]
  show Ideal.div (Ideal.ofBits .f32 0x3F800000#32) (Ideal.ofBits .f32 0x3F800000#32 + Ideal.exp (-z (idx_main_v1 i))) * d (idx_main_v24 i) = _
  rw [Cert.Gate.sigmoid, show (idx_main_v1 i : S4352x6272.Idx) = mla i from eq_ix2 _, same24 i]
  exact mul_comm _ _

theorem gateP (d : S4352x2048.Idx → EReal) (z : S4352x6272.Idx → EReal) (yp : S4352x2048.Idx → EReal) (i : S4352x2048.Idx) :
    val_main_v30 (F := Ideal) d z yp i = left d z yp i := by
  simp only [val_main_v31_apply, val_main_v32_apply, val_main_v30_apply, val_main_v29_apply, val_main_v28_apply, val_main_v27_apply, val_main_v26_apply, val_main_v25_apply, val_main_v24_apply, val_main_v23_apply, val_main_v20_apply, val_main_v19_apply, val_main_v18_apply, val_main_v17_apply, val_main_v16_apply, val_main_v15_apply, val_main_v14_apply, val_main_v13_apply, val_main_v12_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply, val_main_cst_4_apply]
  show (d (idx_main_v23 i) * yp i) * (Ideal.div (Ideal.ofBits .f32 0x3F800000#32) (Ideal.ofBits .f32 0x3F800000#32 + Ideal.exp (-z (idx_main_v0 i)))
    * (Ideal.ofBits .f32 0x3F800000#32 - Ideal.div (Ideal.ofBits .f32 0x3F800000#32) (Ideal.ofBits .f32 0x3F800000#32 + Ideal.exp (-z (idx_main_v0 i))))) = _
  rw [Cert.Gate.sigmoid, Cert.Gate.one, show (idx_main_v0 i : S4352x6272.Idx) = pool i from eq_ix2 _, same23 i]
  rfl

theorem gateM (d : S4352x2048.Idx → EReal) (z : S4352x6272.Idx → EReal) (ym : S4352x2048.Idx → EReal) (i : S4352x2048.Idx) :
    val_main_v27 (F := Ideal) d z ym i = right d z ym i := by
  simp only [val_main_v31_apply, val_main_v32_apply, val_main_v30_apply, val_main_v29_apply, val_main_v28_apply, val_main_v27_apply, val_main_v26_apply, val_main_v25_apply, val_main_v24_apply, val_main_v23_apply, val_main_v20_apply, val_main_v19_apply, val_main_v18_apply, val_main_v17_apply, val_main_v16_apply, val_main_v15_apply, val_main_v14_apply, val_main_v13_apply, val_main_v12_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply, val_main_cst_4_apply]
  show (d (idx_main_v24 i) * ym i) * (Ideal.div (Ideal.ofBits .f32 0x3F800000#32) (Ideal.ofBits .f32 0x3F800000#32 + Ideal.exp (-z (idx_main_v1 i)))
    * (Ideal.ofBits .f32 0x3F800000#32 - Ideal.div (Ideal.ofBits .f32 0x3F800000#32) (Ideal.ofBits .f32 0x3F800000#32 + Ideal.exp (-z (idx_main_v1 i))))) = _
  rw [Cert.Gate.sigmoid, Cert.Gate.one, show (idx_main_v1 i : S4352x6272.Idx) = mla i from eq_ix2 _, same24 i]
  rfl

theorem refG (d : S4352x2048.Idx → EReal) (z : S4352x6272.Idx → EReal) (yp ym : S4352x2048.Idx → EReal) :
    val_main_v34 (F := Ideal) d z yp ym = wholeG d z yp ym := by
  funext i
  have hi1 : (i 1).val < 4096 := (i 1).isLt
  show val_main_v33 (F := Ideal) d z yp ym i = _
  unfold val_main_v33
  by_cases h : (i 1).val < 2048
  · let j : S4352x2048.Idx := ix2 (i 0) (⟨(i 1).val, h⟩ : Fin 2048)
    refine (concatenate_pair_apply_left (t := S4352x4096) (s₁ := S4352x2048) (s₂ := S4352x2048) 1 _ _ _ i rfl j (fun b => ?_)).trans
      ((gateP d z yp j).trans (whole_left d z yp ym i j rfl rfl).symm)
    match b with
    | ⟨0, _⟩ => rfl
    | ⟨1, _⟩ => rfl
  · let j : S4352x2048.Idx := ix2 (i 0) (⟨(i 1).val - 2048, by omega⟩ : Fin 2048)
    have hj : (i 1).val = 2048 + (j 1).val := by show (i 1).val = 2048 + ((i 1).val - 2048); omega
    refine (concatenate_pair_apply_right (t := S4352x4096) (s₁ := S4352x2048) (s₂ := S4352x2048) 1 _ _ _ i rfl rfl j (fun b hb => ?_)
      ((Nat.add_comm _ _).trans hj.symm)).trans ((gateM d z ym j).trans (whole_right d z yp ym i j rfl hj).symm)
    match b with
    | ⟨0, _⟩ => rfl
    | ⟨1, _⟩ => exact absurd rfl hb

end Reference

end Cert.Kernel22Ideal.Mix

end
-- ==== Proof.Gate23.lean ====
module

public import proofs.«01_k».proof.Proof.Gate
public import proofs.«01_k».proof.Proof.Gen.Kernel23Ideal.Value
public import proofs.«01_k».proof.Proof.Gen.Reference23Ideal.Read

@[expose] public section

set_option maxRecDepth 16384

noncomputable section

namespace Cert.Kernel23Ideal.Act

open Cert.Kernel23Ideal Cert.Kernel23Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

variable (m : (ℓ : Loc nD τ sig) → Buf (Elt Ideal) ℓ)

/-- Where an element's gate stands in the array of gates and ups. -/
abbrev lo (i : S4352x5632.Idx) : S4352x11264.Idx :=
  ix2 (i 0) (⟨(i 1).val, by have h : (i 1).val < 5632 := (i 1).isLt; omega⟩ : Fin 11264)

/-- Where its up stands. -/
abbrev hi (i : S4352x5632.Idx) : S4352x11264.Idx :=
  ix2 (i 0) (⟨5632 + (i 1).val, by have h : (i 1).val < 5632 := (i 1).isLt; omega⟩ : Fin 11264)

/-- The whole activation. -/
def whole (x : S4352x11264.Idx → EReal) : S4352x5632.Idx → EReal :=
  fun i => x (lo i) * Ideal.logistic (x (lo i)) * x (hi i)

/-- Where each window's block stands at a grid point. -/
theorem places : ∀ t : Fin cfg0.N,
    (win0_0.index t (0 : Fin 2) = t.val ∧ win0_0.index t (1 : Fin 2) = 0)
      ∧ (win0_1.index t (0 : Fin 2) = t.val ∧ win0_1.index t (1 : Fin 2) = 0) :=
  (by decide +kernel : ∀ t : Fin grid0.N,
    (win0_0.index t (0 : Fin 2) = t.val ∧ win0_0.index t (1 : Fin 2) = 0)
      ∧ (win0_1.index t (0 : Fin 2) = t.val ∧ win0_1.index t (1 : Fin 2) = 0))

/-- A block of the argument, element by element. -/
theorem at0 (c : Dev nD) (t : Fin cfg0.N) (j : S256x11264.Idx) (i : S4352x11264.Idx)
    (h0 : (i 0).val = win0_0.index t (0 : Fin 2) * 256 + 1 * (j 0).val) (h1 : (i 1).val = win0_0.index t (1 : Fin 2) * 11264 + 1 * (j 1).val) :
    iblk m c 0 t j = m ((c : Thread nD τ).loc main_arg0) i := by
  show V m c main_arg0 (((cfg0.win 0).blk t).view.emb j) = _
  refine congrArg (m ((c : Thread nD τ).loc main_arg0)) (funext fun d => Fin.ext ?_)
  match d with
  | ⟨0, _⟩ => exact h0.symm
  | ⟨1, _⟩ => exact h1.symm

/-- What a grid point writes, at an element. -/
theorem pay_at (x : S256x11264.Idx → EReal) (y : S256x5632.Idx) :
    k0_pay1 (F := Ideal) (View.ld (e' := .bf16) x r0_0) (View.ld (e' := .bf16) x r0_1) y
      = x (r0_0.idx y) * Ideal.logistic (x (r0_0.idx y)) * x (r0_1.idx y) := rfl

/-- A grid point writes its block of the whole activation. -/
theorem flushed_eq (c : Dev nD) (t : Fin cfg0.N) :
    (dats m 0 c).flushed 1 t = ((cfg0.win 1).blk t).view.read (Elt Ideal) (whole (m ((c : Thread nD τ).loc main_arg0))) := by
  rw [Cert.Kernel23Ideal.Value.flushed1]
  funext y
  unfold out0_1
  rw [View.canon_unit_zero hz]
  obtain ⟨⟨p0, p1⟩, ⟨p2, p3⟩⟩ := places t
  have e0 : (((((cfg0.win 1).blk t).view.emb y) (0 : Fin 2))).val = win0_1.index t (0 : Fin 2) * 256 + 1 * (y (0 : Fin 2)).val := rfl
  have e1 : (((((cfg0.win 1).blk t).view.emb y) (1 : Fin 2))).val = win0_1.index t (1 : Fin 2) * 5632 + 1 * (y (1 : Fin 2)).val := rfl
  show k0_pay1 (F := Ideal) (View.ld (iblk m c 0 t) r0_0) (View.ld (iblk m c 0 t) r0_1) y = whole _ (((cfg0.win 1).blk t).view.emb y)
  refine (pay_at (iblk m c 0 t) y).trans ?_
  have k0 : (((r0_0.idx y) (0 : Fin 2))).val = 0 + 1 * (y (0 : Fin 2)).val := rfl
  have k1 : (((r0_0.idx y) (1 : Fin 2))).val = 0 + 1 * (y (1 : Fin 2)).val := rfl
  have k2 : (((r0_1.idx y) (0 : Fin 2))).val = 0 + 1 * (y (0 : Fin 2)).val := rfl
  have k3 : (((r0_1.idx y) (1 : Fin 2))).val = 5632 + 1 * (y (1 : Fin 2)).val := rfl
  rw [at0 m c t (r0_0.idx y) (lo (((cfg0.win 1).blk t).view.emb y)) (by rw [k0, p0]; show ((((cfg0.win 1).blk t).view.emb y) (0 : Fin 2)).val = _; rw [e0, p2]; omega)
      (by rw [k1, p1]; show ((((cfg0.win 1).blk t).view.emb y) (1 : Fin 2)).val = _; rw [e1, p3]; omega),
    at0 m c t (r0_1.idx y) (hi (((cfg0.win 1).blk t).view.emb y)) (by rw [k2, p0]; show ((((cfg0.win 1).blk t).view.emb y) (0 : Fin 2)).val = _; rw [e0, p2]; omega)
      (by rw [k3, p1]; show 5632 + ((((cfg0.win 1).blk t).view.emb y) (1 : Fin 2)).val = _; rw [e1, p3]; omega)]
  rfl

/-- Every element of the result stands in some grid point's block. -/
theorem covered (i : S4352x5632.Idx) :
    ∃ t : Fin cfg0.N, (cfg0.win 1).flush t = true ∧ i ∈ ((cfg0.win 1).blk t).view.set := by
  have h0 : (i 0).val < 4352 := (i 0).isLt
  have h1 : (i 1).val < 5632 := (i 1).isLt
  have hN : cfg0.N = 17 := N_0
  let t : Fin cfg0.N := ⟨(i 0).val / 256, by omega⟩
  have ht : t.val = (i 0).val / 256 := rfl
  obtain ⟨-, p2, p3⟩ := places t
  refine ⟨t, flush0_1 t, ?_⟩
  show i ∈ ((View.whole main_v0).slice (win0_1.rect t)).set
  rw [View.set_slice_whole, Rect.mem_set_unit]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 5632 ≤ (i 1).val ∧ (i 1).val < win0_1.index t (1 : Fin 2) * 5632 + 5632
    omega

/-- The kernel's result is the whole activation. -/
theorem final (c : Dev nD) : (dats m 0 c).arrAt 1 cfg0.N = whole (m ((c : Thread nD τ).loc main_arg0)) :=
  (dats m 0 c).arrAt_eq_of_cover 1 _ (fun t _ => flushed_eq m c t) covered

open Cert.Reference23Ideal.Read in
/-- The reference's result is the whole activation. -/
theorem reference (x : S4352x11264.Idx → EReal) : val_main_v5 (F := Ideal) x = whole x := by
  funext i
  simp only [val_main_v5_apply, val_main_v4_apply, val_main_v3_apply, val_main_call0_v5_apply, val_main_call0_v4_apply, val_main_call0_v3_apply,
    val_main_call0_v2_apply, val_main_call0_v1_apply, val_main_call0_v0_apply, val_main_call0_cst_apply, val_main_call0_cst_0_apply,
    val_main_v2_apply, val_main_v1_apply, val_main_v0_apply]
  show x (idx_main_v1 i) * Ideal.div (Ideal.ofBits .f32 0x3F800000#32) (Ideal.ofBits .f32 0x3F800000#32 + Ideal.exp (-x (idx_main_v1 i)))
    * x (idx_main_v2 i) = _
  rw [Cert.Gate.sigmoid, show (idx_main_v1 i : S4352x11264.Idx) = lo i from eq_ix2 _, show (idx_main_v2 i : S4352x11264.Idx) = hi i from eq_ix2 _]
  rfl

end Cert.Kernel23Ideal.Act

end
-- ==== Proof.Gate24.lean ====
module

public import proofs.«01_k».proof.Proof.Gate
public import proofs.«01_k».proof.Proof.Gen.Kernel24Ideal.Value
public import proofs.«01_k».proof.Proof.Gen.Reference24Ideal.Read

@[expose] public section

set_option maxRecDepth 16384

noncomputable section

namespace Cert.Kernel24Ideal.Mix

open Cert.Kernel24Ideal Cert.Kernel24Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point leaves in its output block. -/
theorem out_eq {F : FTy → Type} [FloatOps F] (c : Dev nD) (i : grid0.Coords)
    (arg1 : Memref sig .tc .vmem S256x2048 .f32) (h1 : arg1.IsWhole) (arg2 : Memref sig .tc .vmem S256x2048 .f32) (h2 : arg2.IsWhole)
    (arg3 : Memref sig .tc .vmem S256x2048 .f32) (h3 : arg3.IsWhole) (arg4 : Memref sig .tc .vmem S256x2048 .f32) (h4 : arg4.IsWhole)
    (arg5 : Memref sig .tc .vmem S256x2048 .bf16) (h5 : arg5.IsWhole) (x0 x1 x2 x3 : Vec F S256x2048 .f32) :
    out0_A_4 c i arg1 h1 arg2 h2 arg3 h3 arg4 h4 arg5 h5 x0 x1 x2 x3 = k0_pay1 x0 x2 x1 x3 := by
  unfold out0_A_4
  rw [View.read_writes_junk_eq_canon]
  unfold kernelRun0_A
  dsimp only
  rw [View.canon_unit_zero hz]
  simp only [View.readAt_eq_ld, h1.read_unread, h2.read_unread, h3.read_unread, h4.read_unread, View.ld_unit_zero (S := S256x2048) hz]

/-- The same, at an element. -/
theorem pay_at (x0 x1 x2 x3 : S256x2048.Idx → EReal) (y : S256x2048.Idx) :
    k0_pay1 (F := Ideal) x0 x2 x1 x3 y = Ideal.logistic (x0 y) * x2 y + Ideal.logistic (x1 y) * x3 y := rfl

variable (m : (ℓ : Loc nD τ sig) → Buf (Elt Ideal) ℓ)

/-- Where the pooling mixer's gate stands in the projected input. -/
abbrev pool (i : S4352x2048.Idx) : S4352x6272.Idx :=
  ix2 (i 0) (⟨2048 + (i 1).val, by have h : (i 1).val < 2048 := (i 1).isLt; omega⟩ : Fin 6272)

/-- Where the attention's gate stands. -/
abbrev mla (i : S4352x2048.Idx) : S4352x6272.Idx :=
  ix2 (i 0) (⟨4096 + (i 1).val, by have h : (i 1).val < 2048 := (i 1).isLt; omega⟩ : Fin 6272)

/-- The whole mixture. -/
def whole (z : S4352x6272.Idx → EReal) (yp ym : S4352x2048.Idx → EReal) : S4352x2048.Idx → EReal :=
  fun i => Ideal.logistic (z (pool i)) * yp i + Ideal.logistic (z (mla i)) * ym i

/-- Where each window's block stands at a grid point. -/
theorem places : ∀ t : Fin cfg0.N,
    (win0_0.index t (0 : Fin 2) = t.val ∧ win0_0.index t (1 : Fin 2) = 1)
      ∧ (win0_1.index t (0 : Fin 2) = t.val ∧ win0_1.index t (1 : Fin 2) = 2)
      ∧ (win0_2.index t (0 : Fin 2) = t.val ∧ win0_2.index t (1 : Fin 2) = 0)
      ∧ (win0_3.index t (0 : Fin 2) = t.val ∧ win0_3.index t (1 : Fin 2) = 0)
      ∧ (win0_4.index t (0 : Fin 2) = t.val ∧ win0_4.index t (1 : Fin 2) = 0) :=
  (by decide +kernel : ∀ t : Fin grid0.N,
    (win0_0.index t (0 : Fin 2) = t.val ∧ win0_0.index t (1 : Fin 2) = 1)
      ∧ (win0_1.index t (0 : Fin 2) = t.val ∧ win0_1.index t (1 : Fin 2) = 2)
      ∧ (win0_2.index t (0 : Fin 2) = t.val ∧ win0_2.index t (1 : Fin 2) = 0)
      ∧ (win0_3.index t (0 : Fin 2) = t.val ∧ win0_3.index t (1 : Fin 2) = 0)
      ∧ (win0_4.index t (0 : Fin 2) = t.val ∧ win0_4.index t (1 : Fin 2) = 0))

/-- A block of the pooling mixer's gates, element by element. -/
theorem at0 (c : Dev nD) (t : Fin cfg0.N) (j : S256x2048.Idx) (i : S4352x6272.Idx)
    (h0 : (i 0).val = win0_0.index t (0 : Fin 2) * 256 + 1 * (j 0).val) (h1 : (i 1).val = win0_0.index t (1 : Fin 2) * 2048 + 1 * (j 1).val) :
    X0_0 m c t j = m ((c : Thread nD τ).loc main_arg0) i := by
  unfold X0_0 Pipeline.Window.fill
  rw [dif_pos (moved0_0 t j)]
  show V m c main_arg0 (((cfg0.win 0).blk t).view.emb _) = _
  refine congrArg (m ((c : Thread nD τ).loc main_arg0)) (funext fun d => Fin.ext ?_)
  match d with
  | ⟨0, _⟩ => exact h0.symm
  | ⟨1, _⟩ => exact h1.symm

/-- A block of the attention's gates, element by element. -/
theorem at1 (c : Dev nD) (t : Fin cfg0.N) (j : S256x2048.Idx) (i : S4352x6272.Idx)
    (h0 : (i 0).val = win0_1.index t (0 : Fin 2) * 256 + 1 * (j 0).val) (h1 : (i 1).val = win0_1.index t (1 : Fin 2) * 2048 + 1 * (j 1).val) :
    X0_1 m c t j = m ((c : Thread nD τ).loc main_arg0) i := by
  unfold X0_1 Pipeline.Window.fill
  rw [dif_pos (moved0_1 t j)]
  show V m c main_arg0 (((cfg0.win 1).blk t).view.emb _) = _
  refine congrArg (m ((c : Thread nD τ).loc main_arg0)) (funext fun d => Fin.ext ?_)
  match d with
  | ⟨0, _⟩ => exact h0.symm
  | ⟨1, _⟩ => exact h1.symm

/-- A block of the pooling mixer's output, element by element. -/
theorem at2 (c : Dev nD) (t : Fin cfg0.N) (j : S256x2048.Idx) (i : S4352x2048.Idx)
    (h0 : (i 0).val = win0_2.index t (0 : Fin 2) * 256 + 1 * (j 0).val) (h1 : (i 1).val = win0_2.index t (1 : Fin 2) * 2048 + 1 * (j 1).val) :
    iblk m c 2 t j = m ((c : Thread nD τ).loc main_arg1) i := by
  show V m c main_arg1 (((cfg0.win 2).blk t).view.emb j) = _
  refine congrArg (m ((c : Thread nD τ).loc main_arg1)) (funext fun d => Fin.ext ?_)
  match d with
  | ⟨0, _⟩ => exact h0.symm
  | ⟨1, _⟩ => exact h1.symm

/-- A block of the attention's output, element by element. -/
theorem at3 (c : Dev nD) (t : Fin cfg0.N) (j : S256x2048.Idx) (i : S4352x2048.Idx)
    (h0 : (i 0).val = win0_3.index t (0 : Fin 2) * 256 + 1 * (j 0).val) (h1 : (i 1).val = win0_3.index t (1 : Fin 2) * 2048 + 1 * (j 1).val) :
    iblk m c 3 t j = m ((c : Thread nD τ).loc main_arg2) i := by
  show V m c main_arg2 (((cfg0.win 3).blk t).view.emb j) = _
  refine congrArg (m ((c : Thread nD τ).loc main_arg2)) (funext fun d => Fin.ext ?_)
  match d with
  | ⟨0, _⟩ => exact h0.symm
  | ⟨1, _⟩ => exact h1.symm

/-- A grid point writes its block of the whole mixture. -/
theorem flushed_eq (c : Dev nD) (t : Fin cfg0.N) :
    (dats m 0 c).flushed 4 t = ((cfg0.win 4).blk t).view.read (Elt Ideal) (whole (m ((c : Thread nD τ).loc main_arg0))
      (m ((c : Thread nD τ).loc main_arg1)) (m ((c : Thread nD τ).loc main_arg2))) := by
  rw [Cert.Kernel24Ideal.Value.flushed4_A, out_eq]
  funext y
  show k0_pay1 (F := Ideal) (X0_0 m c t) (iblk m c 2 t) (X0_1 m c t) (iblk m c 3 t) y = whole _ _ _ (((cfg0.win 4).blk t).view.emb y)
  obtain ⟨⟨p0, p1⟩, ⟨p2, p3⟩, ⟨p4, p5⟩, ⟨p6, p7⟩, ⟨p8, p9⟩⟩ := places t
  have e0 : (((((cfg0.win 4).blk t).view.emb y) (0 : Fin 2))).val = win0_4.index t (0 : Fin 2) * 256 + 1 * (y (0 : Fin 2)).val := rfl
  have e1 : (((((cfg0.win 4).blk t).view.emb y) (1 : Fin 2))).val = win0_4.index t (1 : Fin 2) * 2048 + 1 * (y (1 : Fin 2)).val := rfl
  refine (pay_at (X0_0 m c t) (X0_1 m c t) (iblk m c 2 t) (iblk m c 3 t) y).trans ?_
  rw [at0 m c t y (pool (((cfg0.win 4).blk t).view.emb y)) (by show ((((cfg0.win 4).blk t).view.emb y) (0 : Fin 2)).val = _; rw [e0, p0, p8])
      (by show 2048 + ((((cfg0.win 4).blk t).view.emb y) (1 : Fin 2)).val = _; rw [e1, p1, p9]; omega),
    at1 m c t y (mla (((cfg0.win 4).blk t).view.emb y)) (by show ((((cfg0.win 4).blk t).view.emb y) (0 : Fin 2)).val = _; rw [e0, p2, p8])
      (by show 4096 + ((((cfg0.win 4).blk t).view.emb y) (1 : Fin 2)).val = _; rw [e1, p3, p9]; omega),
    at2 m c t y (((cfg0.win 4).blk t).view.emb y) (by rw [e0, p4, p8]) (by rw [e1, p5, p9]),
    at3 m c t y (((cfg0.win 4).blk t).view.emb y) (by rw [e0, p6, p8]) (by rw [e1, p7, p9])]
  rfl

/-- Every element of the result stands in some grid point's block. -/
theorem covered (i : S4352x2048.Idx) :
    ∃ t : Fin cfg0.N, (cfg0.win 4).flush t = true ∧ i ∈ ((cfg0.win 4).blk t).view.set := by
  have h0 : (i 0).val < 4352 := (i 0).isLt
  have h1 : (i 1).val < 2048 := (i 1).isLt
  have hN : cfg0.N = 17 := N_0
  let t : Fin cfg0.N := ⟨(i 0).val / 256, by omega⟩
  have ht : t.val = (i 0).val / 256 := rfl
  obtain ⟨-, -, -, -, p8, p9⟩ := places t
  refine ⟨t, flush0_4 t, ?_⟩
  show i ∈ ((View.whole main_v0).slice (win0_4.rect t)).set
  rw [View.set_slice_whole, Rect.mem_set_unit]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 2048 ≤ (i 1).val ∧ (i 1).val < win0_4.index t (1 : Fin 2) * 2048 + 2048
    omega

/-- The kernel's result is the whole mixture. -/
theorem final (c : Dev nD) : (dats m 0 c).arrAt 4 cfg0.N = whole (m ((c : Thread nD τ).loc main_arg0))
    (m ((c : Thread nD τ).loc main_arg1)) (m ((c : Thread nD τ).loc main_arg2)) :=
  (dats m 0 c).arrAt_eq_of_cover 4 _ (fun t _ => flushed_eq m c t) covered

open Cert.Reference24Ideal.Read in
/-- The reference's result is the whole mixture. -/
theorem reference (z : S4352x6272.Idx → EReal) (yp ym : S4352x2048.Idx → EReal) : val_main_v17 (F := Ideal) z yp ym = whole z yp ym := by
  funext i
  simp only [val_main_v17_apply, val_main_v16_apply, val_main_v15_apply, val_main_v14_apply, val_main_v13_apply, val_main_v12_apply,
    val_main_v11_apply, val_main_v10_apply, val_main_v9_apply, val_main_v8_apply, val_main_v7_apply, val_main_v6_apply, val_main_v5_apply,
    val_main_v4_apply, val_main_v3_apply, val_main_v2_apply, val_main_v1_apply, val_main_v0_apply, val_main_cst_apply, val_main_cst_0_apply,
    val_main_cst_1_apply, val_main_cst_2_apply]
  show Ideal.div (Ideal.ofBits .f32 0x3F800000#32) (Ideal.ofBits .f32 0x3F800000#32 + Ideal.exp (-z (idx_main_v0 i))) * yp i
    + Ideal.div (Ideal.ofBits .f32 0x3F800000#32) (Ideal.ofBits .f32 0x3F800000#32 + Ideal.exp (-z (idx_main_v1 i))) * ym i = _
  rw [Cert.Gate.sigmoid, Cert.Gate.sigmoid, show (idx_main_v0 i : S4352x6272.Idx) = pool i from eq_ix2 _,
    show (idx_main_v1 i : S4352x6272.Idx) = mla i from eq_ix2 _]
  rfl

end Cert.Kernel24Ideal.Mix

end
-- ==== Proof.Finite21.lean ====
module

public import proofs.«01_k».proof.Pre_finite21
public import proofs.«01_k».proof.Proof.Finite

@[expose] public section

set_option maxRecDepth 16384

noncomputable section

namespace Cert.Pre_finite21

open Idealize.ShloMosaic

/-! # What the precondition of the gates' gradient says: both arguments are arrays of reals -/

instance facts : Facts where
  bcast_S_S4352x5632 := by decide
  reducesTo_S4352x5632_S_d0_1 := by decide
  h_S_ := by decide
  bcast_S_S4352x11264 := by decide
  reducesTo_S4352x11264_S_d0_1 := by decide

theorem reals (x0 : Vec Ideal S4352x5632 .bf16) (x1 : Vec Ideal S4352x11264 .bf16) (h : fn (F := Ideal) x0 x1 = fun _ => 1#1) :
    (x0 = fun i => (((x0 i).toReal : ℝ) : EReal)) ∧ (x1 = fun i => (((x1 i).toReal : ℝ) : EReal)) := by
  have e := congrFun h (fun d => d.elim0)
  unfold fn at e
  obtain ⟨e0, e1⟩ := Cert.Pre_finite.and_one e
  exact ⟨Cert.Pre_finite.real_of_all x0 _ _ _ _ _ (fun _ => Cert.Pre_finite.top_f) e0,
    Cert.Pre_finite.real_of_all x1 _ _ _ _ _ (fun _ => Cert.Pre_finite.top_f) e1⟩

end Cert.Pre_finite21

end
-- ==== Proof.Gates.lean ====
module

public import proofs.«01_k».proof.Defs
public import proofs.«01_k».proof.Proof.Gate21
public import proofs.«01_k».proof.Proof.Gen.Kernel21.Frame
public import proofs.«01_k».proof.Proof.Gate22
public import proofs.«01_k».proof.Proof.Gen.Kernel22.Frame
public import proofs.«01_k».proof.Proof.Gate23
public import proofs.«01_k».proof.Proof.Gen.Kernel23.Frame
public import proofs.«01_k».proof.Proof.Gate24
public import proofs.«01_k».proof.Proof.Gen.Kernel24.Frame
public import proofs.«01_k».proof.Proof.Finite21
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-! # The claims of the gates

Each is the program's frame, or the equality of its results with its reference's. -/

theorem kernel21_bits : Cert.quiescent_Kernel21 := fun m g _ => Cert.Kernel21.Gen.frame (F := Bits) m g

theorem kernel21_ideal : Cert.quiescent_Kernel21Ideal := fun m g _ => Cert.Kernel21Ideal.Gen.frame (F := Ideal) m g

theorem reference21_ideal : Cert.quiescent_Reference21Ideal := fun m g _ =>
  (θ_run _ _ _).mono (fun r h => ⟨fun c => (h c).2, sem_eq_zero_of_no_sems (by decide) r.2⟩) (Cert.Reference21Ideal.Value.run m g)

theorem equal21 : Cert.algebraic_Kernel21Ideal_Reference21Ideal_pre_finite21 := fun m g m' g' hp ha =>
  ⟨fun c => Cert.Kernel21Ideal.Act.whole (m ((c : Thread Cert.Kernel21Ideal.nD Cert.Kernel21Ideal.τ).loc Cert.Kernel21Ideal.main_arg0))
      (m ((c : Thread Cert.Kernel21Ideal.nD Cert.Kernel21Ideal.τ).loc Cert.Kernel21Ideal.main_arg1)),
    (θ_run _ _ _).mono (fun _ h c => ⟨(h c).1.trans (Cert.Kernel21Ideal.Act.final m c), (h c).2⟩) (Cert.Kernel21Ideal.Value.run_blocks m g),
    (θ_run _ _ _).mono (fun _ h c => by
      obtain ⟨a0, a1⟩ := ha c
      obtain ⟨r0, r1⟩ := Cert.Pre_finite21.reals _ _ (hp c)
      obtain ⟨e, eargs⟩ := h c
      rw [a0, a1] at e
      refine ⟨e.trans ((Cert.Reference21Ideal.Read.val_main_v10_eq (F := Ideal) _ _).trans (Cert.Kernel21Ideal.Act.reference _ _ r0 r1)), eargs⟩) (Cert.Reference21Ideal.Value.run m' g')⟩

theorem kernel22_bits : Cert.quiescent_Kernel22 := fun m g _ => Cert.Kernel22.Gen.frame (F := Bits) m g

theorem kernel22_ideal : Cert.quiescent_Kernel22Ideal := fun m g _ => Cert.Kernel22Ideal.Gen.frame (F := Ideal) m g

theorem reference22_ideal : Cert.quiescent_Reference22Ideal := fun m g _ =>
  (θ_run _ _ _).mono (fun r h => ⟨fun c => (h c).2.2.2, sem_eq_zero_of_no_sems (by decide) r.2⟩) (Cert.Reference22Ideal.Value.run m g)

theorem equal22 : Cert.algebraic_Kernel22Ideal_Reference22Ideal := fun m g m' g' _ ha =>
  ⟨fun c => Cert.Kernel22Ideal.Mix.wholeP (m ((c : Thread Cert.Kernel22Ideal.nD Cert.Kernel22Ideal.τ).loc Cert.Kernel22Ideal.main_arg0))
      (m ((c : Thread Cert.Kernel22Ideal.nD Cert.Kernel22Ideal.τ).loc Cert.Kernel22Ideal.main_arg1)),
    fun c => Cert.Kernel22Ideal.Mix.wholeM (m ((c : Thread Cert.Kernel22Ideal.nD Cert.Kernel22Ideal.τ).loc Cert.Kernel22Ideal.main_arg0))
      (m ((c : Thread Cert.Kernel22Ideal.nD Cert.Kernel22Ideal.τ).loc Cert.Kernel22Ideal.main_arg1)),
    fun c => Cert.Kernel22Ideal.Mix.wholeG (m ((c : Thread Cert.Kernel22Ideal.nD Cert.Kernel22Ideal.τ).loc Cert.Kernel22Ideal.main_arg0))
      (m ((c : Thread Cert.Kernel22Ideal.nD Cert.Kernel22Ideal.τ).loc Cert.Kernel22Ideal.main_arg1))
      (m ((c : Thread Cert.Kernel22Ideal.nD Cert.Kernel22Ideal.τ).loc Cert.Kernel22Ideal.main_arg2))
      (m ((c : Thread Cert.Kernel22Ideal.nD Cert.Kernel22Ideal.τ).loc Cert.Kernel22Ideal.main_arg3)),
    (θ_run _ _ _).mono (fun _ h c => ⟨(h c).1.trans (Cert.Kernel22Ideal.Mix.final5 m c), (h c).2.1.trans (Cert.Kernel22Ideal.Mix.final6 m c),
      (h c).2.2.1.trans (Cert.Kernel22Ideal.Mix.final7 m c), (h c).2.2.2⟩) (Cert.Kernel22Ideal.Value.run_blocks m g),
    (θ_run _ _ _).mono (fun _ h c => by
      obtain ⟨a0, a1, a2, a3⟩ := ha c
      obtain ⟨e0, e1, e2, eargs⟩ := h c
      refine ⟨e0.trans ((Cert.Reference22Ideal.Read.val_main_v31_eq (F := Ideal) _ _).trans ((Cert.Kernel22Ideal.Mix.refP _ _).trans ?_)),
        e1.trans ((Cert.Reference22Ideal.Read.val_main_v32_eq (F := Ideal) _ _).trans ((Cert.Kernel22Ideal.Mix.refM _ _).trans ?_)),
        e2.trans ((Cert.Reference22Ideal.Read.val_main_v34_eq (F := Ideal) _ _ _ _).trans ((Cert.Kernel22Ideal.Mix.refG _ _ _ _).trans ?_)), eargs⟩
      · rw [a0, a1]
      · rw [a0, a1]
      · rw [a0, a1, a2, a3]) (Cert.Reference22Ideal.Value.run m' g')⟩

theorem kernel23_bits : Cert.quiescent_Kernel23 := fun m g _ => Cert.Kernel23.Gen.frame (F := Bits) m g

theorem kernel23_ideal : Cert.quiescent_Kernel23Ideal := fun m g _ => Cert.Kernel23Ideal.Gen.frame (F := Ideal) m g

theorem reference23_ideal : Cert.quiescent_Reference23Ideal := fun m g _ =>
  (θ_run _ _ _).mono (fun r h => ⟨fun c => (h c).2, sem_eq_zero_of_no_sems (by decide) r.2⟩) (Cert.Reference23Ideal.Value.run m g)

theorem equal23 : Cert.algebraic_Kernel23Ideal_Reference23Ideal := fun m g m' g' _ ha =>
  ⟨fun c => Cert.Kernel23Ideal.Act.whole (m ((c : Thread Cert.Kernel23Ideal.nD Cert.Kernel23Ideal.τ).loc Cert.Kernel23Ideal.main_arg0)),
    (θ_run _ _ _).mono (fun _ h c => ⟨(h c).1.trans (Cert.Kernel23Ideal.Act.final m c), (h c).2⟩) (Cert.Kernel23Ideal.Value.run_blocks m g),
    (θ_run _ _ _).mono (fun _ h c => by
      obtain a0 := ha c
      obtain ⟨e, eargs⟩ := h c
      refine ⟨e.trans ((Cert.Reference23Ideal.Read.val_main_v5_eq (F := Ideal) _).trans ((Cert.Kernel23Ideal.Act.reference _).trans ?_)), eargs⟩
      rw [a0]) (Cert.Reference23Ideal.Value.run m' g')⟩

theorem kernel24_bits : Cert.quiescent_Kernel24 := fun m g _ => Cert.Kernel24.Gen.frame (F := Bits) m g

theorem kernel24_ideal : Cert.quiescent_Kernel24Ideal := fun m g _ => Cert.Kernel24Ideal.Gen.frame (F := Ideal) m g

theorem reference24_ideal : Cert.quiescent_Reference24Ideal := fun m g _ =>
  (θ_run _ _ _).mono (fun r h => ⟨fun c => (h c).2, sem_eq_zero_of_no_sems (by decide) r.2⟩) (Cert.Reference24Ideal.Value.run m g)

theorem equal24 : Cert.algebraic_Kernel24Ideal_Reference24Ideal := fun m g m' g' _ ha =>
  ⟨fun c => Cert.Kernel24Ideal.Mix.whole (m ((c : Thread Cert.Kernel24Ideal.nD Cert.Kernel24Ideal.τ).loc Cert.Kernel24Ideal.main_arg0))
      (m ((c : Thread Cert.Kernel24Ideal.nD Cert.Kernel24Ideal.τ).loc Cert.Kernel24Ideal.main_arg1))
      (m ((c : Thread Cert.Kernel24Ideal.nD Cert.Kernel24Ideal.τ).loc Cert.Kernel24Ideal.main_arg2)),
    (θ_run _ _ _).mono (fun _ h c => ⟨(h c).1.trans (Cert.Kernel24Ideal.Mix.final m c), (h c).2⟩) (Cert.Kernel24Ideal.Value.run_blocks m g),
    (θ_run _ _ _).mono (fun _ h c => by
      obtain ⟨a0, a1, a2⟩ := ha c
      obtain ⟨e, eargs⟩ := h c
      refine ⟨e.trans ((Cert.Reference24Ideal.Read.val_main_v17_eq (F := Ideal) _ _ _).trans ((Cert.Kernel24Ideal.Mix.reference _ _ _).trans ?_)), eargs⟩
      rw [a0, a1, a2]) (Cert.Reference24Ideal.Value.run m' g')⟩

end Cert.Proof

end
-- ==== Proof.Norm.lean ====
module

public import proofs.«01_k».proof.Proof.Gate
public import Idealize.ShloMosaic.PureOps.Ideal.Laws
public import Idealize.ShloMosaic.Lib.Pipeline.Value

@[expose] public section

noncomputable section

namespace Cert.Norm

open Idealize.ShloMosaic Idealize.ShloMosaic.ValueIdx

/-! # A row's norm

What the forward norm calls share: a row of `K` elements times the reciprocal of the root of its mean square (a small
constant added), times a gain for each column. -/

/-- The factor of a row: the reciprocal root of its mean square. `n` is the number it is divided by. -/
def factor {K : Nat} (n : EReal) (f : Fin K → EReal) : EReal :=
  Ideal.rsqrt (Ideal.div (∑ k, f k * f k) n + Ideal.ofBits .f32 0x358637BD#32)

/-- An element of a row's norm. -/
def elem {K : Nat} (n : EReal) (f g : Fin K → EReal) (b : Fin K) : EReal := f b * factor n f * g b

/-- A row of an array. -/
abbrev row {M K : Nat} (x : (⟨2, ![M, K]⟩ : Shape).Idx → EReal) (a : Fin M) : Fin K → EReal := fun k => x (ix2 a k)

/-- An index of a column. -/
abbrev place {M : Nat} (a : Fin M) : (⟨1, ![M]⟩ : Shape).Idx := fun c => match c with | ⟨0, _⟩ => a

/-- The norm of every row of an array, the gains being one row. -/
def norm {M K : Nat} (n : EReal) (x : (⟨2, ![M, K]⟩ : Shape).Idx → EReal) (g : (⟨2, ![1, K]⟩ : Shape).Idx → EReal) :
    (⟨2, ![M, K]⟩ : Shape).Idx → EReal :=
  fun i => elem n (row x (i 0)) (row g 0) (i 1)

/-- A residual sum: an array plus `c` times the norm of another. -/
def resid {M K : Nat} (c n : EReal) (h f : (⟨2, ![M, K]⟩ : Shape).Idx → EReal) (g : (⟨2, ![1, K]⟩ : Shape).Idx → EReal) :
    (⟨2, ![M, K]⟩ : Shape).Idx → EReal :=
  fun i => h i + c * norm n f g i

/-- A block's norm is the array's where the block's row is the array's. -/
theorem norm_block {M L K : Nat} {n : EReal} {x : (⟨2, ![M, K]⟩ : Shape).Idx → EReal} {x' : (⟨2, ![L, K]⟩ : Shape).Idx → EReal}
    {g g' : (⟨2, ![1, K]⟩ : Shape).Idx → EReal} {y : (⟨2, ![M, K]⟩ : Shape).Idx} {i : (⟨2, ![L, K]⟩ : Shape).Idx}
    (hx : ∀ k : Fin K, x (ix2 (y 0) k) = x' (ix2 (i 0) k)) (hg : ∀ k : Fin K, g (ix2 0 k) = g' (ix2 0 k)) (h1 : (y 1).val = (i 1).val) :
    norm n x g y = norm n x' g' i := by
  have e : (y 1 : Fin K) = i 1 := Fin.ext h1
  unfold norm
  rw [show row x (y 0) = row x' (i 0) from funext hx, show row g 0 = row g' 0 from funext hg]
  exact congrArg (elem n (row x' (i 0)) (row g' 0)) e

/-- So is its residual sum. -/
theorem resid_block {M L K : Nat} {c n : EReal} {h x : (⟨2, ![M, K]⟩ : Shape).Idx → EReal} {h' x' : (⟨2, ![L, K]⟩ : Shape).Idx → EReal}
    {g g' : (⟨2, ![1, K]⟩ : Shape).Idx → EReal} {y : (⟨2, ![M, K]⟩ : Shape).Idx} {i : (⟨2, ![L, K]⟩ : Shape).Idx}
    (hh : h y = h' i) (hx : ∀ k : Fin K, x (ix2 (y 0) k) = x' (ix2 (i 0) k)) (hg : ∀ k : Fin K, g (ix2 0 k) = g' (ix2 0 k))
    (h1 : (y 1).val = (i 1).val) : resid c n h x g y = resid c n h' x' g' i := by
  unfold resid
  rw [hh, norm_block hx hg h1]

/-- What a grid point computes, at an element: the norm of the block's rows. -/
theorem norm_at {M K : Nat} (hK : K ≠ 1) (n : BitVec 32) (x : FVec Ideal ⟨2, ![M, K]⟩ .f32) (g : FVec Ideal ⟨2, ![1, K]⟩ .f32)
    (hr : Shape.Reduces ⟨2, ![M, K]⟩ [1] ⟨1, ![M]⟩) (hs : Shape.ShapeCasts ⟨1, ![M]⟩ ⟨2, ![M, 1]⟩)
    (hb : Shape.Broadcasts ⟨2, ![M, 1]⟩ ⟨2, ![M, K]⟩) (hg : Shape.Broadcasts ⟨2, ![1, K]⟩ ⟨2, ![M, K]⟩) :
    mulf (mulf x (broadcastTo ⟨2, ![M, K]⟩ (rsqrt (addf (divf (shapeCast ⟨2, ![M, 1]⟩
        (multiReduction .add [1] ⟨1, ![M]⟩ (mulf x x) 0x00000000#32 hr (.inl rfl) rfl) hs) (broadcast ⟨2, ![M, 1]⟩ (Scalar.ofBits .f32 n)))
        (broadcast ⟨2, ![M, 1]⟩ (Scalar.ofBits .f32 0x358637BD#32)))) hb)) (broadcastTo ⟨2, ![M, K]⟩ g hg)
      = norm (Ideal.ofBits .f32 n) x g := by
  funext y
  obtain ⟨a, b, rfl⟩ : ∃ (a : Fin M) (b : Fin K), y = ix2 a b := ⟨y 0, y 1, eq_ix2 y⟩
  have e1 : ∀ v : FVec Ideal ⟨2, ![M, 1]⟩ .f32, broadcastTo ⟨2, ![M, K]⟩ v hb (ix2 a b) = v (ix2 a 0) := fun v =>
    broadcastTo_apply v hb _ _ (fun c => match c with
      | ⟨0, _⟩ => by
        show a.val = if M = 1 then 0 else a.val
        split
        · have := a.isLt; omega
        · rfl
      | ⟨1, _⟩ => by
        show 0 = if (1 : Nat) = 1 then 0 else b.val
        rw [if_pos rfl])
  have e2 : broadcastTo ⟨2, ![M, K]⟩ g hg (ix2 a b) = g (ix2 0 b) :=
    broadcastTo_apply g hg _ _ (fun c => match c with
      | ⟨0, _⟩ => by
        show 0 = if (1 : Nat) = 1 then 0 else a.val
        rw [if_pos rfl]
      | ⟨1, _⟩ => by
        show b.val = if K = 1 then 0 else b.val
        rw [if_neg hK])
  have e3 : ∀ v : FVec Ideal ⟨1, ![M]⟩ .f32, shapeCast ⟨2, ![M, 1]⟩ v hs (ix2 a 0) = v (place a) := fun v =>
    shapeCast_apply v hs _ _ (by
      rw [Shape.rowMajor_val_one, Shape.rowMajor_val_two]
      show a.val = a.val * 1 + 0
      omega)
  have e4 : multiReduction .add [1] ⟨1, ![M]⟩ (mulf x x) 0x00000000#32 hr (.inl rfl) rfl (place a)
      = ∑ k : Fin K, row x a k * row x a k :=
    (Ideal.multiReduction_add_single (mulf x x) _ hr (.inl rfl) rfl _).trans (Finset.sum_congr rfl fun k _ => by
      show x _ * x _ = x _ * x _
      rw [show hr.lift (place a) k = ix2 a k from funext fun c => Fin.ext (match c with | ⟨0, _⟩ => rfl | ⟨1, _⟩ => rfl)]
      rfl)
  show x (ix2 a b) * broadcastTo ⟨2, ![M, K]⟩ _ hb (ix2 a b) * broadcastTo ⟨2, ![M, K]⟩ g hg (ix2 a b) = _
  rw [e1, e2]
  show x (ix2 a b) * Ideal.rsqrt (Ideal.div (shapeCast ⟨2, ![M, 1]⟩ _ hs (ix2 a 0)) _ + _) * g (ix2 0 b) = _
  rw [e3, e4]
  rfl

end Cert.Norm

end
-- ==== Proof.Norm25.lean ====
module

public import proofs.«01_k».proof.Proof.Norm
public import proofs.«01_k».proof.Proof.Gen.Kernel25Ideal.Value
public import proofs.«01_k».proof.Proof.Gen.Reference25Ideal.Read

@[expose] public section

set_option maxRecDepth 16384

noncomputable section

namespace Cert.Kernel25Ideal.Norm

open Cert.Kernel25Ideal Cert.Kernel25Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- What a grid point computes. -/
theorem pay1_eq (x : S256x2048.Idx → EReal) (g : S1x2048.Idx → EReal) :
    k0_pay1 (F := Ideal) x g = Cert.Norm.norm (Ideal.ofBits .f32 0x45000000#32) x g :=
  Cert.Norm.norm_at (by omega) 0x45000000#32 x g reduces_S256x2048_S256 shapeCasts_S256_S256x1 broadcasts_S256x1_S256x2048 broadcasts_S1x2048_S256x2048

variable (m : (ℓ : Loc nD τ sig) → Buf (Elt Ideal) ℓ)

/-- The whole normed array. -/
def whole (x : S4352x2048.Idx → EReal) (g : S1x2048.Idx → EReal) : S4352x2048.Idx → EReal := Cert.Norm.norm (Ideal.ofBits .f32 0x45000000#32) x g

/-- Where each window's block stands at a grid point. -/
theorem places : ∀ t : Fin cfg0.N,
    (win0_0.index t (0 : Fin 2) = t.val ∧ win0_0.index t (1 : Fin 2) = 0)
      ∧ (win0_1.index t (0 : Fin 2) = 0 ∧ win0_1.index t (1 : Fin 2) = 0)
      ∧ (win0_2.index t (0 : Fin 2) = t.val ∧ win0_2.index t (1 : Fin 2) = 0) :=
  (by decide +kernel : ∀ t : Fin grid0.N,
    (win0_0.index t (0 : Fin 2) = t.val ∧ win0_0.index t (1 : Fin 2) = 0)
      ∧ (win0_1.index t (0 : Fin 2) = 0 ∧ win0_1.index t (1 : Fin 2) = 0)
      ∧ (win0_2.index t (0 : Fin 2) = t.val ∧ win0_2.index t (1 : Fin 2) = 0))

/-- A block of the argument, element by element. -/
theorem at0 (c : Dev nD) (t : Fin cfg0.N) (j : S256x2048.Idx) (i : S4352x2048.Idx)
    (h0 : (i 0).val = win0_0.index t (0 : Fin 2) * 256 + 1 * (j 0).val) (h1 : (i 1).val = win0_0.index t (1 : Fin 2) * 2048 + 1 * (j 1).val) :
    iblk m c 0 t j = m ((c : Thread nD τ).loc main_arg0) i := by
  show V m c main_arg0 (((cfg0.win 0).blk t).view.emb j) = _
  refine congrArg (m ((c : Thread nD τ).loc main_arg0)) (funext fun d => Fin.ext ?_)
  match d with
  | ⟨0, _⟩ => exact h0.symm
  | ⟨1, _⟩ => exact h1.symm

/-- The gains, element by element. -/
theorem at1 (c : Dev nD) (t : Fin cfg0.N) (j : S1x2048.Idx) (i : S1x2048.Idx)
    (h0 : (i 0).val = win0_1.index t (0 : Fin 2) * 1 + 1 * (j 0).val) (h1 : (i 1).val = win0_1.index t (1 : Fin 2) * 2048 + 1 * (j 1).val) :
    iblk m c 1 t j = m ((c : Thread nD τ).loc main_arg1) i := by
  show V m c main_arg1 (((cfg0.win 1).blk t).view.emb j) = _
  refine congrArg (m ((c : Thread nD τ).loc main_arg1)) (funext fun d => Fin.ext ?_)
  match d with
  | ⟨0, _⟩ => exact h0.symm
  | ⟨1, _⟩ => exact h1.symm

/-- A grid point writes its block of the whole. -/
theorem flushed_eq (c : Dev nD) (t : Fin cfg0.N) :
    (dats m 0 c).flushed 2 t = ((cfg0.win 2).blk t).view.read (Elt Ideal) (whole (m ((c : Thread nD τ).loc main_arg0)) (m ((c : Thread nD τ).loc main_arg1))) := by
  rw [Cert.Kernel25Ideal.Value.flushed2]
  funext y
  unfold out0_2
  rw [View.canon_unit_zero hz]
  simp only [View.ld_unit_zero (S := S256x2048) hz, View.ld_unit_zero (S := S1x2048) hz]
  show k0_pay1 (F := Ideal) (iblk m c 0 t) (iblk m c 1 t) y = whole _ _ (((cfg0.win 2).blk t).view.emb y)
  obtain ⟨⟨p0, q0⟩, ⟨p1, q1⟩, ⟨p2, q2⟩⟩ := places t
  have e0 : (((((cfg0.win 2).blk t).view.emb y) (0 : Fin 2))).val = win0_2.index t (0 : Fin 2) * 256 + 1 * (y (0 : Fin 2)).val := rfl
  have e1 : (((((cfg0.win 2).blk t).view.emb y) (1 : Fin 2))).val = win0_2.index t (1 : Fin 2) * 2048 + 1 * (y (1 : Fin 2)).val := rfl
  generalize ((cfg0.win 2).blk t).view.emb y = i at e0 e1 ⊢
  refine (congrFun (pay1_eq (iblk m c 0 t) (iblk m c 1 t)) y).trans ?_
  exact Cert.Norm.norm_block (fun k => at0 m c t _ _ (by show (i 0).val = _ + 1 * (y 0).val; omega) (by show k.val = _ + 1 * k.val; omega))
    (fun k => at1 m c t _ _ (by rw [p1]; rfl) (by show k.val = _ + 1 * k.val; omega)) (by omega)

/-- Every element of the result stands in some grid point's block. -/
theorem covered (i : S4352x2048.Idx) :
    ∃ t : Fin cfg0.N, (cfg0.win 2).flush t = true ∧ i ∈ ((cfg0.win 2).blk t).view.set := by
  have h0 : (i 0).val < 4352 := (i 0).isLt
  have h1 : (i 1).val < 2048 := (i 1).isLt
  have hN : cfg0.N = 17 := N_0
  let t : Fin cfg0.N := ⟨(i 0).val / 256, by omega⟩
  have ht : t.val = (i 0).val / 256 := rfl
  obtain ⟨⟨p0, q0⟩, ⟨p1, q1⟩, ⟨p2, q2⟩⟩ := places t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 2048 ≤ (i 1).val ∧ (i 1).val < win0_2.index t (1 : Fin 2) * 2048 + 2048
    omega

/-- The kernel's result is the whole normed array. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) covered

open Cert.Reference25Ideal.Read in
/-- The reference's result is the whole normed array. -/
theorem reference (x : S4352x2048.Idx → EReal) (g : S1x2048.Idx → EReal) : val_main_v12 (F := Ideal) x g = whole x g := by
  funext i
  obtain ⟨a, b, rfl⟩ : ∃ (a : Fin 4352) (b : Fin 2048), i = ix2 a b := ⟨i 0, i 1, eq_ix2 i⟩
  simp only [val_main_v12_apply, val_main_v11_apply, val_main_v10_apply, val_main_v9_apply, val_main_v8_apply, val_main_v7_apply,
    val_main_v6_apply, val_main_v5_apply, val_main_v4_apply, val_main_v3_apply, val_main_v2_apply, val_main_v1_apply, val_main_v0_apply,
    val_main_cst_apply, val_main_cst_0_apply, val_main_cst_1_apply,
    show ∀ k : Fin 2048, idx_main_v1 (idx_main_v2 (idx_main_v8 (ix2 a b))) k = ix2 a k from fun k => eq_ix2 _,
    show idx_main_v10 (ix2 a b) = ix2 0 b from eq_ix2 _]
  show x (ix2 a b) * Ideal.rsqrt (Ideal.div (Ideal.ofBits .f32 0x00000000#32 + ∑ k : Fin 2048, x (ix2 a k) * x (ix2 a k)) _ + _) * g (ix2 0 b) = _
  rw [Ideal.ofBits_zero_f32, zero_add]
  rfl

end Cert.Kernel25Ideal.Norm

end
-- ==== Proof.Norm26.lean ====
module

public import proofs.«01_k».proof.Proof.Norm
public import proofs.«01_k».proof.Proof.Gen.Kernel26Ideal.Value
public import proofs.«01_k».proof.Proof.Gen.Reference26Ideal.Read

@[expose] public section

set_option maxRecDepth 16384

noncomputable section

namespace Cert.Kernel26Ideal.Norm

open Cert.Kernel26Ideal Cert.Kernel26Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- The residual sum a grid point computes. -/
theorem pay1_eq (f h : S256x2048.Idx → EReal) (g : S1x2048.Idx → EReal) :
    k0_pay1 (F := Ideal) f h g = Cert.Norm.resid (Ideal.ofBits .f32 0x3F800000#32) (Ideal.ofBits .f32 0x45000000#32) h f g := by
  have e := Cert.Norm.norm_at (by omega) 0x45000000#32 f g reduces_S256x2048_S256 shapeCasts_S256_S256x1 broadcasts_S256x1_S256x2048
    broadcasts_S1x2048_S256x2048
  unfold Cert.Norm.resid
  rw [← e]
  rfl

/-- Its norm. -/
theorem pay2_eq (f h : S256x2048.Idx → EReal) (g g' : S1x2048.Idx → EReal) :
    k0_pay2 (F := Ideal) f h g g' = Cert.Norm.norm (Ideal.ofBits .f32 0x45000000#32) (Cert.Norm.resid (Ideal.ofBits .f32 0x3F800000#32) (Ideal.ofBits .f32 0x45000000#32) h f g) g' := by
  rw [← pay1_eq]
  exact Cert.Norm.norm_at (by omega) 0x45000000#32 (k0_pay1 (F := Ideal) f h g) g' reduces_S256x2048_S256 shapeCasts_S256_S256x1
    broadcasts_S256x1_S256x2048 broadcasts_S1x2048_S256x2048

variable (m : (ℓ : Loc nD τ sig) → Buf (Elt Ideal) ℓ)

/-- The whole residual sum. -/
def wholeH (h f : S4352x2048.Idx → EReal) (g : S1x2048.Idx → EReal) : S4352x2048.Idx → EReal :=
  Cert.Norm.resid (Ideal.ofBits .f32 0x3F800000#32) (Ideal.ofBits .f32 0x45000000#32) h f g

/-- Its norm, the next block's input. -/
def wholeN (h f : S4352x2048.Idx → EReal) (g g' : S1x2048.Idx → EReal) : S4352x2048.Idx → EReal :=
  Cert.Norm.norm (Ideal.ofBits .f32 0x45000000#32) (wholeH h f g) g'

/-- Where each window's block stands at a grid point. -/
theorem places : ∀ t : Fin cfg0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = 0 ∧ win0_2.index t (1 : Fin 2) = 0)
      ∧ (win0_3.index t (0 : Fin 2) = 0 ∧ win0_3.index t (1 : Fin 2) = 0)
      ∧ (win0_4.index t (0 : Fin 2) = t.val ∧ win0_4.index t (1 : Fin 2) = 0)
      ∧ (win0_5.index t (0 : Fin 2) = t.val ∧ win0_5.index t (1 : Fin 2) = 0) :=
  (by decide +kernel : ∀ t : Fin grid0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = 0 ∧ win0_2.index t (1 : Fin 2) = 0)
      ∧ (win0_3.index t (0 : Fin 2) = 0 ∧ win0_3.index t (1 : Fin 2) = 0)
      ∧ (win0_4.index t (0 : Fin 2) = t.val ∧ win0_4.index t (1 : Fin 2) = 0)
      ∧ (win0_5.index t (0 : Fin 2) = t.val ∧ win0_5.index t (1 : Fin 2) = 0))

/-- A block of the stream, element by element. -/
theorem at0 (c : Dev nD) (t : Fin cfg0.N) (j : S256x2048.Idx) (i : S4352x2048.Idx)
    (h0 : (i 0).val = win0_0.index t (0 : Fin 2) * 256 + 1 * (j 0).val) (h1 : (i 1).val = win0_0.index t (1 : Fin 2) * 2048 + 1 * (j 1).val) :
    iblk m c 0 t j = m ((c : Thread nD τ).loc main_arg0) i := by
  show V m c main_arg0 (((cfg0.win 0).blk t).view.emb j) = _
  refine congrArg (m ((c : Thread nD τ).loc main_arg0)) (funext fun d => Fin.ext ?_)
  match d with
  | ⟨0, _⟩ => exact h0.symm
  | ⟨1, _⟩ => exact h1.symm

/-- A block of the block's output, element by element. -/
theorem at1 (c : Dev nD) (t : Fin cfg0.N) (j : S256x2048.Idx) (i : S4352x2048.Idx)
    (h0 : (i 0).val = win0_1.index t (0 : Fin 2) * 256 + 1 * (j 0).val) (h1 : (i 1).val = win0_1.index t (1 : Fin 2) * 2048 + 1 * (j 1).val) :
    iblk m c 1 t j = m ((c : Thread nD τ).loc main_arg1) i := by
  show V m c main_arg1 (((cfg0.win 1).blk t).view.emb j) = _
  refine congrArg (m ((c : Thread nD τ).loc main_arg1)) (funext fun d => Fin.ext ?_)
  match d with
  | ⟨0, _⟩ => exact h0.symm
  | ⟨1, _⟩ => exact h1.symm

/-- The gains of the sum, element by element. -/
theorem at2 (c : Dev nD) (t : Fin cfg0.N) (j : S1x2048.Idx) (i : S1x2048.Idx)
    (h0 : (i 0).val = win0_2.index t (0 : Fin 2) * 1 + 1 * (j 0).val) (h1 : (i 1).val = win0_2.index t (1 : Fin 2) * 2048 + 1 * (j 1).val) :
    iblk m c 2 t j = m ((c : Thread nD τ).loc main_arg2) i := by
  show V m c main_arg2 (((cfg0.win 2).blk t).view.emb j) = _
  refine congrArg (m ((c : Thread nD τ).loc main_arg2)) (funext fun d => Fin.ext ?_)
  match d with
  | ⟨0, _⟩ => exact h0.symm
  | ⟨1, _⟩ => exact h1.symm

/-- The gains of the next norm, element by element. -/
theorem at3 (c : Dev nD) (t : Fin cfg0.N) (j : S1x2048.Idx) (i : S1x2048.Idx)
    (h0 : (i 0).val = win0_3.index t (0 : Fin 2) * 1 + 1 * (j 0).val) (h1 : (i 1).val = win0_3.index t (1 : Fin 2) * 2048 + 1 * (j 1).val) :
    iblk m c 3 t j = m ((c : Thread nD τ).loc main_arg3) i := by
  show V m c main_arg3 (((cfg0.win 3).blk t).view.emb j) = _
  refine congrArg (m ((c : Thread nD τ).loc main_arg3)) (funext fun d => Fin.ext ?_)
  match d with
  | ⟨0, _⟩ => exact h0.symm
  | ⟨1, _⟩ => exact h1.symm

/-- A grid point writes its block of the whole residual sum. -/
theorem flushed4_eq (c : Dev nD) (t : Fin cfg0.N) :
    (dats m 0 c).flushed 4 t = ((cfg0.win 4).blk t).view.read (Elt Ideal) (wholeH (m ((c : Thread nD τ).loc main_arg0)) (m ((c : Thread nD τ).loc main_arg1)) (m ((c : Thread nD τ).loc main_arg2))) := by
  rw [Cert.Kernel26Ideal.Value.flushed4]
  funext y
  unfold out0_4
  rw [View.canon_unit_zero hz]
  simp only [View.ld_unit_zero (S := S256x2048) hz, View.ld_unit_zero (S := S1x2048) hz]
  show k0_pay1 (F := Ideal) (iblk m c 1 t) (iblk m c 0 t) (iblk m c 2 t) y = wholeH _ _ _ (((cfg0.win 4).blk t).view.emb y)
  obtain ⟨⟨p0, q0⟩, ⟨p1, q1⟩, ⟨p2, q2⟩, ⟨p3, q3⟩, ⟨p4, q4⟩, ⟨p5, q5⟩⟩ := places t
  have e0 : (((((cfg0.win 4).blk t).view.emb y) (0 : Fin 2))).val = win0_4.index t (0 : Fin 2) * 256 + 1 * (y (0 : Fin 2)).val := rfl
  have e1 : (((((cfg0.win 4).blk t).view.emb y) (1 : Fin 2))).val = win0_4.index t (1 : Fin 2) * 2048 + 1 * (y (1 : Fin 2)).val := rfl
  generalize ((cfg0.win 4).blk t).view.emb y = i at e0 e1 ⊢
  refine (congrFun (pay1_eq (iblk m c 1 t) (iblk m c 0 t) (iblk m c 2 t)) y).trans ?_
  exact Cert.Norm.resid_block (at0 m c t _ _ (by omega) (by omega))
    (fun k => at1 m c t _ _ (by show (i 0).val = _ + 1 * (y 0).val; omega) (by show k.val = _ + 1 * k.val; omega))
    (fun k => at2 m c t _ _ (by rw [p2]; rfl) (by show k.val = _ + 1 * k.val; omega)) (by omega)

/-- It writes its block of the sum's norm. -/
theorem flushed5_eq (c : Dev nD) (t : Fin cfg0.N) :
    (dats m 0 c).flushed 5 t = ((cfg0.win 5).blk t).view.read (Elt Ideal) (wholeN (m ((c : Thread nD τ).loc main_arg0)) (m ((c : Thread nD τ).loc main_arg1)) (m ((c : Thread nD τ).loc main_arg2)) (m ((c : Thread nD τ).loc main_arg3))) := by
  rw [Cert.Kernel26Ideal.Value.flushed5]
  funext y
  unfold out0_5
  rw [View.canon_unit_zero hz]
  simp only [View.ld_unit_zero (S := S256x2048) hz, View.ld_unit_zero (S := S1x2048) hz]
  show k0_pay2 (F := Ideal) (iblk m c 1 t) (iblk m c 0 t) (iblk m c 2 t) (iblk m c 3 t) y = wholeN _ _ _ _ (((cfg0.win 5).blk t).view.emb y)
  obtain ⟨⟨p0, q0⟩, ⟨p1, q1⟩, ⟨p2, q2⟩, ⟨p3, q3⟩, ⟨p4, q4⟩, ⟨p5, q5⟩⟩ := places t
  have e0 : (((((cfg0.win 5).blk t).view.emb y) (0 : Fin 2))).val = win0_5.index t (0 : Fin 2) * 256 + 1 * (y (0 : Fin 2)).val := rfl
  have e1 : (((((cfg0.win 5).blk t).view.emb y) (1 : Fin 2))).val = win0_5.index t (1 : Fin 2) * 2048 + 1 * (y (1 : Fin 2)).val := rfl
  generalize ((cfg0.win 5).blk t).view.emb y = i at e0 e1 ⊢
  refine (congrFun (pay2_eq (iblk m c 1 t) (iblk m c 0 t) (iblk m c 2 t) (iblk m c 3 t)) y).trans ?_
  refine Cert.Norm.norm_block (fun k => ?_) (fun k => at3 m c t _ _ (by rw [p3]; rfl) (by show k.val = _ + 1 * k.val; omega)) (by omega)
  exact Cert.Norm.resid_block (at0 m c t _ _ (by show (i 0).val = _ + 1 * (y 0).val; omega) (by show k.val = _ + 1 * k.val; omega))
    (fun k => at1 m c t _ _ (by show (i 0).val = _ + 1 * (y 0).val; omega) (by show k.val = _ + 1 * k.val; omega))
    (fun k => at2 m c t _ _ (by rw [p2]; rfl) (by show k.val = _ + 1 * k.val; omega)) rfl

/-! Every element of the two results stands in some grid point's block. -/

theorem covered4 (i : S4352x2048.Idx) :
    ∃ t : Fin cfg0.N, (cfg0.win 4).flush t = true ∧ i ∈ ((cfg0.win 4).blk t).view.set := by
  have h0 : (i 0).val < 4352 := (i 0).isLt
  have h1 : (i 1).val < 2048 := (i 1).isLt
  have hN : cfg0.N = 17 := N_0
  let t : Fin cfg0.N := ⟨(i 0).val / 256, by omega⟩
  have ht : t.val = (i 0).val / 256 := rfl
  obtain ⟨⟨p0, q0⟩, ⟨p1, q1⟩, ⟨p2, q2⟩, ⟨p3, q3⟩, ⟨p4, q4⟩, ⟨p5, q5⟩⟩ := places t
  refine ⟨t, flush0_4 t, ?_⟩
  show i ∈ ((View.whole main_v0_0).slice (win0_4.rect t)).set
  rw [View.set_slice_whole, Rect.mem_set_unit]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 2048 ≤ (i 1).val ∧ (i 1).val < win0_4.index t (1 : Fin 2) * 2048 + 2048
    omega

theorem covered5 (i : S4352x2048.Idx) :
    ∃ t : Fin cfg0.N, (cfg0.win 5).flush t = true ∧ i ∈ ((cfg0.win 5).blk t).view.set := by
  have h0 : (i 0).val < 4352 := (i 0).isLt
  have h1 : (i 1).val < 2048 := (i 1).isLt
  have hN : cfg0.N = 17 := N_0
  let t : Fin cfg0.N := ⟨(i 0).val / 256, by omega⟩
  have ht : t.val = (i 0).val / 256 := rfl
  obtain ⟨⟨p0, q0⟩, ⟨p1, q1⟩, ⟨p2, q2⟩, ⟨p3, q3⟩, ⟨p4, q4⟩, ⟨p5, q5⟩⟩ := places t
  refine ⟨t, flush0_5 t, ?_⟩
  show i ∈ ((View.whole main_v0_1).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 2048 ≤ (i 1).val ∧ (i 1).val < win0_5.index t (1 : Fin 2) * 2048 + 2048
    omega

/-! The kernel's results are the whole sum and its norm. -/

theorem final4 (c : Dev nD) : (dats m 0 c).arrAt 4 cfg0.N = wholeH (m ((c : Thread nD τ).loc main_arg0)) (m ((c : Thread nD τ).loc main_arg1)) (m ((c : Thread nD τ).loc main_arg2)) :=
  (dats m 0 c).arrAt_eq_of_cover 4 _ (fun t _ => flushed4_eq m c t) covered4

theorem final5 (c : Dev nD) : (dats m 0 c).arrAt 5 cfg0.N = wholeN (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m c t) covered5

section Reference
open Cert.Reference26Ideal.Read

/-- The reference's first result is the whole residual sum. -/
theorem reference4 (h f : S4352x2048.Idx → EReal) (g : S1x2048.Idx → EReal) : val_main_v12 (F := Ideal) h f g = wholeH h f g := by
  funext i
  obtain ⟨a, b, rfl⟩ : ∃ (a : Fin 4352) (b : Fin 2048), i = ix2 a b := ⟨i 0, i 1, eq_ix2 i⟩
  simp only [val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply,
    val_main_cst_apply, val_main_cst_0_apply, val_main_cst_1_apply,
    show ∀ k : Fin 2048, idx_main_v1 (idx_main_v2 (idx_main_v8 (ix2 a b))) k = ix2 a k from fun k => eq_ix2 _,
    show idx_main_v10 (ix2 a b) = ix2 0 b from eq_ix2 _]
  show h (ix2 a b) + f (ix2 a b) * Ideal.rsqrt (Ideal.div (Ideal.ofBits .f32 0x00000000#32 + ∑ k : Fin 2048, f (ix2 a k) * f (ix2 a k)) _ + _)
    * g (ix2 0 b) = _
  rw [Ideal.ofBits_zero_f32, zero_add]
  unfold wholeH Cert.Norm.resid
  rw [Cert.Gate.one, one_mul]
  rfl

/-- Its second is the sum's norm. -/
theorem reference5 (h f : S4352x2048.Idx → EReal) (g g' : S1x2048.Idx → EReal) : val_main_v25 (F := Ideal) h f g g' = wholeN h f g g' := by
  funext i
  obtain ⟨a, b, rfl⟩ : ∃ (a : Fin 4352) (b : Fin 2048), i = ix2 a b := ⟨i 0, i 1, eq_ix2 i⟩
  simp only [val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply,
    val_main_cst_2_apply, val_main_cst_3_apply, val_main_cst_4_apply, reference4,
    show ∀ k : Fin 2048, idx_main_v14 (idx_main_v15 (idx_main_v21 (ix2 a b))) k = ix2 a k from fun k => eq_ix2 _,
    show idx_main_v23 (ix2 a b) = ix2 0 b from eq_ix2 _]
  unfold wholeN
  generalize wholeH h f g = x
  show x (ix2 a b) * Ideal.rsqrt (Ideal.div (Ideal.ofBits .f32 0x00000000#32 + ∑ k : Fin 2048, x (ix2 a k) * x (ix2 a k)) _ + _) * g' (ix2 0 b)
    = _
  rw [Ideal.ofBits_zero_f32, zero_add]
  rfl

end Reference

end Cert.Kernel26Ideal.Norm

end
-- ==== Proof.Norm27.lean ====
module

public import proofs.«01_k».proof.Proof.Norm
public import proofs.«01_k».proof.Proof.Gen.Kernel27Ideal.Value
public import proofs.«01_k».proof.Proof.Gen.Reference27Ideal.Read

@[expose] public section

set_option maxRecDepth 16384

noncomputable section

namespace Cert.Kernel27Ideal.Norm

open Cert.Kernel27Ideal Cert.Kernel27Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

/-- The residual sum a grid point computes. -/
theorem pay1_eq (f h : S256x2048.Idx → EReal) (g : S1x2048.Idx → EReal) :
    k0_pay1 (F := Ideal) f h g = Cert.Norm.resid (Ideal.ofBits .f32 0x3F000000#32) (Ideal.ofBits .f32 0x45000000#32) h f g := by
  have e := Cert.Norm.norm_at (by omega) 0x45000000#32 f g reduces_S256x2048_S256 shapeCasts_S256_S256x1 broadcasts_S256x1_S256x2048
    broadcasts_S1x2048_S256x2048
  unfold Cert.Norm.resid
  rw [← e]
  rfl

/-- Its norm. -/
theorem pay2_eq (f h : S256x2048.Idx → EReal) (g g' : S1x2048.Idx → EReal) :
    k0_pay2 (F := Ideal) f h g g' = Cert.Norm.norm (Ideal.ofBits .f32 0x45000000#32) (Cert.Norm.resid (Ideal.ofBits .f32 0x3F000000#32) (Ideal.ofBits .f32 0x45000000#32) h f g) g' := by
  rw [← pay1_eq]
  exact Cert.Norm.norm_at (by omega) 0x45000000#32 (k0_pay1 (F := Ideal) f h g) g' reduces_S256x2048_S256 shapeCasts_S256_S256x1
    broadcasts_S256x1_S256x2048 broadcasts_S1x2048_S256x2048

variable (m : (ℓ : Loc nD τ sig) → Buf (Elt Ideal) ℓ)

/-- The whole residual sum. -/
def wholeH (h f : S4352x2048.Idx → EReal) (g : S1x2048.Idx → EReal) : S4352x2048.Idx → EReal :=
  Cert.Norm.resid (Ideal.ofBits .f32 0x3F000000#32) (Ideal.ofBits .f32 0x45000000#32) h f g

/-- Its norm, the next block's input. -/
def wholeN (h f : S4352x2048.Idx → EReal) (g g' : S1x2048.Idx → EReal) : S4352x2048.Idx → EReal :=
  Cert.Norm.norm (Ideal.ofBits .f32 0x45000000#32) (wholeH h f g) g'

/-- Where each window's block stands at a grid point. -/
theorem places : ∀ t : Fin cfg0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = 0 ∧ win0_2.index t (1 : Fin 2) = 0)
      ∧ (win0_3.index t (0 : Fin 2) = 0 ∧ win0_3.index t (1 : Fin 2) = 0)
      ∧ (win0_4.index t (0 : Fin 2) = t.val ∧ win0_4.index t (1 : Fin 2) = 0)
      ∧ (win0_5.index t (0 : Fin 2) = t.val ∧ win0_5.index t (1 : Fin 2) = 0) :=
  (by decide +kernel : ∀ t : Fin grid0.N,
    (win0_0.index t (0 : Fin 2) = t.val ∧ win0_0.index t (1 : Fin 2) = 0)
      ∧ (win0_1.index t (0 : Fin 2) = t.val ∧ win0_1.index t (1 : Fin 2) = 0)
      ∧ (win0_2.index t (0 : Fin 2) = 0 ∧ win0_2.index t (1 : Fin 2) = 0)
      ∧ (win0_3.index t (0 : Fin 2) = 0 ∧ win0_3.index t (1 : Fin 2) = 0)
      ∧ (win0_4.index t (0 : Fin 2) = t.val ∧ win0_4.index t (1 : Fin 2) = 0)
      ∧ (win0_5.index t (0 : Fin 2) = t.val ∧ win0_5.index t (1 : Fin 2) = 0))

/-- A block of the stream, element by element. -/
theorem at0 (c : Dev nD) (t : Fin cfg0.N) (j : S256x2048.Idx) (i : S4352x2048.Idx)
    (h0 : (i 0).val = win0_0.index t (0 : Fin 2) * 256 + 1 * (j 0).val) (h1 : (i 1).val = win0_0.index t (1 : Fin 2) * 2048 + 1 * (j 1).val) :
    iblk m c 0 t j = m ((c : Thread nD τ).loc main_arg0) i := by
  show V m c main_arg0 (((cfg0.win 0).blk t).view.emb j) = _
  refine congrArg (m ((c : Thread nD τ).loc main_arg0)) (funext fun d => Fin.ext ?_)
  match d with
  | ⟨0, _⟩ => exact h0.symm
  | ⟨1, _⟩ => exact h1.symm

/-- A block of the block's output, element by element. -/
theorem at1 (c : Dev nD) (t : Fin cfg0.N) (j : S256x2048.Idx) (i : S4352x2048.Idx)
    (h0 : (i 0).val = win0_1.index t (0 : Fin 2) * 256 + 1 * (j 0).val) (h1 : (i 1).val = win0_1.index t (1 : Fin 2) * 2048 + 1 * (j 1).val) :
    iblk m c 1 t j = m ((c : Thread nD τ).loc main_arg1) i := by
  show V m c main_arg1 (((cfg0.win 1).blk t).view.emb j) = _
  refine congrArg (m ((c : Thread nD τ).loc main_arg1)) (funext fun d => Fin.ext ?_)
  match d with
  | ⟨0, _⟩ => exact h0.symm
  | ⟨1, _⟩ => exact h1.symm

/-- The gains of the sum, element by element. -/
theorem at2 (c : Dev nD) (t : Fin cfg0.N) (j : S1x2048.Idx) (i : S1x2048.Idx)
    (h0 : (i 0).val = win0_2.index t (0 : Fin 2) * 1 + 1 * (j 0).val) (h1 : (i 1).val = win0_2.index t (1 : Fin 2) * 2048 + 1 * (j 1).val) :
    iblk m c 2 t j = m ((c : Thread nD τ).loc main_arg2) i := by
  show V m c main_arg2 (((cfg0.win 2).blk t).view.emb j) = _
  refine congrArg (m ((c : Thread nD τ).loc main_arg2)) (funext fun d => Fin.ext ?_)
  match d with
  | ⟨0, _⟩ => exact h0.symm
  | ⟨1, _⟩ => exact h1.symm

/-- The gains of the next norm, element by element. -/
theorem at3 (c : Dev nD) (t : Fin cfg0.N) (j : S1x2048.Idx) (i : S1x2048.Idx)
    (h0 : (i 0).val = win0_3.index t (0 : Fin 2) * 1 + 1 * (j 0).val) (h1 : (i 1).val = win0_3.index t (1 : Fin 2) * 2048 + 1 * (j 1).val) :
    iblk m c 3 t j = m ((c : Thread nD τ).loc main_arg3) i := by
  show V m c main_arg3 (((cfg0.win 3).blk t).view.emb j) = _
  refine congrArg (m ((c : Thread nD τ).loc main_arg3)) (funext fun d => Fin.ext ?_)
  match d with
  | ⟨0, _⟩ => exact h0.symm
  | ⟨1, _⟩ => exact h1.symm

/-- A grid point writes its block of the whole residual sum. -/
theorem flushed4_eq (c : Dev nD) (t : Fin cfg0.N) :
    (dats m 0 c).flushed 4 t = ((cfg0.win 4).blk t).view.read (Elt Ideal) (wholeH (m ((c : Thread nD τ).loc main_arg0)) (m ((c : Thread nD τ).loc main_arg1)) (m ((c : Thread nD τ).loc main_arg2))) := by
  rw [Cert.Kernel27Ideal.Value.flushed4]
  funext y
  unfold out0_4
  rw [View.canon_unit_zero hz]
  simp only [View.ld_unit_zero (S := S256x2048) hz, View.ld_unit_zero (S := S1x2048) hz]
  show k0_pay1 (F := Ideal) (iblk m c 1 t) (iblk m c 0 t) (iblk m c 2 t) y = wholeH _ _ _ (((cfg0.win 4).blk t).view.emb y)
  obtain ⟨⟨p0, q0⟩, ⟨p1, q1⟩, ⟨p2, q2⟩, ⟨p3, q3⟩, ⟨p4, q4⟩, ⟨p5, q5⟩⟩ := places t
  have e0 : (((((cfg0.win 4).blk t).view.emb y) (0 : Fin 2))).val = win0_4.index t (0 : Fin 2) * 256 + 1 * (y (0 : Fin 2)).val := rfl
  have e1 : (((((cfg0.win 4).blk t).view.emb y) (1 : Fin 2))).val = win0_4.index t (1 : Fin 2) * 2048 + 1 * (y (1 : Fin 2)).val := rfl
  generalize ((cfg0.win 4).blk t).view.emb y = i at e0 e1 ⊢
  refine (congrFun (pay1_eq (iblk m c 1 t) (iblk m c 0 t) (iblk m c 2 t)) y).trans ?_
  exact Cert.Norm.resid_block (at0 m c t _ _ (by omega) (by omega))
    (fun k => at1 m c t _ _ (by show (i 0).val = _ + 1 * (y 0).val; omega) (by show k.val = _ + 1 * k.val; omega))
    (fun k => at2 m c t _ _ (by rw [p2]; rfl) (by show k.val = _ + 1 * k.val; omega)) (by omega)

/-- It writes its block of the sum's norm. -/
theorem flushed5_eq (c : Dev nD) (t : Fin cfg0.N) :
    (dats m 0 c).flushed 5 t = ((cfg0.win 5).blk t).view.read (Elt Ideal) (wholeN (m ((c : Thread nD τ).loc main_arg0)) (m ((c : Thread nD τ).loc main_arg1)) (m ((c : Thread nD τ).loc main_arg2)) (m ((c : Thread nD τ).loc main_arg3))) := by
  rw [Cert.Kernel27Ideal.Value.flushed5]
  funext y
  unfold out0_5
  rw [View.canon_unit_zero hz]
  simp only [View.ld_unit_zero (S := S256x2048) hz, View.ld_unit_zero (S := S1x2048) hz]
  show k0_pay2 (F := Ideal) (iblk m c 1 t) (iblk m c 0 t) (iblk m c 2 t) (iblk m c 3 t) y = wholeN _ _ _ _ (((cfg0.win 5).blk t).view.emb y)
  obtain ⟨⟨p0, q0⟩, ⟨p1, q1⟩, ⟨p2, q2⟩, ⟨p3, q3⟩, ⟨p4, q4⟩, ⟨p5, q5⟩⟩ := places t
  have e0 : (((((cfg0.win 5).blk t).view.emb y) (0 : Fin 2))).val = win0_5.index t (0 : Fin 2) * 256 + 1 * (y (0 : Fin 2)).val := rfl
  have e1 : (((((cfg0.win 5).blk t).view.emb y) (1 : Fin 2))).val = win0_5.index t (1 : Fin 2) * 2048 + 1 * (y (1 : Fin 2)).val := rfl
  generalize ((cfg0.win 5).blk t).view.emb y = i at e0 e1 ⊢
  refine (congrFun (pay2_eq (iblk m c 1 t) (iblk m c 0 t) (iblk m c 2 t) (iblk m c 3 t)) y).trans ?_
  refine Cert.Norm.norm_block (fun k => ?_) (fun k => at3 m c t _ _ (by rw [p3]; rfl) (by show k.val = _ + 1 * k.val; omega)) (by omega)
  exact Cert.Norm.resid_block (at0 m c t _ _ (by show (i 0).val = _ + 1 * (y 0).val; omega) (by show k.val = _ + 1 * k.val; omega))
    (fun k => at1 m c t _ _ (by show (i 0).val = _ + 1 * (y 0).val; omega) (by show k.val = _ + 1 * k.val; omega))
    (fun k => at2 m c t _ _ (by rw [p2]; rfl) (by show k.val = _ + 1 * k.val; omega)) rfl

/-! Every element of the two results stands in some grid point's block. -/

theorem covered4 (i : S4352x2048.Idx) :
    ∃ t : Fin cfg0.N, (cfg0.win 4).flush t = true ∧ i ∈ ((cfg0.win 4).blk t).view.set := by
  have h0 : (i 0).val < 4352 := (i 0).isLt
  have h1 : (i 1).val < 2048 := (i 1).isLt
  have hN : cfg0.N = 17 := N_0
  let t : Fin cfg0.N := ⟨(i 0).val / 256, by omega⟩
  have ht : t.val = (i 0).val / 256 := rfl
  obtain ⟨⟨p0, q0⟩, ⟨p1, q1⟩, ⟨p2, q2⟩, ⟨p3, q3⟩, ⟨p4, q4⟩, ⟨p5, q5⟩⟩ := places t
  refine ⟨t, flush0_4 t, ?_⟩
  show i ∈ ((View.whole main_v0_0).slice (win0_4.rect t)).set
  rw [View.set_slice_whole, Rect.mem_set_unit]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 2048 ≤ (i 1).val ∧ (i 1).val < win0_4.index t (1 : Fin 2) * 2048 + 2048
    omega

theorem covered5 (i : S4352x2048.Idx) :
    ∃ t : Fin cfg0.N, (cfg0.win 5).flush t = true ∧ i ∈ ((cfg0.win 5).blk t).view.set := by
  have h0 : (i 0).val < 4352 := (i 0).isLt
  have h1 : (i 1).val < 2048 := (i 1).isLt
  have hN : cfg0.N = 17 := N_0
  let t : Fin cfg0.N := ⟨(i 0).val / 256, by omega⟩
  have ht : t.val = (i 0).val / 256 := rfl
  obtain ⟨⟨p0, q0⟩, ⟨p1, q1⟩, ⟨p2, q2⟩, ⟨p3, q3⟩, ⟨p4, q4⟩, ⟨p5, q5⟩⟩ := places t
  refine ⟨t, flush0_5 t, ?_⟩
  show i ∈ ((View.whole main_v0_1).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 2048 ≤ (i 1).val ∧ (i 1).val < win0_5.index t (1 : Fin 2) * 2048 + 2048
    omega

/-! The kernel's results are the whole sum and its norm. -/

theorem final4 (c : Dev nD) : (dats m 0 c).arrAt 4 cfg0.N = wholeH (m ((c : Thread nD τ).loc main_arg0)) (m ((c : Thread nD τ).loc main_arg1)) (m ((c : Thread nD τ).loc main_arg2)) :=
  (dats m 0 c).arrAt_eq_of_cover 4 _ (fun t _ => flushed4_eq m c t) covered4

theorem final5 (c : Dev nD) : (dats m 0 c).arrAt 5 cfg0.N = wholeN (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m c t) covered5

section Reference
open Cert.Reference27Ideal.Read

/-- The reference's first result is the whole residual sum. -/
theorem reference4 (h f : S4352x2048.Idx → EReal) (g : S1x2048.Idx → EReal) : val_main_v14 (F := Ideal) h f g = wholeH h f g := by
  funext i
  obtain ⟨a, b, rfl⟩ : ∃ (a : Fin 4352) (b : Fin 2048), i = ix2 a b := ⟨i 0, i 1, eq_ix2 i⟩
  simp only [val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply,
    val_main_cst_apply, val_main_cst_0_apply, val_main_cst_1_apply, val_main_cst_2_apply,
    show ∀ k : Fin 2048, idx_main_v1 (idx_main_v2 (idx_main_v8 (ix2 a b))) k = ix2 a k from fun k => eq_ix2 _,
    show idx_main_v10 (ix2 a b) = ix2 0 b from eq_ix2 _]
  show h (ix2 a b) + (Ideal.ofBits .f32 0x3F000000#32) * (f (ix2 a b) * Ideal.rsqrt (Ideal.div (Ideal.ofBits .f32 0x00000000#32 + ∑ k : Fin 2048, f (ix2 a k) * f (ix2 a k)) _ + _)
    * g (ix2 0 b)) = _
  rw [Ideal.ofBits_zero_f32, zero_add]
  rfl

/-- Its second is the sum's norm. -/
theorem reference5 (h f : S4352x2048.Idx → EReal) (g g' : S1x2048.Idx → EReal) : val_main_v27 (F := Ideal) h f g g' = wholeN h f g g' := by
  funext i
  obtain ⟨a, b, rfl⟩ : ∃ (a : Fin 4352) (b : Fin 2048), i = ix2 a b := ⟨i 0, i 1, eq_ix2 i⟩
  simp only [val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply,
    val_main_cst_3_apply, val_main_cst_4_apply, val_main_cst_5_apply, reference4,
    show ∀ k : Fin 2048, idx_main_v16 (idx_main_v17 (idx_main_v23 (ix2 a b))) k = ix2 a k from fun k => eq_ix2 _,
    show idx_main_v25 (ix2 a b) = ix2 0 b from eq_ix2 _]
  unfold wholeN
  generalize wholeH h f g = x
  show x (ix2 a b) * Ideal.rsqrt (Ideal.div (Ideal.ofBits .f32 0x00000000#32 + ∑ k : Fin 2048, x (ix2 a k) * x (ix2 a k)) _ + _) * g' (ix2 0 b)
    = _
  rw [Ideal.ofBits_zero_f32, zero_add]
  rfl

end Reference

end Cert.Kernel27Ideal.Norm

end
-- ==== Proof.Norm28.lean ====
module

public import proofs.«01_k».proof.Proof.Norm
public import proofs.«01_k».proof.Proof.Gen.Kernel28Ideal.Value
public import proofs.«01_k».proof.Proof.Gen.Reference28Ideal.Read

@[expose] public section

set_option maxRecDepth 16384

noncomputable section

namespace Cert.Kernel28Ideal.Norm

open Cert.Kernel28Ideal Cert.Kernel28Ideal.Gen
open Idealize.ShloMosaic Idealize.ShloMosaic.TcCoe Idealize.ShloMosaic.Tactic Idealize.ShloMosaic.ValueIdx
open Idealize.SL.Sem

theorem hz : (![0, 0] : Fin 2 → Nat) = fun _ => 0 := funext fun a => by fin_cases a <;> rfl

section Outs
variable {F : FTy → Type} [FloatOps F] (c : Dev nD) (i : grid0.Coords)
  (arg1 : Memref sig .tc .vmem S256x512 .f32) (h1 : arg1.IsWhole) (arg2 : Memref sig .tc .vmem S256x512 .f32) (h2 : arg2.IsWhole)
  (arg3 : Memref sig .tc .vmem S1x512 .f32) (h3 : arg3.IsWhole) (arg4 : Memref sig .tc .vmem S1x512 .f32) (h4 : arg4.IsWhole)
  (arg5 : Memref sig .tc .vmem S256x512 .bf16) (h5 : arg5.IsWhole) (arg6 : Memref sig .tc .vmem S256x512 .bf16) (h6 : arg6.IsWhole)
  (x0 x1 : Vec F S256x512 .f32) (x2 x3 : Vec F S1x512 .f32)

/-- What a grid point leaves in its block of the queries' compression. -/
theorem out4_eq : out0_A_4 c i arg1 h1 arg2 h2 arg3 h3 arg4 h4 arg5 h5 arg6 h6 x0 x1 x2 x3 = k0_pay1 x0 x2 := by
  unfold out0_A_4
  rw [View.read_writes_junk_eq_canon]
  unfold kernelRun0_A
  dsimp only
  rw [View.canon_unit_zero hz]
  simp only [View.readAt_eq_ld, h1.read_unread, h3.read_unread, View.ld_unit_zero (S := S256x512) hz, View.ld_unit_zero (S := S1x512) hz]

/-- What it leaves in its block of the keys' and values'. -/
theorem out5_eq : out0_A_5 c i arg1 h1 arg2 h2 arg3 h3 arg4 h4 arg5 h5 arg6 h6 x0 x1 x2 x3 = k0_pay2 x1 x3 := by
  unfold out0_A_5
  rw [View.read_writes_junk_eq_canon]
  unfold kernelRun0_A
  dsimp only
  rw [View.canon_unit_zero hz]
  simp only [View.readAt_eq_ld, h2.read_unread, h4.read_unread, View.ld_unit_zero (S := S256x512) hz, View.ld_unit_zero (S := S1x512) hz]

end Outs

/-- What a grid point computes. -/
theorem pay1_eq (x : S256x512.Idx → EReal) (g : S1x512.Idx → EReal) :
    k0_pay1 (F := Ideal) x g = Cert.Norm.norm (Ideal.ofBits .f32 0x44000000#32) x g :=
  Cert.Norm.norm_at (by omega) 0x44000000#32 x g reduces_S256x512_S256 shapeCasts_S256_S256x1 broadcasts_S256x1_S256x512 broadcasts_S1x512_S256x512

/-- What a grid point computes. -/
theorem pay2_eq (x : S256x512.Idx → EReal) (g : S1x512.Idx → EReal) :
    k0_pay2 (F := Ideal) x g = Cert.Norm.norm (Ideal.ofBits .f32 0x44000000#32) x g :=
  Cert.Norm.norm_at (by omega) 0x44000000#32 x g reduces_S256x512_S256 shapeCasts_S256_S256x1 broadcasts_S256x1_S256x512 broadcasts_S1x512_S256x512

variable (m : (ℓ : Loc nD τ sig) → Buf (Elt Ideal) ℓ)

/-- Where the queries' compression stands in the projected input. -/
abbrev cq (i : S4352x512.Idx) : S4352x6272.Idx :=
  ix2 (i 0) (⟨1024 + (i 1).val, by have h : (i 1).val < 512 := (i 1).isLt; omega⟩ : Fin 6272)

/-- Where the keys' and values' stands. -/
abbrev ckv (i : S4352x512.Idx) : S4352x6272.Idx :=
  ix2 (i 0) (⟨1536 + (i 1).val, by have h : (i 1).val < 512 := (i 1).isLt; omega⟩ : Fin 6272)

/-- The whole normed compression of the queries. -/
def wholeQ (z : S4352x6272.Idx → EReal) (g : S1x512.Idx → EReal) : S4352x512.Idx → EReal := Cert.Norm.norm (Ideal.ofBits .f32 0x44000000#32) (fun i : S4352x512.Idx => z (cq i)) g

/-- That of the keys and values. -/
def wholeK (z : S4352x6272.Idx → EReal) (g : S1x512.Idx → EReal) : S4352x512.Idx → EReal := Cert.Norm.norm (Ideal.ofBits .f32 0x44000000#32) (fun i : S4352x512.Idx => z (ckv i)) g

/-- Where each window's block stands at a grid point. -/
theorem places : ∀ t : Fin cfg0.N,
    (win0_0.index t (0 : Fin 2) = t.val ∧ win0_0.index t (1 : Fin 2) = 2)
      ∧ (win0_1.index t (0 : Fin 2) = t.val ∧ win0_1.index t (1 : Fin 2) = 3)
      ∧ (win0_2.index t (0 : Fin 2) = 0 ∧ win0_2.index t (1 : Fin 2) = 0)
      ∧ (win0_3.index t (0 : Fin 2) = 0 ∧ win0_3.index t (1 : Fin 2) = 0)
      ∧ (win0_4.index t (0 : Fin 2) = t.val ∧ win0_4.index t (1 : Fin 2) = 0)
      ∧ (win0_5.index t (0 : Fin 2) = t.val ∧ win0_5.index t (1 : Fin 2) = 0) :=
  (by decide +kernel : ∀ t : Fin grid0.N,
    (win0_0.index t (0 : Fin 2) = t.val ∧ win0_0.index t (1 : Fin 2) = 2)
      ∧ (win0_1.index t (0 : Fin 2) = t.val ∧ win0_1.index t (1 : Fin 2) = 3)
      ∧ (win0_2.index t (0 : Fin 2) = 0 ∧ win0_2.index t (1 : Fin 2) = 0)
      ∧ (win0_3.index t (0 : Fin 2) = 0 ∧ win0_3.index t (1 : Fin 2) = 0)
      ∧ (win0_4.index t (0 : Fin 2) = t.val ∧ win0_4.index t (1 : Fin 2) = 0)
      ∧ (win0_5.index t (0 : Fin 2) = t.val ∧ win0_5.index t (1 : Fin 2) = 0))

/-- A block of the queries' compression, element by element. -/
theorem at0 (c : Dev nD) (t : Fin cfg0.N) (j : S256x512.Idx) (i : S4352x6272.Idx)
    (h0 : (i 0).val = win0_0.index t (0 : Fin 2) * 256 + 1 * (j 0).val) (h1 : (i 1).val = win0_0.index t (1 : Fin 2) * 512 + 1 * (j 1).val) :
    X0_0 m c t j = m ((c : Thread nD τ).loc main_arg0) i := by
  unfold X0_0 Pipeline.Window.fill
  rw [dif_pos (moved0_0 t j)]
  show V m c main_arg0 (((cfg0.win 0).blk t).view.emb _) = _
  refine congrArg (m ((c : Thread nD τ).loc main_arg0)) (funext fun d => Fin.ext ?_)
  match d with
  | ⟨0, _⟩ => exact h0.symm
  | ⟨1, _⟩ => exact h1.symm

/-- A block of the keys' and values', element by element. -/
theorem at1 (c : Dev nD) (t : Fin cfg0.N) (j : S256x512.Idx) (i : S4352x6272.Idx)
    (h0 : (i 0).val = win0_1.index t (0 : Fin 2) * 256 + 1 * (j 0).val) (h1 : (i 1).val = win0_1.index t (1 : Fin 2) * 512 + 1 * (j 1).val) :
    X0_1 m c t j = m ((c : Thread nD τ).loc main_arg0) i := by
  unfold X0_1 Pipeline.Window.fill
  rw [dif_pos (moved0_1 t j)]
  show V m c main_arg0 (((cfg0.win 1).blk t).view.emb _) = _
  refine congrArg (m ((c : Thread nD τ).loc main_arg0)) (funext fun d => Fin.ext ?_)
  match d with
  | ⟨0, _⟩ => exact h0.symm
  | ⟨1, _⟩ => exact h1.symm

/-- The first gains, element by element. -/
theorem at2 (c : Dev nD) (t : Fin cfg0.N) (j : S1x512.Idx) (i : S1x512.Idx)
    (h0 : (i 0).val = win0_2.index t (0 : Fin 2) * 1 + 1 * (j 0).val) (h1 : (i 1).val = win0_2.index t (1 : Fin 2) * 512 + 1 * (j 1).val) :
    iblk m c 2 t j = m ((c : Thread nD τ).loc main_arg1) i := by
  show V m c main_arg1 (((cfg0.win 2).blk t).view.emb j) = _
  refine congrArg (m ((c : Thread nD τ).loc main_arg1)) (funext fun d => Fin.ext ?_)
  match d with
  | ⟨0, _⟩ => exact h0.symm
  | ⟨1, _⟩ => exact h1.symm

/-- The second gains, element by element. -/
theorem at3 (c : Dev nD) (t : Fin cfg0.N) (j : S1x512.Idx) (i : S1x512.Idx)
    (h0 : (i 0).val = win0_3.index t (0 : Fin 2) * 1 + 1 * (j 0).val) (h1 : (i 1).val = win0_3.index t (1 : Fin 2) * 512 + 1 * (j 1).val) :
    iblk m c 3 t j = m ((c : Thread nD τ).loc main_arg2) i := by
  show V m c main_arg2 (((cfg0.win 3).blk t).view.emb j) = _
  refine congrArg (m ((c : Thread nD τ).loc main_arg2)) (funext fun d => Fin.ext ?_)
  match d with
  | ⟨0, _⟩ => exact h0.symm
  | ⟨1, _⟩ => exact h1.symm

/-- A grid point writes its block of the first result. -/
theorem flushed4_eq (c : Dev nD) (t : Fin cfg0.N) :
    (dats m 0 c).flushed 4 t = ((cfg0.win 4).blk t).view.read (Elt Ideal) (wholeQ (m ((c : Thread nD τ).loc main_arg0)) (m ((c : Thread nD τ).loc main_arg1))) := by
  rw [Cert.Kernel28Ideal.Value.flushed4_A, out4_eq]
  funext y
  show k0_pay1 (F := Ideal) (X0_0 m c t) (iblk m c 2 t) y = wholeQ _ _ (((cfg0.win 4).blk t).view.emb y)
  obtain ⟨⟨p0, q0⟩, ⟨p1, q1⟩, ⟨p2, q2⟩, ⟨p3, q3⟩, ⟨p4, q4⟩, ⟨p5, q5⟩⟩ := places t
  have e0 : (((((cfg0.win 4).blk t).view.emb y) (0 : Fin 2))).val = win0_4.index t (0 : Fin 2) * 256 + 1 * (y (0 : Fin 2)).val := rfl
  have e1 : (((((cfg0.win 4).blk t).view.emb y) (1 : Fin 2))).val = win0_4.index t (1 : Fin 2) * 512 + 1 * (y (1 : Fin 2)).val := rfl
  generalize ((cfg0.win 4).blk t).view.emb y = i at e0 e1 ⊢
  refine (congrFun (pay1_eq (X0_0 m c t) (iblk m c 2 t)) y).trans ?_
  exact Cert.Norm.norm_block (fun k => at0 m c t _ _ (by show (i 0).val = _ + 1 * (y 0).val; omega) (by show 1024 + k.val = _ + 1 * k.val; omega))
    (fun k => at2 m c t _ _ (by rw [p2]; rfl) (by show k.val = _ + 1 * k.val; omega)) (by omega)

/-- A grid point writes its block of the second result. -/
theorem flushed5_eq (c : Dev nD) (t : Fin cfg0.N) :
    (dats m 0 c).flushed 5 t = ((cfg0.win 5).blk t).view.read (Elt Ideal) (wholeK (m ((c : Thread nD τ).loc main_arg0)) (m ((c : Thread nD τ).loc main_arg2))) := by
  rw [Cert.Kernel28Ideal.Value.flushed5_A, out5_eq]
  funext y
  show k0_pay2 (F := Ideal) (X0_1 m c t) (iblk m c 3 t) y = wholeK _ _ (((cfg0.win 5).blk t).view.emb y)
  obtain ⟨⟨p0, q0⟩, ⟨p1, q1⟩, ⟨p2, q2⟩, ⟨p3, q3⟩, ⟨p4, q4⟩, ⟨p5, q5⟩⟩ := places t
  have e0 : (((((cfg0.win 5).blk t).view.emb y) (0 : Fin 2))).val = win0_5.index t (0 : Fin 2) * 256 + 1 * (y (0 : Fin 2)).val := rfl
  have e1 : (((((cfg0.win 5).blk t).view.emb y) (1 : Fin 2))).val = win0_5.index t (1 : Fin 2) * 512 + 1 * (y (1 : Fin 2)).val := rfl
  generalize ((cfg0.win 5).blk t).view.emb y = i at e0 e1 ⊢
  refine (congrFun (pay2_eq (X0_1 m c t) (iblk m c 3 t)) y).trans ?_
  exact Cert.Norm.norm_block (fun k => at1 m c t _ _ (by show (i 0).val = _ + 1 * (y 0).val; omega) (by show 1536 + k.val = _ + 1 * k.val; omega))
    (fun k => at3 m c t _ _ (by rw [p3]; rfl) (by show k.val = _ + 1 * k.val; omega)) (by omega)

/-! Every element of the two results stands in some grid point's block. -/

theorem covered4 (i : S4352x512.Idx) :
    ∃ t : Fin cfg0.N, (cfg0.win 4).flush t = true ∧ i ∈ ((cfg0.win 4).blk t).view.set := by
  have h0 : (i 0).val < 4352 := (i 0).isLt
  have h1 : (i 1).val < 512 := (i 1).isLt
  have hN : cfg0.N = 17 := N_0
  let t : Fin cfg0.N := ⟨(i 0).val / 256, by omega⟩
  have ht : t.val = (i 0).val / 256 := rfl
  obtain ⟨⟨p0, q0⟩, ⟨p1, q1⟩, ⟨p2, q2⟩, ⟨p3, q3⟩, ⟨p4, q4⟩, ⟨p5, q5⟩⟩ := places t
  refine ⟨t, flush0_4 t, ?_⟩
  show i ∈ ((View.whole main_v0_0).slice (win0_4.rect t)).set
  rw [View.set_slice_whole, Rect.mem_set_unit]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 512 ≤ (i 1).val ∧ (i 1).val < win0_4.index t (1 : Fin 2) * 512 + 512
    omega

theorem covered5 (i : S4352x512.Idx) :
    ∃ t : Fin cfg0.N, (cfg0.win 5).flush t = true ∧ i ∈ ((cfg0.win 5).blk t).view.set := by
  have h0 : (i 0).val < 4352 := (i 0).isLt
  have h1 : (i 1).val < 512 := (i 1).isLt
  have hN : cfg0.N = 17 := N_0
  let t : Fin cfg0.N := ⟨(i 0).val / 256, by omega⟩
  have ht : t.val = (i 0).val / 256 := rfl
  obtain ⟨⟨p0, q0⟩, ⟨p1, q1⟩, ⟨p2, q2⟩, ⟨p3, q3⟩, ⟨p4, q4⟩, ⟨p5, q5⟩⟩ := places t
  refine ⟨t, flush0_5 t, ?_⟩
  show i ∈ ((View.whole main_v0_1).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 512 ≤ (i 1).val ∧ (i 1).val < win0_5.index t (1 : Fin 2) * 512 + 512
    omega

/-! The kernel's results are the two whole normed compressions. -/

theorem final4 (c : Dev nD) : (dats m 0 c).arrAt 4 cfg0.N = wholeQ (m ((c : Thread nD τ).loc main_arg0)) (m ((c : Thread nD τ).loc main_arg1)) :=
  (dats m 0 c).arrAt_eq_of_cover 4 _ (fun t _ => flushed4_eq m c t) covered4

theorem final5 (c : Dev nD) : (dats m 0 c).arrAt 5 cfg0.N = wholeK (m ((c : Thread nD τ).loc main_arg0)) (m ((c : Thread nD τ).loc main_arg2)) :=
  (dats m 0 c).arrAt_eq_of_cover 5 _ (fun t _ => flushed5_eq m c t) covered5

section Reference
open Cert.Reference28Ideal.Read

/-- The reference's first result. -/
theorem reference4 (z : S4352x6272.Idx → EReal) (g : S1x512.Idx → EReal) : val_main_v14 (F := Ideal) z g = wholeQ z g := by
  funext i
  obtain ⟨a, b, rfl⟩ : ∃ (a : Fin 4352) (b : Fin 512), i = ix2 a b := ⟨i 0, i 1, eq_ix2 i⟩
  simp only [val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v0_apply,
    val_main_cst_apply, val_main_cst_0_apply, val_main_cst_1_apply,
    show ∀ k : Fin 512, idx_main_v3 (idx_main_v4 (idx_main_v10 (ix2 a b))) k = ix2 a k from fun k => eq_ix2 _,
    show idx_main_v12 (ix2 a b) = ix2 0 b from eq_ix2 _,
    show ∀ j : S4352x512.Idx, idx_main_v0 j = cq j from fun j => eq_ix2 _]
  show z (cq (ix2 a b)) * Ideal.rsqrt (Ideal.div (Ideal.ofBits .f32 0x00000000#32 + ∑ k : Fin 512, z (cq (ix2 a k)) * z (cq (ix2 a k))) _ + _)
    * g (ix2 0 b) = _
  rw [Ideal.ofBits_zero_f32, zero_add]
  rfl

/-- The reference's second result. -/
theorem reference5 (z : S4352x6272.Idx → EReal) (g : S1x512.Idx → EReal) : val_main_v27 (F := Ideal) z g = wholeK z g := by
  funext i
  obtain ⟨a, b, rfl⟩ : ∃ (a : Fin 4352) (b : Fin 512), i = ix2 a b := ⟨i 0, i 1, eq_ix2 i⟩
  simp only [val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v1_apply,
    val_main_cst_2_apply, val_main_cst_3_apply, val_main_cst_4_apply,
    show ∀ k : Fin 512, idx_main_v16 (idx_main_v17 (idx_main_v23 (ix2 a b))) k = ix2 a k from fun k => eq_ix2 _,
    show idx_main_v25 (ix2 a b) = ix2 0 b from eq_ix2 _,
    show ∀ j : S4352x512.Idx, idx_main_v1 j = ckv j from fun j => eq_ix2 _]
  show z (ckv (ix2 a b)) * Ideal.rsqrt (Ideal.div (Ideal.ofBits .f32 0x00000000#32 + ∑ k : Fin 512, z (ckv (ix2 a k)) * z (ckv (ix2 a k))) _ + _)
    * g (ix2 0 b) = _
  rw [Ideal.ofBits_zero_f32, zero_add]
  rfl

end Reference

end Cert.Kernel28Ideal.Norm

end
-- ==== Proof.Norms.lean ====
module

public import proofs.«01_k».proof.Defs
public import proofs.«01_k».proof.Proof.Norm25
public import proofs.«01_k».proof.Proof.Gen.Kernel25.Frame
public import proofs.«01_k».proof.Proof.Norm26
public import proofs.«01_k».proof.Proof.Gen.Kernel26.Frame
public import proofs.«01_k».proof.Proof.Norm27
public import proofs.«01_k».proof.Proof.Gen.Kernel27.Frame
public import proofs.«01_k».proof.Proof.Norm28
public import proofs.«01_k».proof.Proof.Gen.Kernel28.Frame
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-! # The claims of the norms

Each is the program's frame, or the equality of its results with its reference's. -/

theorem kernel25_bits : Cert.quiescent_Kernel25 := fun m g _ => Cert.Kernel25.Gen.frame (F := Bits) m g

theorem kernel25_ideal : Cert.quiescent_Kernel25Ideal := fun m g _ => Cert.Kernel25Ideal.Gen.frame (F := Ideal) m g

theorem reference25_ideal : Cert.quiescent_Reference25Ideal := fun m g _ =>
  (θ_run _ _ _).mono (fun r h => ⟨fun c => (h c).2, sem_eq_zero_of_no_sems (by decide) r.2⟩) (Cert.Reference25Ideal.Value.run m g)

theorem equal25 : Cert.algebraic_Kernel25Ideal_Reference25Ideal := fun m g m' g' _ ha =>
  ⟨fun c => Cert.Kernel25Ideal.Norm.whole (m ((c : Thread Cert.Kernel25Ideal.nD Cert.Kernel25Ideal.τ).loc Cert.Kernel25Ideal.main_arg0))
      (m ((c : Thread Cert.Kernel25Ideal.nD Cert.Kernel25Ideal.τ).loc Cert.Kernel25Ideal.main_arg1)),
    (θ_run _ _ _).mono (fun _ h c => ⟨(h c).1.trans (Cert.Kernel25Ideal.Norm.final m c), (h c).2⟩) (Cert.Kernel25Ideal.Value.run_blocks m g),
    (θ_run _ _ _).mono (fun _ h c => by
      obtain ⟨a0, a1⟩ := ha c
      obtain ⟨e0, eargs⟩ := h c
      refine ⟨e0.trans ((Cert.Reference25Ideal.Read.val_main_v12_eq (F := Ideal) _ _).trans ((Cert.Kernel25Ideal.Norm.reference _ _).trans ?_)), eargs⟩
      rw [a0, a1]) (Cert.Reference25Ideal.Value.run m' g')⟩

theorem kernel26_bits : Cert.quiescent_Kernel26 := fun m g _ => Cert.Kernel26.Gen.frame (F := Bits) m g

theorem kernel26_ideal : Cert.quiescent_Kernel26Ideal := fun m g _ => Cert.Kernel26Ideal.Gen.frame (F := Ideal) m g

theorem reference26_ideal : Cert.quiescent_Reference26Ideal := fun m g _ =>
  (θ_run _ _ _).mono (fun r h => ⟨fun c => (h c).2.2, sem_eq_zero_of_no_sems (by decide) r.2⟩) (Cert.Reference26Ideal.Value.run m g)

theorem equal26 : Cert.algebraic_Kernel26Ideal_Reference26Ideal := fun m g m' g' _ ha =>
  ⟨fun c => Cert.Kernel26Ideal.Norm.wholeH (m ((c : Thread Cert.Kernel26Ideal.nD Cert.Kernel26Ideal.τ).loc Cert.Kernel26Ideal.main_arg0))
      (m ((c : Thread Cert.Kernel26Ideal.nD Cert.Kernel26Ideal.τ).loc Cert.Kernel26Ideal.main_arg1))
      (m ((c : Thread Cert.Kernel26Ideal.nD Cert.Kernel26Ideal.τ).loc Cert.Kernel26Ideal.main_arg2)),
    fun c => Cert.Kernel26Ideal.Norm.wholeN (m ((c : Thread Cert.Kernel26Ideal.nD Cert.Kernel26Ideal.τ).loc Cert.Kernel26Ideal.main_arg0))
      (m ((c : Thread Cert.Kernel26Ideal.nD Cert.Kernel26Ideal.τ).loc Cert.Kernel26Ideal.main_arg1))
      (m ((c : Thread Cert.Kernel26Ideal.nD Cert.Kernel26Ideal.τ).loc Cert.Kernel26Ideal.main_arg2))
      (m ((c : Thread Cert.Kernel26Ideal.nD Cert.Kernel26Ideal.τ).loc Cert.Kernel26Ideal.main_arg3)),
    (θ_run _ _ _).mono (fun _ h c => ⟨(h c).1.trans (Cert.Kernel26Ideal.Norm.final4 m c), (h c).2.1.trans (Cert.Kernel26Ideal.Norm.final5 m c), (h c).2.2⟩)
      (Cert.Kernel26Ideal.Value.run_blocks m g),
    (θ_run _ _ _).mono (fun _ h c => by
      obtain ⟨a0, a1, a2, a3⟩ := ha c
      obtain ⟨e0, e1, eargs⟩ := h c
      refine ⟨e0.trans ((Cert.Reference26Ideal.Read.val_main_v12_eq (F := Ideal) _ _ _).trans ((Cert.Kernel26Ideal.Norm.reference4 _ _ _).trans ?_)),
        e1.trans ((Cert.Reference26Ideal.Read.val_main_v25_eq (F := Ideal) _ _ _ _).trans ((Cert.Kernel26Ideal.Norm.reference5 _ _ _ _).trans ?_)), eargs⟩
      · rw [a0, a1, a2]
      · rw [a0, a1, a2, a3]) (Cert.Reference26Ideal.Value.run m' g')⟩

theorem kernel27_bits : Cert.quiescent_Kernel27 := fun m g _ => Cert.Kernel27.Gen.frame (F := Bits) m g

theorem kernel27_ideal : Cert.quiescent_Kernel27Ideal := fun m g _ => Cert.Kernel27Ideal.Gen.frame (F := Ideal) m g

theorem reference27_ideal : Cert.quiescent_Reference27Ideal := fun m g _ =>
  (θ_run _ _ _).mono (fun r h => ⟨fun c => (h c).2.2, sem_eq_zero_of_no_sems (by decide) r.2⟩) (Cert.Reference27Ideal.Value.run m g)

theorem equal27 : Cert.algebraic_Kernel27Ideal_Reference27Ideal := fun m g m' g' _ ha =>
  ⟨fun c => Cert.Kernel27Ideal.Norm.wholeH (m ((c : Thread Cert.Kernel27Ideal.nD Cert.Kernel27Ideal.τ).loc Cert.Kernel27Ideal.main_arg0))
      (m ((c : Thread Cert.Kernel27Ideal.nD Cert.Kernel27Ideal.τ).loc Cert.Kernel27Ideal.main_arg1))
      (m ((c : Thread Cert.Kernel27Ideal.nD Cert.Kernel27Ideal.τ).loc Cert.Kernel27Ideal.main_arg2)),
    fun c => Cert.Kernel27Ideal.Norm.wholeN (m ((c : Thread Cert.Kernel27Ideal.nD Cert.Kernel27Ideal.τ).loc Cert.Kernel27Ideal.main_arg0))
      (m ((c : Thread Cert.Kernel27Ideal.nD Cert.Kernel27Ideal.τ).loc Cert.Kernel27Ideal.main_arg1))
      (m ((c : Thread Cert.Kernel27Ideal.nD Cert.Kernel27Ideal.τ).loc Cert.Kernel27Ideal.main_arg2))
      (m ((c : Thread Cert.Kernel27Ideal.nD Cert.Kernel27Ideal.τ).loc Cert.Kernel27Ideal.main_arg3)),
    (θ_run _ _ _).mono (fun _ h c => ⟨(h c).1.trans (Cert.Kernel27Ideal.Norm.final4 m c), (h c).2.1.trans (Cert.Kernel27Ideal.Norm.final5 m c), (h c).2.2⟩)
      (Cert.Kernel27Ideal.Value.run_blocks m g),
    (θ_run _ _ _).mono (fun _ h c => by
      obtain ⟨a0, a1, a2, a3⟩ := ha c
      obtain ⟨e0, e1, eargs⟩ := h c
      refine ⟨e0.trans ((Cert.Reference27Ideal.Read.val_main_v14_eq (F := Ideal) _ _ _).trans ((Cert.Kernel27Ideal.Norm.reference4 _ _ _).trans ?_)),
        e1.trans ((Cert.Reference27Ideal.Read.val_main_v27_eq (F := Ideal) _ _ _ _).trans ((Cert.Kernel27Ideal.Norm.reference5 _ _ _ _).trans ?_)), eargs⟩
      · rw [a0, a1, a2]
      · rw [a0, a1, a2, a3]) (Cert.Reference27Ideal.Value.run m' g')⟩

theorem kernel28_bits : Cert.quiescent_Kernel28 := fun m g _ => Cert.Kernel28.Gen.frame (F := Bits) m g

theorem kernel28_ideal : Cert.quiescent_Kernel28Ideal := fun m g _ => Cert.Kernel28Ideal.Gen.frame (F := Ideal) m g

theorem reference28_ideal : Cert.quiescent_Reference28Ideal := fun m g _ =>
  (θ_run _ _ _).mono (fun r h => ⟨fun c => (h c).2.2, sem_eq_zero_of_no_sems (by decide) r.2⟩) (Cert.Reference28Ideal.Value.run m g)

theorem equal28 : Cert.algebraic_Kernel28Ideal_Reference28Ideal := fun m g m' g' _ ha =>
  ⟨fun c => Cert.Kernel28Ideal.Norm.wholeQ (m ((c : Thread Cert.Kernel28Ideal.nD Cert.Kernel28Ideal.τ).loc Cert.Kernel28Ideal.main_arg0))
      (m ((c : Thread Cert.Kernel28Ideal.nD Cert.Kernel28Ideal.τ).loc Cert.Kernel28Ideal.main_arg1)),
    fun c => Cert.Kernel28Ideal.Norm.wholeK (m ((c : Thread Cert.Kernel28Ideal.nD Cert.Kernel28Ideal.τ).loc Cert.Kernel28Ideal.main_arg0))
      (m ((c : Thread Cert.Kernel28Ideal.nD Cert.Kernel28Ideal.τ).loc Cert.Kernel28Ideal.main_arg2)),
    (θ_run _ _ _).mono (fun _ h c => ⟨(h c).1.trans (Cert.Kernel28Ideal.Norm.final4 m c), (h c).2.1.trans (Cert.Kernel28Ideal.Norm.final5 m c), (h c).2.2⟩)
      (Cert.Kernel28Ideal.Value.run_blocks m g),
    (θ_run _ _ _).mono (fun _ h c => by
      obtain ⟨a0, a1, a2⟩ := ha c
      obtain ⟨e0, e1, eargs⟩ := h c
      refine ⟨e0.trans ((Cert.Reference28Ideal.Read.val_main_v14_eq (F := Ideal) _ _).trans ((Cert.Kernel28Ideal.Norm.reference4 _ _).trans ?_)),
        e1.trans ((Cert.Reference28Ideal.Read.val_main_v27_eq (F := Ideal) _ _).trans ((Cert.Kernel28Ideal.Norm.reference5 _ _).trans ?_)), eargs⟩
      · rw [a0, a1]
      · rw [a0, a2]) (Cert.Reference28Ideal.Value.run m' g')⟩

end Cert.Proof

end
-- ==== Proof.AdamStep.lean ====
module

public import proofs.«01_k».proof.Proof.Gate
public import Idealize.ShloMosaic.PureOps.Ideal.Laws
public import Idealize.ShloMosaic.Lib.Pipeline.Value

@[expose] public section

noncomputable section

/-! # The optimiser's step

The step is taken element by element, so it is stated once for arrays of any shape. A kernel that takes it on blocks
seen in another shape takes the same step. -/

namespace Cert.Adam

open Idealize.ShloMosaic

variable {s t : Shape}

/-- The gradient's running mean. -/
def mean (g m : s.Idx → EReal) : s.Idx → EReal := fun i =>
  Ideal.ofBits .f32 0x3F666666#32 * m i + Ideal.ofBits .f32 0x3DCCCCCD#32 * g i

/-- The squared gradient's running mean. -/
def square (g v : s.Idx → EReal) : s.Idx → EReal := fun i =>
  Ideal.ofBits .f32 0x3F7FBE77#32 * v i + Ideal.ofBits .f32 0x3A83126F#32 * (g i * g i)

/-- What is added to the weight. -/
def delta (w g m v : s.Idx → EReal) : s.Idx → EReal := fun i =>
  Ideal.ofBits .f32 0xBA83126F#32 *
    (Ideal.div (Ideal.div (mean g m i) (Ideal.ofBits .f32 0x3F26BD02#32))
        (Ideal.sqrt (Ideal.div (square g v i) (Ideal.ofBits .f32 0x3C231ACC#32)) + Ideal.ofBits .f32 0x322BCC77#32)
      + Ideal.ofBits .f32 0x3C23D70A#32 * w i)

theorem mean_cast (h : s.ShapeCasts t) (h' : t.ShapeCasts s) (g m : s.Idx → EReal) :
    shapeCast s (mean (shapeCast t g h) (shapeCast t m h)) h' = mean g m :=
  (show _ = mean (shapeCast s (shapeCast t g h) h') (shapeCast s (shapeCast t m h) h') from rfl).trans
    (by rw [shapeCast_shapeCast, shapeCast_shapeCast])

theorem square_cast (h : s.ShapeCasts t) (h' : t.ShapeCasts s) (g v : s.Idx → EReal) :
    shapeCast s (square (shapeCast t g h) (shapeCast t v h)) h' = square g v :=
  (show _ = square (shapeCast s (shapeCast t g h) h') (shapeCast s (shapeCast t v h) h') from rfl).trans
    (by rw [shapeCast_shapeCast, shapeCast_shapeCast])

theorem delta_cast (h : s.ShapeCasts t) (h' : t.ShapeCasts s) (w g m v : s.Idx → EReal) :
    shapeCast s (delta (shapeCast t w h) (shapeCast t g h) (shapeCast t m h) (shapeCast t v h)) h' = delta w g m v :=
  (show _ = delta (shapeCast s (shapeCast t w h) h') (shapeCast s (shapeCast t g h) h') (shapeCast s (shapeCast t m h) h')
      (shapeCast s (shapeCast t v h) h') from rfl).trans
    (by rw [shapeCast_shapeCast, shapeCast_shapeCast, shapeCast_shapeCast, shapeCast_shapeCast])

/-- A place within the extent of the block it falls in. -/
theorem within {n b : Nat} (i k : Nat) (p : n = k) (h : k * b ≤ i ∧ i < k * b + b) : n * b ≤ i ∧ i < n * b + b := p ▸ h

theorem hz2 : (![0, 0] : Fin 2 → Nat) = fun _ => 0 := funext fun a => by fin_cases a <;> rfl

theorem hz3 : (![0, 0, 0] : Fin 3 → Nat) = fun _ => 0 := funext fun a => by fin_cases a <;> rfl

theorem hz4 : (![0, 0, 0, 0] : Fin 4 → Nat) = fun _ => 0 := funext fun a => by fin_cases a <;> rfl

end Cert.Adam

end
-- ==== Proof.Adam29.lean ====
module

public import proofs.«01_k».proof.Defs
public import proofs.«01_k».proof.Proof.AdamStep
public import proofs.«01_k».proof.Proof.Gen.Kernel29Ideal.Value
public import proofs.«01_k».proof.Proof.Gen.Reference29Ideal.Read

@[expose] public section

set_option maxRecDepth 16384

noncomputable section

namespace Cert.Kernel29Ideal.Adam

open Cert.Kernel29Ideal.Gen Cert.Adam
open Idealize.ShloMosaic Idealize.ShloMosaic.TcCoe Idealize.SL.Sem

/-- A block's step is the step of the blocks. -/
theorem out (w g m v : S1x128x2816.Idx → EReal) :
    out0_4 (F := Ideal) w g m v = g ∧ out0_5 (F := Ideal) w g m v = delta w g m v ∧ out0_6 (F := Ideal) w g m v = mean g m
      ∧ out0_7 (F := Ideal) w g m v = square g v := by
  unfold out0_4 out0_5 out0_6 out0_7
  simp only [View.canon_unit_zero (S := S1x128x2816) hz3, View.ld_unit_zero (S := S1x128x2816) hz3]
  exact ⟨shapeCast_shapeCast g _ _, delta_cast _ _ w g m v, mean_cast _ _ g m, square_cast _ _ g v⟩

/-- Every index stands in some grid point's block. -/
theorem tiled (i : S1x2048x2816.Idx) : ∃ t : Fin cfg0.N, i ∈ ((cfg0.win 4).blk t).view.set := by
  have h0 : (i 0).val < 1 := (i 0).isLt
  have h1 : (i 1).val < 2048 := (i 1).isLt
  have h2 : (i 2).val < 2816 := (i 2).isLt
  obtain ⟨t, p0, p1, p2⟩ : ∃ t : Fin cfg0.N, win0_4.index t (0 : Fin 3) = 0 ∧ win0_4.index t (1 : Fin 3) = (i 1).val / 128
      ∧ win0_4.index t (2 : Fin 3) = 0 :=
    (by decide +kernel : ∀ k : Fin 16, ∃ t : Fin grid0.N, win0_4.index t (0 : Fin 3) = 0 ∧ win0_4.index t (1 : Fin 3) = k.val
      ∧ win0_4.index t (2 : Fin 3) = 0) ⟨(i 1).val / 128, by omega⟩
  exact ⟨t, (View.set_slice_whole main_v0_0 (win0_4.rect t)).symm ▸ Rect.mem_set_unit.mpr fun a => match a with
    | ⟨0, _⟩ => within (b := 1) (i 0).val _ p0 (by omega)
    | ⟨1, _⟩ => within (b := 128) (i 1).val _ p1 (by omega)
    | ⟨2, _⟩ => within (b := 2816) (i 2).val _ p2 (by omega)⟩

variable (m : (ℓ : Loc nD τ sig) → Buf (Elt Ideal) ℓ) (c : Dev nD)

/-- The four arguments: the weight, its gradient, and the two running means. -/
abbrev w : S1x2048x2816.Idx → EReal := m ((c : Thread nD τ).loc main_arg0)
abbrev g : S1x2048x2816.Idx → EReal := m ((c : Thread nD τ).loc main_arg1)
abbrev μ : S1x2048x2816.Idx → EReal := m ((c : Thread nD τ).loc main_arg2)
abbrev ν : S1x2048x2816.Idx → EReal := m ((c : Thread nD τ).loc main_arg3)

/-- The four results: the copied gradient, what is added to the weight, and the two new running means. -/
theorem final : (dats m 0 c).arrAt 4 cfg0.N = g m c ∧ (dats m 0 c).arrAt 5 cfg0.N = delta (w m c) (g m c) (μ m c) (ν m c)
    ∧ (dats m 0 c).arrAt 6 cfg0.N = mean (g m c) (μ m c) ∧ (dats m 0 c).arrAt 7 cfg0.N = square (g m c) (ν m c) :=
  ⟨(dats m 0 c).arrAt_eq_of_cover 4 _ (fun t _ => by rw [Value.flushed4, (out _ _ _ _).1]; rfl)
      (fun i => (tiled i).imp fun t h => ⟨flush0_4 t, h⟩),
    (dats m 0 c).arrAt_eq_of_cover 5 _ (fun t _ => by rw [Value.flushed5, (out _ _ _ _).2.1]; rfl)
      (fun i => (tiled i).imp fun t h => ⟨flush0_5 t, h⟩),
    (dats m 0 c).arrAt_eq_of_cover 6 _ (fun t _ => by rw [Value.flushed6, (out _ _ _ _).2.2.1]; rfl)
      (fun i => (tiled i).imp fun t h => ⟨flush0_6 t, h⟩),
    (dats m 0 c).arrAt_eq_of_cover 7 _ (fun t _ => by rw [Value.flushed7, (out _ _ _ _).2.2.2]; rfl)
      (fun i => (tiled i).imp fun t h => ⟨flush0_7 t, h⟩)⟩

theorem equal : Cert.algebraic_Kernel29Ideal_Reference29Ideal := fun m ρ m' ρ' _ ha =>
  ⟨g m, fun c => delta (w m c) (g m c) (μ m c) (ν m c), fun c => mean (g m c) (μ m c), fun c => square (g m c) (ν m c),
    (θ_run _ _ _).mono (fun _ h c => ⟨(h c).1.trans (final m c).1, (h c).2.1.trans (final m c).2.1,
      (h c).2.2.1.trans (final m c).2.2.1, (h c).2.2.2.1.trans (final m c).2.2.2, (h c).2.2.2.2⟩) (Value.run_blocks m ρ),
    (θ_run _ _ _).mono (fun _ h c => by
      obtain ⟨a0, a1, a2, a3⟩ := ha c
      obtain ⟨e0, e1, e2, e3, eargs⟩ := h c
      exact ⟨e0.trans a1, e1.trans (by rw [a0, a1, a2, a3]; rfl), e2.trans (by rw [a1, a2]; rfl), e3.trans (by rw [a1, a3]; rfl), eargs⟩)
      (Cert.Reference29Ideal.Value.run m' ρ')⟩

end Cert.Kernel29Ideal.Adam

end
-- ==== Proof.Adam30.lean ====
module

public import proofs.«01_k».proof.Defs
public import proofs.«01_k».proof.Proof.AdamStep
public import proofs.«01_k».proof.Proof.Gen.Kernel30Ideal.Value
public import proofs.«01_k».proof.Proof.Gen.Reference30Ideal.Read

@[expose] public section

noncomputable section

namespace Cert.Kernel30Ideal.Adam

open Cert.Kernel30Ideal.Gen Cert.Adam
open Idealize.ShloMosaic Idealize.ShloMosaic.TcCoe Idealize.SL.Sem

/-- A block's step is the step of the blocks. -/
theorem out (w g m v : S1x176x2048.Idx → EReal) :
    out0_4 (F := Ideal) w g m v = g ∧ out0_5 (F := Ideal) w g m v = delta w g m v ∧ out0_6 (F := Ideal) w g m v = mean g m
      ∧ out0_7 (F := Ideal) w g m v = square g v := by
  unfold out0_4 out0_5 out0_6 out0_7
  simp only [View.canon_unit_zero (S := S1x176x2048) hz3, View.ld_unit_zero (S := S1x176x2048) hz3]
  exact ⟨shapeCast_shapeCast g _ _, delta_cast _ _ w g m v, mean_cast _ _ g m, square_cast _ _ g v⟩

/-- Every index stands in some grid point's block. -/
theorem tiled (i : S1x1408x2048.Idx) : ∃ t : Fin cfg0.N, i ∈ ((cfg0.win 4).blk t).view.set := by
  have h0 : (i 0).val < 1 := (i 0).isLt
  have h1 : (i 1).val < 1408 := (i 1).isLt
  have h2 : (i 2).val < 2048 := (i 2).isLt
  obtain ⟨t, p0, p1, p2⟩ : ∃ t : Fin cfg0.N, win0_4.index t (0 : Fin 3) = 0 ∧ win0_4.index t (1 : Fin 3) = (i 1).val / 176
      ∧ win0_4.index t (2 : Fin 3) = 0 :=
    (by decide +kernel : ∀ k : Fin 8, ∃ t : Fin grid0.N, win0_4.index t (0 : Fin 3) = 0 ∧ win0_4.index t (1 : Fin 3) = k.val
      ∧ win0_4.index t (2 : Fin 3) = 0) ⟨(i 1).val / 176, by omega⟩
  exact ⟨t, (View.set_slice_whole main_v0_0 (win0_4.rect t)).symm ▸ Rect.mem_set_unit.mpr fun a => match a with
    | ⟨0, _⟩ => within (b := 1) (i 0).val _ p0 (by omega)
    | ⟨1, _⟩ => within (b := 176) (i 1).val _ p1 (by omega)
    | ⟨2, _⟩ => within (b := 2048) (i 2).val _ p2 (by omega)⟩

variable (m : (ℓ : Loc nD τ sig) → Buf (Elt Ideal) ℓ) (c : Dev nD)

/-- The four arguments: the weight, its gradient, and the two running means. -/
abbrev w : S1x1408x2048.Idx → EReal := m ((c : Thread nD τ).loc main_arg0)
abbrev g : S1x1408x2048.Idx → EReal := m ((c : Thread nD τ).loc main_arg1)
abbrev μ : S1x1408x2048.Idx → EReal := m ((c : Thread nD τ).loc main_arg2)
abbrev ν : S1x1408x2048.Idx → EReal := m ((c : Thread nD τ).loc main_arg3)

/-- The four results: the copied gradient, what is added to the weight, and the two new running means. -/
theorem final : (dats m 0 c).arrAt 4 cfg0.N = g m c ∧ (dats m 0 c).arrAt 5 cfg0.N = delta (w m c) (g m c) (μ m c) (ν m c)
    ∧ (dats m 0 c).arrAt 6 cfg0.N = mean (g m c) (μ m c) ∧ (dats m 0 c).arrAt 7 cfg0.N = square (g m c) (ν m c) :=
  ⟨(dats m 0 c).arrAt_eq_of_cover 4 _ (fun t _ => by rw [Value.flushed4, (out _ _ _ _).1]; rfl)
      (fun i => (tiled i).imp fun t h => ⟨flush0_4 t, h⟩),
    (dats m 0 c).arrAt_eq_of_cover 5 _ (fun t _ => by rw [Value.flushed5, (out _ _ _ _).2.1]; rfl)
      (fun i => (tiled i).imp fun t h => ⟨flush0_5 t, h⟩),
    (dats m 0 c).arrAt_eq_of_cover 6 _ (fun t _ => by rw [Value.flushed6, (out _ _ _ _).2.2.1]; rfl)
      (fun i => (tiled i).imp fun t h => ⟨flush0_6 t, h⟩),
    (dats m 0 c).arrAt_eq_of_cover 7 _ (fun t _ => by rw [Value.flushed7, (out _ _ _ _).2.2.2]; rfl)
      (fun i => (tiled i).imp fun t h => ⟨flush0_7 t, h⟩)⟩

theorem equal : Cert.algebraic_Kernel30Ideal_Reference30Ideal := fun m ρ m' ρ' _ ha =>
  ⟨g m, fun c => delta (w m c) (g m c) (μ m c) (ν m c), fun c => mean (g m c) (μ m c), fun c => square (g m c) (ν m c),
    (θ_run _ _ _).mono (fun _ h c => ⟨(h c).1.trans (final m c).1, (h c).2.1.trans (final m c).2.1,
      (h c).2.2.1.trans (final m c).2.2.1, (h c).2.2.2.1.trans (final m c).2.2.2, (h c).2.2.2.2⟩) (Value.run_blocks m ρ),
    (θ_run _ _ _).mono (fun _ h c => by
      obtain ⟨a0, a1, a2, a3⟩ := ha c
      obtain ⟨e0, e1, e2, e3, eargs⟩ := h c
      exact ⟨e0.trans a1, e1.trans (by rw [a0, a1, a2, a3]; rfl), e2.trans (by rw [a1, a2]; rfl), e3.trans (by rw [a1, a3]; rfl), eargs⟩)
      (Cert.Reference30Ideal.Value.run m' ρ')⟩

end Cert.Kernel30Ideal.Adam

end
-- ==== Proof.Adam31.lean ====
module

public import proofs.«01_k».proof.Defs
public import proofs.«01_k».proof.Proof.AdamStep
public import proofs.«01_k».proof.Proof.Gen.Kernel31Ideal.Value
public import proofs.«01_k».proof.Proof.Gen.Reference31Ideal.Read

@[expose] public section

noncomputable section

namespace Cert.Kernel31Ideal.Adam

open Cert.Kernel31Ideal.Gen Cert.Adam
open Idealize.ShloMosaic Idealize.ShloMosaic.TcCoe Idealize.SL.Sem

/-- A block's step is the step of the blocks. -/
theorem out (w g m v : S1x1552x256.Idx → EReal) :
    out0_4 (F := Ideal) w g m v = g ∧ out0_5 (F := Ideal) w g m v = delta w g m v ∧ out0_6 (F := Ideal) w g m v = mean g m
      ∧ out0_7 (F := Ideal) w g m v = square g v := by
  unfold out0_4 out0_5 out0_6 out0_7
  simp only [View.canon_unit_zero (S := S1x1552x256) hz3, View.ld_unit_zero (S := S1x1552x256) hz3]
  exact ⟨shapeCast_shapeCast g _ _, delta_cast _ _ w g m v, mean_cast _ _ g m, square_cast _ _ g v⟩

/-- Every index stands in some grid point's block. -/
theorem tiled (i : S1x1552x2048.Idx) : ∃ t : Fin cfg0.N, i ∈ ((cfg0.win 4).blk t).view.set := by
  have h0 : (i 0).val < 1 := (i 0).isLt
  have h1 : (i 1).val < 1552 := (i 1).isLt
  have h2 : (i 2).val < 2048 := (i 2).isLt
  obtain ⟨t, p0, p1, p2⟩ : ∃ t : Fin cfg0.N, win0_4.index t (0 : Fin 3) = 0 ∧ win0_4.index t (1 : Fin 3) = 0
      ∧ win0_4.index t (2 : Fin 3) = (i 2).val / 256 :=
    (by decide +kernel : ∀ k : Fin 8, ∃ t : Fin grid0.N, win0_4.index t (0 : Fin 3) = 0 ∧ win0_4.index t (1 : Fin 3) = 0
      ∧ win0_4.index t (2 : Fin 3) = k.val) ⟨(i 2).val / 256, by omega⟩
  exact ⟨t, (View.set_slice_whole main_v0_0 (win0_4.rect t)).symm ▸ Rect.mem_set_unit.mpr fun a => match a with
    | ⟨0, _⟩ => within (b := 1) (i 0).val _ p0 (by omega)
    | ⟨1, _⟩ => within (b := 1552) (i 1).val _ p1 (by omega)
    | ⟨2, _⟩ => within (b := 256) (i 2).val _ p2 (by omega)⟩

variable (m : (ℓ : Loc nD τ sig) → Buf (Elt Ideal) ℓ) (c : Dev nD)

/-- The four arguments: the weight, its gradient, and the two running means. -/
abbrev w : S1x1552x2048.Idx → EReal := m ((c : Thread nD τ).loc main_arg0)
abbrev g : S1x1552x2048.Idx → EReal := m ((c : Thread nD τ).loc main_arg1)
abbrev μ : S1x1552x2048.Idx → EReal := m ((c : Thread nD τ).loc main_arg2)
abbrev ν : S1x1552x2048.Idx → EReal := m ((c : Thread nD τ).loc main_arg3)

/-- The four results: the copied gradient, what is added to the weight, and the two new running means. -/
theorem final : (dats m 0 c).arrAt 4 cfg0.N = g m c ∧ (dats m 0 c).arrAt 5 cfg0.N = delta (w m c) (g m c) (μ m c) (ν m c)
    ∧ (dats m 0 c).arrAt 6 cfg0.N = mean (g m c) (μ m c) ∧ (dats m 0 c).arrAt 7 cfg0.N = square (g m c) (ν m c) :=
  ⟨(dats m 0 c).arrAt_eq_of_cover 4 _ (fun t _ => by rw [Value.flushed4, (out _ _ _ _).1]; rfl)
      (fun i => (tiled i).imp fun t h => ⟨flush0_4 t, h⟩),
    (dats m 0 c).arrAt_eq_of_cover 5 _ (fun t _ => by rw [Value.flushed5, (out _ _ _ _).2.1]; rfl)
      (fun i => (tiled i).imp fun t h => ⟨flush0_5 t, h⟩),
    (dats m 0 c).arrAt_eq_of_cover 6 _ (fun t _ => by rw [Value.flushed6, (out _ _ _ _).2.2.1]; rfl)
      (fun i => (tiled i).imp fun t h => ⟨flush0_6 t, h⟩),
    (dats m 0 c).arrAt_eq_of_cover 7 _ (fun t _ => by rw [Value.flushed7, (out _ _ _ _).2.2.2]; rfl)
      (fun i => (tiled i).imp fun t h => ⟨flush0_7 t, h⟩)⟩

theorem equal : Cert.algebraic_Kernel31Ideal_Reference31Ideal := fun m ρ m' ρ' _ ha =>
  ⟨g m, fun c => delta (w m c) (g m c) (μ m c) (ν m c), fun c => mean (g m c) (μ m c), fun c => square (g m c) (ν m c),
    (θ_run _ _ _).mono (fun _ h c => ⟨(h c).1.trans (final m c).1, (h c).2.1.trans (final m c).2.1,
      (h c).2.2.1.trans (final m c).2.2.1, (h c).2.2.2.1.trans (final m c).2.2.2, (h c).2.2.2.2⟩) (Value.run_blocks m ρ),
    (θ_run _ _ _).mono (fun _ h c => by
      obtain ⟨a0, a1, a2, a3⟩ := ha c
      obtain ⟨e0, e1, e2, e3, eargs⟩ := h c
      exact ⟨e0.trans a1, e1.trans (by rw [a0, a1, a2, a3]; rfl), e2.trans (by rw [a1, a2]; rfl), e3.trans (by rw [a1, a3]; rfl), eargs⟩)
      (Cert.Reference31Ideal.Value.run m' ρ')⟩

end Cert.Kernel31Ideal.Adam

end
-- ==== Proof.Adam32.lean ====
module

public import proofs.«01_k».proof.Defs
public import proofs.«01_k».proof.Proof.AdamStep
public import proofs.«01_k».proof.Proof.Gen.Kernel32Ideal.Value
public import proofs.«01_k».proof.Proof.Gen.Reference32Ideal.Read

@[expose] public section

noncomputable section

namespace Cert.Kernel32Ideal.Adam

open Cert.Kernel32Ideal.Gen Cert.Adam
open Idealize.ShloMosaic Idealize.ShloMosaic.TcCoe Idealize.SL.Sem

/-- A block's step is the step of the blocks. -/
theorem out (w g m v : S1x1x64x256.Idx → EReal) :
    out0_4 (F := Ideal) w g m v = g ∧ out0_5 (F := Ideal) w g m v = delta w g m v ∧ out0_6 (F := Ideal) w g m v = mean g m
      ∧ out0_7 (F := Ideal) w g m v = square g v := by
  unfold out0_4 out0_5 out0_6 out0_7
  simp only [View.canon_unit_zero (S := S1x1x64x256) hz4, View.ld_unit_zero (S := S1x1x64x256) hz4]
  exact ⟨shapeCast_shapeCast g _ _, delta_cast _ _ w g m v, mean_cast _ _ g m, square_cast _ _ g v⟩

/-- Every index stands in some grid point's block. -/
theorem tiled (i : S1x4x64x256.Idx) : ∃ t : Fin cfg0.N, i ∈ ((cfg0.win 4).blk t).view.set := by
  have h0 : (i 0).val < 1 := (i 0).isLt
  have h1 : (i 1).val < 4 := (i 1).isLt
  have h2 : (i 2).val < 64 := (i 2).isLt
  have h3 : (i 3).val < 256 := (i 3).isLt
  obtain ⟨t, p0, p1, p2, p3⟩ : ∃ t : Fin cfg0.N, win0_4.index t (0 : Fin 4) = 0 ∧ win0_4.index t (1 : Fin 4) = (i 1).val / 1
      ∧ win0_4.index t (2 : Fin 4) = 0 ∧ win0_4.index t (3 : Fin 4) = 0 :=
    (by decide +kernel : ∀ k : Fin 4, ∃ t : Fin grid0.N, win0_4.index t (0 : Fin 4) = 0 ∧ win0_4.index t (1 : Fin 4) = k.val
      ∧ win0_4.index t (2 : Fin 4) = 0 ∧ win0_4.index t (3 : Fin 4) = 0) ⟨(i 1).val / 1, by omega⟩
  exact ⟨t, (View.set_slice_whole main_v0_0 (win0_4.rect t)).symm ▸ Rect.mem_set_unit.mpr fun a => match a with
    | ⟨0, _⟩ => within (b := 1) (i 0).val _ p0 (by omega)
    | ⟨1, _⟩ => within (b := 1) (i 1).val _ p1 (by omega)
    | ⟨2, _⟩ => within (b := 64) (i 2).val _ p2 (by omega)
    | ⟨3, _⟩ => within (b := 256) (i 3).val _ p3 (by omega)⟩

variable (m : (ℓ : Loc nD τ sig) → Buf (Elt Ideal) ℓ) (c : Dev nD)

/-- The four arguments: the weight, its gradient, and the two running means. -/
abbrev w : S1x4x64x256.Idx → EReal := m ((c : Thread nD τ).loc main_arg0)
abbrev g : S1x4x64x256.Idx → EReal := m ((c : Thread nD τ).loc main_arg1)
abbrev μ : S1x4x64x256.Idx → EReal := m ((c : Thread nD τ).loc main_arg2)
abbrev ν : S1x4x64x256.Idx → EReal := m ((c : Thread nD τ).loc main_arg3)

/-- The four results: the copied gradient, what is added to the weight, and the two new running means. -/
theorem final : (dats m 0 c).arrAt 4 cfg0.N = g m c ∧ (dats m 0 c).arrAt 5 cfg0.N = delta (w m c) (g m c) (μ m c) (ν m c)
    ∧ (dats m 0 c).arrAt 6 cfg0.N = mean (g m c) (μ m c) ∧ (dats m 0 c).arrAt 7 cfg0.N = square (g m c) (ν m c) :=
  ⟨(dats m 0 c).arrAt_eq_of_cover 4 _ (fun t _ => by rw [Value.flushed4, (out _ _ _ _).1]; rfl)
      (fun i => (tiled i).imp fun t h => ⟨flush0_4 t, h⟩),
    (dats m 0 c).arrAt_eq_of_cover 5 _ (fun t _ => by rw [Value.flushed5, (out _ _ _ _).2.1]; rfl)
      (fun i => (tiled i).imp fun t h => ⟨flush0_5 t, h⟩),
    (dats m 0 c).arrAt_eq_of_cover 6 _ (fun t _ => by rw [Value.flushed6, (out _ _ _ _).2.2.1]; rfl)
      (fun i => (tiled i).imp fun t h => ⟨flush0_6 t, h⟩),
    (dats m 0 c).arrAt_eq_of_cover 7 _ (fun t _ => by rw [Value.flushed7, (out _ _ _ _).2.2.2]; rfl)
      (fun i => (tiled i).imp fun t h => ⟨flush0_7 t, h⟩)⟩

theorem equal : Cert.algebraic_Kernel32Ideal_Reference32Ideal := fun m ρ m' ρ' _ ha =>
  ⟨g m, fun c => delta (w m c) (g m c) (μ m c) (ν m c), fun c => mean (g m c) (μ m c), fun c => square (g m c) (ν m c),
    (θ_run _ _ _).mono (fun _ h c => ⟨(h c).1.trans (final m c).1, (h c).2.1.trans (final m c).2.1,
      (h c).2.2.1.trans (final m c).2.2.1, (h c).2.2.2.1.trans (final m c).2.2.2, (h c).2.2.2.2⟩) (Value.run_blocks m ρ),
    (θ_run _ _ _).mono (fun _ h c => by
      obtain ⟨a0, a1, a2, a3⟩ := ha c
      obtain ⟨e0, e1, e2, e3, eargs⟩ := h c
      exact ⟨e0.trans a1, e1.trans (by rw [a0, a1, a2, a3]; rfl), e2.trans (by rw [a1, a2]; rfl), e3.trans (by rw [a1, a3]; rfl), eargs⟩)
      (Cert.Reference32Ideal.Value.run m' ρ')⟩

end Cert.Kernel32Ideal.Adam

end
-- ==== Proof.Adam33.lean ====
module

public import proofs.«01_k».proof.Defs
public import proofs.«01_k».proof.Proof.AdamStep
public import proofs.«01_k».proof.Proof.Gen.Kernel33Ideal.Value
public import proofs.«01_k».proof.Proof.Gen.Reference33Ideal.Read

@[expose] public section

noncomputable section

namespace Cert.Kernel33Ideal.Adam

open Cert.Kernel33Ideal.Gen Cert.Adam
open Idealize.ShloMosaic Idealize.ShloMosaic.TcCoe Idealize.SL.Sem

/-- A block's step is the step of the blocks. -/
theorem out (w g m v : S1x1024x512.Idx → EReal) :
    out0_4 (F := Ideal) w g m v = g ∧ out0_5 (F := Ideal) w g m v = delta w g m v ∧ out0_6 (F := Ideal) w g m v = mean g m
      ∧ out0_7 (F := Ideal) w g m v = square g v := by
  unfold out0_4 out0_5 out0_6 out0_7
  simp only [View.canon_unit_zero (S := S1x1024x512) hz3, View.ld_unit_zero (S := S1x1024x512) hz3]
  exact ⟨shapeCast_shapeCast g _ _, delta_cast _ _ w g m v, mean_cast _ _ g m, square_cast _ _ g v⟩

/-- Every index stands in some grid point's block. -/
theorem tiled (i : S1x1024x512.Idx) : ∃ t : Fin cfg0.N, i ∈ ((cfg0.win 4).blk t).view.set := by
  have h0 : (i 0).val < 1 := (i 0).isLt
  have h1 : (i 1).val < 1024 := (i 1).isLt
  have h2 : (i 2).val < 512 := (i 2).isLt
  obtain ⟨t, p0, p1, p2⟩ : ∃ t : Fin cfg0.N, win0_4.index t (0 : Fin 3) = 0 ∧ win0_4.index t (1 : Fin 3) = (i 1).val / 1024
      ∧ win0_4.index t (2 : Fin 3) = 0 :=
    (by decide +kernel : ∀ k : Fin 1, ∃ t : Fin grid0.N, win0_4.index t (0 : Fin 3) = 0 ∧ win0_4.index t (1 : Fin 3) = k.val
      ∧ win0_4.index t (2 : Fin 3) = 0) ⟨(i 1).val / 1024, by omega⟩
  exact ⟨t, (View.set_slice_whole main_v0_0 (win0_4.rect t)).symm ▸ Rect.mem_set_unit.mpr fun a => match a with
    | ⟨0, _⟩ => within (b := 1) (i 0).val _ p0 (by omega)
    | ⟨1, _⟩ => within (b := 1024) (i 1).val _ p1 (by omega)
    | ⟨2, _⟩ => within (b := 512) (i 2).val _ p2 (by omega)⟩

variable (m : (ℓ : Loc nD τ sig) → Buf (Elt Ideal) ℓ) (c : Dev nD)

/-- The four arguments: the weight, its gradient, and the two running means. -/
abbrev w : S1x1024x512.Idx → EReal := m ((c : Thread nD τ).loc main_arg0)
abbrev g : S1x1024x512.Idx → EReal := m ((c : Thread nD τ).loc main_arg1)
abbrev μ : S1x1024x512.Idx → EReal := m ((c : Thread nD τ).loc main_arg2)
abbrev ν : S1x1024x512.Idx → EReal := m ((c : Thread nD τ).loc main_arg3)

/-- The four results: the copied gradient, what is added to the weight, and the two new running means. -/
theorem final : (dats m 0 c).arrAt 4 cfg0.N = g m c ∧ (dats m 0 c).arrAt 5 cfg0.N = delta (w m c) (g m c) (μ m c) (ν m c)
    ∧ (dats m 0 c).arrAt 6 cfg0.N = mean (g m c) (μ m c) ∧ (dats m 0 c).arrAt 7 cfg0.N = square (g m c) (ν m c) :=
  ⟨(dats m 0 c).arrAt_eq_of_cover 4 _ (fun t _ => by rw [Value.flushed4, (out _ _ _ _).1]; rfl)
      (fun i => (tiled i).imp fun t h => ⟨flush0_4 t, h⟩),
    (dats m 0 c).arrAt_eq_of_cover 5 _ (fun t _ => by rw [Value.flushed5, (out _ _ _ _).2.1]; rfl)
      (fun i => (tiled i).imp fun t h => ⟨flush0_5 t, h⟩),
    (dats m 0 c).arrAt_eq_of_cover 6 _ (fun t _ => by rw [Value.flushed6, (out _ _ _ _).2.2.1]; rfl)
      (fun i => (tiled i).imp fun t h => ⟨flush0_6 t, h⟩),
    (dats m 0 c).arrAt_eq_of_cover 7 _ (fun t _ => by rw [Value.flushed7, (out _ _ _ _).2.2.2]; rfl)
      (fun i => (tiled i).imp fun t h => ⟨flush0_7 t, h⟩)⟩

theorem equal : Cert.algebraic_Kernel33Ideal_Reference33Ideal := fun m ρ m' ρ' _ ha =>
  ⟨g m, fun c => delta (w m c) (g m c) (μ m c) (ν m c), fun c => mean (g m c) (μ m c), fun c => square (g m c) (ν m c),
    (θ_run _ _ _).mono (fun _ h c => ⟨(h c).1.trans (final m c).1, (h c).2.1.trans (final m c).2.1,
      (h c).2.2.1.trans (final m c).2.2.1, (h c).2.2.2.1.trans (final m c).2.2.2, (h c).2.2.2.2⟩) (Value.run_blocks m ρ),
    (θ_run _ _ _).mono (fun _ h c => by
      obtain ⟨a0, a1, a2, a3⟩ := ha c
      obtain ⟨e0, e1, e2, e3, eargs⟩ := h c
      exact ⟨e0.trans a1, e1.trans (by rw [a0, a1, a2, a3]; rfl), e2.trans (by rw [a1, a2]; rfl), e3.trans (by rw [a1, a3]; rfl), eargs⟩)
      (Cert.Reference33Ideal.Value.run m' ρ')⟩

end Cert.Kernel33Ideal.Adam

end
-- ==== Proof.Adam34.lean ====
module

public import proofs.«01_k».proof.Defs
public import proofs.«01_k».proof.Proof.AdamStep
public import proofs.«01_k».proof.Proof.Gen.Kernel34Ideal.Value
public import proofs.«01_k».proof.Proof.Gen.Reference34Ideal.Read

@[expose] public section

noncomputable section

namespace Cert.Kernel34Ideal.Adam

open Cert.Kernel34Ideal.Gen Cert.Adam
open Idealize.ShloMosaic Idealize.ShloMosaic.TcCoe Idealize.SL.Sem

/-- A block's step is the step of the blocks. -/
theorem out (w g m v : S1x512x768.Idx → EReal) :
    out0_4 (F := Ideal) w g m v = g ∧ out0_5 (F := Ideal) w g m v = delta w g m v ∧ out0_6 (F := Ideal) w g m v = mean g m
      ∧ out0_7 (F := Ideal) w g m v = square g v := by
  unfold out0_4 out0_5 out0_6 out0_7
  simp only [View.canon_unit_zero (S := S1x512x768) hz3, View.ld_unit_zero (S := S1x512x768) hz3]
  exact ⟨shapeCast_shapeCast g _ _, delta_cast _ _ w g m v, mean_cast _ _ g m, square_cast _ _ g v⟩

/-- Every index stands in some grid point's block. -/
theorem tiled (i : S1x512x768.Idx) : ∃ t : Fin cfg0.N, i ∈ ((cfg0.win 4).blk t).view.set := by
  have h0 : (i 0).val < 1 := (i 0).isLt
  have h1 : (i 1).val < 512 := (i 1).isLt
  have h2 : (i 2).val < 768 := (i 2).isLt
  obtain ⟨t, p0, p1, p2⟩ : ∃ t : Fin cfg0.N, win0_4.index t (0 : Fin 3) = 0 ∧ win0_4.index t (1 : Fin 3) = (i 1).val / 512
      ∧ win0_4.index t (2 : Fin 3) = 0 :=
    (by decide +kernel : ∀ k : Fin 1, ∃ t : Fin grid0.N, win0_4.index t (0 : Fin 3) = 0 ∧ win0_4.index t (1 : Fin 3) = k.val
      ∧ win0_4.index t (2 : Fin 3) = 0) ⟨(i 1).val / 512, by omega⟩
  exact ⟨t, (View.set_slice_whole main_v0_0 (win0_4.rect t)).symm ▸ Rect.mem_set_unit.mpr fun a => match a with
    | ⟨0, _⟩ => within (b := 1) (i 0).val _ p0 (by omega)
    | ⟨1, _⟩ => within (b := 512) (i 1).val _ p1 (by omega)
    | ⟨2, _⟩ => within (b := 768) (i 2).val _ p2 (by omega)⟩

variable (m : (ℓ : Loc nD τ sig) → Buf (Elt Ideal) ℓ) (c : Dev nD)

/-- The four arguments: the weight, its gradient, and the two running means. -/
abbrev w : S1x512x768.Idx → EReal := m ((c : Thread nD τ).loc main_arg0)
abbrev g : S1x512x768.Idx → EReal := m ((c : Thread nD τ).loc main_arg1)
abbrev μ : S1x512x768.Idx → EReal := m ((c : Thread nD τ).loc main_arg2)
abbrev ν : S1x512x768.Idx → EReal := m ((c : Thread nD τ).loc main_arg3)

/-- The four results: the copied gradient, what is added to the weight, and the two new running means. -/
theorem final : (dats m 0 c).arrAt 4 cfg0.N = g m c ∧ (dats m 0 c).arrAt 5 cfg0.N = delta (w m c) (g m c) (μ m c) (ν m c)
    ∧ (dats m 0 c).arrAt 6 cfg0.N = mean (g m c) (μ m c) ∧ (dats m 0 c).arrAt 7 cfg0.N = square (g m c) (ν m c) :=
  ⟨(dats m 0 c).arrAt_eq_of_cover 4 _ (fun t _ => by rw [Value.flushed4, (out _ _ _ _).1]; rfl)
      (fun i => (tiled i).imp fun t h => ⟨flush0_4 t, h⟩),
    (dats m 0 c).arrAt_eq_of_cover 5 _ (fun t _ => by rw [Value.flushed5, (out _ _ _ _).2.1]; rfl)
      (fun i => (tiled i).imp fun t h => ⟨flush0_5 t, h⟩),
    (dats m 0 c).arrAt_eq_of_cover 6 _ (fun t _ => by rw [Value.flushed6, (out _ _ _ _).2.2.1]; rfl)
      (fun i => (tiled i).imp fun t h => ⟨flush0_6 t, h⟩),
    (dats m 0 c).arrAt_eq_of_cover 7 _ (fun t _ => by rw [Value.flushed7, (out _ _ _ _).2.2.2]; rfl)
      (fun i => (tiled i).imp fun t h => ⟨flush0_7 t, h⟩)⟩

theorem equal : Cert.algebraic_Kernel34Ideal_Reference34Ideal := fun m ρ m' ρ' _ ha =>
  ⟨g m, fun c => delta (w m c) (g m c) (μ m c) (ν m c), fun c => mean (g m c) (μ m c), fun c => square (g m c) (ν m c),
    (θ_run _ _ _).mono (fun _ h c => ⟨(h c).1.trans (final m c).1, (h c).2.1.trans (final m c).2.1,
      (h c).2.2.1.trans (final m c).2.2.1, (h c).2.2.2.1.trans (final m c).2.2.2, (h c).2.2.2.2⟩) (Value.run_blocks m ρ),
    (θ_run _ _ _).mono (fun _ h c => by
      obtain ⟨a0, a1, a2, a3⟩ := ha c
      obtain ⟨e0, e1, e2, e3, eargs⟩ := h c
      exact ⟨e0.trans a1, e1.trans (by rw [a0, a1, a2, a3]; rfl), e2.trans (by rw [a1, a2]; rfl), e3.trans (by rw [a1, a3]; rfl), eargs⟩)
      (Cert.Reference34Ideal.Value.run m' ρ')⟩

end Cert.Kernel34Ideal.Adam

end
-- ==== Proof.Adam35.lean ====
module

public import proofs.«01_k».proof.Defs
public import proofs.«01_k».proof.Proof.AdamStep
public import proofs.«01_k».proof.Proof.Gen.Kernel35Ideal.Value
public import proofs.«01_k».proof.Proof.Gen.Reference35Ideal.Read

@[expose] public section

noncomputable section

namespace Cert.Kernel35Ideal.Adam

open Cert.Kernel35Ideal.Gen Cert.Adam
open Idealize.ShloMosaic Idealize.ShloMosaic.TcCoe Idealize.SL.Sem

/-- A block's step is the step of the blocks. -/
theorem out (w g m v : S1x512x1024.Idx → EReal) :
    out0_4 (F := Ideal) w g m v = g ∧ out0_5 (F := Ideal) w g m v = delta w g m v ∧ out0_6 (F := Ideal) w g m v = mean g m
      ∧ out0_7 (F := Ideal) w g m v = square g v := by
  unfold out0_4 out0_5 out0_6 out0_7
  simp only [View.canon_unit_zero (S := S1x512x1024) hz3, View.ld_unit_zero (S := S1x512x1024) hz3]
  exact ⟨shapeCast_shapeCast g _ _, delta_cast _ _ w g m v, mean_cast _ _ g m, square_cast _ _ g v⟩

/-- Every index stands in some grid point's block. -/
theorem tiled (i : S1x512x1024.Idx) : ∃ t : Fin cfg0.N, i ∈ ((cfg0.win 4).blk t).view.set := by
  have h0 : (i 0).val < 1 := (i 0).isLt
  have h1 : (i 1).val < 512 := (i 1).isLt
  have h2 : (i 2).val < 1024 := (i 2).isLt
  obtain ⟨t, p0, p1, p2⟩ : ∃ t : Fin cfg0.N, win0_4.index t (0 : Fin 3) = 0 ∧ win0_4.index t (1 : Fin 3) = (i 1).val / 512
      ∧ win0_4.index t (2 : Fin 3) = 0 :=
    (by decide +kernel : ∀ k : Fin 1, ∃ t : Fin grid0.N, win0_4.index t (0 : Fin 3) = 0 ∧ win0_4.index t (1 : Fin 3) = k.val
      ∧ win0_4.index t (2 : Fin 3) = 0) ⟨(i 1).val / 512, by omega⟩
  exact ⟨t, (View.set_slice_whole main_v0_0 (win0_4.rect t)).symm ▸ Rect.mem_set_unit.mpr fun a => match a with
    | ⟨0, _⟩ => within (b := 1) (i 0).val _ p0 (by omega)
    | ⟨1, _⟩ => within (b := 512) (i 1).val _ p1 (by omega)
    | ⟨2, _⟩ => within (b := 1024) (i 2).val _ p2 (by omega)⟩

variable (m : (ℓ : Loc nD τ sig) → Buf (Elt Ideal) ℓ) (c : Dev nD)

/-- The four arguments: the weight, its gradient, and the two running means. -/
abbrev w : S1x512x1024.Idx → EReal := m ((c : Thread nD τ).loc main_arg0)
abbrev g : S1x512x1024.Idx → EReal := m ((c : Thread nD τ).loc main_arg1)
abbrev μ : S1x512x1024.Idx → EReal := m ((c : Thread nD τ).loc main_arg2)
abbrev ν : S1x512x1024.Idx → EReal := m ((c : Thread nD τ).loc main_arg3)

/-- The four results: the copied gradient, what is added to the weight, and the two new running means. -/
theorem final : (dats m 0 c).arrAt 4 cfg0.N = g m c ∧ (dats m 0 c).arrAt 5 cfg0.N = delta (w m c) (g m c) (μ m c) (ν m c)
    ∧ (dats m 0 c).arrAt 6 cfg0.N = mean (g m c) (μ m c) ∧ (dats m 0 c).arrAt 7 cfg0.N = square (g m c) (ν m c) :=
  ⟨(dats m 0 c).arrAt_eq_of_cover 4 _ (fun t _ => by rw [Value.flushed4, (out _ _ _ _).1]; rfl)
      (fun i => (tiled i).imp fun t h => ⟨flush0_4 t, h⟩),
    (dats m 0 c).arrAt_eq_of_cover 5 _ (fun t _ => by rw [Value.flushed5, (out _ _ _ _).2.1]; rfl)
      (fun i => (tiled i).imp fun t h => ⟨flush0_5 t, h⟩),
    (dats m 0 c).arrAt_eq_of_cover 6 _ (fun t _ => by rw [Value.flushed6, (out _ _ _ _).2.2.1]; rfl)
      (fun i => (tiled i).imp fun t h => ⟨flush0_6 t, h⟩),
    (dats m 0 c).arrAt_eq_of_cover 7 _ (fun t _ => by rw [Value.flushed7, (out _ _ _ _).2.2.2]; rfl)
      (fun i => (tiled i).imp fun t h => ⟨flush0_7 t, h⟩)⟩

theorem equal : Cert.algebraic_Kernel35Ideal_Reference35Ideal := fun m ρ m' ρ' _ ha =>
  ⟨g m, fun c => delta (w m c) (g m c) (μ m c) (ν m c), fun c => mean (g m c) (μ m c), fun c => square (g m c) (ν m c),
    (θ_run _ _ _).mono (fun _ h c => ⟨(h c).1.trans (final m c).1, (h c).2.1.trans (final m c).2.1,
      (h c).2.2.1.trans (final m c).2.2.1, (h c).2.2.2.1.trans (final m c).2.2.2, (h c).2.2.2.2⟩) (Value.run_blocks m ρ),
    (θ_run _ _ _).mono (fun _ h c => by
      obtain ⟨a0, a1, a2, a3⟩ := ha c
      obtain ⟨e0, e1, e2, e3, eargs⟩ := h c
      exact ⟨e0.trans a1, e1.trans (by rw [a0, a1, a2, a3]; rfl), e2.trans (by rw [a1, a2]; rfl), e3.trans (by rw [a1, a3]; rfl), eargs⟩)
      (Cert.Reference35Ideal.Value.run m' ρ')⟩

end Cert.Kernel35Ideal.Adam

end
-- ==== Proof.Adam36.lean ====
module

public import proofs.«01_k».proof.Defs
public import proofs.«01_k».proof.Proof.AdamStep
public import proofs.«01_k».proof.Proof.Gen.Kernel36Ideal.Value
public import proofs.«01_k».proof.Proof.Gen.Reference36Ideal.Read

@[expose] public section

noncomputable section

namespace Cert.Kernel36Ideal.Adam

open Cert.Kernel36Ideal.Gen Cert.Adam
open Idealize.ShloMosaic Idealize.ShloMosaic.TcCoe Idealize.SL.Sem

/-- A block's step is the step of the blocks. -/
theorem out (w g m v : S1x256x2048.Idx → EReal) :
    out0_4 (F := Ideal) w g m v = g ∧ out0_5 (F := Ideal) w g m v = delta w g m v ∧ out0_6 (F := Ideal) w g m v = mean g m
      ∧ out0_7 (F := Ideal) w g m v = square g v := by
  unfold out0_4 out0_5 out0_6 out0_7
  simp only [View.canon_unit_zero (S := S1x256x2048) hz3, View.ld_unit_zero (S := S1x256x2048) hz3]
  exact ⟨shapeCast_shapeCast g _ _, delta_cast _ _ w g m v, mean_cast _ _ g m, square_cast _ _ g v⟩

/-- Every index stands in some grid point's block. -/
theorem tiled (i : S1x512x2048.Idx) : ∃ t : Fin cfg0.N, i ∈ ((cfg0.win 4).blk t).view.set := by
  have h0 : (i 0).val < 1 := (i 0).isLt
  have h1 : (i 1).val < 512 := (i 1).isLt
  have h2 : (i 2).val < 2048 := (i 2).isLt
  obtain ⟨t, p0, p1, p2⟩ : ∃ t : Fin cfg0.N, win0_4.index t (0 : Fin 3) = 0 ∧ win0_4.index t (1 : Fin 3) = (i 1).val / 256
      ∧ win0_4.index t (2 : Fin 3) = 0 :=
    (by decide +kernel : ∀ k : Fin 2, ∃ t : Fin grid0.N, win0_4.index t (0 : Fin 3) = 0 ∧ win0_4.index t (1 : Fin 3) = k.val
      ∧ win0_4.index t (2 : Fin 3) = 0) ⟨(i 1).val / 256, by omega⟩
  exact ⟨t, (View.set_slice_whole main_v0_0 (win0_4.rect t)).symm ▸ Rect.mem_set_unit.mpr fun a => match a with
    | ⟨0, _⟩ => within (b := 1) (i 0).val _ p0 (by omega)
    | ⟨1, _⟩ => within (b := 256) (i 1).val _ p1 (by omega)
    | ⟨2, _⟩ => within (b := 2048) (i 2).val _ p2 (by omega)⟩

variable (m : (ℓ : Loc nD τ sig) → Buf (Elt Ideal) ℓ) (c : Dev nD)

/-- The four arguments: the weight, its gradient, and the two running means. -/
abbrev w : S1x512x2048.Idx → EReal := m ((c : Thread nD τ).loc main_arg0)
abbrev g : S1x512x2048.Idx → EReal := m ((c : Thread nD τ).loc main_arg1)
abbrev μ : S1x512x2048.Idx → EReal := m ((c : Thread nD τ).loc main_arg2)
abbrev ν : S1x512x2048.Idx → EReal := m ((c : Thread nD τ).loc main_arg3)

/-- The four results: the copied gradient, what is added to the weight, and the two new running means. -/
theorem final : (dats m 0 c).arrAt 4 cfg0.N = g m c ∧ (dats m 0 c).arrAt 5 cfg0.N = delta (w m c) (g m c) (μ m c) (ν m c)
    ∧ (dats m 0 c).arrAt 6 cfg0.N = mean (g m c) (μ m c) ∧ (dats m 0 c).arrAt 7 cfg0.N = square (g m c) (ν m c) :=
  ⟨(dats m 0 c).arrAt_eq_of_cover 4 _ (fun t _ => by rw [Value.flushed4, (out _ _ _ _).1]; rfl)
      (fun i => (tiled i).imp fun t h => ⟨flush0_4 t, h⟩),
    (dats m 0 c).arrAt_eq_of_cover 5 _ (fun t _ => by rw [Value.flushed5, (out _ _ _ _).2.1]; rfl)
      (fun i => (tiled i).imp fun t h => ⟨flush0_5 t, h⟩),
    (dats m 0 c).arrAt_eq_of_cover 6 _ (fun t _ => by rw [Value.flushed6, (out _ _ _ _).2.2.1]; rfl)
      (fun i => (tiled i).imp fun t h => ⟨flush0_6 t, h⟩),
    (dats m 0 c).arrAt_eq_of_cover 7 _ (fun t _ => by rw [Value.flushed7, (out _ _ _ _).2.2.2]; rfl)
      (fun i => (tiled i).imp fun t h => ⟨flush0_7 t, h⟩)⟩

theorem equal : Cert.algebraic_Kernel36Ideal_Reference36Ideal := fun m ρ m' ρ' _ ha =>
  ⟨g m, fun c => delta (w m c) (g m c) (μ m c) (ν m c), fun c => mean (g m c) (μ m c), fun c => square (g m c) (ν m c),
    (θ_run _ _ _).mono (fun _ h c => ⟨(h c).1.trans (final m c).1, (h c).2.1.trans (final m c).2.1,
      (h c).2.2.1.trans (final m c).2.2.1, (h c).2.2.2.1.trans (final m c).2.2.2, (h c).2.2.2.2⟩) (Value.run_blocks m ρ),
    (θ_run _ _ _).mono (fun _ h c => by
      obtain ⟨a0, a1, a2, a3⟩ := ha c
      obtain ⟨e0, e1, e2, e3, eargs⟩ := h c
      exact ⟨e0.trans a1, e1.trans (by rw [a0, a1, a2, a3]; rfl), e2.trans (by rw [a1, a2]; rfl), e3.trans (by rw [a1, a3]; rfl), eargs⟩)
      (Cert.Reference36Ideal.Value.run m' ρ')⟩

end Cert.Kernel36Ideal.Adam

end
-- ==== Proof.Adam37.lean ====
module

public import proofs.«01_k».proof.Defs
public import proofs.«01_k».proof.Proof.AdamStep
public import proofs.«01_k».proof.Proof.Gen.Kernel37Ideal.Value
public import proofs.«01_k».proof.Proof.Gen.Reference37Ideal.Read

@[expose] public section

noncomputable section

namespace Cert.Kernel37Ideal.Adam

open Cert.Kernel37Ideal.Gen Cert.Adam
open Idealize.ShloMosaic Idealize.ShloMosaic.TcCoe Idealize.SL.Sem

variable (m : (ℓ : Loc nD τ sig) → Buf (Elt Ideal) ℓ) (c : Dev nD)

/-- The four arguments: the weight, its gradient, and the two running means. -/
abbrev w : S16x2048.Idx → EReal := m ((c : Thread nD τ).loc main_arg0)
abbrev g : S16x2048.Idx → EReal := m ((c : Thread nD τ).loc main_arg1)
abbrev μ : S16x2048.Idx → EReal := m ((c : Thread nD τ).loc main_arg2)
abbrev ν : S16x2048.Idx → EReal := m ((c : Thread nD τ).loc main_arg3)

/-- The four results: the copied gradient, what is added to the weight, and the two new running means. -/
theorem final : (dats m 0 c).arrAt 4 cfg0.N = g m c ∧ (dats m 0 c).arrAt 5 cfg0.N = delta (w m c) (g m c) (μ m c) (ν m c)
    ∧ (dats m 0 c).arrAt 6 cfg0.N = mean (g m c) (μ m c) ∧ (dats m 0 c).arrAt 7 cfg0.N = square (g m c) (ν m c) :=
  ⟨(Value.final4 m c).trans rfl, (Value.final5 m c).trans rfl, (Value.final6 m c).trans rfl, (Value.final7 m c).trans rfl⟩

theorem equal : Cert.algebraic_Kernel37Ideal_Reference37Ideal := fun m ρ m' ρ' _ ha =>
  ⟨g m, fun c => delta (w m c) (g m c) (μ m c) (ν m c), fun c => mean (g m c) (μ m c), fun c => square (g m c) (ν m c),
    (θ_run _ _ _).mono (fun _ h c => ⟨(h c).1.trans (final m c).1, (h c).2.1.trans (final m c).2.1,
      (h c).2.2.1.trans (final m c).2.2.1, (h c).2.2.2.1.trans (final m c).2.2.2, (h c).2.2.2.2⟩) (Value.run_blocks m ρ),
    (θ_run _ _ _).mono (fun _ h c => by
      obtain ⟨a0, a1, a2, a3⟩ := ha c
      obtain ⟨e0, e1, e2, e3, eargs⟩ := h c
      exact ⟨e0.trans a1, e1.trans (by rw [a0, a1, a2, a3]; rfl), e2.trans (by rw [a1, a2]; rfl), e3.trans (by rw [a1, a3]; rfl), eargs⟩)
      (Cert.Reference37Ideal.Value.run m' ρ')⟩

end Cert.Kernel37Ideal.Adam

end
-- ==== Proof.Adam38.lean ====
module

public import proofs.«01_k».proof.Defs
public import proofs.«01_k».proof.Proof.AdamStep
public import proofs.«01_k».proof.Proof.Gen.Kernel38Ideal.Value
public import proofs.«01_k».proof.Proof.Gen.Reference38Ideal.Read

@[expose] public section

noncomputable section

namespace Cert.Kernel38Ideal.Adam

open Cert.Kernel38Ideal.Gen Cert.Adam
open Idealize.ShloMosaic Idealize.ShloMosaic.TcCoe Idealize.SL.Sem

variable (m : (ℓ : Loc nD τ sig) → Buf (Elt Ideal) ℓ) (c : Dev nD)

/-- The four arguments: the weight, its gradient, and the two running means. -/
abbrev w : S16x512.Idx → EReal := m ((c : Thread nD τ).loc main_arg0)
abbrev g : S16x512.Idx → EReal := m ((c : Thread nD τ).loc main_arg1)
abbrev μ : S16x512.Idx → EReal := m ((c : Thread nD τ).loc main_arg2)
abbrev ν : S16x512.Idx → EReal := m ((c : Thread nD τ).loc main_arg3)

/-- The four results: the copied gradient, what is added to the weight, and the two new running means. -/
theorem final : (dats m 0 c).arrAt 4 cfg0.N = g m c ∧ (dats m 0 c).arrAt 5 cfg0.N = delta (w m c) (g m c) (μ m c) (ν m c)
    ∧ (dats m 0 c).arrAt 6 cfg0.N = mean (g m c) (μ m c) ∧ (dats m 0 c).arrAt 7 cfg0.N = square (g m c) (ν m c) :=
  ⟨(Value.final4 m c).trans rfl, (Value.final5 m c).trans rfl, (Value.final6 m c).trans rfl, (Value.final7 m c).trans rfl⟩

theorem equal : Cert.algebraic_Kernel38Ideal_Reference38Ideal := fun m ρ m' ρ' _ ha =>
  ⟨g m, fun c => delta (w m c) (g m c) (μ m c) (ν m c), fun c => mean (g m c) (μ m c), fun c => square (g m c) (ν m c),
    (θ_run _ _ _).mono (fun _ h c => ⟨(h c).1.trans (final m c).1, (h c).2.1.trans (final m c).2.1,
      (h c).2.2.1.trans (final m c).2.2.1, (h c).2.2.2.1.trans (final m c).2.2.2, (h c).2.2.2.2⟩) (Value.run_blocks m ρ),
    (θ_run _ _ _).mono (fun _ h c => by
      obtain ⟨a0, a1, a2, a3⟩ := ha c
      obtain ⟨e0, e1, e2, e3, eargs⟩ := h c
      exact ⟨e0.trans a1, e1.trans (by rw [a0, a1, a2, a3]; rfl), e2.trans (by rw [a1, a2]; rfl), e3.trans (by rw [a1, a3]; rfl), eargs⟩)
      (Cert.Reference38Ideal.Value.run m' ρ')⟩

end Cert.Kernel38Ideal.Adam

end
-- ==== Proof.Adam.lean ====
module

public import proofs.«01_k».proof.Defs
public import proofs.«01_k».proof.Proof.Adam29
public import proofs.«01_k».proof.Proof.Gen.Kernel29.Frame
public import proofs.«01_k».proof.Proof.Adam30
public import proofs.«01_k».proof.Proof.Gen.Kernel30.Frame
public import proofs.«01_k».proof.Proof.Adam31
public import proofs.«01_k».proof.Proof.Gen.Kernel31.Frame
public import proofs.«01_k».proof.Proof.Adam32
public import proofs.«01_k».proof.Proof.Gen.Kernel32.Frame
public import proofs.«01_k».proof.Proof.Adam33
public import proofs.«01_k».proof.Proof.Gen.Kernel33.Frame
public import proofs.«01_k».proof.Proof.Adam34
public import proofs.«01_k».proof.Proof.Gen.Kernel34.Frame
public import proofs.«01_k».proof.Proof.Adam35
public import proofs.«01_k».proof.Proof.Gen.Kernel35.Frame
public import proofs.«01_k».proof.Proof.Adam36
public import proofs.«01_k».proof.Proof.Gen.Kernel36.Frame
public import proofs.«01_k».proof.Proof.Adam37
public import proofs.«01_k».proof.Proof.Gen.Kernel37.Frame
public import proofs.«01_k».proof.Proof.Adam38
public import proofs.«01_k».proof.Proof.Gen.Kernel38.Frame
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-! # The frames of the optimiser's programs -/

theorem kernel29_bits : Cert.quiescent_Kernel29 := fun m g _ => Cert.Kernel29.Gen.frame (F := Bits) m g
theorem kernel29_ideal : Cert.quiescent_Kernel29Ideal := fun m g _ => Cert.Kernel29Ideal.Gen.frame (F := Ideal) m g
theorem reference29_ideal : Cert.quiescent_Reference29Ideal := fun m g _ =>
  (θ_run _ _ _).mono (fun r h => ⟨fun c => (h c).2.2.2.2, sem_eq_zero_of_no_sems (by decide) r.2⟩) (Cert.Reference29Ideal.Value.run m g)

theorem kernel30_bits : Cert.quiescent_Kernel30 := fun m g _ => Cert.Kernel30.Gen.frame (F := Bits) m g
theorem kernel30_ideal : Cert.quiescent_Kernel30Ideal := fun m g _ => Cert.Kernel30Ideal.Gen.frame (F := Ideal) m g
theorem reference30_ideal : Cert.quiescent_Reference30Ideal := fun m g _ =>
  (θ_run _ _ _).mono (fun r h => ⟨fun c => (h c).2.2.2.2, sem_eq_zero_of_no_sems (by decide) r.2⟩) (Cert.Reference30Ideal.Value.run m g)

theorem kernel31_bits : Cert.quiescent_Kernel31 := fun m g _ => Cert.Kernel31.Gen.frame (F := Bits) m g
theorem kernel31_ideal : Cert.quiescent_Kernel31Ideal := fun m g _ => Cert.Kernel31Ideal.Gen.frame (F := Ideal) m g
theorem reference31_ideal : Cert.quiescent_Reference31Ideal := fun m g _ =>
  (θ_run _ _ _).mono (fun r h => ⟨fun c => (h c).2.2.2.2, sem_eq_zero_of_no_sems (by decide) r.2⟩) (Cert.Reference31Ideal.Value.run m g)

theorem kernel32_bits : Cert.quiescent_Kernel32 := fun m g _ => Cert.Kernel32.Gen.frame (F := Bits) m g
theorem kernel32_ideal : Cert.quiescent_Kernel32Ideal := fun m g _ => Cert.Kernel32Ideal.Gen.frame (F := Ideal) m g
theorem reference32_ideal : Cert.quiescent_Reference32Ideal := fun m g _ =>
  (θ_run _ _ _).mono (fun r h => ⟨fun c => (h c).2.2.2.2, sem_eq_zero_of_no_sems (by decide) r.2⟩) (Cert.Reference32Ideal.Value.run m g)

theorem kernel33_bits : Cert.quiescent_Kernel33 := fun m g _ => Cert.Kernel33.Gen.frame (F := Bits) m g
theorem kernel33_ideal : Cert.quiescent_Kernel33Ideal := fun m g _ => Cert.Kernel33Ideal.Gen.frame (F := Ideal) m g
theorem reference33_ideal : Cert.quiescent_Reference33Ideal := fun m g _ =>
  (θ_run _ _ _).mono (fun r h => ⟨fun c => (h c).2.2.2.2, sem_eq_zero_of_no_sems (by decide) r.2⟩) (Cert.Reference33Ideal.Value.run m g)

theorem kernel34_bits : Cert.quiescent_Kernel34 := fun m g _ => Cert.Kernel34.Gen.frame (F := Bits) m g
theorem kernel34_ideal : Cert.quiescent_Kernel34Ideal := fun m g _ => Cert.Kernel34Ideal.Gen.frame (F := Ideal) m g
theorem reference34_ideal : Cert.quiescent_Reference34Ideal := fun m g _ =>
  (θ_run _ _ _).mono (fun r h => ⟨fun c => (h c).2.2.2.2, sem_eq_zero_of_no_sems (by decide) r.2⟩) (Cert.Reference34Ideal.Value.run m g)

theorem kernel35_bits : Cert.quiescent_Kernel35 := fun m g _ => Cert.Kernel35.Gen.frame (F := Bits) m g
theorem kernel35_ideal : Cert.quiescent_Kernel35Ideal := fun m g _ => Cert.Kernel35Ideal.Gen.frame (F := Ideal) m g
theorem reference35_ideal : Cert.quiescent_Reference35Ideal := fun m g _ =>
  (θ_run _ _ _).mono (fun r h => ⟨fun c => (h c).2.2.2.2, sem_eq_zero_of_no_sems (by decide) r.2⟩) (Cert.Reference35Ideal.Value.run m g)

theorem kernel36_bits : Cert.quiescent_Kernel36 := fun m g _ => Cert.Kernel36.Gen.frame (F := Bits) m g
theorem kernel36_ideal : Cert.quiescent_Kernel36Ideal := fun m g _ => Cert.Kernel36Ideal.Gen.frame (F := Ideal) m g
theorem reference36_ideal : Cert.quiescent_Reference36Ideal := fun m g _ =>
  (θ_run _ _ _).mono (fun r h => ⟨fun c => (h c).2.2.2.2, sem_eq_zero_of_no_sems (by decide) r.2⟩) (Cert.Reference36Ideal.Value.run m g)

theorem kernel37_bits : Cert.quiescent_Kernel37 := fun m g _ => Cert.Kernel37.Gen.frame (F := Bits) m g
theorem kernel37_ideal : Cert.quiescent_Kernel37Ideal := fun m g _ => Cert.Kernel37Ideal.Gen.frame (F := Ideal) m g
theorem reference37_ideal : Cert.quiescent_Reference37Ideal := fun m g _ =>
  (θ_run _ _ _).mono (fun r h => ⟨fun c => (h c).2.2.2.2, sem_eq_zero_of_no_sems (by decide) r.2⟩) (Cert.Reference37Ideal.Value.run m g)

theorem kernel38_bits : Cert.quiescent_Kernel38 := fun m g _ => Cert.Kernel38.Gen.frame (F := Bits) m g
theorem kernel38_ideal : Cert.quiescent_Kernel38Ideal := fun m g _ => Cert.Kernel38Ideal.Gen.frame (F := Ideal) m g
theorem reference38_ideal : Cert.quiescent_Reference38Ideal := fun m g _ =>
  (θ_run _ _ _).mono (fun r h => ⟨fun c => (h c).2.2.2.2, sem_eq_zero_of_no_sems (by decide) r.2⟩) (Cert.Reference38Ideal.Value.run m g)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Finite
public import proofs.«01_k».proof.Proof.Equal
public import proofs.«01_k».proof.Proof.FrameI
public import proofs.«01_k».proof.Proof.Same
public import proofs.«01_k».proof.Proof.Products
public import proofs.«01_k».proof.Proof.Gates
public import proofs.«01_k».proof.Proof.Norms
public import proofs.«01_k».proof.Proof.Adam
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.KernelIdeal.Bwd (run_values dats)
open Cert.ReferenceIdeal.At (up)

section
open Cert.KernelIdeal

/-- The kernel's frame, over any float values. -/
theorem kernel_frame {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (Cert.KernelIdeal.Gen.frame_of m g (dats m) (Cert.KernelIdeal.Bwd.A_eq m) ((θ_run _ _ _).mono (fun _ h => h.1) (run_values m g)))
    ((θ_run _ _ _).mono (fun _ h => h.2) (run_values m g))

end

/-- The kernel's frame: the two programs have the same text. -/
theorem kernel_bits : Cert.quiescent_Kernel := fun m g _ => by
  rw [Cert.Same.defs, Cert.Same.main]
  exact kernel_frame (F := Bits) m g

/-- The ideal kernel's frame. -/
theorem kernel_ideal : Cert.quiescent_KernelIdeal := fun m g _ => kernel_frame (F := Ideal) m g

/-- The reference's frame. -/
theorem reference_ideal : Cert.quiescent_ReferenceIdeal := fun m g _ =>
  (θ_run _ _ _).mono (fun r h => ⟨fun c => (h c).2.2.2, sem_eq_zero_of_no_sems (by decide) r.2⟩) (Cert.ReferenceIdeal.Value.run m g)

/-- The kernel's three results are the reference's. -/
theorem equal : Cert.algebraic_KernelIdeal_ReferenceIdeal_pre_finite := fun m g m' g' hp ha =>
  ⟨fun c => (dats m 0 c).arrAt 6 Cert.KernelIdeal.cfg0.N, fun c => (dats m 0 c).arrAt 7 Cert.KernelIdeal.cfg0.N,
    fun c => (dats m 0 c).arrAt 8 Cert.KernelIdeal.cfg0.N,
    (θ_run _ _ _).mono (fun _ h c => ⟨(h.1.1 c).1 6, (h.1.1 c).1 7, (h.1.1 c).1 8, h.2.1 c⟩)
      (θ_run_and (run_values m g) (kernel_ideal m g trivial)),
    (θ_run _ _ _).mono (fun _ h c => by
      obtain ⟨a0, a1, a2, a3⟩ := ha c
      obtain ⟨r0, r1, r2, r3⟩ := Cert.Pre_finite.reals _ _ _ _ (hp c)
      obtain ⟨e0, e1, e2, eargs⟩ := h c
      refine ⟨e0.trans ?_, e1.trans ?_, e2.trans ?_, eargs⟩
      · refine (Cert.ReferenceIdeal.Read.val_main_v74_eq m' c).trans (Eq.trans ?_ (Cert.KernelIdeal.Bwd.dq_real _ _ _ _ m c r0 r1 r2 r3).symm)
        rw [a0, a1, a2, a3]
        exact congr (congr (congr (congrArg _ r0) r1) r2) r3
      · refine (Cert.ReferenceIdeal.Read.val_main_v76_eq m' c).trans (Eq.trans ?_ (Cert.KernelIdeal.Bwd.dk_real _ _ _ _ m c r0 r1 r2 r3).symm)
        rw [a0, a1, a2, a3]
        exact congr (congr (congr (congrArg _ r0) r1) r2) r3
      · refine (Cert.ReferenceIdeal.Read.val_main_v77_eq m' c).trans (Eq.trans ?_ (Cert.KernelIdeal.Bwd.dv_real _ _ _ _ m c r0 r1 r2 r3).symm)
        rw [a0, a1, a3]
        exact congr (congr (congrArg _ r0) r1) r3)
      (Cert.ReferenceIdeal.Value.run m' g')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Pre_finite.facts, Cert.Pre_finite21.facts,
    kernel_bits, kernel_ideal, fun m g _ => kernel_ideal m g trivial, reference_ideal,
    fun m g _ => reference_ideal m g trivial,
    kernel2_bits, kernel2_ideal, reference2_ideal,
    kernel3_bits, kernel3_ideal, reference3_ideal,
    kernel4_bits, kernel4_ideal, reference4_ideal,
    kernel5_bits, kernel5_ideal, reference5_ideal,
    kernel6_bits, kernel6_ideal, reference6_ideal,
    kernel7_bits, kernel7_ideal, reference7_ideal,
    kernel8_bits, kernel8_ideal, reference8_ideal,
    kernel9_bits, kernel9_ideal, reference9_ideal,
    kernel10_bits, kernel10_ideal, reference10_ideal,
    kernel11_bits, kernel11_ideal, reference11_ideal,
    kernel12_bits, kernel12_ideal, reference12_ideal,
    kernel13_bits, kernel13_ideal, reference13_ideal,
    kernel14_bits, kernel14_ideal, reference14_ideal,
    kernel15_bits, kernel15_ideal, reference15_ideal,
    kernel16_bits, kernel16_ideal, reference16_ideal,
    kernel17_bits, kernel17_ideal, reference17_ideal,
    kernel18_bits, kernel18_ideal, reference18_ideal,
    kernel19_bits, kernel19_ideal, reference19_ideal,
    kernel20_bits, kernel20_ideal, reference20_ideal,
    kernel21_bits, kernel21_ideal, fun m g _ => kernel21_ideal m g trivial, reference21_ideal,
    fun m g _ => reference21_ideal m g trivial,
    kernel22_bits, kernel22_ideal, reference22_ideal,
    kernel23_bits, kernel23_ideal, reference23_ideal,
    kernel24_bits, kernel24_ideal, reference24_ideal,
    kernel25_bits, kernel25_ideal, reference25_ideal,
    kernel26_bits, kernel26_ideal, reference26_ideal,
    kernel27_bits, kernel27_ideal, reference27_ideal,
    kernel28_bits, kernel28_ideal, reference28_ideal,
    kernel29_bits, kernel29_ideal, reference29_ideal,
    kernel30_bits, kernel30_ideal, reference30_ideal,
    kernel31_bits, kernel31_ideal, reference31_ideal,
    kernel32_bits, kernel32_ideal, reference32_ideal,
    kernel33_bits, kernel33_ideal, reference33_ideal,
    kernel34_bits, kernel34_ideal, reference34_ideal,
    kernel35_bits, kernel35_ideal, reference35_ideal,
    kernel36_bits, kernel36_ideal, reference36_ideal,
    kernel37_bits, kernel37_ideal, reference37_ideal,
    kernel38_bits, kernel38_ideal, reference38_ideal,
    trivial, equal,
    trivial, equal2, trivial, equal3, trivial, equal4, trivial, equal5, trivial, equal6, trivial, equal7,
    trivial, equal8, trivial, equal9, trivial, equal10, trivial, equal11, trivial, equal12, trivial, equal13, trivial, equal14,
    trivial, equal15, trivial, equal16, trivial, equal17, trivial, equal18, trivial, equal19, trivial, equal20,
    trivial, equal21, trivial, equal22, trivial, equal23, trivial, equal24,
    trivial, equal25, trivial, equal26, trivial, equal27, trivial, equal28,
    trivial, Cert.Kernel29Ideal.Adam.equal, trivial, Cert.Kernel30Ideal.Adam.equal, trivial, Cert.Kernel31Ideal.Adam.equal,
    trivial, Cert.Kernel32Ideal.Adam.equal, trivial, Cert.Kernel33Ideal.Adam.equal,
    trivial, Cert.Kernel34Ideal.Adam.equal, trivial, Cert.Kernel35Ideal.Adam.equal, trivial, Cert.Kernel36Ideal.Adam.equal,
    trivial, Cert.Kernel37Ideal.Adam.equal, trivial, Cert.Kernel38Ideal.Adam.equal⟩

end Cert.Proof

end
